-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_text_length_in_range [hPre_text_length_in_range : Cert.Pre_text_length_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_text_length_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_text_length_in_range [hPre_text_length_in_range : Cert.Pre_text_length_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_text_length_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_text_length_in_range [hKernelIdeal : Cert.KernelIdeal.Facts] [hPre_text_length_in_range : Cert.Pre_text_length_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_text_length_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_text_length_in_range [hReferenceIdeal : Cert.ReferenceIdeal.Facts] [hPre_text_length_in_range : Cert.Pre_text_length_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_text_length_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_text_length_in_range [hKernelIdeal : Cert.KernelIdeal.Facts] [hReferenceIdeal : Cert.ReferenceIdeal.Facts] [hPre_text_length_in_range : Cert.Pre_text_length_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_text_length_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v66)) (v4 : (c : Dev Cert.KernelIdeal.nD) → Buf (Elt Ideal) ((c.tc : Thread Cert.KernelIdeal.nD Cert.KernelIdeal.τ).loc Cert.KernelIdeal.main_v67)) (v5 : (c : Dev Cert.KernelIdeal.nD) → Buf (Elt Ideal) ((c.tc : Thread Cert.KernelIdeal.nD Cert.KernelIdeal.τ).loc Cert.KernelIdeal.main_v68)) (v6 : (c : Dev Cert.KernelIdeal.nD) → Buf (Elt Ideal) ((c.tc : Thread Cert.KernelIdeal.nD Cert.KernelIdeal.τ).loc Cert.KernelIdeal.main_v69)) (v7 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_v67) = v4 c
          ∧ r.2.mem ((c.tc : Thread Cert.KernelIdeal.nD Cert.KernelIdeal.τ).loc Cert.KernelIdeal.main_v68) = v5 c
          ∧ r.2.mem ((c.tc : Thread Cert.KernelIdeal.nD Cert.KernelIdeal.τ).loc Cert.KernelIdeal.main_v69) = v6 c
          ∧ r.2.mem ((c.tc : Thread Cert.KernelIdeal.nD Cert.KernelIdeal.τ).loc Cert.KernelIdeal.main_v70) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_text_length_in_range : Cert.Pre_text_length_in_range.Facts),
    quiescent_Kernel (hKernel := hKernel)
    ∧ quiescent_KernelIdeal (hKernelIdeal := hKernelIdeal)
    ∧ quiescent_KernelIdeal_pre_text_length_in_range (hKernelIdeal := hKernelIdeal) (hPre_text_length_in_range := hPre_text_length_in_range)
    ∧ quiescent_ReferenceIdeal (hReferenceIdeal := hReferenceIdeal)
    ∧ quiescent_ReferenceIdeal_pre_text_length_in_range (hReferenceIdeal := hReferenceIdeal) (hPre_text_length_in_range := hPre_text_length_in_range)
    ∧ preserves_Kernel_KernelIdeal
    ∧ algebraic_KernelIdeal_ReferenceIdeal_pre_text_length_in_range (hKernelIdeal := hKernelIdeal) (hReferenceIdeal := hReferenceIdeal) (hPre_text_length_in_range := hPre_text_length_in_range)
-- ==== Pre_text_length_in_range.lean ====
abbrev S2x1024x3072 : Shape := ⟨3, ![2, 1024, 3072]⟩
abbrev S2x3072 : Shape := ⟨2, ![2, 3072]⟩
abbrev S3072x21504 : Shape := ⟨2, ![3072, 21504]⟩
abbrev S21504 : Shape := ⟨1, ![21504]⟩
abbrev S128 : Shape := ⟨1, ![128]⟩
abbrev S2x1024x64 : Shape := ⟨3, ![2, 1024, 64]⟩
abbrev S2 : Shape := ⟨1, ![2]⟩
abbrev S_ : Shape := ⟨0, ![]⟩
abbrev S15360x3072 : Shape := ⟨2, ![15360, 3072]⟩
abbrev S3072 : Shape := ⟨1, ![3072]⟩

class Facts : Prop where
  bcast_S_S2 : S_.BroadcastsInDim S2 (![] : Fin 0 → Fin S2.rank)

variable [Facts]

def fn {F : FTy → Type} [FloatOps F] (main_arg0 : FVec F S2x1024x3072 .bf16) (main_arg1 : FVec F S2x3072 .f32) (main_arg2 : FVec F S2x3072 .f32) (main_arg3 : FVec F S2x3072 .f32) (main_arg4 : FVec F S3072x21504 .fp8e4m3) (main_arg5 : FVec F S21504 .f32) (main_arg6 : FVec F S21504 .f32) (main_arg7 : FVec F S128 .f32) (main_arg8 : FVec F S128 .f32) (main_arg9 : FVec F S2x1024x64 .f32) (main_arg10 : FVec F S2x1024x64 .f32) (main_arg11 : IVec S2 32) (main_arg12 : FVec F S_ .f32) (main_arg13 : FVec F S_ .f32) (main_arg14 : FVec F S_ .f32) (main_arg15 : FVec F S15360x3072 .fp8e4m3) (main_arg16 : FVec F S3072 .f32) (main_arg17 : FVec F S3072 .f32) : IVec S2 1 :=
  let main_c : IVec S_ 32 := constantI S_ 32 2147483520#32
  let main_v0 : IVec S2 32 := broadcastInDim S2 ![] bcast_S_S2 main_c
  let main_v1 : IVec S2 1 := cmpi .sle main_arg11 main_v0
  main_v1
-- ==== Kernel.lean ====
abbrev S2x1024x3072 : Shape := ⟨3, ![2, 1024, 3072]⟩
abbrev S2x3072 : Shape := ⟨2, ![2, 3072]⟩
abbrev S3072x21504 : Shape := ⟨2, ![3072, 21504]⟩
abbrev S21504 : Shape := ⟨1, ![21504]⟩
abbrev S128 : Shape := ⟨1, ![128]⟩
abbrev S2x1024x64 : Shape := ⟨3, ![2, 1024, 64]⟩
abbrev S2 : Shape := ⟨1, ![2]⟩
abbrev S_ : Shape := ⟨0, ![]⟩
abbrev S15360x3072 : Shape := ⟨2, ![15360, 3072]⟩
abbrev S3072 : Shape := ⟨1, ![3072]⟩
abbrev S1x21504 : Shape := ⟨2, ![1, 21504]⟩
abbrev S1 : Shape := ⟨1, ![1]⟩
abbrev S2048x3072 : Shape := ⟨2, ![2048, 3072]⟩
abbrev S2x1x3072 : Shape := ⟨3, ![2, 1, 3072]⟩
abbrev S256x3072 : Shape := ⟨2, ![256, 3072]⟩
abbrev S1x1x3072 : Shape := ⟨3, ![1, 1, 3072]⟩
abbrev S256 : Shape := ⟨1, ![256]⟩
abbrev S256x1 : Shape := ⟨2, ![256, 1]⟩
abbrev S1x3072 : Shape := ⟨2, ![1, 3072]⟩
abbrev S64x2 : Shape := ⟨2, ![64, 2]⟩
abbrev S1x2 : Shape := ⟨2, ![1, 2]⟩
abbrev S2048x64 : Shape := ⟨2, ![2048, 64]⟩
abbrev S2048x64x2 : Shape := ⟨3, ![2048, 64, 2]⟩
abbrev S2048x128 : Shape := ⟨2, ![2048, 128]⟩
abbrev S1x128 : Shape := ⟨2, ![1, 128]⟩
abbrev S3072x1024 : Shape := ⟨2, ![3072, 1024]⟩
abbrev S1x1024 : Shape := ⟨2, ![1, 1024]⟩
abbrev S2048x1024 : Shape := ⟨2, ![2048, 1024]⟩
abbrev S256x128 : Shape := ⟨2, ![256, 128]⟩
abbrev S256x1024 : Shape := ⟨2, ![256, 1024]⟩
abbrev S256x128x1 : Shape := ⟨3, ![256, 128, 1]⟩
abbrev S2048x12288 : Shape := ⟨2, ![2048, 12288]⟩
abbrev S8x1024 : Shape := ⟨2, ![8, 1024]⟩
abbrev S32x8x1024 : Shape := ⟨3, ![32, 8, 1024]⟩
abbrev S8x128 : Shape := ⟨2, ![8, 128]⟩
abbrev S1024x256 : Shape := ⟨2, ![1024, 256]⟩
abbrev S1024x128 : Shape := ⟨2, ![1024, 128]⟩
abbrev S128x128 : Shape := ⟨2, ![128, 128]⟩
abbrev S512x128 : Shape := ⟨2, ![512, 128]⟩
abbrev S640x128 : Shape := ⟨2, ![640, 128]⟩
abbrev S128x640 : Shape := ⟨2, ![128, 640]⟩
abbrev S128x256 : Shape := ⟨2, ![128, 256]⟩
abbrev S640x256 : Shape := ⟨2, ![640, 256]⟩
abbrev S512x256 : Shape := ⟨2, ![512, 256]⟩
abbrev S1x256 : Shape := ⟨2, ![1, 256]⟩
abbrev S32x8x128 : Shape := ⟨3, ![32, 8, 128]⟩
abbrev S768x128 : Shape := ⟨2, ![768, 128]⟩
abbrev S128x768 : Shape := ⟨2, ![128, 768]⟩
abbrev S768x256 : Shape := ⟨2, ![768, 256]⟩
abbrev S384x128 : Shape := ⟨2, ![384, 128]⟩
abbrev S896x128 : Shape := ⟨2, ![896, 128]⟩
abbrev S128x896 : Shape := ⟨2, ![128, 896]⟩
abbrev S896x256 : Shape := ⟨2, ![896, 256]⟩
abbrev S256x256 : Shape := ⟨2, ![256, 256]⟩
abbrev S128x1024 : Shape := ⟨2, ![128, 1024]⟩
abbrev S384x256 : Shape := ⟨2, ![384, 256]⟩
abbrev S512x3072 : Shape := ⟨2, ![512, 3072]⟩
abbrev S512x12288 : Shape := ⟨2, ![512, 12288]⟩
abbrev S3072x512 : Shape := ⟨2, ![3072, 512]⟩
abbrev S12288x512 : Shape := ⟨2, ![12288, 512]⟩
abbrev S1x512 : Shape := ⟨2, ![1, 512]⟩
abbrev S512x512 : Shape := ⟨2, ![512, 512]⟩
abbrev S1x1x512 : Shape := ⟨3, ![1, 1, 512]⟩
abbrev S256x512 : Shape := ⟨2, ![256, 512]⟩
abbrev S256x12288 : Shape := ⟨2, ![256, 12288]⟩
abbrev S2x1024x24x128 : Shape := ⟨4, ![2, 1024, 24, 128]⟩
abbrev S2x1024x12288 : Shape := ⟨3, ![2, 1024, 12288]⟩

abbrev nBuf : Space → Nat
  | .hbm => 95
  | .vmem => 76
  | .smem => 10
  | _ => 0

abbrev bufTy : (tb : Table) → Fin (tcTables nBuf tb) → BufTy
  | .hbm, ⟨0, _⟩ => ⟨S2x1024x3072, .bf16⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S3072x21504, .fp8e4m3⟩
  | .hbm, ⟨5, _⟩ => ⟨S21504, .f32⟩
  | .hbm, ⟨6, _⟩ => ⟨S21504, .f32⟩
  | .hbm, ⟨7, _⟩ => ⟨S128, .f32⟩
  | .hbm, ⟨8, _⟩ => ⟨S128, .f32⟩
  | .hbm, ⟨9, _⟩ => ⟨S2x1024x64, .f32⟩
  | .hbm, ⟨10, _⟩ => ⟨S2x1024x64, .f32⟩
  | .hbm, ⟨11, _⟩ => ⟨S2, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S15360x3072, .fp8e4m3⟩
  | .hbm, ⟨16, _⟩ => ⟨S3072, .f32⟩
  | .hbm, ⟨17, _⟩ => ⟨S3072, .f32⟩
  | .hbm, ⟨18, _⟩ => ⟨S2, .f32⟩
  | .hbm, ⟨19, _⟩ => ⟨S2, .f32⟩
  | .hbm, ⟨20, _⟩ => ⟨S1x21504, .f32⟩
  | .hbm, ⟨21, _⟩ => ⟨S1x21504, .f32⟩
  | .hbm, ⟨22, _⟩ => ⟨S1, .f32⟩
  | .hbm, ⟨23, _⟩ => ⟨S2048x3072, .bf16⟩
  | .hbm, ⟨24, _⟩ => ⟨S2x1x3072, .f32⟩
  | .hbm, ⟨25, _⟩ => ⟨S2x1x3072, .f32⟩
  | .hbm, ⟨26, _⟩ => ⟨S2048x3072, .fp8e4m3⟩
  | .hbm, ⟨27, _⟩ => ⟨S64x2, .f32⟩
  | .hbm, ⟨28, _⟩ => ⟨S64x2, .f32⟩
  | .hbm, ⟨29, _⟩ => ⟨S128, .f32⟩
  | .hbm, ⟨30, _⟩ => ⟨S1x2, .f32⟩
  | .hbm, ⟨31, _⟩ => ⟨S64x2, .f32⟩
  | .hbm, ⟨32, _⟩ => ⟨S128, .f32⟩
  | .hbm, ⟨33, _⟩ => ⟨S2048x64, .f32⟩
  | .hbm, ⟨34, _⟩ => ⟨S2048x64x2, .f32⟩
  | .hbm, ⟨35, _⟩ => ⟨S2048x128, .f32⟩
  | .hbm, ⟨36, _⟩ => ⟨S2048x64, .f32⟩
  | .hbm, ⟨37, _⟩ => ⟨S2048x64x2, .f32⟩
  | .hbm, ⟨38, _⟩ => ⟨S2048x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S128, .f32⟩
  | .hbm, ⟨43, _⟩ => ⟨S1x128, .f32⟩
  | .hbm, ⟨44, _⟩ => ⟨S2048x128, .f32⟩
  | .hbm, ⟨45, _⟩ => ⟨S2048x128, .f32⟩
  | .hbm, ⟨46, _⟩ => ⟨S1, .f32⟩
  | .hbm, ⟨47, _⟩ => ⟨S2048x3072, .bf16⟩
  | .hbm, ⟨48, _⟩ => ⟨S64x2, .f32⟩
  | .hbm, ⟨49, _⟩ => ⟨S64x2, .f32⟩
  | .hbm, ⟨50, _⟩ => ⟨S128, .f32⟩
  | .hbm, ⟨51, _⟩ => ⟨S1x2, .f32⟩
  | .hbm, ⟨52, _⟩ => ⟨S64x2, .f32⟩
  | .hbm, ⟨53, _⟩ => ⟨S128, .f32⟩
  | .hbm, ⟨54, _⟩ => ⟨S2048x64, .f32⟩
  | .hbm, ⟨55, _⟩ => ⟨S2048x64x2, .f32⟩
  | .hbm, ⟨56, _⟩ => ⟨S2048x128, .f32⟩
  | .hbm, ⟨57, _⟩ => ⟨S2048x64, .f32⟩
  | .hbm, ⟨58, _⟩ => ⟨S2048x64x2, .f32⟩
  | .hbm, ⟨59, _⟩ => ⟨S2048x128, .f32⟩
  | .hbm, ⟨60, _⟩ => ⟨S1x128, .f32⟩
  | .hbm, ⟨61, _⟩ => ⟨S2048x128, .f32⟩
  | .hbm, ⟨62, _⟩ => ⟨S2048x128, .f32⟩
  | .hbm, ⟨63, _⟩ => ⟨S128, .f32⟩
  | .hbm, ⟨64, _⟩ => ⟨S1x128, .f32⟩
  | .hbm, ⟨65, _⟩ => ⟨S2048x128, .f32⟩
  | .hbm, ⟨66, _⟩ => ⟨S2048x128, .f32⟩
  | .hbm, ⟨67, _⟩ => ⟨S1, .f32⟩
  | .hbm, ⟨68, _⟩ => ⟨S2048x3072, .bf16⟩
  | .hbm, ⟨69, _⟩ => ⟨S1, .f32⟩
  | .hbm, ⟨70, _⟩ => ⟨S2048x3072, .bf16⟩
  | .hbm, ⟨71, _⟩ => ⟨S1, .f32⟩
  | .hbm, ⟨72, _⟩ => ⟨S1, .f32⟩
  | .hbm, ⟨73, _⟩ => ⟨S2048x12288, .fp8e4m3⟩
  | .hbm, ⟨74, _⟩ => ⟨S8x1024, .f32⟩
  | .hbm, ⟨75, _⟩ => ⟨S1, .f32⟩
  | .hbm, ⟨76, _⟩ => ⟨S2048x3072, .fp8e4m3⟩
  | .hbm, ⟨77, _⟩ => ⟨S8x128, .f32⟩
  | .hbm, ⟨78, _⟩ => ⟨S1x3072, .f32⟩
  | .hbm, ⟨79, _⟩ => ⟨S1x3072, .f32⟩
  | .hbm, ⟨80, _⟩ => ⟨S1, .f32⟩
  | .hbm, ⟨81, _⟩ => ⟨S1, .f32⟩
  | .hbm, ⟨82, _⟩ => ⟨S2048x3072, .bf16⟩
  | .hbm, ⟨83, _⟩ => ⟨S2x1x3072, .f32⟩
  | .hbm, ⟨84, _⟩ => ⟨S2048x3072, .bf16⟩
  | .hbm, ⟨85, _⟩ => ⟨S2x1024x3072, .bf16⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S2x1024x24x128, .bf16⟩
  | .hbm, ⟨91, _⟩ => ⟨S2x1024x24x128, .bf16⟩
  | .hbm, ⟨92, _⟩ => ⟨S2x1024x3072, .fp8e4m3⟩
  | .hbm, ⟨93, _⟩ => ⟨S2x1024x3072, .fp8e4m3⟩
  | .hbm, ⟨94, _⟩ => ⟨S2x1024x12288, .fp8e4m3⟩
  | .local _ .vmem, ⟨0, _⟩ => ⟨S256x3072, .bf16⟩
  | .local _ .vmem, ⟨1, _⟩ => ⟨S256x3072, .bf16⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1x3072, .f32⟩
  | .local _ .vmem, ⟨6, _⟩ => ⟨S256x3072, .fp8e4m3⟩
  | .local _ .vmem, ⟨7, _⟩ => ⟨S256x3072, .fp8e4m3⟩
  | .local _ .vmem, ⟨8, _⟩ => ⟨S2048x3072, .fp8e4m3⟩
  | .local _ .vmem, ⟨9, _⟩ => ⟨S3072x1024, .fp8e4m3⟩
  | .local _ .vmem, ⟨10, _⟩ => ⟨S3072x1024, .fp8e4m3⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S2048x128, .f32⟩
  | .local _ .vmem, ⟨16, _⟩ => ⟨S2048x128, .f32⟩
  | .local _ .vmem, ⟨17, _⟩ => ⟨S2048x1024, .bf16⟩
  | .local _ .vmem, ⟨18, _⟩ => ⟨S2048x1024, .bf16⟩
  | .local _ .vmem, ⟨19, _⟩ => ⟨S2048x3072, .fp8e4m3⟩
  | .local _ .vmem, ⟨20, _⟩ => ⟨S3072x1024, .fp8e4m3⟩
  | .local _ .vmem, ⟨21, _⟩ => ⟨S3072x1024, .fp8e4m3⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S2048x128, .f32⟩
  | .local _ .vmem, ⟨27, _⟩ => ⟨S2048x128, .f32⟩
  | .local _ .vmem, ⟨28, _⟩ => ⟨S2048x1024, .bf16⟩
  | .local _ .vmem, ⟨29, _⟩ => ⟨S2048x1024, .bf16⟩
  | .local _ .vmem, ⟨30, _⟩ => ⟨S2048x3072, .fp8e4m3⟩
  | .local _ .vmem, ⟨31, _⟩ => ⟨S3072x1024, .fp8e4m3⟩
  | .local _ .vmem, ⟨32, _⟩ => ⟨S3072x1024, .fp8e4m3⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S2048x1024, .bf16⟩
  | .local _ .vmem, ⟨38, _⟩ => ⟨S2048x1024, .bf16⟩
  | .local _ .vmem, ⟨39, _⟩ => ⟨S2048x3072, .fp8e4m3⟩
  | .local _ .vmem, ⟨40, _⟩ => ⟨S3072x1024, .fp8e4m3⟩
  | .local _ .vmem, ⟨41, _⟩ => ⟨S3072x1024, .fp8e4m3⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S2048x1024, .fp8e4m3⟩
  | .local _ .vmem, ⟨47, _⟩ => ⟨S2048x1024, .fp8e4m3⟩
  | .local _ .vmem, ⟨48, _⟩ => ⟨S8x1024, .f32⟩
  | .local _ .vmem, ⟨49, _⟩ => ⟨S1024x256, .bf16⟩
  | .local _ .vmem, ⟨50, _⟩ => ⟨S1024x256, .bf16⟩
  | .local _ .vmem, ⟨51, _⟩ => ⟨S1024x256, .bf16⟩
  | .local _ .vmem, ⟨52, _⟩ => ⟨S1024x256, .bf16⟩
  | .local _ .vmem, ⟨53, _⟩ => ⟨S1024x256, .bf16⟩
  | .local _ .vmem, ⟨54, _⟩ => ⟨S1024x256, .bf16⟩
  | .local _ .vmem, ⟨55, _⟩ => ⟨S1024x256, .fp8e4m3⟩
  | .local _ .vmem, ⟨56, _⟩ => ⟨S1024x256, .fp8e4m3⟩
  | .local _ .vmem, ⟨57, _⟩ => ⟨S8x128, .f32⟩
  | .local _ .vmem, ⟨58, _⟩ => ⟨S512x3072, .fp8e4m3⟩
  | .local _ .vmem, ⟨59, _⟩ => ⟨S512x3072, .fp8e4m3⟩
  | .local _ .vmem, ⟨60, _⟩ => ⟨S512x12288, .fp8e4m3⟩
  | .local _ .vmem, ⟨61, _⟩ => ⟨S512x12288, .fp8e4m3⟩
  | .local _ .vmem, ⟨62, _⟩ => ⟨S3072x512, .fp8e4m3⟩
  | .local _ .vmem, ⟨63, _⟩ => ⟨S3072x512, .fp8e4m3⟩
  | .local _ .vmem, ⟨64, _⟩ => ⟨S12288x512, .fp8e4m3⟩
  | .local _ .vmem, ⟨65, _⟩ => ⟨S12288x512, .fp8e4m3⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S512x512, .bf16⟩
  | .local _ .vmem, ⟨71, _⟩ => ⟨S512x512, .bf16⟩
  | .local _ .vmem, ⟨72, _⟩ => ⟨S1x1x512, .f32⟩
  | .local _ .vmem, ⟨73, _⟩ => ⟨S1x1x512, .f32⟩
  | .local _ .vmem, ⟨74, _⟩ => ⟨S512x512, .bf16⟩
  | .local _ .vmem, ⟨75, _⟩ => ⟨S512x512, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S2, .i32⟩
  | .local _ .smem, ⟨7, _⟩ => ⟨S1, .f32⟩
  | .local _ .smem, ⟨8, _⟩ => ⟨S1, .f32⟩
  | .local _ .smem, ⟨9, _⟩ => ⟨S1, .f32⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_1 : Ref sig .tc := ⟨.hbm, 86, rfl⟩
abbrev main_v64 : Ref sig .tc := ⟨.hbm, 87, rfl⟩
abbrev main_cst_2 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc4_stg7_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc5_stg6_0 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc6_stg8_0 : Ref sig .tc := ⟨.vmem, 70, rfl⟩
abbrev cc6_stg8_1 : Ref sig .tc := ⟨.vmem, 71, rfl⟩
abbrev cc6_stg9_0 : Ref sig .tc := ⟨.vmem, 72, rfl⟩
abbrev cc6_stg9_1 : Ref sig .tc := ⟨.vmem, 73, rfl⟩
abbrev cc6_stg10_0 : Ref sig .tc := ⟨.vmem, 74, rfl⟩
abbrev cc6_stg10_1 : Ref sig .tc := ⟨.vmem, 75, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc4_stg0_0 : Ref sig .tc := ⟨.smem, 4, rfl⟩
abbrev cc4_stg1_0 : Ref sig .tc := ⟨.smem, 5, rfl⟩
abbrev cc5_stg0_0 : Ref sig .tc := ⟨.smem, 6, rfl⟩
abbrev cc5_stg1_0 : Ref sig .tc := ⟨.smem, 7, rfl⟩
abbrev cc6_stg0_0 : Ref sig .tc := ⟨.smem, 8, rfl⟩
abbrev cc6_stg1_0 : Ref sig .tc := ⟨.smem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem1_0 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc3_sem5_0 : DmaSem sig := 41
abbrev cc3_sem5_1 : DmaSem sig := 42
abbrev cc4_sem0_0 : DmaSem sig := 43
abbrev cc4_sem1_0 : DmaSem sig := 44
abbrev cc4_sem2_0 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc5_sem0_0 : DmaSem sig := 55
abbrev cc5_sem1_0 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem4_1 : DmaSem sig := 62
abbrev cc5_sem5_0 : DmaSem sig := 63
abbrev cc5_sem5_1 : DmaSem sig := 64
abbrev cc5_sem6_0 : DmaSem sig := 65
abbrev cc6_sem0_0 : DmaSem sig := 66
abbrev cc6_sem1_0 : DmaSem sig := 67
abbrev cc6_sem2_0 : DmaSem sig := 68
abbrev cc6_sem2_1 : DmaSem sig := 69
abbrev cc6_sem3_0 : DmaSem sig := 70
abbrev cc6_sem3_1 : DmaSem sig := 71
abbrev cc6_sem4_0 : DmaSem sig := 72
abbrev cc6_sem4_1 : DmaSem sig := 73
abbrev cc6_sem5_0 : DmaSem sig := 74
abbrev cc6_sem5_1 : DmaSem sig := 75
abbrev cc6_sem6_0 : DmaSem sig := 76
abbrev cc6_sem6_1 : DmaSem sig := 77
abbrev cc6_sem7_0 : DmaSem sig := 78
abbrev cc6_sem7_1 : DmaSem sig := 79
abbrev cc6_sem8_0 : DmaSem sig := 80
abbrev cc6_sem8_1 : DmaSem sig := 81
abbrev cc6_sem9_0 : DmaSem sig := 82
abbrev cc6_sem9_1 : DmaSem sig := 83
abbrev cc6_sem10_0 : DmaSem sig := 84
abbrev cc6_sem10_1 : DmaSem sig := 85

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![3], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x3072 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3072x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![3], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x3072 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3072x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2048x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![3], ![false]⟩

def cc3_transform_0 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc3_transform_4 (i : grid3.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x3072 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S3072x1024 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![12], ![false]⟩

def cc4_transform_0 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc4_transform_4 (i : grid4.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc4_transform_5 (i : grid4.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .smem S1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .smem S1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x3072 .fp8e4m3 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S3072x1024 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2048x1024 .fp8e4m3 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S8x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨2, ![2, 12], ![false, false]⟩

def k5_off1 (i : grid5.Coords) : Fin 1 → Nat :=
  let arg0 : BitVec 32 := BitVec.ofNat 32 (i 0).val
  let v5 : Index := Scalar.indexCast arg0
  ![v5.toNat]
def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .smem S2 .i32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 1 → Memref sig .tc .smem S1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1024x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1024x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x256 .fp8e4m3 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 1 → Memref sig .tc .vmem S8x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev grid6 : Pipeline.Grid := ⟨2, ![4, 6], ![false, false]⟩

def cc6_transform_0 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_1 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c3072_i32 : BitVec 32 := 3072#32
  let c0_i32 : BitVec 32 := 0#32
  ![c3072_i32.toNat, v0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_9 (i : grid6.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .smem S1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 1 → Memref sig .tc .smem S1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S512x3072 .fp8e4m3 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S512x12288 .fp8e4m3 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S3072x512 .fp8e4m3 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S12288x512 .fp8e4m3 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S1x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S512x512 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev stage6_9 : Fin 2 → Memref sig .tc .vmem S1x1x512 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, true]

abbrev stage6_10 : Fin 2 → Memref sig .tc .vmem S512x512 .bf16 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true, true]
-- ==== ReferenceIdeal.lean ====
abbrev S2x1024x3072 : Shape := ⟨3, ![2, 1024, 3072]⟩
abbrev S2x3072 : Shape := ⟨2, ![2, 3072]⟩
abbrev S3072x21504 : Shape := ⟨2, ![3072, 21504]⟩
abbrev S21504 : Shape := ⟨1, ![21504]⟩
abbrev S128 : Shape := ⟨1, ![128]⟩
abbrev S2x1024x64 : Shape := ⟨3, ![2, 1024, 64]⟩
abbrev S2 : Shape := ⟨1, ![2]⟩
abbrev S_ : Shape := ⟨0, ![]⟩
abbrev S15360x3072 : Shape := ⟨2, ![15360, 3072]⟩
abbrev S3072 : Shape := ⟨1, ![3072]⟩
abbrev S1 : Shape := ⟨1, ![1]⟩
abbrev S1x1x1 : Shape := ⟨3, ![1, 1, 1]⟩
abbrev S2x1024x24x128 : Shape := ⟨4, ![2, 1024, 24, 128]⟩
abbrev S2x1024x12288 : Shape := ⟨3, ![2, 1024, 12288]⟩
abbrev S2x1024 : Shape := ⟨2, ![2, 1024]⟩
abbrev S2x1024x1 : Shape := ⟨3, ![2, 1024, 1]⟩
abbrev S2x1x3072 : Shape := ⟨3, ![2, 1, 3072]⟩
abbrev S2048x3072 : Shape := ⟨2, ![2048, 3072]⟩
abbrev S2048x21504 : Shape := ⟨2, ![2048, 21504]⟩
abbrev S1x21504 : Shape := ⟨2, ![1, 21504]⟩
abbrev S2048x12288 : Shape := ⟨2, ![2048, 12288]⟩
abbrev S2x1024x24 : Shape := ⟨3, ![2, 1024, 24]⟩
abbrev S2x1024x24x1 : Shape := ⟨4, ![2, 1024, 24, 1]⟩
abbrev S1x1x1x128 : Shape := ⟨4, ![1, 1, 1, 128]⟩
abbrev S2x1024x24x64x2 : Shape := ⟨5, ![2, 1024, 24, 64, 2]⟩
abbrev S2x1024x24x64x1 : Shape := ⟨5, ![2, 1024, 24, 64, 1]⟩
abbrev S2x1024x24x64 : Shape := ⟨4, ![2, 1024, 24, 64]⟩
abbrev S2x1024x1x64 : Shape := ⟨4, ![2, 1024, 1, 64]⟩
abbrev S2x24x1024x128 : Shape := ⟨4, ![2, 24, 1024, 128]⟩
abbrev S48x1024x128 : Shape := ⟨3, ![48, 1024, 128]⟩
abbrev S2x1x1x1024 : Shape := ⟨4, ![2, 1, 1, 1024]⟩
abbrev S2x1x1x1 : Shape := ⟨4, ![2, 1, 1, 1]⟩
abbrev S48x1024x1024 : Shape := ⟨3, ![48, 1024, 1024]⟩
abbrev S2x24x1024x1024 : Shape := ⟨4, ![2, 24, 1024, 1024]⟩
abbrev S2x24x1024 : Shape := ⟨3, ![2, 24, 1024]⟩
abbrev S2x24x1024x1 : Shape := ⟨4, ![2, 24, 1024, 1]⟩
abbrev S3072x3072 : Shape := ⟨2, ![3072, 3072]⟩
abbrev S12288x3072 : Shape := ⟨2, ![12288, 3072]⟩
abbrev S1x3072 : Shape := ⟨2, ![1, 3072]⟩
abbrev S1x2x1024x3072 : Shape := ⟨4, ![1, 2, 1024, 3072]⟩
abbrev S1x1x1x1 : Shape := ⟨4, ![1, 1, 1, 1]⟩
abbrev S1x2x1024x12288 : Shape := ⟨4, ![1, 2, 1024, 12288]⟩

abbrev nBuf : Space → Nat
  | .hbm => 31
  | .vmem => 23
  | .smem => 3
  | _ => 0

abbrev bufTy : (tb : Table) → Fin (tcTables nBuf tb) → BufTy
  | .hbm, ⟨0, _⟩ => ⟨S2x1024x3072, .bf16⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S3072x21504, .fp8e4m3⟩
  | .hbm, ⟨5, _⟩ => ⟨S21504, .f32⟩
  | .hbm, ⟨6, _⟩ => ⟨S21504, .f32⟩
  | .hbm, ⟨7, _⟩ => ⟨S128, .f32⟩
  | .hbm, ⟨8, _⟩ => ⟨S128, .f32⟩
  | .hbm, ⟨9, _⟩ => ⟨S2x1024x64, .f32⟩
  | .hbm, ⟨10, _⟩ => ⟨S2x1024x64, .f32⟩
  | .hbm, ⟨11, _⟩ => ⟨S2, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S15360x3072, .fp8e4m3⟩
  | .hbm, ⟨16, _⟩ => ⟨S3072, .f32⟩
  | .hbm, ⟨17, _⟩ => ⟨S3072, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S2x1024x3072, .bf16⟩
  | .hbm, ⟨22, _⟩ => ⟨S1x1x1, .f32⟩
  | .hbm, ⟨23, _⟩ => ⟨S1x1x1, .f32⟩
  | .hbm, ⟨24, _⟩ => ⟨S2x1024x24x128, .bf16⟩
  | .hbm, ⟨25, _⟩ => ⟨S2x1024x24x128, .bf16⟩
  | .hbm, ⟨26, _⟩ => ⟨S2x1024x3072, .fp8e4m3⟩
  | .hbm, ⟨27, _⟩ => ⟨S2x1024x3072, .fp8e4m3⟩
  | .hbm, ⟨28, _⟩ => ⟨S2x1024x12288, .fp8e4m3⟩
  | .hbm, ⟨29, _⟩ => ⟨S_, .f32⟩
  | .hbm, ⟨30, _⟩ => ⟨S_, .f32⟩
  | .local _ .vmem, ⟨0, _⟩ => ⟨S2x1024x3072, .bf16⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S3072x21504, .fp8e4m3⟩
  | .local _ .vmem, ⟨5, _⟩ => ⟨S21504, .f32⟩
  | .local _ .vmem, ⟨6, _⟩ => ⟨S21504, .f32⟩
  | .local _ .vmem, ⟨7, _⟩ => ⟨S128, .f32⟩
  | .local _ .vmem, ⟨8, _⟩ => ⟨S128, .f32⟩
  | .local _ .vmem, ⟨9, _⟩ => ⟨S2x1024x64, .f32⟩
  | .local _ .vmem, ⟨10, _⟩ => ⟨S2x1024x64, .f32⟩
  | .local _ .vmem, ⟨11, _⟩ => ⟨S2, .i32⟩
  | .local _ .vmem, ⟨12, _⟩ => ⟨S15360x3072, .fp8e4m3⟩
  | .local _ .vmem, ⟨13, _⟩ => ⟨S3072, .f32⟩
  | .local _ .vmem, ⟨14, _⟩ => ⟨S3072, .f32⟩
  | .local _ .vmem, ⟨15, _⟩ => ⟨S2x1024x3072, .bf16⟩
  | .local _ .vmem, ⟨16, _⟩ => ⟨S1x1x1, .f32⟩
  | .local _ .vmem, ⟨17, _⟩ => ⟨S1x1x1, .f32⟩
  | .local _ .vmem, ⟨18, _⟩ => ⟨S2x1024x24x128, .bf16⟩
  | .local _ .vmem, ⟨19, _⟩ => ⟨S2x1024x24x128, .bf16⟩
  | .local _ .vmem, ⟨20, _⟩ => ⟨S2x1024x3072, .fp8e4m3⟩
  | .local _ .vmem, ⟨21, _⟩ => ⟨S2x1024x3072, .fp8e4m3⟩
  | .local _ .vmem, ⟨22, _⟩ => ⟨S2x1024x12288, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v3_4 : Ref sig .tc := ⟨.hbm, 25, rfl⟩
abbrev main_v3_5 : Ref sig .tc := ⟨.hbm, 26, rfl⟩
abbrev main_v3_6 : Ref sig .tc := ⟨.hbm, 27, rfl⟩
abbrev main_v3_7 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg18_0 : Ref sig .tc := ⟨.vmem, 15, rfl⟩
abbrev cc0_stg19_0 : Ref sig .tc := ⟨.vmem, 16, rfl⟩
abbrev cc0_stg20_0 : Ref sig .tc := ⟨.vmem, 17, rfl⟩
abbrev cc0_stg21_0 : Ref sig .tc := ⟨.vmem, 18, rfl⟩
abbrev cc0_stg22_0 : Ref sig .tc := ⟨.vmem, 19, rfl⟩
abbrev cc0_stg23_0 : Ref sig .tc := ⟨.vmem, 20, rfl⟩
abbrev cc0_stg24_0 : Ref sig .tc := ⟨.vmem, 21, rfl⟩
abbrev cc0_stg25_0 : Ref sig .tc := ⟨.vmem, 22, rfl⟩
abbrev cc0_stg12_0 : Ref sig .tc := ⟨.smem, 0, rfl⟩
abbrev cc0_stg13_0 : Ref sig .tc := ⟨.smem, 1, rfl⟩
abbrev cc0_stg14_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S2x1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x21504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S21504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21504 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S15360x3072 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024x3072 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024x24x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024x24x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024x3072 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024x12288 .fp8e4m3 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.KernelRun.Region0.lean ====
/- The pallas_call `ln_quant` (number 0 of @main) at any contents `V` of the buffers it is entered with: what its body leaves
in each output block at a grid point (`outsAt0`), the pipeline's proof data (`dat0`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

section Body
variable (c : Dev nD) (i : grid0.Coords) (arg1 : Memref sig .tc .smem S1 .f32) (harg1 : arg1.IsWhole) (arg2 : Memref sig .tc .vmem S256x3072 .bf16) (harg2 : arg2.IsWhole) (arg3 : Memref sig .tc .vmem S1x1x3072 .f32) (harg3 : arg3.IsWhole) (arg4 : Memref sig .tc .vmem S1x1x3072 .f32) (harg4 : arg4.IsWhole) (arg5 : Memref sig .tc .vmem S256x3072 .fp8e4m3) (harg5 : arg5.IsWhole)

/-- One staging buffer of output window 4, through which its contents are stated (`View.read_writes_of_cover`). -/
abbrev VO0_4 : View sig .tc .vmem S256x3072 .fp8e4m3 := (Memref.whole cc0_stg4_0 : Memref sig .tc .vmem S256x3072 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .fp8e4m3 := win0_4.stage (cfg0.slots t 4)
abbrev hs0_4 (t : Fin cfg0.N) : (ms0_4 t).IsWhole := hstage0_4 ((cfg0.slots t 4).cast nbuf0_4)
set_option maxHeartbeats 1000000 in
/-- What the body's stores leave in each output's staging memref, as pieces (last first). -/
noncomputable def kernelRun0_A
    (x0 : Vec F S1 .f32) (x1 : Vec F S256x3072 .bf16) (x2 : Vec F S1x1x3072 .f32) (x3 : Vec F S1x1x3072 .f32) :
    { L4 : List (View.Piece (Elt F) S256x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0_ln_quant i arg1 harg1 arg2 harg2 arg3 harg3 arg4 harg4 arg5 harg5) K } := by
  refine ⟨?_, fun E K => ?run⟩
  case run =>
    simp only [cc0_ln_quant_eq_skeleton]; unfold cc0_ln_quant_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (in stores of `S256x3072`). -/
theorem cover0_A_4
    (x0 : Vec F S1 .f32) (x1 : Vec F S256x3072 .bf16) (x2 : Vec F S1x1x3072 .f32) (x3 : Vec F S1x1x3072 .f32) (y : S256x3072.Idx) :
    ∃ pc ∈ (kernelRun0_A c i arg1 harg1 arg2 harg2 arg3 harg3 arg4 harg4 arg5 harg5 x0 x1 x2 x3).1, y ∈ pc.1.set :=
  View.cover_of_tiledL (kernelRun0_A c i arg1 harg1 arg2 harg2 arg3 harg3 arg4 harg4 arg5 harg5 x0 x1 x2 x3).1 S256x3072.size (by sl_kernel_rfl) y

/-- What the run leaves in output 4's staging buffer. -/
def out0_A_4
    (x0 : Vec F S1 .f32) (x1 : Vec F S256x3072 .bf16) (x2 : Vec F S1x1x3072 .f32) (x3 : Vec F S1x1x3072 .f32) : Vec F S256x3072 .fp8e4m3 :=
  VO0_4.read (Elt F) (VO0_4.writes (Elt F) VO0_4.junk (kernelRun0_A c i arg1 harg1 arg2 harg2 arg3 harg3 arg4 harg4 arg5 harg5 x0 x1 x2 x3).1)

/-! ## What the outputs hold after each point -/

end Body

/-- What the outputs' staging buffers hold after the body at point `t`. -/
def outsAt0 (c : Dev nD) (t : Fin cfg0.N) : Vec F S256x3072 .fp8e4m3 :=
  out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

/-- The proof data's arrays are the region-entry contents, by projecting the definition (`dsimp`). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one). -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.KernelRun.Region1.lean ====
/- The pallas_call `lin1_q` (number 1 of @main) at any contents `V` of the buffers it is entered with: what its body leaves
in each output block at a grid point (`outsAt1`), the pipeline's proof data (`dat1`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

section Body
variable (c : Dev nD) (i : grid1.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x1024 .bf16) (harg8 : arg8.IsWhole)

/-- One staging buffer of output window 7, through which its contents are stated (`View.read_writes_of_cover`). -/
abbrev VO1_7 : View sig .tc .vmem S2048x1024 .bf16 := (Memref.whole cc1_stg7_0 : Memref sig .tc .vmem S2048x1024 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x3072 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3072x1024 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1024 .bf16 := win1_7.stage (cfg1.slots t 7)
abbrev hs1_7 (t : Fin cfg1.N) : (ms1_7 t).IsWhole := hstage1_7 ((cfg1.slots t 7).cast nbuf1_7)
set_option maxHeartbeats 1816000 in
/-- What the body's stores leave in each output's staging memref, as pieces (last first). -/
noncomputable def kernelRun1_A
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) :
    { L7 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1_lin1_q i arg1 harg1 arg2 harg2 arg3 harg3 arg4 harg4 arg5 harg5 arg6 harg6 arg7 harg7 arg8 harg8) K } := by
  refine ⟨?_, fun E K => ?run⟩
  case run =>
    simp only [cc1_lin1_q_eq_skeleton]; unfold cc1_lin1_q_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for output 7 tile its block (in stores of `S256x128`). -/
theorem cover1_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) (y : S2048x1024.Idx) :
    ∃ pc ∈ (kernelRun1_A c i arg1 harg1 arg2 harg2 arg3 harg3 arg4 harg4 arg5 harg5 arg6 harg6 arg7 harg7 arg8 harg8 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 x0 x1 x2 x3 x4 x5 x6).1 S256x128.size (by sl_kernel_rfl) y

/-- What the run leaves in output 7's staging buffer. -/
def out1_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) : Vec F S2048x1024 .bf16 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5 x6).1)

/-! ## What the outputs hold after each point -/

end Body

/-- What the outputs' staging buffers hold after the body at point `t`. -/
def outsAt1 (c : Dev nD) (t : Fin cfg1.N) : Vec F S2048x1024 .bf16 :=
  out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t)
  Φ _ := Pipeline.ΦA spec1 c
  q _ := fullShare
  owed _ := 0

/-- The proof data's arrays are the region-entry contents, by projecting the definition (`dsimp`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one). -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.KernelRun.Region2.lean ====
/- The pallas_call `lin1_k` (number 2 of @main) at any contents `V` of the buffers it is entered with: what its body leaves
in each output block at a grid point (`outsAt2`), the pipeline's proof data (`dat2`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

section Body
variable (c : Dev nD) (i : grid2.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x1024 .bf16) (harg8 : arg8.IsWhole)

/-- One staging buffer of output window 7, through which its contents are stated (`View.read_writes_of_cover`). -/
abbrev VO2_7 : View sig .tc .vmem S2048x1024 .bf16 := (Memref.whole cc2_stg7_0 : Memref sig .tc .vmem S2048x1024 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x3072 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3072x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x1024 .bf16 := win2_7.stage (cfg2.slots t 7)
abbrev hs2_7 (t : Fin cfg2.N) : (ms2_7 t).IsWhole := hstage2_7 ((cfg2.slots t 7).cast nbuf2_7)
set_option maxHeartbeats 1816000 in
/-- What the body's stores leave in each output's staging memref, as pieces (last first). -/
noncomputable def kernelRun2_A
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) :
    { L7 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc2_lin1_k i arg1 harg1 arg2 harg2 arg3 harg3 arg4 harg4 arg5 harg5 arg6 harg6 arg7 harg7 arg8 harg8) K } := by
  refine ⟨?_, fun E K => ?run⟩
  case run =>
    simp only [cc2_lin1_k_eq_skeleton]; unfold cc2_lin1_k_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for output 7 tile its block (in stores of `S256x128`). -/
theorem cover2_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) (y : S2048x1024.Idx) :
    ∃ pc ∈ (kernelRun2_A c i arg1 harg1 arg2 harg2 arg3 harg3 arg4 harg4 arg5 harg5 arg6 harg6 arg7 harg7 arg8 harg8 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 x0 x1 x2 x3 x4 x5 x6).1 S256x128.size (by sl_kernel_rfl) y

/-- What the run leaves in output 7's staging buffer. -/
def out2_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) : Vec F S2048x1024 .bf16 :=
  VO2_7.read (Elt F) (VO2_7.writes (Elt F) VO2_7.junk (kernelRun2_A c i arg1 harg1 arg2 harg2 arg3 harg3 arg4 harg4 arg5 harg5 arg6 harg6 arg7 harg7 arg8 harg8 x0 x1 x2 x3 x4 x5 x6).1)

/-! ## What the outputs hold after each point -/

end Body

/-- What the outputs' staging buffers hold after the body at point `t`. -/
def outsAt2 (c : Dev nD) (t : Fin cfg2.N) : Vec F S2048x1024 .bf16 :=
  out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t)
  Φ _ := Pipeline.ΦA spec2 c
  q _ := fullShare
  owed _ := 0

/-- The proof data's arrays are the region-entry contents, by projecting the definition (`dsimp`). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one). -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outsAt2
  unfold out2_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 c _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Run

end
-- ==== Proof.KernelRun.Region3.lean ====
/- The pallas_call `lin1_v` (number 3 of @main) at any contents `V` of the buffers it is entered with: what its body leaves
in each output block at a grid point (`outsAt3`), the pipeline's proof data (`dat3`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

section Body
variable (c : Dev nD) (i : grid3.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole)

/-- One staging buffer of output window 5, through which its contents are stated (`View.read_writes_of_cover`). -/
abbrev VO3_5 : View sig .tc .vmem S2048x1024 .bf16 := (Memref.whole cc3_stg5_0 : Memref sig .tc .vmem S2048x1024 .bf16).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x3072 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S3072x1024 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1024 .bf16 := win3_5.stage (cfg3.slots t 5)
abbrev hs3_5 (t : Fin cfg3.N) : (ms3_5 t).IsWhole := hstage3_5 ((cfg3.slots t 5).cast nbuf3_5)
set_option maxHeartbeats 1000000 in
/-- What the body's stores leave in each output's staging memref, as pieces (last first). -/
noncomputable def kernelRun3_A
    (x0 : Vec F S1 .f32) (x1 : Vec F S2048x3072 .fp8e4m3) (x2 : Vec F S3072x1024 .fp8e4m3) (x3 : Vec F S1x1024 .f32) (x4 : Vec F S1x1024 .f32) :
    { L5 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc3_lin1_v i arg1 harg1 arg2 harg2 arg3 harg3 arg4 harg4 arg5 harg5 arg6 harg6) K } := by
  refine ⟨?_, fun E K => ?run⟩
  case run =>
    simp only [cc3_lin1_v_eq_skeleton]; unfold cc3_lin1_v_skel
    simp only [k3_part1_eq_skeleton, k3_part2_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for output 5 tile its block (in stores of `S256x1024`). -/
theorem cover3_A_5
    (x0 : Vec F S1 .f32) (x1 : Vec F S2048x3072 .fp8e4m3) (x2 : Vec F S3072x1024 .fp8e4m3) (x3 : Vec F S1x1024 .f32) (x4 : Vec F S1x1024 .f32) (y : S2048x1024.Idx) :
    ∃ pc ∈ (kernelRun3_A c i arg1 harg1 arg2 harg2 arg3 harg3 arg4 harg4 arg5 harg5 arg6 harg6 x0 x1 x2 x3 x4).1, y ∈ pc.1.set :=
  View.cover_of_tiledL (kernelRun3_A c i arg1 harg1 arg2 harg2 arg3 harg3 arg4 harg4 arg5 harg5 arg6 harg6 x0 x1 x2 x3 x4).1 S256x1024.size (by sl_kernel_rfl) y

/-- What the run leaves in output 5's staging buffer. -/
def out3_A_5
    (x0 : Vec F S1 .f32) (x1 : Vec F S2048x3072 .fp8e4m3) (x2 : Vec F S3072x1024 .fp8e4m3) (x3 : Vec F S1x1024 .f32) (x4 : Vec F S1x1024 .f32) : Vec F S2048x1024 .bf16 :=
  VO3_5.read (Elt F) (VO3_5.writes (Elt F) VO3_5.junk (kernelRun3_A c i arg1 harg1 arg2 harg2 arg3 harg3 arg4 harg4 arg5 harg5 arg6 harg6 x0 x1 x2 x3 x4).1)

/-! ## What the outputs hold after each point -/

end Body

/-- What the outputs' staging buffers hold after the body at point `t`. -/
def outsAt3 (c : Dev nD) (t : Fin cfg3.N) : Vec F S2048x1024 .bf16 :=
  out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)

/-! ## The pipeline's proof data -/

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t)
  Φ _ := Pipeline.ΦA spec3 c
  q _ := fullShare
  owed _ := 0

/-- The proof data's arrays are the region-entry contents, by projecting the definition (`dsimp`). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one). -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_5
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t) (iblk3 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_A_5 c _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Run

end
-- ==== Proof.KernelRun.Region4.lean ====
/- The pallas_call `lin1_mlp` (number 4 of @main) at any contents `V` of the buffers it is entered with: what its body leaves
in each output block at a grid point (`outsAt4`), the pipeline's proof data (`dat4`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates. -/
abbrev cond4_0 (i : grid4.Coords) : Prop := (Scalar.cmpi .ne (Scalar.extui (Scalar.cmpi .eq (BitVec.ofNat 32 (i 0).val) 0#32)) 0#32) = 1#1
/-- It holds at the first point only — by arithmetic of the point. -/
theorem hcond4_0 : ∀ t : Fin cfg4.N, cond4_0 (grid4.coords t) ↔ t.val % 12 = 0 :=
  (fun t => by
    have ht : t.val < 12 := Nat.lt_of_lt_of_eq t.isLt N_4
    have e0 : (grid4.coords t 0).val = t.val / 1 % 12 := Pipeline.Grid.coords_val t 0 (by decide) rfl
    simp only [cond4_0, e0]
    word_cmp
   : ∀ t : Fin grid4.N, cond4_0 (grid4.coords t) ↔ t.val % 12 = 0)

/-! ## The kernel body on any staging memrefs: a subtype the run finds -/

section Body
variable (c : Dev nD) (i : grid4.Coords) (arg1 : Memref sig .tc .smem S1 .f32) (harg1 : arg1.IsWhole) (arg2 : Memref sig .tc .smem S1 .f32) (harg2 : arg2.IsWhole) (arg3 : Memref sig .tc .vmem S2048x3072 .fp8e4m3) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .fp8e4m3) (harg7 : arg7.IsWhole) (arg8 : Memref sig .tc .vmem S8x1024 .f32) (harg8 : arg8.IsWhole)

/-- One staging buffer of output window 6, through which its contents are stated (`View.read_writes_of_cover`). -/
abbrev VO4_6 : View sig .tc .vmem S2048x1024 .fp8e4m3 := (Memref.whole cc4_stg6_0 : Memref sig .tc .vmem S2048x1024 .fp8e4m3).view
/-- One staging buffer of output window 7, through which its contents are stated (`View.read_writes_of_cover`). -/
abbrev VO4_7 : View sig .tc .vmem S8x1024 .f32 := (Memref.whole cc4_stg7_0 : Memref sig .tc .vmem S8x1024 .f32).view
/-- Each window's current staging memref at point `t`, spelled as the pipeline passes it (`bodyAt4`), and its wholeness. -/
abbrev ms4_0 (t : Fin cfg4.N) : Memref sig .tc .smem S1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .smem S1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x3072 .fp8e4m3 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S3072x1024 .fp8e4m3 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x1024 .fp8e4m3 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S8x1024 .f32 := win4_7.stage (cfg4.slots t 7)
abbrev hs4_7 (t : Fin cfg4.N) : (ms4_7 t).IsWhole := hstage4_7 ((cfg4.slots t 7).cast nbuf4_7)
set_option maxHeartbeats 1000000 in
/-- What the body's stores leave in each output's staging memref, as pieces (last first) IN CASE A (`scf.if` 0 taken. -/
noncomputable def kernelRun4_A (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) :
    Σ' (L6 : List (View.Piece (Elt F) S2048x1024 .fp8e4m3)), { L7 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_lin1_mlp i arg1 harg1 arg2 harg2 arg3 harg3 arg4 harg4 arg5 harg5 arg6 harg6 arg7 harg7 arg8 harg8) K } := by
  refine ⟨?_, ?_, fun E K => ?run⟩
  case run =>
    simp only [cc4_lin1_mlp_eq_skeleton]; unfold cc4_lin1_mlp_skel
    simp only [k4_part1_eq_skeleton, k4_part2_eq_skeleton, k4_part3_eq_skeleton, k4_part4_eq_skeleton, k4_part5_eq_skeleton, k4_part6_eq_skeleton, k4_part7_eq_skeleton, k4_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block (in stores of `S256x1024`). -/
theorem cover4_A_6 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (y : S2048x1024.Idx) :
    ∃ pc ∈ (kernelRun4_A c i arg1 harg1 arg2 harg2 arg3 harg3 arg4 harg4 arg5 harg5 arg6 harg6 arg7 harg7 arg8 harg8 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 hc0 x0 x1 x2 x3 x4 x5).1 S256x1024.size (by sl_kernel_rfl) y

/-- What case A leaves in output 6's staging buffer. -/
def out4_A_6 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) : Vec F S2048x1024 .fp8e4m3 :=
  VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4 x5).1)

/-- Case A's pieces for output 7 tile its block (in stores of `S8x1024`). -/
theorem cover4_A_7 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (y : S8x1024.Idx) :
    ∃ pc ∈ (kernelRun4_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 x0 x1 x2 x3 x4 x5).2.1 S8x1024.size (by sl_kernel_rfl) y

/-- What case A leaves in output 7's staging buffer. -/
def out4_A_7 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) : Vec F S8x1024 .f32 :=
  VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4 x5).2.1)
set_option maxHeartbeats 1000000 in
/-- What the body's stores leave in each output's staging memref, as pieces (last first) IN CASE B (`scf.if` 0 not taken. -/
noncomputable def kernelRun4_B (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) :
    Σ' (L6 : List (View.Piece (Elt F) S2048x1024 .fp8e4m3)), { L7 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_lin1_mlp i arg1 harg1 arg2 harg2 arg3 harg3 arg4 harg4 arg5 harg5 arg6 harg6 arg7 harg7 arg8 harg8) K } := by
  refine ⟨?_, ?_, fun E K => ?run⟩
  case run =>
    simp only [cc4_lin1_mlp_eq_skeleton]; unfold cc4_lin1_mlp_skel
    simp only [k4_part1_eq_skeleton, k4_part2_eq_skeleton, k4_part3_eq_skeleton, k4_part4_eq_skeleton, k4_part5_eq_skeleton, k4_part6_eq_skeleton, k4_part7_eq_skeleton, k4_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block (in stores of `S256x1024`). -/
theorem cover4_B_6 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) (y : S2048x1024.Idx) :
    ∃ pc ∈ (kernelRun4_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).1 S256x1024.size (by sl_kernel_rfl) y

/-- What case B leaves in output 6's staging buffer. -/
def out4_B_6 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) : Vec F S2048x1024 .fp8e4m3 :=
  VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 x5 xo7).1)

/-- Case B's pieces for output 7 tile its block (in stores of `S8x1024`). -/
theorem cover4_B_7 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) (y : S8x1024.Idx) :
    ∃ pc ∈ (kernelRun4_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).2.1 S8x1024.size (by sl_kernel_rfl) y

/-- What case B leaves in output 7's staging buffer. -/
def out4_B_7 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) : Vec F S8x1024 .f32 :=
  VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 x5 xo7).2.1)

/-! ## What the outputs hold after each point -/

end Body

/-- THE ACCUMULATION. What the outputs' staging buffers hold after the body at position `n` (a tuple, in window order). -/
def outsAt4 (c : Dev nD) : (n : ℕ) → n < cfg4.N → Vec F S2048x1024 .fp8e4m3 × Vec F S8x1024 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 12 = 0 then
      (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

/-- `outsAt4` at a point of case A: that case's contents. -/
theorem outsAt4_A (c : Dev nD) (t : Fin cfg4.N) (h0 : t.val % 12 = 0) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 12 = 0) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2
  Φ _ := Pipeline.ΦA spec4 c
  q _ := fullShare
  owed _ := 0

/-- The proof data's arrays are the region-entry contents, by projecting the definition (`dsimp`). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
/-- At a point of case B output 7's current staging buffer holds what the body left at the point before. -/
theorem before4_7_B (c : Dev nD) (t : Fin cfg4.N) (h0 : ¬t.val % 12 = 0) (d) :
    (dat4 V c).before 7 t d = (outsAt4 V c (t.val - 1) (Nat.lt_of_le_of_lt (Nat.sub_le _ _) t.isLt)).2 := by
  have hN : t.val < 12 := lt_of_lt_of_eq t.isLt (show cfg4.N = 12 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t` (Lib/Pipeline.lean `BodyObligation`'s precondition, the windows one by one). -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 12 := lt_of_lt_of_eq t.isLt (show cfg4.N = 12 from N_4)
  by_cases h0 : t.val % 12 = 0
  · rw [outsAt4_A V c t h0]
    unfold out4_A_6 out4_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _ _)
  · rw [outsAt4_B V c t h0]
    simp only [before4_7_B V c t h0]
    unfold out4_B_6 out4_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.Kernel.Run

end
-- ==== Proof.KernelRun.Attn.lean ====
/- The pallas_call `attention` (number 5 of @main): the blocks its inputs' buffers hold, its branch conditions — the first grid
point, and which of the four numbers of live text chunks the text length gives — and the statement of a run of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates. -/
abbrev cond5_0 (i : grid5.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond5_0 : ∀ t : Fin cfg5.N, cond5_0 (grid5.coords t) ↔ t.val % 24 = 0 :=
  (fun t => by
    have ht : t.val < 24 := Nat.lt_of_lt_of_eq t.isLt N_5
    have e0 : (grid5.coords t 0).val = t.val / 12 % 2 := Pipeline.Grid.coords_val t 0 (by decide) rfl
    have e1 : (grid5.coords t 1).val = t.val / 1 % 12 := Pipeline.Grid.coords_val t 1 (by decide) rfl
    simp only [cond5_0, e0, e1]
    word_cmp
   : ∀ t : Fin grid5.N, cond5_0 (grid5.coords t) ↔ t.val % 24 = 0)

/-! ## The kernel body on any staging memrefs: a subtype the run finds -/

/-- The text length the body reads: its batch element's word. -/
abbrev word5 (i : grid5.Coords) (arg2 : Memref sig .tc .smem S2 .i32) (harg2 : arg2.IsWhole) (x0 : Vec F S2 .i32) : BitVec 32 :=
  View.readAt (Elt F) arg2.view (Rect.unit (s := S2) (k5_off1 i) S1.size (k5_off1_inb i)).toLoadRect (harg2.unread x0) (Shape.Idx.first (show 0 < S1.numel from by rw [show S1.numel = 1 from numel1_S1]; exact Nat.one_pos))

/-- The number of live text chunks of a text length, as the body computes it. -/
def nlive (w : BitVec 32) : BitVec 32 := Scalar.minsi 4#32 (Scalar.maxsi 1#32 (Scalar.shrsi (Scalar.addi w 127#32) 7#32))

/-- The condition of the body's branch for `n` live chunks. -/
abbrev cond5_n (n w : BitVec 32) : Prop :=
  Scalar.cmpi .ne (Scalar.extui (Scalar.cmpi .eq (Scalar.minsi 4#32 (Scalar.maxsi 1#32 (Scalar.shrsi (Scalar.addi w 127#32) 7#32))) n)) 0#32 = 1#1

theorem cond5_n_iff (n w : BitVec 32) : cond5_n n w ↔ nlive w = n := by
  unfold cond5_n
  show Scalar.cmpi .ne (Scalar.extui (Scalar.cmpi .eq (nlive w) n)) 0#32 = 1#1 ↔ nlive w = n
  word_cmp
  exact BitVec.toNat_inj

/-- At least one chunk is live and at most four. -/
theorem nlive_cases (w : BitVec 32) : nlive w = 1#32 ∨ nlive w = 2#32 ∨ nlive w = 3#32 ∨ nlive w = 4#32 := by
  unfold nlive Scalar.minsi Scalar.maxsi IntOp.minsi IntOp.maxsi
  generalize Scalar.shrsi (Scalar.addi w 127#32) 7#32 = s
  by_cases h1 : s.slt 1#32 = true
  · have e : (if (s.slt 1#32) = true then 1#32 else s) = 1#32 := if_pos h1
    rw [e]; left; decide
  · have e : (if (s.slt 1#32) = true then 1#32 else s) = s := if_neg h1
    rw [e]
    by_cases h4 : (4#32).slt s = true
    · right; right; right; exact if_pos h4
    · rw [if_neg h4]
      have a : 1 ≤ s.toInt := by
        have := mt BitVec.slt_iff_toInt_lt.mpr h1
        have e : (1#32).toInt = 1 := by decide
        omega
      have b : s.toInt ≤ 4 := by
        have := mt BitVec.slt_iff_toInt_lt.mpr h4
        have e : (4#32).toInt = 4 := by decide
        omega
      have hs : s = BitVec.ofInt 32 s.toInt := (BitVec.ofInt_toInt).symm
      have hc : s.toInt = 1 ∨ s.toInt = 2 ∨ s.toInt = 3 ∨ s.toInt = 4 := by omega
      rcases hc with h | h | h | h <;> (rw [h] at hs; subst hs; decide)

/-- A choice by the number of live chunks. -/
def pick {α : Sort*} (w : BitVec 32) (f1 : nlive w = 1#32 → α) (f2 : nlive w = 2#32 → α) (f3 : nlive w = 3#32 → α) (f4 : nlive w = 4#32 → α) : α :=
  if h1 : nlive w = 1#32 then f1 h1
  else if h2 : nlive w = 2#32 then f2 h2
  else if h3 : nlive w = 3#32 then f3 h3
  else f4 ((((nlive_cases _).resolve_left h1).resolve_left h2).resolve_left h3)

section Pick
variable {α : Sort*} (w : BitVec 32) (f1 : nlive w = 1#32 → α) (f2 : nlive w = 2#32 → α) (f3 : nlive w = 3#32 → α) (f4 : nlive w = 4#32 → α)
theorem pick_1 (h : nlive w = 1#32) : pick w f1 f2 f3 f4 = f1 h := dif_pos h
theorem pick_2 (h : nlive w = 2#32) : pick w f1 f2 f3 f4 = f2 h :=
  (dif_neg (by rw [h]; decide)).trans (dif_pos h)
theorem pick_3 (h : nlive w = 3#32) : pick w f1 f2 f3 f4 = f3 h :=
  (dif_neg (by rw [h]; decide)).trans ((dif_neg (by rw [h]; decide)).trans (dif_pos h))
theorem pick_4 (h : nlive w = 4#32) : pick w f1 f2 f3 f4 = f4 h :=
  (dif_neg (by rw [h]; decide)).trans ((dif_neg (by rw [h]; decide)).trans (dif_neg (by rw [h]; decide)))
end Pick

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

/-- One staging buffer of output window 5, through which its contents are stated (`View.read_writes_of_cover`. -/
abbrev VO5_5 : View sig .tc .vmem S1024x256 .fp8e4m3 := (Memref.whole cc5_stg5_0 : Memref sig .tc .vmem S1024x256 .fp8e4m3).view
/-- One staging buffer of output window 6, through which its contents are stated (`View.read_writes_of_cover`. -/
abbrev VO5_6 : View sig .tc .vmem S8x128 .f32 := (Memref.whole cc5_stg6_0 : Memref sig .tc .vmem S8x128 .f32).view
/-- Each window's current staging memref at point `t`, spelled as the pipeline passes it (`bodyAt5`), and its wholeness. -/
abbrev ms5_0 (t : Fin cfg5.N) : Memref sig .tc .smem S2 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .smem S1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x256 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x256 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x256 .bf16 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x256 .fp8e4m3 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S8x128 .f32 := win5_6.stage (cfg5.slots t 6)
abbrev hs5_6 (t : Fin cfg5.N) : (ms5_6 t).IsWhole := hstage5_6 ((cfg5.slots t 6).cast nbuf5_6)

/-- A run of the body: on whole staging memrefs — the inputs' at their contents, output 5's at anything, output 6's as `P6` says — it
    runs to the continuation holding the inputs' as they were and each output's buffer with its pieces written. -/
def Run5 (x0 : Vec F S2 .i32) (x1 : Vec F S1 .f32) (x2 x3 x4 : Vec F S1024x256 .bf16) (P6 : sProp 𝕄) (L5 : List (View.Piece (Elt F) S1024x256 .fp8e4m3)) (L6 : List (View.Piece (Elt F) S8x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ P6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
      ⊢ wp frame (wpE (defs₀ (F := F)) Variants.none c none) E (cc5_attention i arg2 harg2 arg3 harg3 arg4 harg4 arg5 harg5 arg6 harg6 arg7 harg7 arg8 harg8) K

/-- The pieces of both outputs, with the run that leaves them. -/
abbrev Pieces5 (x0 : Vec F S2 .i32) (x1 : Vec F S1 .f32) (x2 x3 x4 : Vec F S1024x256 .bf16) (P6 : sProp 𝕄) :=
  Σ' (L5 : List (View.Piece (Elt F) S1024x256 .fp8e4m3)), { L6 : List (View.Piece (Elt F) S8x128 .f32) // Run5 c i arg2 harg2 arg3 harg3 arg4 harg4 arg5 harg5 arg6 harg6 arg7 harg7 arg8 harg8 x0 x1 x2 x3 x4 P6 L5 L6 }

end Body
end Regions

end Cert.Kernel.Run

end
-- ==== Proof.KernelRun.AttnA.lean ====
/- The body of `attention` run in each of its four branches at the first grid point, where it first zeroes the running maximum. -/
module

public import proofs.«01_k».proof.Proof.KernelRun.Attn

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

set_option maxHeartbeats 2000000 in
/-- The run with 1 live text chunk. -/
noncomputable def kernelRun5_A1 (hc0 : cond5_0 i) (x0 : Vec F S2 .i32) (x1 : Vec F S1 .f32) (x2 x3 x4 : Vec F S1024x256 .bf16) (hn : nlive (word5 i arg2 harg2 x0) = 1#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h1 : cond5_n 1#32 (word5 i arg2 harg2 x0) := (cond5_n_iff _ _).mpr hn
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 2 live text chunks. -/
noncomputable def kernelRun5_A2 (hc0 : cond5_0 i) (x0 : Vec F S2 .i32) (x1 : Vec F S1 .f32) (x2 x3 x4 : Vec F S1024x256 .bf16) (hn : nlive (word5 i arg2 harg2 x0) = 2#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h2 : cond5_n 2#32 (word5 i arg2 harg2 x0) := (cond5_n_iff _ _).mpr hn
    have h1 : ¬cond5_n 1#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 3 live text chunks. -/
noncomputable def kernelRun5_A3 (hc0 : cond5_0 i) (x0 : Vec F S2 .i32) (x1 : Vec F S1 .f32) (x2 x3 x4 : Vec F S1024x256 .bf16) (hn : nlive (word5 i arg2 harg2 x0) = 3#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h3 : cond5_n 3#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 4 live text chunks. -/
noncomputable def kernelRun5_A4 (hc0 : cond5_0 i) (x0 : Vec F S2 .i32) (x1 : Vec F S1 .f32) (x2 x3 x4 : Vec F S1024x256 .bf16) (hn : nlive (word5 i arg2 harg2 x0) = 4#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h4 : cond5_n 4#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

/-- The run in the branch the text length selects. -/
noncomputable def kernelRun5_A (hc0 : cond5_0 i) (x0 : Vec F S2 .i32) (x1 : Vec F S1 .f32) (x2 x3 x4 : Vec F S1024x256 .bf16) :
    Pieces5 c i arg2 harg2 arg3 harg3 arg4 harg4 arg5 harg5 arg6 harg6 arg7 harg7 arg8 harg8 x0 x1 x2 x3 x4 iprop(∃ d, owns (c : Thread nD τ) arg8 fullShare d) :=
  pick (word5 i arg2 harg2 x0) (kernelRun5_A1 c i arg2 harg2 arg3 harg3 arg4 harg4 arg5 harg5 arg6 harg6 arg7 harg7 arg8 harg8 hc0 x0 x1 x2 x3 x4) (kernelRun5_A2 c i arg2 harg2 arg3 harg3 arg4 harg4 arg5 harg5 arg6 harg6 arg7 harg7 arg8 harg8 hc0 x0 x1 x2 x3 x4) (kernelRun5_A3 c i arg2 harg2 arg3 harg3 arg4 harg4 arg5 harg5 arg6 harg6 arg7 harg7 arg8 harg8 hc0 x0 x1 x2 x3 x4) (kernelRun5_A4 c i arg2 harg2 arg3 harg3 arg4 harg4 arg5 harg5 arg6 harg6 arg7 harg7 arg8 harg8 hc0 x0 x1 x2 x3 x4)

theorem kernelRun5_A_1 (hc0 : cond5_0 i) (x0 : Vec F S2 .i32) (x1 : Vec F S1 .f32) (x2 x3 x4 : Vec F S1024x256 .bf16) (hn : nlive (word5 i arg2 harg2 x0) = 1#32) :
    kernelRun5_A c i arg2 harg2 arg3 harg3 arg4 harg4 arg5 harg5 arg6 harg6 arg7 harg7 arg8 harg8 hc0 x0 x1 x2 x3 x4 = kernelRun5_A1 c i arg2 harg2 arg3 harg3 arg4 harg4 arg5 harg5 arg6 harg6 arg7 harg7 arg8 harg8 hc0 x0 x1 x2 x3 x4 hn := pick_1 _ _ _ _ _ hn
theorem kernelRun5_A_2 (hc0 : cond5_0 i) (x0 : Vec F S2 .i32) (x1 : Vec F S1 .f32) (x2 x3 x4 : Vec F S1024x256 .bf16) (hn : nlive (word5 i arg2 harg2 x0) = 2#32) :
    kernelRun5_A c i arg2 harg2 arg3 harg3 arg4 harg4 arg5 harg5 arg6 harg6 arg7 harg7 arg8 harg8 hc0 x0 x1 x2 x3 x4 = kernelRun5_A2 c i arg2 harg2 arg3 harg3 arg4 harg4 arg5 harg5 arg6 harg6 arg7 harg7 arg8 harg8 hc0 x0 x1 x2 x3 x4 hn := pick_2 _ _ _ _ _ hn
theorem kernelRun5_A_3 (hc0 : cond5_0 i) (x0 : Vec F S2 .i32) (x1 : Vec F S1 .f32) (x2 x3 x4 : Vec F S1024x256 .bf16) (hn : nlive (word5 i arg2 harg2 x0) = 3#32) :
    kernelRun5_A c i arg2 harg2 arg3 harg3 arg4 harg4 arg5 harg5 arg6 harg6 arg7 harg7 arg8 harg8 hc0 x0 x1 x2 x3 x4 = kernelRun5_A3 c i arg2 harg2 arg3 harg3 arg4 harg4 arg5 harg5 arg6 harg6 arg7 harg7 arg8 harg8 hc0 x0 x1 x2 x3 x4 hn := pick_3 _ _ _ _ _ hn
theorem kernelRun5_A_4 (hc0 : cond5_0 i) (x0 : Vec F S2 .i32) (x1 : Vec F S1 .f32) (x2 x3 x4 : Vec F S1024x256 .bf16) (hn : nlive (word5 i arg2 harg2 x0) = 4#32) :
    kernelRun5_A c i arg2 harg2 arg3 harg3 arg4 harg4 arg5 harg5 arg6 harg6 arg7 harg7 arg8 harg8 hc0 x0 x1 x2 x3 x4 = kernelRun5_A4 c i arg2 harg2 arg3 harg3 arg4 harg4 arg5 harg5 arg6 harg6 arg7 harg7 arg8 harg8 hc0 x0 x1 x2 x3 x4 hn := pick_4 _ _ _ _ _ hn

theorem cover5_A1_5 (hc0 : cond5_0 i) (x0 : Vec F S2 .i32) (x1 : Vec F S1 .f32) (x2 x3 x4 : Vec F S1024x256 .bf16) (hn : nlive (word5 i arg2 harg2 x0) = 1#32) (y : S1024x256.Idx) :
    ∃ pc ∈ (kernelRun5_A1 c i arg2 harg2 arg3 harg3 arg4 harg4 arg5 harg5 arg6 harg6 arg7 harg7 arg8 harg8 hc0 x0 x1 x2 x3 x4 hn).1, y ∈ pc.1.set :=
  View.cover_of_tiledL (kernelRun5_A1 c i arg2 harg2 arg3 harg3 arg4 harg4 arg5 harg5 arg6 harg6 arg7 harg7 arg8 harg8 hc0 x0 x1 x2 x3 x4 hn).1 S256x128.size (by sl_kernel_rfl) y
theorem cover5_A2_5 (hc0 : cond5_0 i) (x0 : Vec F S2 .i32) (x1 : Vec F S1 .f32) (x2 x3 x4 : Vec F S1024x256 .bf16) (hn : nlive (word5 i arg2 harg2 x0) = 2#32) (y : S1024x256.Idx) :
    ∃ pc ∈ (kernelRun5_A2 c i arg2 harg2 arg3 harg3 arg4 harg4 arg5 harg5 arg6 harg6 arg7 harg7 arg8 harg8 hc0 x0 x1 x2 x3 x4 hn).1, y ∈ pc.1.set :=
  View.cover_of_tiledL (kernelRun5_A2 c i arg2 harg2 arg3 harg3 arg4 harg4 arg5 harg5 arg6 harg6 arg7 harg7 arg8 harg8 hc0 x0 x1 x2 x3 x4 hn).1 S256x128.size (by sl_kernel_rfl) y
theorem cover5_A3_5 (hc0 : cond5_0 i) (x0 : Vec F S2 .i32) (x1 : Vec F S1 .f32) (x2 x3 x4 : Vec F S1024x256 .bf16) (hn : nlive (word5 i arg2 harg2 x0) = 3#32) (y : S1024x256.Idx) :
    ∃ pc ∈ (kernelRun5_A3 c i arg2 harg2 arg3 harg3 arg4 harg4 arg5 harg5 arg6 harg6 arg7 harg7 arg8 harg8 hc0 x0 x1 x2 x3 x4 hn).1, y ∈ pc.1.set :=
  View.cover_of_tiledL (kernelRun5_A3 c i arg2 harg2 arg3 harg3 arg4 harg4 arg5 harg5 arg6 harg6 arg7 harg7 arg8 harg8 hc0 x0 x1 x2 x3 x4 hn).1 S256x128.size (by sl_kernel_rfl) y
theorem cover5_A4_5 (hc0 : cond5_0 i) (x0 : Vec F S2 .i32) (x1 : Vec F S1 .f32) (x2 x3 x4 : Vec F S1024x256 .bf16) (hn : nlive (word5 i arg2 harg2 x0) = 4#32) (y : S1024x256.Idx) :
    ∃ pc ∈ (kernelRun5_A4 c i arg2 harg2 arg3 harg3 arg4 harg4 arg5 harg5 arg6 harg6 arg7 harg7 arg8 harg8 hc0 x0 x1 x2 x3 x4 hn).1, y ∈ pc.1.set :=
  View.cover_of_tiledL (kernelRun5_A4 c i arg2 harg2 arg3 harg3 arg4 harg4 arg5 harg5 arg6 harg6 arg7 harg7 arg8 harg8 hc0 x0 x1 x2 x3 x4 hn).1 S256x128.size (by sl_kernel_rfl) y
/-- The pieces for output 5 cover the block. -/
theorem cover5_A_5 (hc0 : cond5_0 i) (x0 : Vec F S2 .i32) (x1 : Vec F S1 .f32) (x2 x3 x4 : Vec F S1024x256 .bf16) (y : S1024x256.Idx) :
    ∃ pc ∈ (kernelRun5_A c i arg2 harg2 arg3 harg3 arg4 harg4 arg5 harg5 arg6 harg6 arg7 harg7 arg8 harg8 hc0 x0 x1 x2 x3 x4).1, y ∈ pc.1.set := by
  rcases nlive_cases (word5 i arg2 harg2 x0) with h | h | h | h
  · rw [kernelRun5_A_1 c i arg2 harg2 arg3 harg3 arg4 harg4 arg5 harg5 arg6 harg6 arg7 harg7 arg8 harg8 hc0 x0 x1 x2 x3 x4 h]; exact cover5_A1_5 c i arg2 harg2 arg3 harg3 arg4 harg4 arg5 harg5 arg6 harg6 arg7 harg7 arg8 harg8 hc0 x0 x1 x2 x3 x4 h y
  · rw [kernelRun5_A_2 c i arg2 harg2 arg3 harg3 arg4 harg4 arg5 harg5 arg6 harg6 arg7 harg7 arg8 harg8 hc0 x0 x1 x2 x3 x4 h]; exact cover5_A2_5 c i arg2 harg2 arg3 harg3 arg4 harg4 arg5 harg5 arg6 harg6 arg7 harg7 arg8 harg8 hc0 x0 x1 x2 x3 x4 h y
  · rw [kernelRun5_A_3 c i arg2 harg2 arg3 harg3 arg4 harg4 arg5 harg5 arg6 harg6 arg7 harg7 arg8 harg8 hc0 x0 x1 x2 x3 x4 h]; exact cover5_A3_5 c i arg2 harg2 arg3 harg3 arg4 harg4 arg5 harg5 arg6 harg6 arg7 harg7 arg8 harg8 hc0 x0 x1 x2 x3 x4 h y
  · rw [kernelRun5_A_4 c i arg2 harg2 arg3 harg3 arg4 harg4 arg5 harg5 arg6 harg6 arg7 harg7 arg8 harg8 hc0 x0 x1 x2 x3 x4 h]; exact cover5_A4_5 c i arg2 harg2 arg3 harg3 arg4 harg4 arg5 harg5 arg6 harg6 arg7 harg7 arg8 harg8 hc0 x0 x1 x2 x3 x4 h y

/-- What the body leaves in output 5's staging buffer. -/
def out5_A_5 (hc0 : cond5_0 i) (x0 : Vec F S2 .i32) (x1 : Vec F S1 .f32) (x2 x3 x4 : Vec F S1024x256 .bf16) : Vec F S1024x256 .fp8e4m3 :=
  VO5_5.read (Elt F) (VO5_5.writes (Elt F) VO5_5.junk (kernelRun5_A c i arg2 harg2 arg3 harg3 arg4 harg4 arg5 harg5 arg6 harg6 arg7 harg7 arg8 harg8 hc0 x0 x1 x2 x3 x4).1)

theorem cover5_A1_6 (hc0 : cond5_0 i) (x0 : Vec F S2 .i32) (x1 : Vec F S1 .f32) (x2 x3 x4 : Vec F S1024x256 .bf16) (hn : nlive (word5 i arg2 harg2 x0) = 1#32) (y : S8x128.Idx) :
    ∃ pc ∈ (kernelRun5_A1 c i arg2 harg2 arg3 harg3 arg4 harg4 arg5 harg5 arg6 harg6 arg7 harg7 arg8 harg8 hc0 x0 x1 x2 x3 x4 hn).2.1, y ∈ pc.1.set :=
  View.cover_of_tiledL (kernelRun5_A1 c i arg2 harg2 arg3 harg3 arg4 harg4 arg5 harg5 arg6 harg6 arg7 harg7 arg8 harg8 hc0 x0 x1 x2 x3 x4 hn).2.1 S8x128.size (by sl_kernel_rfl) y
theorem cover5_A2_6 (hc0 : cond5_0 i) (x0 : Vec F S2 .i32) (x1 : Vec F S1 .f32) (x2 x3 x4 : Vec F S1024x256 .bf16) (hn : nlive (word5 i arg2 harg2 x0) = 2#32) (y : S8x128.Idx) :
    ∃ pc ∈ (kernelRun5_A2 c i arg2 harg2 arg3 harg3 arg4 harg4 arg5 harg5 arg6 harg6 arg7 harg7 arg8 harg8 hc0 x0 x1 x2 x3 x4 hn).2.1, y ∈ pc.1.set :=
  View.cover_of_tiledL (kernelRun5_A2 c i arg2 harg2 arg3 harg3 arg4 harg4 arg5 harg5 arg6 harg6 arg7 harg7 arg8 harg8 hc0 x0 x1 x2 x3 x4 hn).2.1 S8x128.size (by sl_kernel_rfl) y
theorem cover5_A3_6 (hc0 : cond5_0 i) (x0 : Vec F S2 .i32) (x1 : Vec F S1 .f32) (x2 x3 x4 : Vec F S1024x256 .bf16) (hn : nlive (word5 i arg2 harg2 x0) = 3#32) (y : S8x128.Idx) :
    ∃ pc ∈ (kernelRun5_A3 c i arg2 harg2 arg3 harg3 arg4 harg4 arg5 harg5 arg6 harg6 arg7 harg7 arg8 harg8 hc0 x0 x1 x2 x3 x4 hn).2.1, y ∈ pc.1.set :=
  View.cover_of_tiledL (kernelRun5_A3 c i arg2 harg2 arg3 harg3 arg4 harg4 arg5 harg5 arg6 harg6 arg7 harg7 arg8 harg8 hc0 x0 x1 x2 x3 x4 hn).2.1 S8x128.size (by sl_kernel_rfl) y
theorem cover5_A4_6 (hc0 : cond5_0 i) (x0 : Vec F S2 .i32) (x1 : Vec F S1 .f32) (x2 x3 x4 : Vec F S1024x256 .bf16) (hn : nlive (word5 i arg2 harg2 x0) = 4#32) (y : S8x128.Idx) :
    ∃ pc ∈ (kernelRun5_A4 c i arg2 harg2 arg3 harg3 arg4 harg4 arg5 harg5 arg6 harg6 arg7 harg7 arg8 harg8 hc0 x0 x1 x2 x3 x4 hn).2.1, y ∈ pc.1.set :=
  View.cover_of_tiledL (kernelRun5_A4 c i arg2 harg2 arg3 harg3 arg4 harg4 arg5 harg5 arg6 harg6 arg7 harg7 arg8 harg8 hc0 x0 x1 x2 x3 x4 hn).2.1 S8x128.size (by sl_kernel_rfl) y
/-- The pieces for output 6 cover the block. -/
theorem cover5_A_6 (hc0 : cond5_0 i) (x0 : Vec F S2 .i32) (x1 : Vec F S1 .f32) (x2 x3 x4 : Vec F S1024x256 .bf16) (y : S8x128.Idx) :
    ∃ pc ∈ (kernelRun5_A c i arg2 harg2 arg3 harg3 arg4 harg4 arg5 harg5 arg6 harg6 arg7 harg7 arg8 harg8 hc0 x0 x1 x2 x3 x4).2.1, y ∈ pc.1.set := by
  rcases nlive_cases (word5 i arg2 harg2 x0) with h | h | h | h
  · rw [kernelRun5_A_1 c i arg2 harg2 arg3 harg3 arg4 harg4 arg5 harg5 arg6 harg6 arg7 harg7 arg8 harg8 hc0 x0 x1 x2 x3 x4 h]; exact cover5_A1_6 c i arg2 harg2 arg3 harg3 arg4 harg4 arg5 harg5 arg6 harg6 arg7 harg7 arg8 harg8 hc0 x0 x1 x2 x3 x4 h y
  · rw [kernelRun5_A_2 c i arg2 harg2 arg3 harg3 arg4 harg4 arg5 harg5 arg6 harg6 arg7 harg7 arg8 harg8 hc0 x0 x1 x2 x3 x4 h]; exact cover5_A2_6 c i arg2 harg2 arg3 harg3 arg4 harg4 arg5 harg5 arg6 harg6 arg7 harg7 arg8 harg8 hc0 x0 x1 x2 x3 x4 h y
  · rw [kernelRun5_A_3 c i arg2 harg2 arg3 harg3 arg4 harg4 arg5 harg5 arg6 harg6 arg7 harg7 arg8 harg8 hc0 x0 x1 x2 x3 x4 h]; exact cover5_A3_6 c i arg2 harg2 arg3 harg3 arg4 harg4 arg5 harg5 arg6 harg6 arg7 harg7 arg8 harg8 hc0 x0 x1 x2 x3 x4 h y
  · rw [kernelRun5_A_4 c i arg2 harg2 arg3 harg3 arg4 harg4 arg5 harg5 arg6 harg6 arg7 harg7 arg8 harg8 hc0 x0 x1 x2 x3 x4 h]; exact cover5_A4_6 c i arg2 harg2 arg3 harg3 arg4 harg4 arg5 harg5 arg6 harg6 arg7 harg7 arg8 harg8 hc0 x0 x1 x2 x3 x4 h y

/-- What the body leaves in output 6's staging buffer. -/
def out5_A_6 (hc0 : cond5_0 i) (x0 : Vec F S2 .i32) (x1 : Vec F S1 .f32) (x2 x3 x4 : Vec F S1024x256 .bf16) : Vec F S8x128 .f32 :=
  VO5_6.read (Elt F) (VO5_6.writes (Elt F) VO5_6.junk (kernelRun5_A c i arg2 harg2 arg3 harg3 arg4 harg4 arg5 harg5 arg6 harg6 arg7 harg7 arg8 harg8 hc0 x0 x1 x2 x3 x4).2.1)

end Body

end Cert.Kernel.Run

end
-- ==== Proof.KernelRun.AttnB.lean ====
/- The body of `attention` run in each of its four branches at a later grid point, where the running maximum is carried over. -/
module

public import proofs.«01_k».proof.Proof.KernelRun.Attn

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

set_option maxHeartbeats 2000000 in
/-- The run with 1 live text chunk. -/
noncomputable def kernelRun5_B1 (hc0 : ¬cond5_0 i) (x0 : Vec F S2 .i32) (x1 : Vec F S1 .f32) (x2 x3 x4 : Vec F S1024x256 .bf16) (xo6 : Vec F S8x128 .f32) (hn : nlive (word5 i arg2 harg2 x0) = 1#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h1 : cond5_n 1#32 (word5 i arg2 harg2 x0) := (cond5_n_iff _ _).mpr hn
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 2 live text chunks. -/
noncomputable def kernelRun5_B2 (hc0 : ¬cond5_0 i) (x0 : Vec F S2 .i32) (x1 : Vec F S1 .f32) (x2 x3 x4 : Vec F S1024x256 .bf16) (xo6 : Vec F S8x128 .f32) (hn : nlive (word5 i arg2 harg2 x0) = 2#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h2 : cond5_n 2#32 (word5 i arg2 harg2 x0) := (cond5_n_iff _ _).mpr hn
    have h1 : ¬cond5_n 1#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 3 live text chunks. -/
noncomputable def kernelRun5_B3 (hc0 : ¬cond5_0 i) (x0 : Vec F S2 .i32) (x1 : Vec F S1 .f32) (x2 x3 x4 : Vec F S1024x256 .bf16) (xo6 : Vec F S8x128 .f32) (hn : nlive (word5 i arg2 harg2 x0) = 3#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h3 : cond5_n 3#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 4 live text chunks. -/
noncomputable def kernelRun5_B4 (hc0 : ¬cond5_0 i) (x0 : Vec F S2 .i32) (x1 : Vec F S1 .f32) (x2 x3 x4 : Vec F S1024x256 .bf16) (xo6 : Vec F S8x128 .f32) (hn : nlive (word5 i arg2 harg2 x0) = 4#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h4 : cond5_n 4#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

/-- The run in the branch the text length selects. -/
noncomputable def kernelRun5_B (hc0 : ¬cond5_0 i) (x0 : Vec F S2 .i32) (x1 : Vec F S1 .f32) (x2 x3 x4 : Vec F S1024x256 .bf16) (xo6 : Vec F S8x128 .f32) :
    Pieces5 c i arg2 harg2 arg3 harg3 arg4 harg4 arg5 harg5 arg6 harg6 arg7 harg7 arg8 harg8 x0 x1 x2 x3 x4 iprop(owns (c : Thread nD τ) arg8 fullShare xo6) :=
  pick (word5 i arg2 harg2 x0) (kernelRun5_B1 c i arg2 harg2 arg3 harg3 arg4 harg4 arg5 harg5 arg6 harg6 arg7 harg7 arg8 harg8 hc0 x0 x1 x2 x3 x4 xo6) (kernelRun5_B2 c i arg2 harg2 arg3 harg3 arg4 harg4 arg5 harg5 arg6 harg6 arg7 harg7 arg8 harg8 hc0 x0 x1 x2 x3 x4 xo6) (kernelRun5_B3 c i arg2 harg2 arg3 harg3 arg4 harg4 arg5 harg5 arg6 harg6 arg7 harg7 arg8 harg8 hc0 x0 x1 x2 x3 x4 xo6) (kernelRun5_B4 c i arg2 harg2 arg3 harg3 arg4 harg4 arg5 harg5 arg6 harg6 arg7 harg7 arg8 harg8 hc0 x0 x1 x2 x3 x4 xo6)

theorem kernelRun5_B_1 (hc0 : ¬cond5_0 i) (x0 : Vec F S2 .i32) (x1 : Vec F S1 .f32) (x2 x3 x4 : Vec F S1024x256 .bf16) (xo6 : Vec F S8x128 .f32) (hn : nlive (word5 i arg2 harg2 x0) = 1#32) :
    kernelRun5_B c i arg2 harg2 arg3 harg3 arg4 harg4 arg5 harg5 arg6 harg6 arg7 harg7 arg8 harg8 hc0 x0 x1 x2 x3 x4 xo6 = kernelRun5_B1 c i arg2 harg2 arg3 harg3 arg4 harg4 arg5 harg5 arg6 harg6 arg7 harg7 arg8 harg8 hc0 x0 x1 x2 x3 x4 xo6 hn := pick_1 _ _ _ _ _ hn
theorem kernelRun5_B_2 (hc0 : ¬cond5_0 i) (x0 : Vec F S2 .i32) (x1 : Vec F S1 .f32) (x2 x3 x4 : Vec F S1024x256 .bf16) (xo6 : Vec F S8x128 .f32) (hn : nlive (word5 i arg2 harg2 x0) = 2#32) :
    kernelRun5_B c i arg2 harg2 arg3 harg3 arg4 harg4 arg5 harg5 arg6 harg6 arg7 harg7 arg8 harg8 hc0 x0 x1 x2 x3 x4 xo6 = kernelRun5_B2 c i arg2 harg2 arg3 harg3 arg4 harg4 arg5 harg5 arg6 harg6 arg7 harg7 arg8 harg8 hc0 x0 x1 x2 x3 x4 xo6 hn := pick_2 _ _ _ _ _ hn
theorem kernelRun5_B_3 (hc0 : ¬cond5_0 i) (x0 : Vec F S2 .i32) (x1 : Vec F S1 .f32) (x2 x3 x4 : Vec F S1024x256 .bf16) (xo6 : Vec F S8x128 .f32) (hn : nlive (word5 i arg2 harg2 x0) = 3#32) :
    kernelRun5_B c i arg2 harg2 arg3 harg3 arg4 harg4 arg5 harg5 arg6 harg6 arg7 harg7 arg8 harg8 hc0 x0 x1 x2 x3 x4 xo6 = kernelRun5_B3 c i arg2 harg2 arg3 harg3 arg4 harg4 arg5 harg5 arg6 harg6 arg7 harg7 arg8 harg8 hc0 x0 x1 x2 x3 x4 xo6 hn := pick_3 _ _ _ _ _ hn
theorem kernelRun5_B_4 (hc0 : ¬cond5_0 i) (x0 : Vec F S2 .i32) (x1 : Vec F S1 .f32) (x2 x3 x4 : Vec F S1024x256 .bf16) (xo6 : Vec F S8x128 .f32) (hn : nlive (word5 i arg2 harg2 x0) = 4#32) :
    kernelRun5_B c i arg2 harg2 arg3 harg3 arg4 harg4 arg5 harg5 arg6 harg6 arg7 harg7 arg8 harg8 hc0 x0 x1 x2 x3 x4 xo6 = kernelRun5_B4 c i arg2 harg2 arg3 harg3 arg4 harg4 arg5 harg5 arg6 harg6 arg7 harg7 arg8 harg8 hc0 x0 x1 x2 x3 x4 xo6 hn := pick_4 _ _ _ _ _ hn

theorem cover5_B1_5 (hc0 : ¬cond5_0 i) (x0 : Vec F S2 .i32) (x1 : Vec F S1 .f32) (x2 x3 x4 : Vec F S1024x256 .bf16) (xo6 : Vec F S8x128 .f32) (hn : nlive (word5 i arg2 harg2 x0) = 1#32) (y : S1024x256.Idx) :
    ∃ pc ∈ (kernelRun5_B1 c i arg2 harg2 arg3 harg3 arg4 harg4 arg5 harg5 arg6 harg6 arg7 harg7 arg8 harg8 hc0 x0 x1 x2 x3 x4 xo6 hn).1, y ∈ pc.1.set :=
  View.cover_of_tiledL (kernelRun5_B1 c i arg2 harg2 arg3 harg3 arg4 harg4 arg5 harg5 arg6 harg6 arg7 harg7 arg8 harg8 hc0 x0 x1 x2 x3 x4 xo6 hn).1 S256x128.size (by sl_kernel_rfl) y
theorem cover5_B2_5 (hc0 : ¬cond5_0 i) (x0 : Vec F S2 .i32) (x1 : Vec F S1 .f32) (x2 x3 x4 : Vec F S1024x256 .bf16) (xo6 : Vec F S8x128 .f32) (hn : nlive (word5 i arg2 harg2 x0) = 2#32) (y : S1024x256.Idx) :
    ∃ pc ∈ (kernelRun5_B2 c i arg2 harg2 arg3 harg3 arg4 harg4 arg5 harg5 arg6 harg6 arg7 harg7 arg8 harg8 hc0 x0 x1 x2 x3 x4 xo6 hn).1, y ∈ pc.1.set :=
  View.cover_of_tiledL (kernelRun5_B2 c i arg2 harg2 arg3 harg3 arg4 harg4 arg5 harg5 arg6 harg6 arg7 harg7 arg8 harg8 hc0 x0 x1 x2 x3 x4 xo6 hn).1 S256x128.size (by sl_kernel_rfl) y
theorem cover5_B3_5 (hc0 : ¬cond5_0 i) (x0 : Vec F S2 .i32) (x1 : Vec F S1 .f32) (x2 x3 x4 : Vec F S1024x256 .bf16) (xo6 : Vec F S8x128 .f32) (hn : nlive (word5 i arg2 harg2 x0) = 3#32) (y : S1024x256.Idx) :
    ∃ pc ∈ (kernelRun5_B3 c i arg2 harg2 arg3 harg3 arg4 harg4 arg5 harg5 arg6 harg6 arg7 harg7 arg8 harg8 hc0 x0 x1 x2 x3 x4 xo6 hn).1, y ∈ pc.1.set :=
  View.cover_of_tiledL (kernelRun5_B3 c i arg2 harg2 arg3 harg3 arg4 harg4 arg5 harg5 arg6 harg6 arg7 harg7 arg8 harg8 hc0 x0 x1 x2 x3 x4 xo6 hn).1 S256x128.size (by sl_kernel_rfl) y
theorem cover5_B4_5 (hc0 : ¬cond5_0 i) (x0 : Vec F S2 .i32) (x1 : Vec F S1 .f32) (x2 x3 x4 : Vec F S1024x256 .bf16) (xo6 : Vec F S8x128 .f32) (hn : nlive (word5 i arg2 harg2 x0) = 4#32) (y : S1024x256.Idx) :
    ∃ pc ∈ (kernelRun5_B4 c i arg2 harg2 arg3 harg3 arg4 harg4 arg5 harg5 arg6 harg6 arg7 harg7 arg8 harg8 hc0 x0 x1 x2 x3 x4 xo6 hn).1, y ∈ pc.1.set :=
  View.cover_of_tiledL (kernelRun5_B4 c i arg2 harg2 arg3 harg3 arg4 harg4 arg5 harg5 arg6 harg6 arg7 harg7 arg8 harg8 hc0 x0 x1 x2 x3 x4 xo6 hn).1 S256x128.size (by sl_kernel_rfl) y
/-- The pieces for output 5 cover the block. -/
theorem cover5_B_5 (hc0 : ¬cond5_0 i) (x0 : Vec F S2 .i32) (x1 : Vec F S1 .f32) (x2 x3 x4 : Vec F S1024x256 .bf16) (xo6 : Vec F S8x128 .f32) (y : S1024x256.Idx) :
    ∃ pc ∈ (kernelRun5_B c i arg2 harg2 arg3 harg3 arg4 harg4 arg5 harg5 arg6 harg6 arg7 harg7 arg8 harg8 hc0 x0 x1 x2 x3 x4 xo6).1, y ∈ pc.1.set := by
  rcases nlive_cases (word5 i arg2 harg2 x0) with h | h | h | h
  · rw [kernelRun5_B_1 c i arg2 harg2 arg3 harg3 arg4 harg4 arg5 harg5 arg6 harg6 arg7 harg7 arg8 harg8 hc0 x0 x1 x2 x3 x4 xo6 h]; exact cover5_B1_5 c i arg2 harg2 arg3 harg3 arg4 harg4 arg5 harg5 arg6 harg6 arg7 harg7 arg8 harg8 hc0 x0 x1 x2 x3 x4 xo6 h y
  · rw [kernelRun5_B_2 c i arg2 harg2 arg3 harg3 arg4 harg4 arg5 harg5 arg6 harg6 arg7 harg7 arg8 harg8 hc0 x0 x1 x2 x3 x4 xo6 h]; exact cover5_B2_5 c i arg2 harg2 arg3 harg3 arg4 harg4 arg5 harg5 arg6 harg6 arg7 harg7 arg8 harg8 hc0 x0 x1 x2 x3 x4 xo6 h y
  · rw [kernelRun5_B_3 c i arg2 harg2 arg3 harg3 arg4 harg4 arg5 harg5 arg6 harg6 arg7 harg7 arg8 harg8 hc0 x0 x1 x2 x3 x4 xo6 h]; exact cover5_B3_5 c i arg2 harg2 arg3 harg3 arg4 harg4 arg5 harg5 arg6 harg6 arg7 harg7 arg8 harg8 hc0 x0 x1 x2 x3 x4 xo6 h y
  · rw [kernelRun5_B_4 c i arg2 harg2 arg3 harg3 arg4 harg4 arg5 harg5 arg6 harg6 arg7 harg7 arg8 harg8 hc0 x0 x1 x2 x3 x4 xo6 h]; exact cover5_B4_5 c i arg2 harg2 arg3 harg3 arg4 harg4 arg5 harg5 arg6 harg6 arg7 harg7 arg8 harg8 hc0 x0 x1 x2 x3 x4 xo6 h y

/-- What the body leaves in output 5's staging buffer. -/
def out5_B_5 (hc0 : ¬cond5_0 i) (x0 : Vec F S2 .i32) (x1 : Vec F S1 .f32) (x2 x3 x4 : Vec F S1024x256 .bf16) (xo6 : Vec F S8x128 .f32) : Vec F S1024x256 .fp8e4m3 :=
  VO5_5.read (Elt F) (VO5_5.writes (Elt F) VO5_5.junk (kernelRun5_B c i arg2 harg2 arg3 harg3 arg4 harg4 arg5 harg5 arg6 harg6 arg7 harg7 arg8 harg8 hc0 x0 x1 x2 x3 x4 xo6).1)

theorem cover5_B1_6 (hc0 : ¬cond5_0 i) (x0 : Vec F S2 .i32) (x1 : Vec F S1 .f32) (x2 x3 x4 : Vec F S1024x256 .bf16) (xo6 : Vec F S8x128 .f32) (hn : nlive (word5 i arg2 harg2 x0) = 1#32) (y : S8x128.Idx) :
    ∃ pc ∈ (kernelRun5_B1 c i arg2 harg2 arg3 harg3 arg4 harg4 arg5 harg5 arg6 harg6 arg7 harg7 arg8 harg8 hc0 x0 x1 x2 x3 x4 xo6 hn).2.1, y ∈ pc.1.set :=
  View.cover_of_tiledL (kernelRun5_B1 c i arg2 harg2 arg3 harg3 arg4 harg4 arg5 harg5 arg6 harg6 arg7 harg7 arg8 harg8 hc0 x0 x1 x2 x3 x4 xo6 hn).2.1 S8x128.size (by sl_kernel_rfl) y
theorem cover5_B2_6 (hc0 : ¬cond5_0 i) (x0 : Vec F S2 .i32) (x1 : Vec F S1 .f32) (x2 x3 x4 : Vec F S1024x256 .bf16) (xo6 : Vec F S8x128 .f32) (hn : nlive (word5 i arg2 harg2 x0) = 2#32) (y : S8x128.Idx) :
    ∃ pc ∈ (kernelRun5_B2 c i arg2 harg2 arg3 harg3 arg4 harg4 arg5 harg5 arg6 harg6 arg7 harg7 arg8 harg8 hc0 x0 x1 x2 x3 x4 xo6 hn).2.1, y ∈ pc.1.set :=
  View.cover_of_tiledL (kernelRun5_B2 c i arg2 harg2 arg3 harg3 arg4 harg4 arg5 harg5 arg6 harg6 arg7 harg7 arg8 harg8 hc0 x0 x1 x2 x3 x4 xo6 hn).2.1 S8x128.size (by sl_kernel_rfl) y
theorem cover5_B3_6 (hc0 : ¬cond5_0 i) (x0 : Vec F S2 .i32) (x1 : Vec F S1 .f32) (x2 x3 x4 : Vec F S1024x256 .bf16) (xo6 : Vec F S8x128 .f32) (hn : nlive (word5 i arg2 harg2 x0) = 3#32) (y : S8x128.Idx) :
    ∃ pc ∈ (kernelRun5_B3 c i arg2 harg2 arg3 harg3 arg4 harg4 arg5 harg5 arg6 harg6 arg7 harg7 arg8 harg8 hc0 x0 x1 x2 x3 x4 xo6 hn).2.1, y ∈ pc.1.set :=
  View.cover_of_tiledL (kernelRun5_B3 c i arg2 harg2 arg3 harg3 arg4 harg4 arg5 harg5 arg6 harg6 arg7 harg7 arg8 harg8 hc0 x0 x1 x2 x3 x4 xo6 hn).2.1 S8x128.size (by sl_kernel_rfl) y
theorem cover5_B4_6 (hc0 : ¬cond5_0 i) (x0 : Vec F S2 .i32) (x1 : Vec F S1 .f32) (x2 x3 x4 : Vec F S1024x256 .bf16) (xo6 : Vec F S8x128 .f32) (hn : nlive (word5 i arg2 harg2 x0) = 4#32) (y : S8x128.Idx) :
    ∃ pc ∈ (kernelRun5_B4 c i arg2 harg2 arg3 harg3 arg4 harg4 arg5 harg5 arg6 harg6 arg7 harg7 arg8 harg8 hc0 x0 x1 x2 x3 x4 xo6 hn).2.1, y ∈ pc.1.set :=
  View.cover_of_tiledL (kernelRun5_B4 c i arg2 harg2 arg3 harg3 arg4 harg4 arg5 harg5 arg6 harg6 arg7 harg7 arg8 harg8 hc0 x0 x1 x2 x3 x4 xo6 hn).2.1 S8x128.size (by sl_kernel_rfl) y
/-- The pieces for output 6 cover the block. -/
theorem cover5_B_6 (hc0 : ¬cond5_0 i) (x0 : Vec F S2 .i32) (x1 : Vec F S1 .f32) (x2 x3 x4 : Vec F S1024x256 .bf16) (xo6 : Vec F S8x128 .f32) (y : S8x128.Idx) :
    ∃ pc ∈ (kernelRun5_B c i arg2 harg2 arg3 harg3 arg4 harg4 arg5 harg5 arg6 harg6 arg7 harg7 arg8 harg8 hc0 x0 x1 x2 x3 x4 xo6).2.1, y ∈ pc.1.set := by
  rcases nlive_cases (word5 i arg2 harg2 x0) with h | h | h | h
  · rw [kernelRun5_B_1 c i arg2 harg2 arg3 harg3 arg4 harg4 arg5 harg5 arg6 harg6 arg7 harg7 arg8 harg8 hc0 x0 x1 x2 x3 x4 xo6 h]; exact cover5_B1_6 c i arg2 harg2 arg3 harg3 arg4 harg4 arg5 harg5 arg6 harg6 arg7 harg7 arg8 harg8 hc0 x0 x1 x2 x3 x4 xo6 h y
  · rw [kernelRun5_B_2 c i arg2 harg2 arg3 harg3 arg4 harg4 arg5 harg5 arg6 harg6 arg7 harg7 arg8 harg8 hc0 x0 x1 x2 x3 x4 xo6 h]; exact cover5_B2_6 c i arg2 harg2 arg3 harg3 arg4 harg4 arg5 harg5 arg6 harg6 arg7 harg7 arg8 harg8 hc0 x0 x1 x2 x3 x4 xo6 h y
  · rw [kernelRun5_B_3 c i arg2 harg2 arg3 harg3 arg4 harg4 arg5 harg5 arg6 harg6 arg7 harg7 arg8 harg8 hc0 x0 x1 x2 x3 x4 xo6 h]; exact cover5_B3_6 c i arg2 harg2 arg3 harg3 arg4 harg4 arg5 harg5 arg6 harg6 arg7 harg7 arg8 harg8 hc0 x0 x1 x2 x3 x4 xo6 h y
  · rw [kernelRun5_B_4 c i arg2 harg2 arg3 harg3 arg4 harg4 arg5 harg5 arg6 harg6 arg7 harg7 arg8 harg8 hc0 x0 x1 x2 x3 x4 xo6 h]; exact cover5_B4_6 c i arg2 harg2 arg3 harg3 arg4 harg4 arg5 harg5 arg6 harg6 arg7 harg7 arg8 harg8 hc0 x0 x1 x2 x3 x4 xo6 h y

/-- What the body leaves in output 6's staging buffer. -/
def out5_B_6 (hc0 : ¬cond5_0 i) (x0 : Vec F S2 .i32) (x1 : Vec F S1 .f32) (x2 x3 x4 : Vec F S1024x256 .bf16) (xo6 : Vec F S8x128 .f32) : Vec F S8x128 .f32 :=
  VO5_6.read (Elt F) (VO5_6.writes (Elt F) VO5_6.junk (kernelRun5_B c i arg2 harg2 arg3 harg3 arg4 harg4 arg5 harg5 arg6 harg6 arg7 harg7 arg8 harg8 hc0 x0 x1 x2 x3 x4 xo6).2.1)

end Body

end Cert.Kernel.Run

end
-- ==== Proof.KernelRun.Region5.lean ====
/- The pallas_call `attention` (number 5 of @main) at any contents `V` of the buffers it is entered with: what its body leaves
in each output block at a grid point (`outsAt5`), the pipeline's proof data (`dat5`) and the body's triple. -/
module

public import proofs.«01_k».proof.Proof.KernelRun.AttnA
public import proofs.«01_k».proof.Proof.KernelRun.AttnB

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun5_A kernelRun5_B

section Regions
variable (V : (c : Dev nD) → (b : Ref sig .tc) → Buf (Elt F) ((c : Thread nD τ).loc b))

/-- THE ACCUMULATION. What the outputs' staging buffers hold after the body at position `n` (a tuple, in window order). -/
def outsAt5 (c : Dev nD) : (n : ℕ) → n < cfg5.N → Vec F S1024x256 .fp8e4m3 × Vec F S8x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 24 = 0 then
      (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at a point of case A: that case's contents. -/
theorem outsAt5_A (c : Dev nD) (t : Fin cfg5.N) (h0 : t.val % 24 = 0) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 24 = 0) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2
  Φ _ := Pipeline.ΦA spec5 c
  q _ := fullShare
  owed _ := 0

/-- The proof data's arrays are the region-entry contents, by projecting the definition (`dsimp`). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
/-- At a point of case B output 6's current staging buffer holds what the body left at the point before. -/
theorem before5_6_B (c : Dev nD) (t : Fin cfg5.N) (h0 : ¬t.val % 24 = 0) (d) :
    (dat5 V c).before 6 t d = (outsAt5 V c (t.val - 1) (Nat.lt_of_le_of_lt (Nat.sub_le _ _) t.isLt)).2 := by
  have hN : t.val < 24 := lt_of_lt_of_eq t.isLt (show cfg5.N = 24 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation, at a generic point -/

/-- What the body is called with at point `t` (Lib/Pipeline.lean `BodyObligation`'s precondition, the windows one by one). -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t))

set_option maxHeartbeats 800000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  have hN : t.val < 24 := lt_of_lt_of_eq t.isLt (show cfg5.N = 24 from N_5)
  by_cases h0 : t.val % 24 = 0
  · rw [outsAt5_A V c t h0]
    unfold out5_A_5 out5_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun5_A c (grid5.coords t) _ _ _ _ _ _ _ _ _ _ _ _ _ _ ((hcond5_0 t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_A_5 c _ _ _ _ _ _ _ _ _ _ _ _ _ _ _ _ _ _ _ _ _)
    unfold owns; iexists _; isplitr
    swap; · iexact H6
    ipureintro; exact View.read_writes_of_cover _ _ _ _ _ (cover5_A_6 c _ _ _ _ _ _ _ _ _ _ _ _ _ _ _ _ _ _ _ _ _)
  · rw [outsAt5_B V c t h0]
    simp only [before5_6_B V c t h0]
    unfold out5_B_5 out5_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun5_B c (grid5.coords t) _ _ _ _ _ _ _ _ _ _ _ _ _ _ (fun h => h0 ((hcond5_0 t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_B_5 c _ _ _ _ _ _ _ _ _ _ _ _ _ _ _ _ _ _ _ _ _ _)
    unfold owns; iexists _; isplitr
    swap; · iexact H6
    ipureintro; exact View.read_writes_of_cover _ _ _ _ _ (cover5_B_6 c _ _ _ _ _ _ _ _ _ _ _ _ _ _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.Kernel.Run

end
-- ==== Proof.KernelRun.Region6.lean ====
/- The pallas_call `lin2` (number 6 of @main) at any contents `V` of the buffers it is entered with: what its body leaves
in each output block at a grid point (`outsAt6`), the pipeline's proof data (`dat6`) and the body's triple. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
/-- Input window 8's current staging buffer holds its block at every point, fetched there or not. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
/-- Input window 9's current staging buffer holds its block at every point, fetched there or not. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The kernel body on any staging memrefs: a subtype the run finds -/

section Body
variable (c : Dev nD) (i : grid6.Coords) (arg2 : Memref sig .tc .smem S1 .f32) (harg2 : arg2.IsWhole) (arg3 : Memref sig .tc .smem S1 .f32) (harg3 : arg3.IsWhole) (arg4 : Memref sig .tc .vmem S512x3072 .fp8e4m3) (harg4 : arg4.IsWhole) (arg5 : Memref sig .tc .vmem S512x12288 .fp8e4m3) (harg5 : arg5.IsWhole) (arg6 : Memref sig .tc .vmem S3072x512 .fp8e4m3) (harg6 : arg6.IsWhole) (arg7 : Memref sig .tc .vmem S12288x512 .fp8e4m3) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1x512 .f32) (harg11 : arg11.IsWhole) (arg12 : Memref sig .tc .vmem S512x512 .bf16) (harg12 : arg12.IsWhole)

/-- One staging buffer of output window 10, through which its contents are stated (`View.read_writes_of_cover`). -/
abbrev VO6_10 : View sig .tc .vmem S512x512 .bf16 := (Memref.whole cc6_stg10_0 : Memref sig .tc .vmem S512x512 .bf16).view
/-- Each window's current staging memref at point `t`, spelled as the pipeline passes it (`bodyAt6`), and its wholeness. -/
abbrev ms6_0 (t : Fin cfg6.N) : Memref sig .tc .smem S1 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .smem S1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x3072 .fp8e4m3 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x12288 .fp8e4m3 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S3072x512 .fp8e4m3 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S12288x512 .fp8e4m3 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x512 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S512x512 .bf16 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1x512 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S512x512 .bf16 := win6_10.stage (cfg6.slots t 10)
abbrev hs6_10 (t : Fin cfg6.N) : (ms6_10 t).IsWhole := hstage6_10 ((cfg6.slots t 10).cast nbuf6_10)
set_option maxHeartbeats 1000000 in
/-- What the body's stores leave in each output's staging memref, as pieces (last first). -/
noncomputable def kernelRun6_A
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) :
    { L10 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)) -∗ K ⟨⟩))
          ⊢ wp frame (wpE (defs₀ (F := F)) Variants.none c none) E (cc6_lin2 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc6_lin2_eq_skeleton]; unfold cc6_lin2_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact H10

/-- The run's pieces for output 10 tile its block (in stores of `S256x512`). -/
theorem cover6_A_10
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) (y : S512x512.Idx) :
    ∃ pc ∈ (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1 S256x512.size (by sl_kernel_rfl) y

/-- What the run leaves in output 10's staging buffer. -/
def out6_A_10
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) : Vec F S512x512 .bf16 :=
  VO6_10.read (Elt F) (VO6_10.writes (Elt F) VO6_10.junk (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1)

/-! ## What the outputs hold after each point -/

end Body

/-- What the outputs' staging buffers hold after the body at point `t`. -/
def outsAt6 (c : Dev nD) (t : Fin cfg6.N) : Vec F S512x512 .bf16 :=
  out6_A_10 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)

/-! ## The pipeline's proof data -/

/-- The proof data of pipeline 6 on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => (outsAt6 V c t)
  Φ _ := Pipeline.ΦA spec6 c
  q w := Pipeline.shareOf spec6 w
  owed _ := 0

/-- The proof data's arrays are the region-entry contents, by projecting the definition (`dsimp`). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = (outsAt6 V c t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t` (Lib/Pipeline.lean `BodyObligation`'s precondition, the windows one by one). -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t)
    ∗ owns (c : Thread nD τ) (ms6_9 t) fullShare ((dat6 V c).after 9 t)
    ∗ owns (c : Thread nD τ) (ms6_10 t) fullShare ((dat6 V c).after 10 t))

set_option maxHeartbeats 800000 in
/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  unfold outsAt6
  unfold out6_A_10
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun6_A c (grid6.coords t) _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover6_A_10 c _ _ _ _ _ _ _ _ _ _ _ _ _ _ _ _ _ _ _ _ _ _ _ _ _ _ _ _ _ _ _ _ _)

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.Kernel.Run

end
-- ==== Proof.KernelRun.Hosts0.lean ====
/- The stretches of host operations between the pallas_calls: which buffers each writes, and that none is an argument. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_v12, main_v13, main_v14, main_v15, main_v16, main_v17, main_v18, main_v19, main_v20, main_v21, main_v22, main_v23, main_v24, main_v25, main_v26]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v28, main_v29, main_v30, main_v31, main_v32, main_v33, main_v34, main_v35, main_v36, main_v37, main_v38, main_v39, main_v40, main_v41, main_v42, main_v43, main_v44, main_v45, main_v46, main_v47]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v49]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked. -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v51, main_v52]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked. -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v54]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked. -/
theorem hostOps5_args : ∀ a ∈ argRefs, a ∉ hostOps5_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v56, main_v57, main_v58, main_v59, main_v60, main_v61]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked. -/
theorem hostOps6_args : ∀ a ∈ argRefs, a ∉ hostOps6_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v63, main_cst_1, main_v64, main_cst_2, main_v65, main_v66, main_v67, main_v68, main_v69, main_v70]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked. -/
theorem hostOps7_args : ∀ a ∈ argRefs, a ∉ hostOps7_W := ListAll.forall_mem_of_all_decide (by decide +kernel)

end Cert.Kernel.Run

end
-- ==== Proof.KernelRun.Fold0.lean ====
/- The contents of every buffer at each boundary of @main (`W0` … `W15`), folded from the launch memory; the arguments stay. -/
module

public import proofs.«01_k».proof.Proof.KernelRun.Region0
public import proofs.«01_k».proof.Proof.KernelRun.Region1
public import proofs.«01_k».proof.Proof.KernelRun.Region2
public import proofs.«01_k».proof.Proof.KernelRun.Region3
public import proofs.«01_k».proof.Proof.KernelRun.Region4
public import proofs.«01_k».proof.Proof.KernelRun.Region5
public import proofs.«01_k».proof.Proof.KernelRun.Region6
public import proofs.«01_k».proof.Proof.KernelRun.Hosts0

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked. -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked. -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked. -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- The same read at the TensorCore's references (what region 5's proof data take). -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked. -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)
/-- The same read at the TensorCore's references (what region 6's proof data take). -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact (dat6 (V13 m ρ) c).withArrays_arrAt launch₀6.sharedIn _ (A_eq6 (V13 m ρ) c) w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- A reference that is none of region 6's OUTPUT arrays keeps its entry contents across it. -/
theorem W14_of (c : Dev nD) (r : Ref sig .tc) (h : ∀ w : Fin cfg6.W, Pipeline.arrRef spec6 w = r → (cfg6.win w).isOut = false) :
    W14 m ρ c (Proc.devRef .tc r) = W13 m ρ c (Proc.devRef .tc r) := by
  by_cases hw : ∃ w : Fin cfg6.W, Pipeline.arrRef spec6 w = r
  · obtain ⟨w, rfl⟩ := hw
    exact (W14_arr m ρ c w).trans (((dat6 (V13 m ρ) c).arrAt_in w (h w rfl) _).trans (A_eq6 (V13 m ρ) c w))
  · exact W14_of_ne m ρ c r fun w e => hw ⟨w, e⟩
/-- Every argument among region 6's arrays is an input window's (checked. -/
theorem argsIn6 : ∀ a ∈ argRefs, ∀ w : Fin cfg6.W, Pipeline.arrRef spec6 w = a → (cfg6.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn6 a ha)).trans (W13_args m ρ c a ha)
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves (`hF6`) and every other buffer what it held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`. -/
abbrev W15 : Dev nD → Valuation τ sig (Elt F) := fun c => StableHlo.after hostOps7 (W14 m ρ c)
/-- A reference `hostOps7` does not write keeps its contents across it. -/
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h
theorem W15_args (c : Dev nD) : ∀ a ∈ argRefs, W15 m ρ c (Proc.devRef .tc a) = m ((c : Thread nD τ).loc a) :=
  fun a ha => (W15_of m ρ c a (hostOps7_args a ha)).trans (W14_args m ρ c a ha)

/-! ### The arguments end as launched: no host stretch writes one and no region may change one (a region reads it
    through an input window or bypasses it) -/

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)
theorem W15_main_arg12 (c : Dev nD) : W15 m ρ c (Proc.devRef .tc main_arg12) = m ((c : Thread nD τ).loc main_arg12) :=
  W15_args m ρ c main_arg12 (by decide)
theorem W15_main_arg13 (c : Dev nD) : W15 m ρ c (Proc.devRef .tc main_arg13) = m ((c : Thread nD τ).loc main_arg13) :=
  W15_args m ρ c main_arg13 (by decide)
theorem W15_main_arg14 (c : Dev nD) : W15 m ρ c (Proc.devRef .tc main_arg14) = m ((c : Thread nD τ).loc main_arg14) :=
  W15_args m ρ c main_arg14 (by decide)
theorem W15_main_arg15 (c : Dev nD) : W15 m ρ c (Proc.devRef .tc main_arg15) = m ((c : Thread nD τ).loc main_arg15) :=
  W15_args m ρ c main_arg15 (by decide)
theorem W15_main_arg16 (c : Dev nD) : W15 m ρ c (Proc.devRef .tc main_arg16) = m ((c : Thread nD τ).loc main_arg16) :=
  W15_args m ρ c main_arg16 (by decide)
theorem W15_main_arg17 (c : Dev nD) : W15 m ρ c (Proc.devRef .tc main_arg17) = m ((c : Thread nD τ).loc main_arg17) :=
  W15_args m ρ c main_arg17 (by decide)
end Cert.Kernel.Run

end
-- ==== Proof.KernelRun.State.lean ====
/- The proof data of all pipelines at their entry contents, and the thread state between two segments of @main. -/
module

public import proofs.«01_k».proof.Proof.KernelRun.Fold0

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents. -/
abbrev adm : (p : Fin 7) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W15 m ρ c) ∗ ∃ r, prngReg c r)

end Cert.Kernel.Run

end
-- ==== Proof.KernelRun.Record0.lean ====
/- The pallas_call `ln_quant` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/
set_option backward.isDefEq.respectTransparency.types false in
/-- REGION 0 (custom_call 0) over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record1.lean ====
/- The pallas_call `lin1_q` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 1 (custom_call 1) over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record2.lean ====
/- The pallas_call `lin1_k` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 2 (custom_call 2) over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record3.lean ====
/- The pallas_call `lin1_v` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 3 (custom_call 3) over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record4.lean ====
/- The pallas_call `lin1_mlp` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 4 (custom_call 4) over the thread state. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record5.lean ====
/- The pallas_call `attention` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 5 (custom_call 5) over the thread state. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Record6.lean ====
/- The pallas_call `lin2` as one segment of @main: entered with the contents `W` of the boundary before it, left with the next. -/
module

public import proofs.«01_k».proof.Proof.KernelRun.State

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 6 (custom_call 6) over the thread state. -/
def reg6 : Pipeline.RegionSeg (pcfgs (F := F)) adm (pdats m ρ) () defs₀ 𝒱₀ L lv 6 where
  win := launch₀6.win
  block_pos := launch₀6.block_pos
  stage_whole := launch₀6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs_shared (p := 6) (pcfgs (F := F)) adm (pdats m ρ) launch₀6.win launch₀6.sharedIn launch₀6.arr_whole c
      (fun _ _ => rfl) (V13 m ρ c) (A_eq6 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays_shared (p := 6) (pcfgs (F := F)) adm (Ix := Unit) (Name := ℕ) (U := UR sig nD τ) (Lvl := ℕ)
      launch₀6.win launch₀6.sharedIn launch₀6.arr_whole c (pdats m ρ) (fun _ _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.Frame.lean ====
/- @main run segment by segment: every buffer ends with the contents `W15`, every semaphore at zero; hence the frame claim. -/
module

public import proofs.«01_k».proof.Proof.KernelRun.Record0
public import proofs.«01_k».proof.Proof.KernelRun.Record1
public import proofs.«01_k».proof.Proof.KernelRun.Record2
public import proofs.«01_k».proof.Proof.KernelRun.Record3
public import proofs.«01_k».proof.Proof.KernelRun.Record4
public import proofs.«01_k».proof.Proof.KernelRun.Record5
public import proofs.«01_k».proof.Proof.KernelRun.Record6

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
set_option backward.isDefEq.respectTransparency.types false in
/-- THE RUN: on every schedule @main ends with each buffer at `W15` — the fold of its segments over the launch memory — and every
    semaphore counter at zero. -/
theorem run : θ_run defs (onTc (τ := τ) (main (F := F))) ⟨m, fun _ => 0, ρ⟩ (fun r =>
    (∀ (c : Dev nD), ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The frame claim: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(h.1 c _ (mem_uc main_arg0 (by decide))).trans (W15_main_arg0 m ρ c),
    (h.1 c _ (mem_uc main_arg1 (by decide))).trans (W15_main_arg1 m ρ c),
    (h.1 c _ (mem_uc main_arg2 (by decide))).trans (W15_main_arg2 m ρ c),
    (h.1 c _ (mem_uc main_arg3 (by decide))).trans (W15_main_arg3 m ρ c),
    (h.1 c _ (mem_uc main_arg4 (by decide))).trans (W15_main_arg4 m ρ c),
    (h.1 c _ (mem_uc main_arg5 (by decide))).trans (W15_main_arg5 m ρ c),
    (h.1 c _ (mem_uc main_arg6 (by decide))).trans (W15_main_arg6 m ρ c),
    (h.1 c _ (mem_uc main_arg7 (by decide))).trans (W15_main_arg7 m ρ c),
    (h.1 c _ (mem_uc main_arg8 (by decide))).trans (W15_main_arg8 m ρ c),
    (h.1 c _ (mem_uc main_arg9 (by decide))).trans (W15_main_arg9 m ρ c),
    (h.1 c _ (mem_uc main_arg10 (by decide))).trans (W15_main_arg10 m ρ c),
    (h.1 c _ (mem_uc main_arg11 (by decide))).trans (W15_main_arg11 m ρ c),
    (h.1 c _ (mem_uc main_arg12 (by decide))).trans (W15_main_arg12 m ρ c),
    (h.1 c _ (mem_uc main_arg13 (by decide))).trans (W15_main_arg13 m ρ c),
    (h.1 c _ (mem_uc main_arg14 (by decide))).trans (W15_main_arg14 m ρ c),
    (h.1 c _ (mem_uc main_arg15 (by decide))).trans (W15_main_arg15 m ρ c),
    (h.1 c _ (mem_uc main_arg16 (by decide))).trans (W15_main_arg16 m ρ c),
    (h.1 c _ (mem_uc main_arg17 (by decide))).trans (W15_main_arg17 m ρ c)⟩, h.2⟩) (run m ρ)

end Cert.Kernel.Run

end
-- ==== Proof.IdealRun.Region0.lean ====
/- The pallas_call `ln_quant` (number 0 of @main) at any contents `V` of the buffers it is entered with: what its body leaves
in each output block at a grid point (`outsAt0`), the pipeline's proof data (`dat0`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

section Body
variable (c : Dev nD) (i : grid0.Coords) (arg1 : Memref sig .tc .smem S1 .f32) (harg1 : arg1.IsWhole) (arg2 : Memref sig .tc .vmem S256x3072 .bf16) (harg2 : arg2.IsWhole) (arg3 : Memref sig .tc .vmem S1x1x3072 .f32) (harg3 : arg3.IsWhole) (arg4 : Memref sig .tc .vmem S1x1x3072 .f32) (harg4 : arg4.IsWhole) (arg5 : Memref sig .tc .vmem S256x3072 .fp8e4m3) (harg5 : arg5.IsWhole)

/-- One staging buffer of output window 4, through which its contents are stated (`View.read_writes_of_cover`). -/
abbrev VO0_4 : View sig .tc .vmem S256x3072 .fp8e4m3 := (Memref.whole cc0_stg4_0 : Memref sig .tc .vmem S256x3072 .fp8e4m3).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .fp8e4m3 := win0_4.stage (cfg0.slots t 4)
abbrev hs0_4 (t : Fin cfg0.N) : (ms0_4 t).IsWhole := hstage0_4 ((cfg0.slots t 4).cast nbuf0_4)
set_option maxHeartbeats 1000000 in
/-- What the body's stores leave in each output's staging memref, as pieces (last first). -/
noncomputable def kernelRun0_A
    (x0 : Vec F S1 .f32) (x1 : Vec F S256x3072 .bf16) (x2 : Vec F S1x1x3072 .f32) (x3 : Vec F S1x1x3072 .f32) :
    { L4 : List (View.Piece (Elt F) S256x3072 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0_ln_quant i arg1 harg1 arg2 harg2 arg3 harg3 arg4 harg4 arg5 harg5) K } := by
  refine ⟨?_, fun E K => ?run⟩
  case run =>
    simp only [cc0_ln_quant_eq_skeleton]; unfold cc0_ln_quant_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (in stores of `S256x3072`). -/
theorem cover0_A_4
    (x0 : Vec F S1 .f32) (x1 : Vec F S256x3072 .bf16) (x2 : Vec F S1x1x3072 .f32) (x3 : Vec F S1x1x3072 .f32) (y : S256x3072.Idx) :
    ∃ pc ∈ (kernelRun0_A c i arg1 harg1 arg2 harg2 arg3 harg3 arg4 harg4 arg5 harg5 x0 x1 x2 x3).1, y ∈ pc.1.set :=
  View.cover_of_tiledL (kernelRun0_A c i arg1 harg1 arg2 harg2 arg3 harg3 arg4 harg4 arg5 harg5 x0 x1 x2 x3).1 S256x3072.size (by sl_kernel_rfl) y

/-- What the run leaves in output 4's staging buffer. -/
def out0_A_4
    (x0 : Vec F S1 .f32) (x1 : Vec F S256x3072 .bf16) (x2 : Vec F S1x1x3072 .f32) (x3 : Vec F S1x1x3072 .f32) : Vec F S256x3072 .fp8e4m3 :=
  VO0_4.read (Elt F) (VO0_4.writes (Elt F) VO0_4.junk (kernelRun0_A c i arg1 harg1 arg2 harg2 arg3 harg3 arg4 harg4 arg5 harg5 x0 x1 x2 x3).1)

/-! ## What the outputs hold after each point -/

end Body

/-- What the outputs' staging buffers hold after the body at point `t`. -/
def outsAt0 (c : Dev nD) (t : Fin cfg0.N) : Vec F S256x3072 .fp8e4m3 :=
  out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

/-- The proof data's arrays are the region-entry contents, by projecting the definition (`dsimp`). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one). -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.IdealRun.Region1.lean ====
/- The pallas_call `lin1_q` (number 1 of @main) at any contents `V` of the buffers it is entered with: what its body leaves
in each output block at a grid point (`outsAt1`), the pipeline's proof data (`dat1`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

section Body
variable (c : Dev nD) (i : grid1.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x1024 .bf16) (harg8 : arg8.IsWhole)

/-- One staging buffer of output window 7, through which its contents are stated (`View.read_writes_of_cover`). -/
abbrev VO1_7 : View sig .tc .vmem S2048x1024 .bf16 := (Memref.whole cc1_stg7_0 : Memref sig .tc .vmem S2048x1024 .bf16).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x3072 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3072x1024 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1024 .bf16 := win1_7.stage (cfg1.slots t 7)
abbrev hs1_7 (t : Fin cfg1.N) : (ms1_7 t).IsWhole := hstage1_7 ((cfg1.slots t 7).cast nbuf1_7)
set_option maxHeartbeats 1816000 in
/-- What the body's stores leave in each output's staging memref, as pieces (last first). -/
noncomputable def kernelRun1_A
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) :
    { L7 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc1_lin1_q i arg1 harg1 arg2 harg2 arg3 harg3 arg4 harg4 arg5 harg5 arg6 harg6 arg7 harg7 arg8 harg8) K } := by
  refine ⟨?_, fun E K => ?run⟩
  case run =>
    simp only [cc1_lin1_q_eq_skeleton]; unfold cc1_lin1_q_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for output 7 tile its block (in stores of `S256x128`). -/
theorem cover1_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) (y : S2048x1024.Idx) :
    ∃ pc ∈ (kernelRun1_A c i arg1 harg1 arg2 harg2 arg3 harg3 arg4 harg4 arg5 harg5 arg6 harg6 arg7 harg7 arg8 harg8 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 x0 x1 x2 x3 x4 x5 x6).1 S256x128.size (by sl_kernel_rfl) y

/-- What the run leaves in output 7's staging buffer. -/
def out1_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) : Vec F S2048x1024 .bf16 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5 x6).1)

/-! ## What the outputs hold after each point -/

end Body

/-- What the outputs' staging buffers hold after the body at point `t`. -/
def outsAt1 (c : Dev nD) (t : Fin cfg1.N) : Vec F S2048x1024 .bf16 :=
  out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t)
  Φ _ := Pipeline.ΦA spec1 c
  q _ := fullShare
  owed _ := 0

/-- The proof data's arrays are the region-entry contents, by projecting the definition (`dsimp`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one). -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.IdealRun.Region2.lean ====
/- The pallas_call `lin1_k` (number 2 of @main) at any contents `V` of the buffers it is entered with: what its body leaves
in each output block at a grid point (`outsAt2`), the pipeline's proof data (`dat2`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

section Body
variable (c : Dev nD) (i : grid2.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x1024 .bf16) (harg8 : arg8.IsWhole)

/-- One staging buffer of output window 7, through which its contents are stated (`View.read_writes_of_cover`). -/
abbrev VO2_7 : View sig .tc .vmem S2048x1024 .bf16 := (Memref.whole cc2_stg7_0 : Memref sig .tc .vmem S2048x1024 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x3072 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3072x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x1024 .bf16 := win2_7.stage (cfg2.slots t 7)
abbrev hs2_7 (t : Fin cfg2.N) : (ms2_7 t).IsWhole := hstage2_7 ((cfg2.slots t 7).cast nbuf2_7)
set_option maxHeartbeats 1816000 in
/-- What the body's stores leave in each output's staging memref, as pieces (last first). -/
noncomputable def kernelRun2_A
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) :
    { L7 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc2_lin1_k i arg1 harg1 arg2 harg2 arg3 harg3 arg4 harg4 arg5 harg5 arg6 harg6 arg7 harg7 arg8 harg8) K } := by
  refine ⟨?_, fun E K => ?run⟩
  case run =>
    simp only [cc2_lin1_k_eq_skeleton]; unfold cc2_lin1_k_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for output 7 tile its block (in stores of `S256x128`). -/
theorem cover2_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) (y : S2048x1024.Idx) :
    ∃ pc ∈ (kernelRun2_A c i arg1 harg1 arg2 harg2 arg3 harg3 arg4 harg4 arg5 harg5 arg6 harg6 arg7 harg7 arg8 harg8 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 x0 x1 x2 x3 x4 x5 x6).1 S256x128.size (by sl_kernel_rfl) y

/-- What the run leaves in output 7's staging buffer. -/
def out2_A_7
    (x0 : Vec F S1 .f32) (x1 : Vec F S2048x3072 .fp8e4m3) (x2 : Vec F S3072x1024 .fp8e4m3) (x3 : Vec F S1x1024 .f32) (x4 : Vec F S1x1024 .f32) (x5 : Vec F S2048x128 .f32) (x6 : Vec F S2048x128 .f32) : Vec F S2048x1024 .bf16 :=
  VO2_7.read (Elt F) (VO2_7.writes (Elt F) VO2_7.junk (kernelRun2_A c i arg1 harg1 arg2 harg2 arg3 harg3 arg4 harg4 arg5 harg5 arg6 harg6 arg7 harg7 arg8 harg8 x0 x1 x2 x3 x4 x5 x6).1)

/-! ## What the outputs hold after each point -/

end Body

/-- What the outputs' staging buffers hold after the body at point `t`. -/
def outsAt2 (c : Dev nD) (t : Fin cfg2.N) : Vec F S2048x1024 .bf16 :=
  out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t)
  Φ _ := Pipeline.ΦA spec2 c
  q _ := fullShare
  owed _ := 0

/-- The proof data's arrays are the region-entry contents, by projecting the definition (`dsimp`). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one). -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outsAt2
  unfold out2_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 c _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.IdealRun.Region3.lean ====
/- The pallas_call `lin1_v` (number 3 of @main) at any contents `V` of the buffers it is entered with: what its body leaves
in each output block at a grid point (`outsAt3`), the pipeline's proof data (`dat3`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

section Body
variable (c : Dev nD) (i : grid3.Coords) (arg1 : Memref sig .tc .smem S1 .f32) (harg1 : arg1.IsWhole) (arg2 : Memref sig .tc .vmem S2048x3072 .fp8e4m3) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole)

/-- One staging buffer of output window 5, through which its contents are stated (`View.read_writes_of_cover`). -/
abbrev VO3_5 : View sig .tc .vmem S2048x1024 .bf16 := (Memref.whole cc3_stg5_0 : Memref sig .tc .vmem S2048x1024 .bf16).view
/-- Each window's current staging memref at point `t`, spelled as the pipeline passes it (`bodyAt3`), and its wholeness. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x3072 .fp8e4m3 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S3072x1024 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1024 .bf16 := win3_5.stage (cfg3.slots t 5)
abbrev hs3_5 (t : Fin cfg3.N) : (ms3_5 t).IsWhole := hstage3_5 ((cfg3.slots t 5).cast nbuf3_5)
set_option maxHeartbeats 1000000 in
/-- What the body's stores leave in each output's staging memref, as pieces (last first). -/
noncomputable def kernelRun3_A
    (x0 : Vec F S1 .f32) (x1 : Vec F S2048x3072 .fp8e4m3) (x2 : Vec F S3072x1024 .fp8e4m3) (x3 : Vec F S1x1024 .f32) (x4 : Vec F S1x1024 .f32) :
    { L5 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc3_lin1_v i arg1 harg1 arg2 harg2 arg3 harg3 arg4 harg4 arg5 harg5 arg6 harg6) K } := by
  refine ⟨?_, fun E K => ?run⟩
  case run =>
    simp only [cc3_lin1_v_eq_skeleton]; unfold cc3_lin1_v_skel
    simp only [k3_part1_eq_skeleton, k3_part2_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for output 5 tile its block (in stores of `S256x1024`). -/
theorem cover3_A_5
    (x0 : Vec F S1 .f32) (x1 : Vec F S2048x3072 .fp8e4m3) (x2 : Vec F S3072x1024 .fp8e4m3) (x3 : Vec F S1x1024 .f32) (x4 : Vec F S1x1024 .f32) (y : S2048x1024.Idx) :
    ∃ pc ∈ (kernelRun3_A c i arg1 harg1 arg2 harg2 arg3 harg3 arg4 harg4 arg5 harg5 arg6 harg6 x0 x1 x2 x3 x4).1, y ∈ pc.1.set :=
  View.cover_of_tiledL (kernelRun3_A c i arg1 harg1 arg2 harg2 arg3 harg3 arg4 harg4 arg5 harg5 arg6 harg6 x0 x1 x2 x3 x4).1 S256x1024.size (by sl_kernel_rfl) y

/-- What the run leaves in output 5's staging buffer. -/
def out3_A_5
    (x0 : Vec F S1 .f32) (x1 : Vec F S2048x3072 .fp8e4m3) (x2 : Vec F S3072x1024 .fp8e4m3) (x3 : Vec F S1x1024 .f32) (x4 : Vec F S1x1024 .f32) : Vec F S2048x1024 .bf16 :=
  VO3_5.read (Elt F) (VO3_5.writes (Elt F) VO3_5.junk (kernelRun3_A c i arg1 harg1 arg2 harg2 arg3 harg3 arg4 harg4 arg5 harg5 arg6 harg6 x0 x1 x2 x3 x4).1)

/-! ## What the outputs hold after each point -/

end Body

/-- What the outputs' staging buffers hold after the body at point `t`. -/
def outsAt3 (c : Dev nD) (t : Fin cfg3.N) : Vec F S2048x1024 .bf16 :=
  out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)

/-! ## The pipeline's proof data -/

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t)
  Φ _ := Pipeline.ΦA spec3 c
  q _ := fullShare
  owed _ := 0

/-- The proof data's arrays are the region-entry contents, by projecting the definition (`dsimp`). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one). -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_5
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t) (iblk3 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_A_5 c _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Run

end
-- ==== Proof.IdealRun.Region4.lean ====
/- The pallas_call `lin1_mlp` (number 4 of @main) at any contents `V` of the buffers it is entered with: what its body leaves
in each output block at a grid point (`outsAt4`), the pipeline's proof data (`dat4`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates. -/
abbrev cond4_0 (i : grid4.Coords) : Prop := (Scalar.cmpi .ne (Scalar.extui (Scalar.cmpi .eq (BitVec.ofNat 32 (i 0).val) 0#32)) 0#32) = 1#1
/-- It holds at the first point only — by arithmetic of the point. -/
theorem hcond4_0 : ∀ t : Fin cfg4.N, cond4_0 (grid4.coords t) ↔ t.val % 12 = 0 :=
  (fun t => by
    have ht : t.val < 12 := Nat.lt_of_lt_of_eq t.isLt N_4
    have e0 : (grid4.coords t 0).val = t.val / 1 % 12 := Pipeline.Grid.coords_val t 0 (by decide) rfl
    simp only [cond4_0, e0]
    word_cmp
   : ∀ t : Fin grid4.N, cond4_0 (grid4.coords t) ↔ t.val % 12 = 0)

/-! ## The kernel body on any staging memrefs: a subtype the run finds -/

section Body
variable (c : Dev nD) (i : grid4.Coords) (arg1 : Memref sig .tc .smem S1 .f32) (harg1 : arg1.IsWhole) (arg2 : Memref sig .tc .smem S1 .f32) (harg2 : arg2.IsWhole) (arg3 : Memref sig .tc .vmem S2048x3072 .fp8e4m3) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .fp8e4m3) (harg7 : arg7.IsWhole) (arg8 : Memref sig .tc .vmem S8x1024 .f32) (harg8 : arg8.IsWhole)

/-- One staging buffer of output window 6, through which its contents are stated (`View.read_writes_of_cover`). -/
abbrev VO4_6 : View sig .tc .vmem S2048x1024 .fp8e4m3 := (Memref.whole cc4_stg6_0 : Memref sig .tc .vmem S2048x1024 .fp8e4m3).view
/-- One staging buffer of output window 7, through which its contents are stated (`View.read_writes_of_cover`). -/
abbrev VO4_7 : View sig .tc .vmem S8x1024 .f32 := (Memref.whole cc4_stg7_0 : Memref sig .tc .vmem S8x1024 .f32).view
/-- Each window's current staging memref at point `t`, spelled as the pipeline passes it (`bodyAt4`), and its wholeness. -/
abbrev ms4_0 (t : Fin cfg4.N) : Memref sig .tc .smem S1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .smem S1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x3072 .fp8e4m3 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S3072x1024 .fp8e4m3 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x1024 .fp8e4m3 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S8x1024 .f32 := win4_7.stage (cfg4.slots t 7)
abbrev hs4_7 (t : Fin cfg4.N) : (ms4_7 t).IsWhole := hstage4_7 ((cfg4.slots t 7).cast nbuf4_7)
set_option maxHeartbeats 1000000 in
/-- What the body's stores leave in each output's staging memref, as pieces (last first) IN CASE A (`scf.if` 0 taken. -/
noncomputable def kernelRun4_A (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) :
    Σ' (L6 : List (View.Piece (Elt F) S2048x1024 .fp8e4m3)), { L7 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_lin1_mlp i arg1 harg1 arg2 harg2 arg3 harg3 arg4 harg4 arg5 harg5 arg6 harg6 arg7 harg7 arg8 harg8) K } := by
  refine ⟨?_, ?_, fun E K => ?run⟩
  case run =>
    simp only [cc4_lin1_mlp_eq_skeleton]; unfold cc4_lin1_mlp_skel
    simp only [k4_part1_eq_skeleton, k4_part2_eq_skeleton, k4_part3_eq_skeleton, k4_part4_eq_skeleton, k4_part5_eq_skeleton, k4_part6_eq_skeleton, k4_part7_eq_skeleton, k4_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case A's pieces for output 6 tile its block (in stores of `S256x1024`). -/
theorem cover4_A_6 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (y : S2048x1024.Idx) :
    ∃ pc ∈ (kernelRun4_A c i arg1 harg1 arg2 harg2 arg3 harg3 arg4 harg4 arg5 harg5 arg6 harg6 arg7 harg7 arg8 harg8 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 hc0 x0 x1 x2 x3 x4 x5).1 S256x1024.size (by sl_kernel_rfl) y

/-- What case A leaves in output 6's staging buffer. -/
def out4_A_6 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) : Vec F S2048x1024 .fp8e4m3 :=
  VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4 x5).1)

/-- Case A's pieces for output 7 tile its block (in stores of `S8x1024`). -/
theorem cover4_A_7 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (y : S8x1024.Idx) :
    ∃ pc ∈ (kernelRun4_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 x0 x1 x2 x3 x4 x5).2.1 S8x1024.size (by sl_kernel_rfl) y

/-- What case A leaves in output 7's staging buffer. -/
def out4_A_7 (hc0 : cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) : Vec F S8x1024 .f32 :=
  VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4 x5).2.1)
set_option maxHeartbeats 1000000 in
/-- What the body's stores leave in each output's staging memref, as pieces (last first) IN CASE B (`scf.if` 0 not taken. -/
noncomputable def kernelRun4_B (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) :
    Σ' (L6 : List (View.Piece (Elt F) S2048x1024 .fp8e4m3)), { L7 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_lin1_mlp i arg1 harg1 arg2 harg2 arg3 harg3 arg4 harg4 arg5 harg5 arg6 harg6 arg7 harg7 arg8 harg8) K } := by
  refine ⟨?_, ?_, fun E K => ?run⟩
  case run =>
    simp only [cc4_lin1_mlp_eq_skeleton]; unfold cc4_lin1_mlp_skel
    simp only [k4_part1_eq_skeleton, k4_part2_eq_skeleton, k4_part3_eq_skeleton, k4_part4_eq_skeleton, k4_part5_eq_skeleton, k4_part6_eq_skeleton, k4_part7_eq_skeleton, k4_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- Case B's pieces for output 6 tile its block (in stores of `S256x1024`). -/
theorem cover4_B_6 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) (y : S2048x1024.Idx) :
    ∃ pc ∈ (kernelRun4_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).1 S256x1024.size (by sl_kernel_rfl) y

/-- What case B leaves in output 6's staging buffer. -/
def out4_B_6 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) : Vec F S2048x1024 .fp8e4m3 :=
  VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 x5 xo7).1)

/-- Case B's pieces for output 7 tile its block (in stores of `S8x1024`). -/
theorem cover4_B_7 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) (y : S8x1024.Idx) :
    ∃ pc ∈ (kernelRun4_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).2.1 S8x1024.size (by sl_kernel_rfl) y

/-- What case B leaves in output 7's staging buffer. -/
def out4_B_7 (hc0 : ¬cond4_0 i)
    (x0 : Vec F S1 .f32) (x1 : Vec F S1 .f32) (x2 : Vec F S2048x3072 .fp8e4m3) (x3 : Vec F S3072x1024 .fp8e4m3) (x4 : Vec F S1x1024 .f32) (x5 : Vec F S1x1024 .f32) (xo7 : Vec F S8x1024 .f32) : Vec F S8x1024 .f32 :=
  VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 x5 xo7).2.1)

/-! ## What the outputs hold after each point -/

end Body

/-- THE ACCUMULATION. What the outputs' staging buffers hold after the body at position `n` (a tuple, in window order). -/
def outsAt4 (c : Dev nD) : (n : ℕ) → n < cfg4.N → Vec F S2048x1024 .fp8e4m3 × Vec F S8x1024 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 12 = 0 then
      (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

/-- `outsAt4` at a point of case A: that case's contents. -/
theorem outsAt4_A (c : Dev nD) (t : Fin cfg4.N) (h0 : t.val % 12 = 0) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 12 = 0) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2
  Φ _ := Pipeline.ΦA spec4 c
  q _ := fullShare
  owed _ := 0

/-- The proof data's arrays are the region-entry contents, by projecting the definition (`dsimp`). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
/-- At a point of case B output 7's current staging buffer holds what the body left at the point before. -/
theorem before4_7_B (c : Dev nD) (t : Fin cfg4.N) (h0 : ¬t.val % 12 = 0) (d) :
    (dat4 V c).before 7 t d = (outsAt4 V c (t.val - 1) (Nat.lt_of_le_of_lt (Nat.sub_le _ _) t.isLt)).2 := by
  have hN : t.val < 12 := lt_of_lt_of_eq t.isLt (show cfg4.N = 12 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t` (Lib/Pipeline.lean `BodyObligation`'s precondition, the windows one by one). -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 12 := lt_of_lt_of_eq t.isLt (show cfg4.N = 12 from N_4)
  by_cases h0 : t.val % 12 = 0
  · rw [outsAt4_A V c t h0]
    unfold out4_A_6 out4_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _ _)
  · rw [outsAt4_B V c t h0]
    simp only [before4_7_B V c t h0]
    unfold out4_B_6 out4_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Run

end
-- ==== Proof.IdealRun.Attn.lean ====
/- The pallas_call `attention` (number 5 of @main): the blocks its inputs' buffers hold, its branch conditions — the first grid
point, and which of the four numbers of live text chunks the text length gives — and the statement of a run of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates. -/
abbrev cond5_0 (i : grid5.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond5_0 : ∀ t : Fin cfg5.N, cond5_0 (grid5.coords t) ↔ t.val % 24 = 0 :=
  (fun t => by
    have ht : t.val < 24 := Nat.lt_of_lt_of_eq t.isLt N_5
    have e0 : (grid5.coords t 0).val = t.val / 12 % 2 := Pipeline.Grid.coords_val t 0 (by decide) rfl
    have e1 : (grid5.coords t 1).val = t.val / 1 % 12 := Pipeline.Grid.coords_val t 1 (by decide) rfl
    simp only [cond5_0, e0, e1]
    word_cmp
   : ∀ t : Fin grid5.N, cond5_0 (grid5.coords t) ↔ t.val % 24 = 0)

/-! ## The kernel body on any staging memrefs: a subtype the run finds -/

/-- The text length the body reads: its batch element's word. -/
abbrev word5 (i : grid5.Coords) (arg2 : Memref sig .tc .smem S2 .i32) (harg2 : arg2.IsWhole) (x0 : Vec F S2 .i32) : BitVec 32 :=
  View.readAt (Elt F) arg2.view (Rect.unit (s := S2) (k5_off1 i) S1.size (k5_off1_inb i)).toLoadRect (harg2.unread x0) (Shape.Idx.first (show 0 < S1.numel from by rw [show S1.numel = 1 from numel1_S1]; exact Nat.one_pos))

/-- The number of live text chunks of a text length, as the body computes it. -/
def nlive (w : BitVec 32) : BitVec 32 := Scalar.minsi 4#32 (Scalar.maxsi 1#32 (Scalar.shrsi (Scalar.addi w 127#32) 7#32))

/-- The condition of the body's branch for `n` live chunks. -/
abbrev cond5_n (n w : BitVec 32) : Prop :=
  Scalar.cmpi .ne (Scalar.extui (Scalar.cmpi .eq (Scalar.minsi 4#32 (Scalar.maxsi 1#32 (Scalar.shrsi (Scalar.addi w 127#32) 7#32))) n)) 0#32 = 1#1

theorem cond5_n_iff (n w : BitVec 32) : cond5_n n w ↔ nlive w = n := by
  unfold cond5_n
  show Scalar.cmpi .ne (Scalar.extui (Scalar.cmpi .eq (nlive w) n)) 0#32 = 1#1 ↔ nlive w = n
  word_cmp
  exact BitVec.toNat_inj

/-- At least one chunk is live and at most four. -/
theorem nlive_cases (w : BitVec 32) : nlive w = 1#32 ∨ nlive w = 2#32 ∨ nlive w = 3#32 ∨ nlive w = 4#32 := by
  unfold nlive Scalar.minsi Scalar.maxsi IntOp.minsi IntOp.maxsi
  generalize Scalar.shrsi (Scalar.addi w 127#32) 7#32 = s
  by_cases h1 : s.slt 1#32 = true
  · have e : (if (s.slt 1#32) = true then 1#32 else s) = 1#32 := if_pos h1
    rw [e]; left; decide
  · have e : (if (s.slt 1#32) = true then 1#32 else s) = s := if_neg h1
    rw [e]
    by_cases h4 : (4#32).slt s = true
    · right; right; right; exact if_pos h4
    · rw [if_neg h4]
      have a : 1 ≤ s.toInt := by
        have := mt BitVec.slt_iff_toInt_lt.mpr h1
        have e : (1#32).toInt = 1 := by decide
        omega
      have b : s.toInt ≤ 4 := by
        have := mt BitVec.slt_iff_toInt_lt.mpr h4
        have e : (4#32).toInt = 4 := by decide
        omega
      have hs : s = BitVec.ofInt 32 s.toInt := (BitVec.ofInt_toInt).symm
      have hc : s.toInt = 1 ∨ s.toInt = 2 ∨ s.toInt = 3 ∨ s.toInt = 4 := by omega
      rcases hc with h | h | h | h <;> (rw [h] at hs; subst hs; decide)

/-- A choice by the number of live chunks. -/
def pick {α : Sort*} (w : BitVec 32) (f1 : nlive w = 1#32 → α) (f2 : nlive w = 2#32 → α) (f3 : nlive w = 3#32 → α) (f4 : nlive w = 4#32 → α) : α :=
  if h1 : nlive w = 1#32 then f1 h1
  else if h2 : nlive w = 2#32 then f2 h2
  else if h3 : nlive w = 3#32 then f3 h3
  else f4 ((((nlive_cases _).resolve_left h1).resolve_left h2).resolve_left h3)

section Pick
variable {α : Sort*} (w : BitVec 32) (f1 : nlive w = 1#32 → α) (f2 : nlive w = 2#32 → α) (f3 : nlive w = 3#32 → α) (f4 : nlive w = 4#32 → α)
theorem pick_1 (h : nlive w = 1#32) : pick w f1 f2 f3 f4 = f1 h := dif_pos h
theorem pick_2 (h : nlive w = 2#32) : pick w f1 f2 f3 f4 = f2 h :=
  (dif_neg (by rw [h]; decide)).trans (dif_pos h)
theorem pick_3 (h : nlive w = 3#32) : pick w f1 f2 f3 f4 = f3 h :=
  (dif_neg (by rw [h]; decide)).trans ((dif_neg (by rw [h]; decide)).trans (dif_pos h))
theorem pick_4 (h : nlive w = 4#32) : pick w f1 f2 f3 f4 = f4 h :=
  (dif_neg (by rw [h]; decide)).trans ((dif_neg (by rw [h]; decide)).trans (dif_neg (by rw [h]; decide)))
end Pick

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

/-- One staging buffer of output window 5, through which its contents are stated (`View.read_writes_of_cover`. -/
abbrev VO5_5 : View sig .tc .vmem S1024x256 .fp8e4m3 := (Memref.whole cc5_stg5_0 : Memref sig .tc .vmem S1024x256 .fp8e4m3).view
/-- One staging buffer of output window 6, through which its contents are stated (`View.read_writes_of_cover`. -/
abbrev VO5_6 : View sig .tc .vmem S8x128 .f32 := (Memref.whole cc5_stg6_0 : Memref sig .tc .vmem S8x128 .f32).view
/-- Each window's current staging memref at point `t`, spelled as the pipeline passes it (`bodyAt5`), and its wholeness. -/
abbrev ms5_0 (t : Fin cfg5.N) : Memref sig .tc .smem S2 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .smem S1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x256 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x256 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x256 .bf16 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x256 .fp8e4m3 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S8x128 .f32 := win5_6.stage (cfg5.slots t 6)
abbrev hs5_6 (t : Fin cfg5.N) : (ms5_6 t).IsWhole := hstage5_6 ((cfg5.slots t 6).cast nbuf5_6)

/-- A run of the body: on whole staging memrefs — the inputs' at their contents, output 5's at anything, output 6's as `P6` says — it
    runs to the continuation holding the inputs' as they were and each output's buffer with its pieces written. -/
def Run5 (x0 : Vec F S2 .i32) (x1 : Vec F S1 .f32) (x2 x3 x4 : Vec F S1024x256 .bf16) (P6 : sProp 𝕄) (L5 : List (View.Piece (Elt F) S1024x256 .fp8e4m3)) (L6 : List (View.Piece (Elt F) S8x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ P6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
      ⊢ wp frame (wpE (defs₀ (F := F)) Variants.none c none) E (cc5_attention i arg2 harg2 arg3 harg3 arg4 harg4 arg5 harg5 arg6 harg6 arg7 harg7 arg8 harg8) K

/-- The pieces of both outputs, with the run that leaves them. -/
abbrev Pieces5 (x0 : Vec F S2 .i32) (x1 : Vec F S1 .f32) (x2 x3 x4 : Vec F S1024x256 .bf16) (P6 : sProp 𝕄) :=
  Σ' (L5 : List (View.Piece (Elt F) S1024x256 .fp8e4m3)), { L6 : List (View.Piece (Elt F) S8x128 .f32) // Run5 c i arg2 harg2 arg3 harg3 arg4 harg4 arg5 harg5 arg6 harg6 arg7 harg7 arg8 harg8 x0 x1 x2 x3 x4 P6 L5 L6 }

end Body
end Regions

end Cert.KernelIdeal.Run

end
-- ==== Proof.IdealRun.AttnA.lean ====
/- The body of `attention` run in each of its four branches at the first grid point, where it first zeroes the running maximum. -/
module

public import proofs.«01_k».proof.Proof.IdealRun.Attn

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

set_option maxHeartbeats 2000000 in
/-- The run with 1 live text chunk. -/
noncomputable def kernelRun5_A1 (hc0 : cond5_0 i) (x0 : Vec F S2 .i32) (x1 : Vec F S1 .f32) (x2 x3 x4 : Vec F S1024x256 .bf16) (hn : nlive (word5 i arg2 harg2 x0) = 1#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h1 : cond5_n 1#32 (word5 i arg2 harg2 x0) := (cond5_n_iff _ _).mpr hn
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 2 live text chunks. -/
noncomputable def kernelRun5_A2 (hc0 : cond5_0 i) (x0 : Vec F S2 .i32) (x1 : Vec F S1 .f32) (x2 x3 x4 : Vec F S1024x256 .bf16) (hn : nlive (word5 i arg2 harg2 x0) = 2#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h2 : cond5_n 2#32 (word5 i arg2 harg2 x0) := (cond5_n_iff _ _).mpr hn
    have h1 : ¬cond5_n 1#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 3 live text chunks. -/
noncomputable def kernelRun5_A3 (hc0 : cond5_0 i) (x0 : Vec F S2 .i32) (x1 : Vec F S1 .f32) (x2 x3 x4 : Vec F S1024x256 .bf16) (hn : nlive (word5 i arg2 harg2 x0) = 3#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h3 : cond5_n 3#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 4 live text chunks. -/
noncomputable def kernelRun5_A4 (hc0 : cond5_0 i) (x0 : Vec F S2 .i32) (x1 : Vec F S1 .f32) (x2 x3 x4 : Vec F S1024x256 .bf16) (hn : nlive (word5 i arg2 harg2 x0) = 4#32) :
    Pieces5 c i arg2 harg2 arg3 harg3 arg4 harg4 arg5 harg5 arg6 harg6 arg7 harg7 arg8 harg8 x0 x1 x2 x3 x4 iprop(∃ d, owns (c : Thread nD τ) arg8 fullShare d) := by
  refine ⟨?_, ?_, ?run⟩
  case run =>
    unfold Run5; intro E K
    have h4 : cond5_n 4#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

/-- The run in the branch the text length selects. -/
noncomputable def kernelRun5_A (hc0 : cond5_0 i) (x0 : Vec F S2 .i32) (x1 : Vec F S1 .f32) (x2 x3 x4 : Vec F S1024x256 .bf16) :
    Pieces5 c i arg2 harg2 arg3 harg3 arg4 harg4 arg5 harg5 arg6 harg6 arg7 harg7 arg8 harg8 x0 x1 x2 x3 x4 iprop(∃ d, owns (c : Thread nD τ) arg8 fullShare d) :=
  pick (word5 i arg2 harg2 x0) (kernelRun5_A1 c i arg2 harg2 arg3 harg3 arg4 harg4 arg5 harg5 arg6 harg6 arg7 harg7 arg8 harg8 hc0 x0 x1 x2 x3 x4) (kernelRun5_A2 c i arg2 harg2 arg3 harg3 arg4 harg4 arg5 harg5 arg6 harg6 arg7 harg7 arg8 harg8 hc0 x0 x1 x2 x3 x4) (kernelRun5_A3 c i arg2 harg2 arg3 harg3 arg4 harg4 arg5 harg5 arg6 harg6 arg7 harg7 arg8 harg8 hc0 x0 x1 x2 x3 x4) (kernelRun5_A4 c i arg2 harg2 arg3 harg3 arg4 harg4 arg5 harg5 arg6 harg6 arg7 harg7 arg8 harg8 hc0 x0 x1 x2 x3 x4)

theorem kernelRun5_A_1 (hc0 : cond5_0 i) (x0 : Vec F S2 .i32) (x1 : Vec F S1 .f32) (x2 x3 x4 : Vec F S1024x256 .bf16) (hn : nlive (word5 i arg2 harg2 x0) = 1#32) :
    kernelRun5_A c i arg2 harg2 arg3 harg3 arg4 harg4 arg5 harg5 arg6 harg6 arg7 harg7 arg8 harg8 hc0 x0 x1 x2 x3 x4 = kernelRun5_A1 c i arg2 harg2 arg3 harg3 arg4 harg4 arg5 harg5 arg6 harg6 arg7 harg7 arg8 harg8 hc0 x0 x1 x2 x3 x4 hn := pick_1 _ _ _ _ _ hn
theorem kernelRun5_A_2 (hc0 : cond5_0 i) (x0 : Vec F S2 .i32) (x1 : Vec F S1 .f32) (x2 x3 x4 : Vec F S1024x256 .bf16) (hn : nlive (word5 i arg2 harg2 x0) = 2#32) :
    kernelRun5_A c i arg2 harg2 arg3 harg3 arg4 harg4 arg5 harg5 arg6 harg6 arg7 harg7 arg8 harg8 hc0 x0 x1 x2 x3 x4 = kernelRun5_A2 c i arg2 harg2 arg3 harg3 arg4 harg4 arg5 harg5 arg6 harg6 arg7 harg7 arg8 harg8 hc0 x0 x1 x2 x3 x4 hn := pick_2 _ _ _ _ _ hn
theorem kernelRun5_A_3 (hc0 : cond5_0 i) (x0 : Vec F S2 .i32) (x1 : Vec F S1 .f32) (x2 x3 x4 : Vec F S1024x256 .bf16) (hn : nlive (word5 i arg2 harg2 x0) = 3#32) :
    kernelRun5_A c i arg2 harg2 arg3 harg3 arg4 harg4 arg5 harg5 arg6 harg6 arg7 harg7 arg8 harg8 hc0 x0 x1 x2 x3 x4 = kernelRun5_A3 c i arg2 harg2 arg3 harg3 arg4 harg4 arg5 harg5 arg6 harg6 arg7 harg7 arg8 harg8 hc0 x0 x1 x2 x3 x4 hn := pick_3 _ _ _ _ _ hn
theorem kernelRun5_A_4 (hc0 : cond5_0 i) (x0 : Vec F S2 .i32) (x1 : Vec F S1 .f32) (x2 x3 x4 : Vec F S1024x256 .bf16) (hn : nlive (word5 i arg2 harg2 x0) = 4#32) :
    kernelRun5_A c i arg2 harg2 arg3 harg3 arg4 harg4 arg5 harg5 arg6 harg6 arg7 harg7 arg8 harg8 hc0 x0 x1 x2 x3 x4 = kernelRun5_A4 c i arg2 harg2 arg3 harg3 arg4 harg4 arg5 harg5 arg6 harg6 arg7 harg7 arg8 harg8 hc0 x0 x1 x2 x3 x4 hn := pick_4 _ _ _ _ _ hn

theorem cover5_A1_5 (hc0 : cond5_0 i) (x0 : Vec F S2 .i32) (x1 : Vec F S1 .f32) (x2 x3 x4 : Vec F S1024x256 .bf16) (hn : nlive (word5 i arg2 harg2 x0) = 1#32) (y : S1024x256.Idx) :
    ∃ pc ∈ (kernelRun5_A1 c i arg2 harg2 arg3 harg3 arg4 harg4 arg5 harg5 arg6 harg6 arg7 harg7 arg8 harg8 hc0 x0 x1 x2 x3 x4 hn).1, y ∈ pc.1.set :=
  View.cover_of_tiledL (kernelRun5_A1 c i arg2 harg2 arg3 harg3 arg4 harg4 arg5 harg5 arg6 harg6 arg7 harg7 arg8 harg8 hc0 x0 x1 x2 x3 x4 hn).1 S256x128.size (by sl_kernel_rfl) y
theorem cover5_A2_5 (hc0 : cond5_0 i) (x0 : Vec F S2 .i32) (x1 : Vec F S1 .f32) (x2 x3 x4 : Vec F S1024x256 .bf16) (hn : nlive (word5 i arg2 harg2 x0) = 2#32) (y : S1024x256.Idx) :
    ∃ pc ∈ (kernelRun5_A2 c i arg2 harg2 arg3 harg3 arg4 harg4 arg5 harg5 arg6 harg6 arg7 harg7 arg8 harg8 hc0 x0 x1 x2 x3 x4 hn).1, y ∈ pc.1.set :=
  View.cover_of_tiledL (kernelRun5_A2 c i arg2 harg2 arg3 harg3 arg4 harg4 arg5 harg5 arg6 harg6 arg7 harg7 arg8 harg8 hc0 x0 x1 x2 x3 x4 hn).1 S256x128.size (by sl_kernel_rfl) y
theorem cover5_A3_5 (hc0 : cond5_0 i) (x0 : Vec F S2 .i32) (x1 : Vec F S1 .f32) (x2 x3 x4 : Vec F S1024x256 .bf16) (hn : nlive (word5 i arg2 harg2 x0) = 3#32) (y : S1024x256.Idx) :
    ∃ pc ∈ (kernelRun5_A3 c i arg2 harg2 arg3 harg3 arg4 harg4 arg5 harg5 arg6 harg6 arg7 harg7 arg8 harg8 hc0 x0 x1 x2 x3 x4 hn).1, y ∈ pc.1.set :=
  View.cover_of_tiledL (kernelRun5_A3 c i arg2 harg2 arg3 harg3 arg4 harg4 arg5 harg5 arg6 harg6 arg7 harg7 arg8 harg8 hc0 x0 x1 x2 x3 x4 hn).1 S256x128.size (by sl_kernel_rfl) y
theorem cover5_A4_5 (hc0 : cond5_0 i) (x0 : Vec F S2 .i32) (x1 : Vec F S1 .f32) (x2 x3 x4 : Vec F S1024x256 .bf16) (hn : nlive (word5 i arg2 harg2 x0) = 4#32) (y : S1024x256.Idx) :
    ∃ pc ∈ (kernelRun5_A4 c i arg2 harg2 arg3 harg3 arg4 harg4 arg5 harg5 arg6 harg6 arg7 harg7 arg8 harg8 hc0 x0 x1 x2 x3 x4 hn).1, y ∈ pc.1.set :=
  View.cover_of_tiledL (kernelRun5_A4 c i arg2 harg2 arg3 harg3 arg4 harg4 arg5 harg5 arg6 harg6 arg7 harg7 arg8 harg8 hc0 x0 x1 x2 x3 x4 hn).1 S256x128.size (by sl_kernel_rfl) y
/-- The pieces for output 5 cover the block. -/
theorem cover5_A_5 (hc0 : cond5_0 i) (x0 : Vec F S2 .i32) (x1 : Vec F S1 .f32) (x2 x3 x4 : Vec F S1024x256 .bf16) (y : S1024x256.Idx) :
    ∃ pc ∈ (kernelRun5_A c i arg2 harg2 arg3 harg3 arg4 harg4 arg5 harg5 arg6 harg6 arg7 harg7 arg8 harg8 hc0 x0 x1 x2 x3 x4).1, y ∈ pc.1.set := by
  rcases nlive_cases (word5 i arg2 harg2 x0) with h | h | h | h
  · rw [kernelRun5_A_1 c i arg2 harg2 arg3 harg3 arg4 harg4 arg5 harg5 arg6 harg6 arg7 harg7 arg8 harg8 hc0 x0 x1 x2 x3 x4 h]; exact cover5_A1_5 c i arg2 harg2 arg3 harg3 arg4 harg4 arg5 harg5 arg6 harg6 arg7 harg7 arg8 harg8 hc0 x0 x1 x2 x3 x4 h y
  · rw [kernelRun5_A_2 c i arg2 harg2 arg3 harg3 arg4 harg4 arg5 harg5 arg6 harg6 arg7 harg7 arg8 harg8 hc0 x0 x1 x2 x3 x4 h]; exact cover5_A2_5 c i arg2 harg2 arg3 harg3 arg4 harg4 arg5 harg5 arg6 harg6 arg7 harg7 arg8 harg8 hc0 x0 x1 x2 x3 x4 h y
  · rw [kernelRun5_A_3 c i arg2 harg2 arg3 harg3 arg4 harg4 arg5 harg5 arg6 harg6 arg7 harg7 arg8 harg8 hc0 x0 x1 x2 x3 x4 h]; exact cover5_A3_5 c i arg2 harg2 arg3 harg3 arg4 harg4 arg5 harg5 arg6 harg6 arg7 harg7 arg8 harg8 hc0 x0 x1 x2 x3 x4 h y
  · rw [kernelRun5_A_4 c i arg2 harg2 arg3 harg3 arg4 harg4 arg5 harg5 arg6 harg6 arg7 harg7 arg8 harg8 hc0 x0 x1 x2 x3 x4 h]; exact cover5_A4_5 c i arg2 harg2 arg3 harg3 arg4 harg4 arg5 harg5 arg6 harg6 arg7 harg7 arg8 harg8 hc0 x0 x1 x2 x3 x4 h y

/-- What the body leaves in output 5's staging buffer. -/
def out5_A_5 (hc0 : cond5_0 i) (x0 : Vec F S2 .i32) (x1 : Vec F S1 .f32) (x2 x3 x4 : Vec F S1024x256 .bf16) : Vec F S1024x256 .fp8e4m3 :=
  VO5_5.read (Elt F) (VO5_5.writes (Elt F) VO5_5.junk (kernelRun5_A c i arg2 harg2 arg3 harg3 arg4 harg4 arg5 harg5 arg6 harg6 arg7 harg7 arg8 harg8 hc0 x0 x1 x2 x3 x4).1)

theorem cover5_A1_6 (hc0 : cond5_0 i) (x0 : Vec F S2 .i32) (x1 : Vec F S1 .f32) (x2 x3 x4 : Vec F S1024x256 .bf16) (hn : nlive (word5 i arg2 harg2 x0) = 1#32) (y : S8x128.Idx) :
    ∃ pc ∈ (kernelRun5_A1 c i arg2 harg2 arg3 harg3 arg4 harg4 arg5 harg5 arg6 harg6 arg7 harg7 arg8 harg8 hc0 x0 x1 x2 x3 x4 hn).2.1, y ∈ pc.1.set :=
  View.cover_of_tiledL (kernelRun5_A1 c i arg2 harg2 arg3 harg3 arg4 harg4 arg5 harg5 arg6 harg6 arg7 harg7 arg8 harg8 hc0 x0 x1 x2 x3 x4 hn).2.1 S8x128.size (by sl_kernel_rfl) y
theorem cover5_A2_6 (hc0 : cond5_0 i) (x0 : Vec F S2 .i32) (x1 : Vec F S1 .f32) (x2 x3 x4 : Vec F S1024x256 .bf16) (hn : nlive (word5 i arg2 harg2 x0) = 2#32) (y : S8x128.Idx) :
    ∃ pc ∈ (kernelRun5_A2 c i arg2 harg2 arg3 harg3 arg4 harg4 arg5 harg5 arg6 harg6 arg7 harg7 arg8 harg8 hc0 x0 x1 x2 x3 x4 hn).2.1, y ∈ pc.1.set :=
  View.cover_of_tiledL (kernelRun5_A2 c i arg2 harg2 arg3 harg3 arg4 harg4 arg5 harg5 arg6 harg6 arg7 harg7 arg8 harg8 hc0 x0 x1 x2 x3 x4 hn).2.1 S8x128.size (by sl_kernel_rfl) y
theorem cover5_A3_6 (hc0 : cond5_0 i) (x0 : Vec F S2 .i32) (x1 : Vec F S1 .f32) (x2 x3 x4 : Vec F S1024x256 .bf16) (hn : nlive (word5 i arg2 harg2 x0) = 3#32) (y : S8x128.Idx) :
    ∃ pc ∈ (kernelRun5_A3 c i arg2 harg2 arg3 harg3 arg4 harg4 arg5 harg5 arg6 harg6 arg7 harg7 arg8 harg8 hc0 x0 x1 x2 x3 x4 hn).2.1, y ∈ pc.1.set :=
  View.cover_of_tiledL (kernelRun5_A3 c i arg2 harg2 arg3 harg3 arg4 harg4 arg5 harg5 arg6 harg6 arg7 harg7 arg8 harg8 hc0 x0 x1 x2 x3 x4 hn).2.1 S8x128.size (by sl_kernel_rfl) y
theorem cover5_A4_6 (hc0 : cond5_0 i) (x0 : Vec F S2 .i32) (x1 : Vec F S1 .f32) (x2 x3 x4 : Vec F S1024x256 .bf16) (hn : nlive (word5 i arg2 harg2 x0) = 4#32) (y : S8x128.Idx) :
    ∃ pc ∈ (kernelRun5_A4 c i arg2 harg2 arg3 harg3 arg4 harg4 arg5 harg5 arg6 harg6 arg7 harg7 arg8 harg8 hc0 x0 x1 x2 x3 x4 hn).2.1, y ∈ pc.1.set :=
  View.cover_of_tiledL (kernelRun5_A4 c i arg2 harg2 arg3 harg3 arg4 harg4 arg5 harg5 arg6 harg6 arg7 harg7 arg8 harg8 hc0 x0 x1 x2 x3 x4 hn).2.1 S8x128.size (by sl_kernel_rfl) y
/-- The pieces for output 6 cover the block. -/
theorem cover5_A_6 (hc0 : cond5_0 i) (x0 : Vec F S2 .i32) (x1 : Vec F S1 .f32) (x2 x3 x4 : Vec F S1024x256 .bf16) (y : S8x128.Idx) :
    ∃ pc ∈ (kernelRun5_A c i arg2 harg2 arg3 harg3 arg4 harg4 arg5 harg5 arg6 harg6 arg7 harg7 arg8 harg8 hc0 x0 x1 x2 x3 x4).2.1, y ∈ pc.1.set := by
  rcases nlive_cases (word5 i arg2 harg2 x0) with h | h | h | h
  · rw [kernelRun5_A_1 c i arg2 harg2 arg3 harg3 arg4 harg4 arg5 harg5 arg6 harg6 arg7 harg7 arg8 harg8 hc0 x0 x1 x2 x3 x4 h]; exact cover5_A1_6 c i arg2 harg2 arg3 harg3 arg4 harg4 arg5 harg5 arg6 harg6 arg7 harg7 arg8 harg8 hc0 x0 x1 x2 x3 x4 h y
  · rw [kernelRun5_A_2 c i arg2 harg2 arg3 harg3 arg4 harg4 arg5 harg5 arg6 harg6 arg7 harg7 arg8 harg8 hc0 x0 x1 x2 x3 x4 h]; exact cover5_A2_6 c i arg2 harg2 arg3 harg3 arg4 harg4 arg5 harg5 arg6 harg6 arg7 harg7 arg8 harg8 hc0 x0 x1 x2 x3 x4 h y
  · rw [kernelRun5_A_3 c i arg2 harg2 arg3 harg3 arg4 harg4 arg5 harg5 arg6 harg6 arg7 harg7 arg8 harg8 hc0 x0 x1 x2 x3 x4 h]; exact cover5_A3_6 c i arg2 harg2 arg3 harg3 arg4 harg4 arg5 harg5 arg6 harg6 arg7 harg7 arg8 harg8 hc0 x0 x1 x2 x3 x4 h y
  · rw [kernelRun5_A_4 c i arg2 harg2 arg3 harg3 arg4 harg4 arg5 harg5 arg6 harg6 arg7 harg7 arg8 harg8 hc0 x0 x1 x2 x3 x4 h]; exact cover5_A4_6 c i arg2 harg2 arg3 harg3 arg4 harg4 arg5 harg5 arg6 harg6 arg7 harg7 arg8 harg8 hc0 x0 x1 x2 x3 x4 h y

/-- What the body leaves in output 6's staging buffer. -/
def out5_A_6 (hc0 : cond5_0 i) (x0 : Vec F S2 .i32) (x1 : Vec F S1 .f32) (x2 x3 x4 : Vec F S1024x256 .bf16) : Vec F S8x128 .f32 :=
  VO5_6.read (Elt F) (VO5_6.writes (Elt F) VO5_6.junk (kernelRun5_A c i arg2 harg2 arg3 harg3 arg4 harg4 arg5 harg5 arg6 harg6 arg7 harg7 arg8 harg8 hc0 x0 x1 x2 x3 x4).2.1)

end Body

end Cert.KernelIdeal.Run

end
-- ==== Proof.IdealRun.AttnB.lean ====
/- The body of `attention` run in each of its four branches at a later grid point, where the running maximum is carried over. -/
module

public import proofs.«01_k».proof.Proof.IdealRun.Attn

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body
variable (c : Dev nD) (i : grid5.Coords) (arg2 : Memref sig .tc .smem S2 .i32) (harg2 : arg2.IsWhole) (arg3 : Memref sig .tc .smem S1 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .fp8e4m3) (harg7 : arg7.IsWhole) (arg8 : Memref sig .tc .vmem S8x128 .f32) (harg8 : arg8.IsWhole)

set_option maxHeartbeats 2000000 in
/-- The run with 1 live text chunk. -/
noncomputable def kernelRun5_B1 (hc0 : ¬cond5_0 i) (x0 : Vec F S2 .i32) (x1 : Vec F S1 .f32) (x2 x3 x4 : Vec F S1024x256 .bf16) (xo6 : Vec F S8x128 .f32) (hn : nlive (word5 i arg2 harg2 x0) = 1#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h1 : cond5_n 1#32 (word5 i arg2 harg2 x0) := (cond5_n_iff _ _).mpr hn
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 2 live text chunks. -/
noncomputable def kernelRun5_B2 (hc0 : ¬cond5_0 i) (x0 : Vec F S2 .i32) (x1 : Vec F S1 .f32) (x2 x3 x4 : Vec F S1024x256 .bf16) (xo6 : Vec F S8x128 .f32) (hn : nlive (word5 i arg2 harg2 x0) = 2#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h2 : cond5_n 2#32 (word5 i arg2 harg2 x0) := (cond5_n_iff _ _).mpr hn
    have h1 : ¬cond5_n 1#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 3 live text chunks. -/
noncomputable def kernelRun5_B3 (hc0 : ¬cond5_0 i) (x0 : Vec F S2 .i32) (x1 : Vec F S1 .f32) (x2 x3 x4 : Vec F S1024x256 .bf16) (xo6 : Vec F S8x128 .f32) (hn : nlive (word5 i arg2 harg2 x0) = 3#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h3 : cond5_n 3#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h4 : ¬cond5_n 4#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 2000000 in
/-- The run with 4 live text chunks. -/
noncomputable def kernelRun5_B4 (hc0 : ¬cond5_0 i) (x0 : Vec F S2 .i32) (x1 : Vec F S1 .f32) (x2 x3 x4 : Vec F S1024x256 .bf16) (xo6 : Vec F S8x128 .f32) (hn : nlive (word5 i arg2 harg2 x0) = 4#32) :
    Pieces5 c i arg2 harg2 arg3 harg3 arg4 harg4 arg5 harg5 arg6 harg6 arg7 harg7 arg8 harg8 x0 x1 x2 x3 x4 iprop(owns (c : Thread nD τ) arg8 fullShare xo6) := by
  refine ⟨?_, ?_, ?run⟩
  case run =>
    unfold Run5; intro E K
    have h4 : cond5_n 4#32 (word5 i arg2 harg2 x0) := (cond5_n_iff _ _).mpr hn
    have h1 : ¬cond5_n 1#32 (word5 i arg2 harg2 x0) := fun h => absurd (hn.symm.trans ((cond5_n_iff _ _).mp h)) (by decide)
    have h2 : ¬cond5_n 2#32 (word5 i arg2 harg2 x0) := fun h => absurd (hn.symm.trans ((cond5_n_iff _ _).mp h)) (by decide)
    have h3 : ¬cond5_n 3#32 (word5 i arg2 harg2 x0) := fun h => absurd (hn.symm.trans ((cond5_n_iff _ _).mp h)) (by decide)
    simp only [cc5_attention_eq_skeleton]; unfold cc5_attention_skel
    simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton, k5_part11_eq_skeleton, k5_part12_eq_skeleton, k5_part13_eq_skeleton, k5_part14_eq_skeleton, k5_part15_eq_skeleton, k5_part16_eq_skeleton, k5_part17_eq_skeleton, k5_part18_eq_skeleton, k5_part19_eq_skeleton, k5_part20_eq_skeleton, k5_part21_eq_skeleton, k5_part22_eq_skeleton, k5_part23_eq_skeleton, k5_part24_eq_skeleton, k5_part25_eq_skeleton, k5_part26_eq_skeleton, k5_part27_eq_skeleton, k5_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

/-- The run in the branch the text length selects. -/
noncomputable def kernelRun5_B (hc0 : ¬cond5_0 i) (x0 : Vec F S2 .i32) (x1 : Vec F S1 .f32) (x2 x3 x4 : Vec F S1024x256 .bf16) (xo6 : Vec F S8x128 .f32) :
    Pieces5 c i arg2 harg2 arg3 harg3 arg4 harg4 arg5 harg5 arg6 harg6 arg7 harg7 arg8 harg8 x0 x1 x2 x3 x4 iprop(owns (c : Thread nD τ) arg8 fullShare xo6) :=
  pick (word5 i arg2 harg2 x0) (kernelRun5_B1 c i arg2 harg2 arg3 harg3 arg4 harg4 arg5 harg5 arg6 harg6 arg7 harg7 arg8 harg8 hc0 x0 x1 x2 x3 x4 xo6) (kernelRun5_B2 c i arg2 harg2 arg3 harg3 arg4 harg4 arg5 harg5 arg6 harg6 arg7 harg7 arg8 harg8 hc0 x0 x1 x2 x3 x4 xo6) (kernelRun5_B3 c i arg2 harg2 arg3 harg3 arg4 harg4 arg5 harg5 arg6 harg6 arg7 harg7 arg8 harg8 hc0 x0 x1 x2 x3 x4 xo6) (kernelRun5_B4 c i arg2 harg2 arg3 harg3 arg4 harg4 arg5 harg5 arg6 harg6 arg7 harg7 arg8 harg8 hc0 x0 x1 x2 x3 x4 xo6)

theorem kernelRun5_B_1 (hc0 : ¬cond5_0 i) (x0 : Vec F S2 .i32) (x1 : Vec F S1 .f32) (x2 x3 x4 : Vec F S1024x256 .bf16) (xo6 : Vec F S8x128 .f32) (hn : nlive (word5 i arg2 harg2 x0) = 1#32) :
    kernelRun5_B c i arg2 harg2 arg3 harg3 arg4 harg4 arg5 harg5 arg6 harg6 arg7 harg7 arg8 harg8 hc0 x0 x1 x2 x3 x4 xo6 = kernelRun5_B1 c i arg2 harg2 arg3 harg3 arg4 harg4 arg5 harg5 arg6 harg6 arg7 harg7 arg8 harg8 hc0 x0 x1 x2 x3 x4 xo6 hn := pick_1 _ _ _ _ _ hn
theorem kernelRun5_B_2 (hc0 : ¬cond5_0 i) (x0 : Vec F S2 .i32) (x1 : Vec F S1 .f32) (x2 x3 x4 : Vec F S1024x256 .bf16) (xo6 : Vec F S8x128 .f32) (hn : nlive (word5 i arg2 harg2 x0) = 2#32) :
    kernelRun5_B c i arg2 harg2 arg3 harg3 arg4 harg4 arg5 harg5 arg6 harg6 arg7 harg7 arg8 harg8 hc0 x0 x1 x2 x3 x4 xo6 = kernelRun5_B2 c i arg2 harg2 arg3 harg3 arg4 harg4 arg5 harg5 arg6 harg6 arg7 harg7 arg8 harg8 hc0 x0 x1 x2 x3 x4 xo6 hn := pick_2 _ _ _ _ _ hn
theorem kernelRun5_B_3 (hc0 : ¬cond5_0 i) (x0 : Vec F S2 .i32) (x1 : Vec F S1 .f32) (x2 x3 x4 : Vec F S1024x256 .bf16) (xo6 : Vec F S8x128 .f32) (hn : nlive (word5 i arg2 harg2 x0) = 3#32) :
    kernelRun5_B c i arg2 harg2 arg3 harg3 arg4 harg4 arg5 harg5 arg6 harg6 arg7 harg7 arg8 harg8 hc0 x0 x1 x2 x3 x4 xo6 = kernelRun5_B3 c i arg2 harg2 arg3 harg3 arg4 harg4 arg5 harg5 arg6 harg6 arg7 harg7 arg8 harg8 hc0 x0 x1 x2 x3 x4 xo6 hn := pick_3 _ _ _ _ _ hn
theorem kernelRun5_B_4 (hc0 : ¬cond5_0 i) (x0 : Vec F S2 .i32) (x1 : Vec F S1 .f32) (x2 x3 x4 : Vec F S1024x256 .bf16) (xo6 : Vec F S8x128 .f32) (hn : nlive (word5 i arg2 harg2 x0) = 4#32) :
    kernelRun5_B c i arg2 harg2 arg3 harg3 arg4 harg4 arg5 harg5 arg6 harg6 arg7 harg7 arg8 harg8 hc0 x0 x1 x2 x3 x4 xo6 = kernelRun5_B4 c i arg2 harg2 arg3 harg3 arg4 harg4 arg5 harg5 arg6 harg6 arg7 harg7 arg8 harg8 hc0 x0 x1 x2 x3 x4 xo6 hn := pick_4 _ _ _ _ _ hn

theorem cover5_B1_5 (hc0 : ¬cond5_0 i) (x0 : Vec F S2 .i32) (x1 : Vec F S1 .f32) (x2 x3 x4 : Vec F S1024x256 .bf16) (xo6 : Vec F S8x128 .f32) (hn : nlive (word5 i arg2 harg2 x0) = 1#32) (y : S1024x256.Idx) :
    ∃ pc ∈ (kernelRun5_B1 c i arg2 harg2 arg3 harg3 arg4 harg4 arg5 harg5 arg6 harg6 arg7 harg7 arg8 harg8 hc0 x0 x1 x2 x3 x4 xo6 hn).1, y ∈ pc.1.set :=
  View.cover_of_tiledL (kernelRun5_B1 c i arg2 harg2 arg3 harg3 arg4 harg4 arg5 harg5 arg6 harg6 arg7 harg7 arg8 harg8 hc0 x0 x1 x2 x3 x4 xo6 hn).1 S256x128.size (by sl_kernel_rfl) y
theorem cover5_B2_5 (hc0 : ¬cond5_0 i) (x0 : Vec F S2 .i32) (x1 : Vec F S1 .f32) (x2 x3 x4 : Vec F S1024x256 .bf16) (xo6 : Vec F S8x128 .f32) (hn : nlive (word5 i arg2 harg2 x0) = 2#32) (y : S1024x256.Idx) :
    ∃ pc ∈ (kernelRun5_B2 c i arg2 harg2 arg3 harg3 arg4 harg4 arg5 harg5 arg6 harg6 arg7 harg7 arg8 harg8 hc0 x0 x1 x2 x3 x4 xo6 hn).1, y ∈ pc.1.set :=
  View.cover_of_tiledL (kernelRun5_B2 c i arg2 harg2 arg3 harg3 arg4 harg4 arg5 harg5 arg6 harg6 arg7 harg7 arg8 harg8 hc0 x0 x1 x2 x3 x4 xo6 hn).1 S256x128.size (by sl_kernel_rfl) y
theorem cover5_B3_5 (hc0 : ¬cond5_0 i) (x0 : Vec F S2 .i32) (x1 : Vec F S1 .f32) (x2 x3 x4 : Vec F S1024x256 .bf16) (xo6 : Vec F S8x128 .f32) (hn : nlive (word5 i arg2 harg2 x0) = 3#32) (y : S1024x256.Idx) :
    ∃ pc ∈ (kernelRun5_B3 c i arg2 harg2 arg3 harg3 arg4 harg4 arg5 harg5 arg6 harg6 arg7 harg7 arg8 harg8 hc0 x0 x1 x2 x3 x4 xo6 hn).1, y ∈ pc.1.set :=
  View.cover_of_tiledL (kernelRun5_B3 c i arg2 harg2 arg3 harg3 arg4 harg4 arg5 harg5 arg6 harg6 arg7 harg7 arg8 harg8 hc0 x0 x1 x2 x3 x4 xo6 hn).1 S256x128.size (by sl_kernel_rfl) y
theorem cover5_B4_5 (hc0 : ¬cond5_0 i) (x0 : Vec F S2 .i32) (x1 : Vec F S1 .f32) (x2 x3 x4 : Vec F S1024x256 .bf16) (xo6 : Vec F S8x128 .f32) (hn : nlive (word5 i arg2 harg2 x0) = 4#32) (y : S1024x256.Idx) :
    ∃ pc ∈ (kernelRun5_B4 c i arg2 harg2 arg3 harg3 arg4 harg4 arg5 harg5 arg6 harg6 arg7 harg7 arg8 harg8 hc0 x0 x1 x2 x3 x4 xo6 hn).1, y ∈ pc.1.set :=
  View.cover_of_tiledL (kernelRun5_B4 c i arg2 harg2 arg3 harg3 arg4 harg4 arg5 harg5 arg6 harg6 arg7 harg7 arg8 harg8 hc0 x0 x1 x2 x3 x4 xo6 hn).1 S256x128.size (by sl_kernel_rfl) y
/-- The pieces for output 5 cover the block. -/
theorem cover5_B_5 (hc0 : ¬cond5_0 i) (x0 : Vec F S2 .i32) (x1 : Vec F S1 .f32) (x2 x3 x4 : Vec F S1024x256 .bf16) (xo6 : Vec F S8x128 .f32) (y : S1024x256.Idx) :
    ∃ pc ∈ (kernelRun5_B c i arg2 harg2 arg3 harg3 arg4 harg4 arg5 harg5 arg6 harg6 arg7 harg7 arg8 harg8 hc0 x0 x1 x2 x3 x4 xo6).1, y ∈ pc.1.set := by
  rcases nlive_cases (word5 i arg2 harg2 x0) with h | h | h | h
  · rw [kernelRun5_B_1 c i arg2 harg2 arg3 harg3 arg4 harg4 arg5 harg5 arg6 harg6 arg7 harg7 arg8 harg8 hc0 x0 x1 x2 x3 x4 xo6 h]; exact cover5_B1_5 c i arg2 harg2 arg3 harg3 arg4 harg4 arg5 harg5 arg6 harg6 arg7 harg7 arg8 harg8 hc0 x0 x1 x2 x3 x4 xo6 h y
  · rw [kernelRun5_B_2 c i arg2 harg2 arg3 harg3 arg4 harg4 arg5 harg5 arg6 harg6 arg7 harg7 arg8 harg8 hc0 x0 x1 x2 x3 x4 xo6 h]; exact cover5_B2_5 c i arg2 harg2 arg3 harg3 arg4 harg4 arg5 harg5 arg6 harg6 arg7 harg7 arg8 harg8 hc0 x0 x1 x2 x3 x4 xo6 h y
  · rw [kernelRun5_B_3 c i arg2 harg2 arg3 harg3 arg4 harg4 arg5 harg5 arg6 harg6 arg7 harg7 arg8 harg8 hc0 x0 x1 x2 x3 x4 xo6 h]; exact cover5_B3_5 c i arg2 harg2 arg3 harg3 arg4 harg4 arg5 harg5 arg6 harg6 arg7 harg7 arg8 harg8 hc0 x0 x1 x2 x3 x4 xo6 h y
  · rw [kernelRun5_B_4 c i arg2 harg2 arg3 harg3 arg4 harg4 arg5 harg5 arg6 harg6 arg7 harg7 arg8 harg8 hc0 x0 x1 x2 x3 x4 xo6 h]; exact cover5_B4_5 c i arg2 harg2 arg3 harg3 arg4 harg4 arg5 harg5 arg6 harg6 arg7 harg7 arg8 harg8 hc0 x0 x1 x2 x3 x4 xo6 h y

/-- What the body leaves in output 5's staging buffer. -/
def out5_B_5 (hc0 : ¬cond5_0 i) (x0 : Vec F S2 .i32) (x1 : Vec F S1 .f32) (x2 x3 x4 : Vec F S1024x256 .bf16) (xo6 : Vec F S8x128 .f32) : Vec F S1024x256 .fp8e4m3 :=
  VO5_5.read (Elt F) (VO5_5.writes (Elt F) VO5_5.junk (kernelRun5_B c i arg2 harg2 arg3 harg3 arg4 harg4 arg5 harg5 arg6 harg6 arg7 harg7 arg8 harg8 hc0 x0 x1 x2 x3 x4 xo6).1)

theorem cover5_B1_6 (hc0 : ¬cond5_0 i) (x0 : Vec F S2 .i32) (x1 : Vec F S1 .f32) (x2 x3 x4 : Vec F S1024x256 .bf16) (xo6 : Vec F S8x128 .f32) (hn : nlive (word5 i arg2 harg2 x0) = 1#32) (y : S8x128.Idx) :
    ∃ pc ∈ (kernelRun5_B1 c i arg2 harg2 arg3 harg3 arg4 harg4 arg5 harg5 arg6 harg6 arg7 harg7 arg8 harg8 hc0 x0 x1 x2 x3 x4 xo6 hn).2.1, y ∈ pc.1.set :=
  View.cover_of_tiledL (kernelRun5_B1 c i arg2 harg2 arg3 harg3 arg4 harg4 arg5 harg5 arg6 harg6 arg7 harg7 arg8 harg8 hc0 x0 x1 x2 x3 x4 xo6 hn).2.1 S8x128.size (by sl_kernel_rfl) y
theorem cover5_B2_6 (hc0 : ¬cond5_0 i) (x0 : Vec F S2 .i32) (x1 : Vec F S1 .f32) (x2 x3 x4 : Vec F S1024x256 .bf16) (xo6 : Vec F S8x128 .f32) (hn : nlive (word5 i arg2 harg2 x0) = 2#32) (y : S8x128.Idx) :
    ∃ pc ∈ (kernelRun5_B2 c i arg2 harg2 arg3 harg3 arg4 harg4 arg5 harg5 arg6 harg6 arg7 harg7 arg8 harg8 hc0 x0 x1 x2 x3 x4 xo6 hn).2.1, y ∈ pc.1.set :=
  View.cover_of_tiledL (kernelRun5_B2 c i arg2 harg2 arg3 harg3 arg4 harg4 arg5 harg5 arg6 harg6 arg7 harg7 arg8 harg8 hc0 x0 x1 x2 x3 x4 xo6 hn).2.1 S8x128.size (by sl_kernel_rfl) y
theorem cover5_B3_6 (hc0 : ¬cond5_0 i) (x0 : Vec F S2 .i32) (x1 : Vec F S1 .f32) (x2 x3 x4 : Vec F S1024x256 .bf16) (xo6 : Vec F S8x128 .f32) (hn : nlive (word5 i arg2 harg2 x0) = 3#32) (y : S8x128.Idx) :
    ∃ pc ∈ (kernelRun5_B3 c i arg2 harg2 arg3 harg3 arg4 harg4 arg5 harg5 arg6 harg6 arg7 harg7 arg8 harg8 hc0 x0 x1 x2 x3 x4 xo6 hn).2.1, y ∈ pc.1.set :=
  View.cover_of_tiledL (kernelRun5_B3 c i arg2 harg2 arg3 harg3 arg4 harg4 arg5 harg5 arg6 harg6 arg7 harg7 arg8 harg8 hc0 x0 x1 x2 x3 x4 xo6 hn).2.1 S8x128.size (by sl_kernel_rfl) y
theorem cover5_B4_6 (hc0 : ¬cond5_0 i) (x0 : Vec F S2 .i32) (x1 : Vec F S1 .f32) (x2 x3 x4 : Vec F S1024x256 .bf16) (xo6 : Vec F S8x128 .f32) (hn : nlive (word5 i arg2 harg2 x0) = 4#32) (y : S8x128.Idx) :
    ∃ pc ∈ (kernelRun5_B4 c i arg2 harg2 arg3 harg3 arg4 harg4 arg5 harg5 arg6 harg6 arg7 harg7 arg8 harg8 hc0 x0 x1 x2 x3 x4 xo6 hn).2.1, y ∈ pc.1.set :=
  View.cover_of_tiledL (kernelRun5_B4 c i arg2 harg2 arg3 harg3 arg4 harg4 arg5 harg5 arg6 harg6 arg7 harg7 arg8 harg8 hc0 x0 x1 x2 x3 x4 xo6 hn).2.1 S8x128.size (by sl_kernel_rfl) y
/-- The pieces for output 6 cover the block. -/
theorem cover5_B_6 (hc0 : ¬cond5_0 i) (x0 : Vec F S2 .i32) (x1 : Vec F S1 .f32) (x2 x3 x4 : Vec F S1024x256 .bf16) (xo6 : Vec F S8x128 .f32) (y : S8x128.Idx) :
    ∃ pc ∈ (kernelRun5_B c i arg2 harg2 arg3 harg3 arg4 harg4 arg5 harg5 arg6 harg6 arg7 harg7 arg8 harg8 hc0 x0 x1 x2 x3 x4 xo6).2.1, y ∈ pc.1.set := by
  rcases nlive_cases (word5 i arg2 harg2 x0) with h | h | h | h
  · rw [kernelRun5_B_1 c i arg2 harg2 arg3 harg3 arg4 harg4 arg5 harg5 arg6 harg6 arg7 harg7 arg8 harg8 hc0 x0 x1 x2 x3 x4 xo6 h]; exact cover5_B1_6 c i arg2 harg2 arg3 harg3 arg4 harg4 arg5 harg5 arg6 harg6 arg7 harg7 arg8 harg8 hc0 x0 x1 x2 x3 x4 xo6 h y
  · rw [kernelRun5_B_2 c i arg2 harg2 arg3 harg3 arg4 harg4 arg5 harg5 arg6 harg6 arg7 harg7 arg8 harg8 hc0 x0 x1 x2 x3 x4 xo6 h]; exact cover5_B2_6 c i arg2 harg2 arg3 harg3 arg4 harg4 arg5 harg5 arg6 harg6 arg7 harg7 arg8 harg8 hc0 x0 x1 x2 x3 x4 xo6 h y
  · rw [kernelRun5_B_3 c i arg2 harg2 arg3 harg3 arg4 harg4 arg5 harg5 arg6 harg6 arg7 harg7 arg8 harg8 hc0 x0 x1 x2 x3 x4 xo6 h]; exact cover5_B3_6 c i arg2 harg2 arg3 harg3 arg4 harg4 arg5 harg5 arg6 harg6 arg7 harg7 arg8 harg8 hc0 x0 x1 x2 x3 x4 xo6 h y
  · rw [kernelRun5_B_4 c i arg2 harg2 arg3 harg3 arg4 harg4 arg5 harg5 arg6 harg6 arg7 harg7 arg8 harg8 hc0 x0 x1 x2 x3 x4 xo6 h]; exact cover5_B4_6 c i arg2 harg2 arg3 harg3 arg4 harg4 arg5 harg5 arg6 harg6 arg7 harg7 arg8 harg8 hc0 x0 x1 x2 x3 x4 xo6 h y

/-- What the body leaves in output 6's staging buffer. -/
def out5_B_6 (hc0 : ¬cond5_0 i) (x0 : Vec F S2 .i32) (x1 : Vec F S1 .f32) (x2 x3 x4 : Vec F S1024x256 .bf16) (xo6 : Vec F S8x128 .f32) : Vec F S8x128 .f32 :=
  VO5_6.read (Elt F) (VO5_6.writes (Elt F) VO5_6.junk (kernelRun5_B c i arg2 harg2 arg3 harg3 arg4 harg4 arg5 harg5 arg6 harg6 arg7 harg7 arg8 harg8 hc0 x0 x1 x2 x3 x4 xo6).2.1)

end Body

end Cert.KernelIdeal.Run

end
-- ==== Proof.IdealRun.Region5.lean ====
/- The pallas_call `attention` (number 5 of @main) at any contents `V` of the buffers it is entered with: what its body leaves
in each output block at a grid point (`outsAt5`), the pipeline's proof data (`dat5`) and the body's triple. -/
module

public import proofs.«01_k».proof.Proof.IdealRun.AttnA
public import proofs.«01_k».proof.Proof.IdealRun.AttnB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun5_A kernelRun5_B

section Regions
variable (V : (c : Dev nD) → (b : Ref sig .tc) → Buf (Elt F) ((c : Thread nD τ).loc b))

/-- THE ACCUMULATION. What the outputs' staging buffers hold after the body at position `n` (a tuple, in window order). -/
def outsAt5 (c : Dev nD) : (n : ℕ) → n < cfg5.N → Vec F S1024x256 .fp8e4m3 × Vec F S8x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 24 = 0 then
      (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at a point of case A: that case's contents. -/
theorem outsAt5_A (c : Dev nD) (t : Fin cfg5.N) (h0 : t.val % 24 = 0) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 24 = 0) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2
  Φ _ := Pipeline.ΦA spec5 c
  q _ := fullShare
  owed _ := 0

/-- The proof data's arrays are the region-entry contents, by projecting the definition (`dsimp`). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
/-- At a point of case B output 6's current staging buffer holds what the body left at the point before. -/
theorem before5_6_B (c : Dev nD) (t : Fin cfg5.N) (h0 : ¬t.val % 24 = 0) (d) :
    (dat5 V c).before 6 t d = (outsAt5 V c (t.val - 1) (Nat.lt_of_le_of_lt (Nat.sub_le _ _) t.isLt)).2 := by
  have hN : t.val < 24 := lt_of_lt_of_eq t.isLt (show cfg5.N = 24 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation, at a generic point -/

/-- What the body is called with at point `t` (Lib/Pipeline.lean `BodyObligation`'s precondition, the windows one by one). -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t))

set_option maxHeartbeats 800000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  have hN : t.val < 24 := lt_of_lt_of_eq t.isLt (show cfg5.N = 24 from N_5)
  by_cases h0 : t.val % 24 = 0
  · rw [outsAt5_A V c t h0]
    unfold out5_A_5 out5_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun5_A c (grid5.coords t) _ _ _ _ _ _ _ _ _ _ _ _ _ _ ((hcond5_0 t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_A_5 c _ _ _ _ _ _ _ _ _ _ _ _ _ _ _ _ _ _ _ _ _)
    unfold owns; iexists _; isplitr
    swap; · iexact H6
    ipureintro; exact View.read_writes_of_cover _ _ _ _ _ (cover5_A_6 c _ _ _ _ _ _ _ _ _ _ _ _ _ _ _ _ _ _ _ _ _)
  · rw [outsAt5_B V c t h0]
    simp only [before5_6_B V c t h0]
    unfold out5_B_5 out5_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun5_B c (grid5.coords t) _ _ _ _ _ _ _ _ _ _ _ _ _ _ (fun h => h0 ((hcond5_0 t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_B_5 c _ _ _ _ _ _ _ _ _ _ _ _ _ _ _ _ _ _ _ _ _ _)
    unfold owns; iexists _; isplitr
    swap; · iexact H6
    ipureintro; exact View.read_writes_of_cover _ _ _ _ _ (cover5_B_6 c _ _ _ _ _ _ _ _ _ _ _ _ _ _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Run

end
-- ==== Proof.IdealRun.Region6.lean ====
/- The pallas_call `lin2` (number 6 of @main) at any contents `V` of the buffers it is entered with: what its body leaves
in each output block at a grid point (`outsAt6`), the pipeline's proof data (`dat6`) and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
/-- Input window 8's current staging buffer holds its block at every point, fetched there or not. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
/-- Input window 9's current staging buffer holds its block at every point, fetched there or not. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The kernel body on any staging memrefs: a subtype the run finds -/

section Body
variable (c : Dev nD) (i : grid6.Coords) (arg2 : Memref sig .tc .smem S1 .f32) (harg2 : arg2.IsWhole) (arg3 : Memref sig .tc .smem S1 .f32) (harg3 : arg3.IsWhole) (arg4 : Memref sig .tc .vmem S512x3072 .fp8e4m3) (harg4 : arg4.IsWhole) (arg5 : Memref sig .tc .vmem S512x12288 .fp8e4m3) (harg5 : arg5.IsWhole) (arg6 : Memref sig .tc .vmem S3072x512 .fp8e4m3) (harg6 : arg6.IsWhole) (arg7 : Memref sig .tc .vmem S12288x512 .fp8e4m3) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x1x512 .f32) (harg11 : arg11.IsWhole) (arg12 : Memref sig .tc .vmem S512x512 .bf16) (harg12 : arg12.IsWhole)

/-- One staging buffer of output window 10, through which its contents are stated (`View.read_writes_of_cover`). -/
abbrev VO6_10 : View sig .tc .vmem S512x512 .bf16 := (Memref.whole cc6_stg10_0 : Memref sig .tc .vmem S512x512 .bf16).view
/-- Each window's current staging memref at point `t`, spelled as the pipeline passes it (`bodyAt6`), and its wholeness. -/
abbrev ms6_0 (t : Fin cfg6.N) : Memref sig .tc .smem S1 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .smem S1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x3072 .fp8e4m3 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x12288 .fp8e4m3 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S3072x512 .fp8e4m3 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S12288x512 .fp8e4m3 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x512 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S512x512 .bf16 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1x512 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S512x512 .bf16 := win6_10.stage (cfg6.slots t 10)
abbrev hs6_10 (t : Fin cfg6.N) : (ms6_10 t).IsWhole := hstage6_10 ((cfg6.slots t 10).cast nbuf6_10)
set_option maxHeartbeats 1000000 in
/-- What the body's stores leave in each output's staging memref, as pieces (last first). -/
noncomputable def kernelRun6_A
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) :
    { L10 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10)) -∗ K ⟨⟩))
          ⊢ wp frame (wpE (defs₀ (F := F)) Variants.none c none) E (cc6_lin2 i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc6_lin2_eq_skeleton]; unfold cc6_lin2_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact H10

/-- The run's pieces for output 10 tile its block (in stores of `S256x512`). -/
theorem cover6_A_10
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) (y : S512x512.Idx) :
    ∃ pc ∈ (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1 S256x512.size (by sl_kernel_rfl) y

/-- What the run leaves in output 10's staging buffer. -/
def out6_A_10
    (x0 : Vec F S1 .f32) (x1 : Vec F S1 .f32) (x2 : Vec F S512x3072 .fp8e4m3) (x3 : Vec F S512x12288 .fp8e4m3) (x4 : Vec F S3072x512 .fp8e4m3) (x5 : Vec F S12288x512 .fp8e4m3) (x6 : Vec F S1x512 .f32) (x7 : Vec F S1x512 .f32) (x8 : Vec F S512x512 .bf16) (x9 : Vec F S1x1x512 .f32) : Vec F S512x512 .bf16 :=
  VO6_10.read (Elt F) (VO6_10.writes (Elt F) VO6_10.junk (kernelRun6_A c i arg2 harg2 arg3 harg3 arg4 harg4 arg5 harg5 arg6 harg6 arg7 harg7 arg8 harg8 arg9 harg9 arg10 harg10 arg11 harg11 arg12 harg12 x0 x1 x2 x3 x4 x5 x6 x7 x8 x9).1)

/-! ## What the outputs hold after each point -/

end Body

/-- What the outputs' staging buffers hold after the body at point `t`. -/
def outsAt6 (c : Dev nD) (t : Fin cfg6.N) : Vec F S512x512 .bf16 :=
  out6_A_10 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)

/-! ## The pipeline's proof data -/

/-- The proof data of pipeline 6 on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => (outsAt6 V c t)
  Φ _ := Pipeline.ΦA spec6 c
  q w := Pipeline.shareOf spec6 w
  owed _ := 0

/-- The proof data's arrays are the region-entry contents, by projecting the definition (`dsimp`). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = (outsAt6 V c t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t` (Lib/Pipeline.lean `BodyObligation`'s precondition, the windows one by one). -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t)
    ∗ owns (c : Thread nD τ) (ms6_9 t) fullShare ((dat6 V c).after 9 t)
    ∗ owns (c : Thread nD τ) (ms6_10 t) fullShare ((dat6 V c).after 10 t))

set_option maxHeartbeats 800000 in
/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  unfold outsAt6
  unfold out6_A_10
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun6_A c (grid6.coords t) _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover6_A_10 c _ _ _ _ _ _ _ _ _ _ _ _ _ _ _ _ _ _ _ _ _ _ _ _ _ _ _ _ _ _ _ _ _)

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Run

end
-- ==== Proof.IdealRun.Hosts0.lean ====
/- The stretches of host operations between the pallas_calls: which buffers each writes, and that none is an argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_v12, main_v13, main_v14, main_v15, main_v16, main_v17, main_v18, main_v19, main_v20, main_v21, main_v22, main_v23, main_v24, main_v25, main_v26]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v28, main_v29, main_v30, main_v31, main_v32, main_v33, main_v34, main_v35, main_v36, main_v37, main_v38, main_v39, main_v40, main_v41, main_v42, main_v43, main_v44, main_v45, main_v46, main_v47]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v49]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked. -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v51, main_v52]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked. -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v54]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked. -/
theorem hostOps5_args : ∀ a ∈ argRefs, a ∉ hostOps5_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v56, main_v57, main_v58, main_v59, main_v60, main_v61]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked. -/
theorem hostOps6_args : ∀ a ∈ argRefs, a ∉ hostOps6_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v63, main_cst_1, main_v64, main_cst_2, main_v65, main_v66, main_v67, main_v68, main_v69, main_v70]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked. -/
theorem hostOps7_args : ∀ a ∈ argRefs, a ∉ hostOps7_W := ListAll.forall_mem_of_all_decide (by decide +kernel)

end Cert.KernelIdeal.Run

end
-- ==== Proof.IdealRun.Fold0.lean ====
/- The contents of every buffer at each boundary of @main (`W0` … `W15`), folded from the launch memory; the arguments stay. -/
module

public import proofs.«01_k».proof.Proof.IdealRun.Region0
public import proofs.«01_k».proof.Proof.IdealRun.Region1
public import proofs.«01_k».proof.Proof.IdealRun.Region2
public import proofs.«01_k».proof.Proof.IdealRun.Region3
public import proofs.«01_k».proof.Proof.IdealRun.Region4
public import proofs.«01_k».proof.Proof.IdealRun.Region5
public import proofs.«01_k».proof.Proof.IdealRun.Region6
public import proofs.«01_k».proof.Proof.IdealRun.Hosts0

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked. -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked. -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked. -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- The same read at the TensorCore's references (what region 5's proof data take). -/
abbrev V11 : (c : Dev nD) → (b : Ref sig .tc) → Buf (Elt F) ((c : Thread nD τ).loc b) := fun c b => W11 m ρ c b
/-- At region 5's exit. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked. -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- A reference `hostOps6` does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h
theorem W13_args (c : Dev nD) : ∀ a ∈ argRefs, W13 m ρ c (Proc.devRef .tc a) = m ((c : Thread nD τ).loc a) :=
  fun a ha => (W13_of m ρ c a (hostOps6_args a ha)).trans (W12_args m ρ c a ha)
/-- The same read at the TensorCore's references (what region 6's proof data take). -/
abbrev V13 : (c : Dev nD) → (b : Ref sig .tc) → Buf (Elt F) ((c : Thread nD τ).loc b) := fun c b => W13 m ρ c b
/-- At region 6's exit. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact (dat6 (V13 m ρ) c).withArrays_arrAt launch₀6.sharedIn _ (A_eq6 (V13 m ρ) c) w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- A reference that is none of region 6's OUTPUT arrays keeps its entry contents across it. -/
theorem W14_of (c : Dev nD) (r : Ref sig .tc) (h : ∀ w : Fin cfg6.W, Pipeline.arrRef spec6 w = r → (cfg6.win w).isOut = false) :
    W14 m ρ c (Proc.devRef .tc r) = W13 m ρ c (Proc.devRef .tc r) := by
  by_cases hw : ∃ w : Fin cfg6.W, Pipeline.arrRef spec6 w = r
  · obtain ⟨w, rfl⟩ := hw
    exact (W14_arr m ρ c w).trans (((dat6 (V13 m ρ) c).arrAt_in w (h w rfl) _).trans (A_eq6 (V13 m ρ) c w))
  · exact W14_of_ne m ρ c r fun w e => hw ⟨w, e⟩
/-- Every argument among region 6's arrays is an input window's (checked. -/
theorem argsIn6 : ∀ a ∈ argRefs, ∀ w : Fin cfg6.W, Pipeline.arrRef spec6 w = a → (cfg6.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn6 a ha)).trans (W13_args m ρ c a ha)
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves (`hF6`) and every other buffer what it held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`. -/
abbrev W15 : Dev nD → Valuation τ sig (Elt F) := fun c => StableHlo.after hostOps7 (W14 m ρ c)
/-- A reference `hostOps7` does not write keeps its contents across it. -/
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h
theorem W15_args (c : Dev nD) : ∀ a ∈ argRefs, W15 m ρ c (Proc.devRef .tc a) = m ((c : Thread nD τ).loc a) :=
  fun a ha => (W15_of m ρ c a (hostOps7_args a ha)).trans (W14_args m ρ c a ha)

/-! ### The arguments end as launched: no host stretch writes one and no region may change one (a region reads it
    through an input window or bypasses it) -/

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)
theorem W15_main_arg12 (c : Dev nD) : W15 m ρ c (Proc.devRef .tc main_arg12) = m ((c : Thread nD τ).loc main_arg12) :=
  W15_args m ρ c main_arg12 (by decide)
theorem W15_main_arg13 (c : Dev nD) : W15 m ρ c (Proc.devRef .tc main_arg13) = m ((c : Thread nD τ).loc main_arg13) :=
  W15_args m ρ c main_arg13 (by decide)
theorem W15_main_arg14 (c : Dev nD) : W15 m ρ c (Proc.devRef .tc main_arg14) = m ((c : Thread nD τ).loc main_arg14) :=
  W15_args m ρ c main_arg14 (by decide)
theorem W15_main_arg15 (c : Dev nD) : W15 m ρ c (Proc.devRef .tc main_arg15) = m ((c : Thread nD τ).loc main_arg15) :=
  W15_args m ρ c main_arg15 (by decide)
theorem W15_main_arg16 (c : Dev nD) : W15 m ρ c (Proc.devRef .tc main_arg16) = m ((c : Thread nD τ).loc main_arg16) :=
  W15_args m ρ c main_arg16 (by decide)
theorem W15_main_arg17 (c : Dev nD) : W15 m ρ c (Proc.devRef .tc main_arg17) = m ((c : Thread nD τ).loc main_arg17) :=
  W15_args m ρ c main_arg17 (by decide)
end Cert.KernelIdeal.Run

end
-- ==== Proof.IdealRun.State.lean ====
/- The proof data of all pipelines at their entry contents, and the thread state between two segments of @main. -/
module

public import proofs.«01_k».proof.Proof.IdealRun.Fold0

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents. -/
abbrev adm : (p : Fin 7) → (pcfgs (F := F) p).Adm := fun p => (cfgs p).toPCfg_adm
/-- Every pipeline's proof data, each at its region's entry contents — a literal `match`, so that the kit's `Pipeline.pin pcfgs adm p` at a numeral reduces to the printed configuration. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W15 m ρ c) ∗ ∃ r, prngReg c r)

end Cert.KernelIdeal.Run

end
-- ==== Proof.IdealRun.Record0.lean ====
/- The pallas_call `ln_quant` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/
set_option backward.isDefEq.respectTransparency.types false in
/-- REGION 0 (custom_call 0) over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record1.lean ====
/- The pallas_call `lin1_q` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 1 (custom_call 1) over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record2.lean ====
/- The pallas_call `lin1_k` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 2 (custom_call 2) over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record3.lean ====
/- The pallas_call `lin1_v` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 3 (custom_call 3) over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record4.lean ====
/- The pallas_call `lin1_mlp` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 4 (custom_call 4) over the thread state. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record5.lean ====
/- The pallas_call `attention` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 5 (custom_call 5) over the thread state. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Record6.lean ====
/- The pallas_call `lin2` as one segment of @main: entered with the contents `W` of the boundary before it, left with the next. -/
module

public import proofs.«01_k».proof.Proof.IdealRun.State

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 6 (custom_call 6) over the thread state. -/
def reg6 : Pipeline.RegionSeg (pcfgs (F := F)) adm (pdats m ρ) () defs₀ 𝒱₀ L lv 6 where
  win := launch₀6.win
  block_pos := launch₀6.block_pos
  stage_whole := launch₀6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs_shared (p := 6) (pcfgs (F := F)) adm (pdats m ρ) launch₀6.win launch₀6.sharedIn launch₀6.arr_whole c
      (fun _ _ => rfl) (V13 m ρ c) (A_eq6 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays_shared (p := 6) (pcfgs (F := F)) adm (Ix := Unit) (Name := ℕ) (U := UR sig nD τ) (Lvl := ℕ)
      launch₀6.win launch₀6.sharedIn launch₀6.arr_whole c (pdats m ρ) (fun _ _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IdealRun.Frame.lean ====
/- @main run segment by segment: every buffer ends with the contents `W15`, every semaphore at zero; hence the frame claim. -/
module

public import proofs.«01_k».proof.Proof.IdealRun.Record0
public import proofs.«01_k».proof.Proof.IdealRun.Record1
public import proofs.«01_k».proof.Proof.IdealRun.Record2
public import proofs.«01_k».proof.Proof.IdealRun.Record3
public import proofs.«01_k».proof.Proof.IdealRun.Record4
public import proofs.«01_k».proof.Proof.IdealRun.Record5
public import proofs.«01_k».proof.Proof.IdealRun.Record6

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
set_option backward.isDefEq.respectTransparency.types false in
/-- THE RUN: on every schedule @main ends with each buffer at `W15` — the fold of its segments over the launch memory — and every
    semaphore counter at zero. -/
theorem run : θ_run defs (onTc (τ := τ) (main (F := F))) ⟨m, fun _ => 0, ρ⟩ (fun r =>
    (∀ (c : Dev nD), ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The frame claim: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(h.1 c _ (mem_uc main_arg0 (by decide))).trans (W15_main_arg0 m ρ c),
    (h.1 c _ (mem_uc main_arg1 (by decide))).trans (W15_main_arg1 m ρ c),
    (h.1 c _ (mem_uc main_arg2 (by decide))).trans (W15_main_arg2 m ρ c),
    (h.1 c _ (mem_uc main_arg3 (by decide))).trans (W15_main_arg3 m ρ c),
    (h.1 c _ (mem_uc main_arg4 (by decide))).trans (W15_main_arg4 m ρ c),
    (h.1 c _ (mem_uc main_arg5 (by decide))).trans (W15_main_arg5 m ρ c),
    (h.1 c _ (mem_uc main_arg6 (by decide))).trans (W15_main_arg6 m ρ c),
    (h.1 c _ (mem_uc main_arg7 (by decide))).trans (W15_main_arg7 m ρ c),
    (h.1 c _ (mem_uc main_arg8 (by decide))).trans (W15_main_arg8 m ρ c),
    (h.1 c _ (mem_uc main_arg9 (by decide))).trans (W15_main_arg9 m ρ c),
    (h.1 c _ (mem_uc main_arg10 (by decide))).trans (W15_main_arg10 m ρ c),
    (h.1 c _ (mem_uc main_arg11 (by decide))).trans (W15_main_arg11 m ρ c),
    (h.1 c _ (mem_uc main_arg12 (by decide))).trans (W15_main_arg12 m ρ c),
    (h.1 c _ (mem_uc main_arg13 (by decide))).trans (W15_main_arg13 m ρ c),
    (h.1 c _ (mem_uc main_arg14 (by decide))).trans (W15_main_arg14 m ρ c),
    (h.1 c _ (mem_uc main_arg15 (by decide))).trans (W15_main_arg15 m ρ c),
    (h.1 c _ (mem_uc main_arg16 (by decide))).trans (W15_main_arg16 m ρ c),
    (h.1 c _ (mem_uc main_arg17 (by decide))).trans (W15_main_arg17 m ρ c)⟩, h.2⟩) (run m ρ)

end Cert.KernelIdeal.Run

end
-- ==== Proof.Value.Scalar.lean ====
/- Facts about single extended reals: the root of a mean square plus a positive epsilon is positive, so that multiplying by its
   reciprocal (or by the reciprocal root) is dividing by it. -/
module

public import Idealize.ShloMosaic.Lib.Pointwise
public import Idealize.ShloMosaic.Lib.IdealHost

@[expose] public section

noncomputable section

namespace Cert.Scalar

open Idealize.ShloMosaic

/-- A square is never negative. -/
theorem mul_self_nonneg (a : EReal) : 0 ≤ a * a := by
  rcases le_total 0 a with h | h
  · exact mul_nonneg h h
  · rw [← neg_mul_neg]; exact mul_nonneg (EReal.neg_nonneg.mpr h) (EReal.neg_nonneg.mpr h)

theorem sqrt_coe {r : ℝ} (hr : 0 < r) : Ideal.sqrt (r : EReal) = (Real.sqrt r : ℝ) :=
  (show Ideal.sqrt (r : EReal) = if r < 0 then ⊥ else (Real.sqrt r : EReal) from rfl).trans (if_neg (not_lt.mpr hr.le))

theorem rsqrt_coe {r : ℝ} (hr : 0 < r) : Ideal.rsqrt (r : EReal) = ((Real.sqrt r)⁻¹ : ℝ) :=
  (show Ideal.rsqrt (r : EReal) = if r < 0 then ⊥ else if r = 0 then ⊤ else (((Real.sqrt r)⁻¹ : ℝ) : EReal) from rfl).trans
    ((if_neg (not_lt.mpr hr.le)).trans (if_neg hr.ne'))

/-- The root of a positive number is positive. -/
theorem sqrt_pos {w : EReal} (h : 0 < w) : 0 < Ideal.sqrt w := by
  induction w using EReal.rec with
  | bot => exact absurd h (by simp)
  | top => exact EReal.zero_lt_top
  | coe r =>
    have hr : 0 < r := by exact_mod_cast h
    rw [sqrt_coe hr]
    exact_mod_cast Real.sqrt_pos.mpr hr

/-- Multiplying by the reciprocal root of a positive number is dividing by its root. -/
theorem mul_rsqrt {x w : EReal} (h : 0 < w) : x * Ideal.rsqrt w = Ideal.div x (Ideal.sqrt w) := by
  have hs := (sqrt_pos h).ne'
  unfold Ideal.div; rw [if_neg hs]
  congr 1
  induction w using EReal.rec with
  | bot => exact absurd h (by simp)
  | top => exact EReal.inv_top.symm
  | coe r =>
    have hr : 0 < r := by exact_mod_cast h
    rw [sqrt_coe hr, rsqrt_coe hr]
    exact EReal.coe_inv _

/-- A mean of squares plus a positive epsilon is positive. -/
theorem msq_pos {n : ℕ} (f : Fin n → EReal) {c e : EReal} (hc : 0 < c) (he : 0 < e) :
    0 < Ideal.div (∑ k, f k * f k) c + e := by
  have hs : 0 ≤ ∑ k, f k * f k := Finset.sum_nonneg fun k _ => mul_self_nonneg (f k)
  have hd : 0 ≤ Ideal.div (∑ k, f k * f k) c := by
    unfold Ideal.div; rw [if_neg hc.ne']
    exact mul_nonneg hs (EReal.inv_nonneg_of_nonneg hc.le)
  exact lt_of_lt_of_le he (le_add_of_nonneg_left hd)

/-- The epsilon is positive. -/
theorem eps_pos : 0 < Ideal.ofBits .f32 897988541#32 := by
  simp [Ideal.ofBits, Ideal.ieee, -EReal.coe_mul]
  try norm_num

/-- The row length 3072 is positive. -/
theorem c3072_pos : 0 < Ideal.ofBits .f32 1161822208#32 := by
  simp [Ideal.ofBits, Ideal.ieee, -EReal.coe_mul]
  try norm_num

/-- The head size 128 is positive. -/
theorem c128_pos : 0 < Ideal.ofBits .f32 0x43000000#32 := by
  simp [Ideal.ofBits, Ideal.ieee, -EReal.coe_mul]
  try norm_num

/-- Dividing one by the root and multiplying is dividing by the root. -/
theorem mul_inv_root {n : ℕ} (a : EReal) (f : Fin n → EReal) :
    a * Ideal.div 1 (Ideal.sqrt (Ideal.div (∑ k, f k * f k) (Ideal.ofBits .f32 1161822208#32) + Ideal.ofBits .f32 897988541#32))
      = Ideal.div a (Ideal.sqrt (Ideal.div (∑ k, f k * f k) (Ideal.ofBits .f32 1161822208#32) + Ideal.ofBits .f32 897988541#32)) :=
  Ideal.mul_one_div (sqrt_pos (msq_pos f c3072_pos eps_pos)).ne'

/-- The same for the reciprocal root over the 128 lanes of a head. -/
theorem mul_rsqrt_root {n : ℕ} (a : EReal) (f : Fin n → EReal) :
    a * Ideal.rsqrt (Ideal.div (∑ k, f k * f k) (Ideal.ofBits .f32 0x43000000#32) + Ideal.ofBits .f32 897988541#32)
      = Ideal.div a (Ideal.sqrt (Ideal.div (∑ k, f k * f k) (Ideal.ofBits .f32 0x43000000#32) + Ideal.ofBits .f32 897988541#32)) :=
  mul_rsqrt (msq_pos f c128_pos eps_pos)

end Cert.Scalar

end
-- ==== Proof.Value.Forms.lean ====
/- The formulas both programs compute, element by element, over the reals. -/
module

public import proofs.«01_k».proof.Proof.Value.Scalar
public import proofs.«01_k».proof.Proof.Gen.ReferenceIdeal
public import Idealize.ShloMosaic.Lib.Pointwise

@[expose] public section

noncomputable section

namespace Cert.Forms

open Cert.ReferenceIdeal
open Idealize.ShloMosaic

/-- Column `J` of the first projection at row `R`: the product of codes and weights, scaled, with the bias. -/
def lin (C : FVec Ideal S2048x3072 .fp8e4m3) (W : FVec Ideal S3072x21504 .fp8e4m3) (s : EReal) (w1s b1 : FVec Ideal S21504 .f32)
    (R : Fin 2048) (J : Fin 21504) : EReal :=
  (∑ k : Fin 3072, C (ix2 R k) * W (ix2 k J)) * s * w1s (ix1 J) + b1 (ix1 J)

/-- The values of all heads, the third block of 3072 columns. -/
def vals (C : FVec Ideal S2048x3072 .fp8e4m3) (W : FVec Ideal S3072x21504 .fp8e4m3) (s : EReal) (w1s b1 : FVec Ideal S21504 .f32) :
    FVec Ideal S2048x3072 .bf16 :=
  fun i => lin C W s w1s b1 (i 0) ⟨6144 + (i 1 : ℕ), by have := (i 1).isLt; simp only [S2048x3072] at this; simp at this; omega⟩

/-- Lane `d` of head `n` in the block of 3072 columns that begins at `base`. -/
def lane (C : FVec Ideal S2048x3072 .fp8e4m3) (W : FVec Ideal S3072x21504 .fp8e4m3) (s : EReal) (w1s b1 : FVec Ideal S21504 .f32)
    (base : ℕ) (hb : base + 3072 ≤ 21504) (R : Fin 2048) (n : Fin 24) (d : Fin 128) : EReal :=
  lin C W s w1s b1 R ⟨base + (n.val * 128 + d.val), by omega⟩

/-- The root mean square of 128 lanes, with the epsilon. -/
def rms (f : Fin 128 → EReal) : EReal :=
  Ideal.sqrt (Ideal.div (∑ k : Fin 128, f k * f k) (Ideal.ofBits .f32 0x43000000#32) + Ideal.ofBits .f32 897988541#32)

/-- A lane of a head after the norm and its gain. -/
def normed (C : FVec Ideal S2048x3072 .fp8e4m3) (W : FVec Ideal S3072x21504 .fp8e4m3) (s : EReal) (w1s b1 : FVec Ideal S21504 .f32)
    (base : ℕ) (hb : base + 3072 ≤ 21504) (gain : FVec Ideal S128 .f32) (R : Fin 2048) (n : Fin 24) (d : Fin 128) : EReal :=
  Ideal.div (lane C W s w1s b1 base hb R n d) (rms (lane C W s w1s b1 base hb R n)) * gain (ix1 d)

/-- One lane of a pair `(e, o)` turned by the angle of cosine `c` and sine `s`. -/
def turn (c s e o : EReal) (even : Prop) [Decidable even] : EReal :=
  if even then c * e - s * o else s * e + c * o

/-- One lane of a normalised and rotated head. -/
def rotAt (C : FVec Ideal S2048x3072 .fp8e4m3) (W : FVec Ideal S3072x21504 .fp8e4m3) (s : EReal) (w1s b1 : FVec Ideal S21504 .f32)
    (base : ℕ) (hb : base + 3072 ≤ 21504) (gain : FVec Ideal S128 .f32) (cos sin : FVec Ideal S2x1024x64 .f32)
    (R : Fin 2048) (n : Fin 24) (d : Fin 128) : EReal :=
  turn (cos (ix3 ⟨R.val / 1024, by omega⟩ ⟨R.val % 1024, by omega⟩ ⟨d.val / 2, by omega⟩))
    (sin (ix3 ⟨R.val / 1024, by omega⟩ ⟨R.val % 1024, by omega⟩ ⟨d.val / 2, by omega⟩))
    (normed C W s w1s b1 base hb gain R n ⟨d.val / 2 * 2, by omega⟩)
    (normed C W s w1s b1 base hb gain R n ⟨d.val / 2 * 2 + 1, by omega⟩) (d.val % 2 = 0)

/-- All heads normalised and rotated. -/
def rot (C : FVec Ideal S2048x3072 .fp8e4m3) (W : FVec Ideal S3072x21504 .fp8e4m3) (s : EReal) (w1s b1 : FVec Ideal S21504 .f32)
    (base : ℕ) (hb : base + 3072 ≤ 21504) (gain : FVec Ideal S128 .f32) (cos sin : FVec Ideal S2x1024x64 .f32) :
    FVec Ideal S2048x3072 .bf16 :=
  fun i => rotAt C W s w1s b1 base hb gain cos sin (i 0)
    ⟨(i 1 : ℕ) / 128, Nat.div_lt_of_lt_mul (i 1).isLt⟩ ⟨(i 1 : ℕ) % 128, Nat.mod_lt _ (by omega)⟩

/-- The tanh form of the GELU. -/
def gelu (h : EReal) : EReal :=
  Ideal.ofBits .f32 0x3F000000#32 * h * (1 + Ideal.tanh (Ideal.ofBits .f32 0x3F4C422A#32 * (h + Ideal.ofBits .f32 0x3D372713#32 * (h * h * h))))

/-- The static quantiser: scaled and clipped to ±448. -/
def quant (v s : EReal) : EReal :=
  min (Ideal.ofBits .f32 0x43E00000#32) (max (Ideal.ofBits .f32 0xC3E00000#32) (Ideal.div v s))

/-- The GELU of the last 12288 columns of the first projection. -/
def act (C : FVec Ideal S2048x3072 .fp8e4m3) (W : FVec Ideal S3072x21504 .fp8e4m3) (s : EReal) (w1s b1 : FVec Ideal S21504 .f32)
    (R : Fin 2048) (J : Fin 12288) : EReal :=
  gelu (lin C W s w1s b1 R ⟨9216 + J.val, by omega⟩)

/-- Its codes. -/
def actCodes (C : FVec Ideal S2048x3072 .fp8e4m3) (W : FVec Ideal S3072x21504 .fp8e4m3) (s : EReal) (w1s b1 : FVec Ideal S21504 .f32) (sm : EReal) :
    FVec Ideal S2048x12288 .fp8e4m3 :=
  fun i => quant (act C W s w1s b1 (i 0) (i 1)) sm

end Cert.Forms

end
-- ==== Proof.Value.Forms2.lean ====
/- The closed form of the second projection, of the attention and of the maxima. -/
module

public import proofs.«01_k».proof.Proof.Value.Scalar
public import proofs.«01_k».proof.Proof.Gen.ReferenceIdeal
public import Idealize.ShloMosaic.Lib.Pointwise

@[expose] public section

noncomputable section

namespace Cert.Forms

open Cert.ReferenceIdeal
open Idealize.ShloMosaic

/-- The second projection of both code arrays, dequantised, gated and added to the input. -/
def out2 (A : FVec Ideal S2048x3072 .fp8e4m3) (M : FVec Ideal S2048x12288 .fp8e4m3) (W2 : FVec Ideal S15360x3072 .fp8e4m3) (sa sm : EReal)
    (w2s b2 : FVec Ideal S3072 .f32) (x : FVec Ideal S2x1024x3072 .bf16) (gate : FVec Ideal S2x3072 .f32) : FVec Ideal S2048x3072 .bf16 :=
  fun i => x (ix3 ⟨(i 0).val / 1024, by have := (i 0).isLt; simp at this; omega⟩ ⟨(i 0).val % 1024, by omega⟩ (i 1))
    + gate (ix2 ⟨(i 0).val / 1024, by have := (i 0).isLt; simp at this; omega⟩ (i 1))
      * ((sa * (∑ k : Fin 3072, A (ix2 (i 0) k) * W2 (ix2 ⟨k.val, by omega⟩ (i 1)))
        + sm * (∑ k : Fin 12288, M (ix2 (i 0) k) * W2 (ix2 ⟨3072 + k.val, by omega⟩ (i 1)))) * w2s (ix1 (i 1)) + b2 (ix1 (i 1)))

/-- The average of `v` with weights `2 ^ (s - ⌈max s⌉)`. -/
def soft {ι : Type} [Fintype ι] (s v : ι → EReal) : EReal :=
  Ideal.div (∑ j, Ideal.exp2 (s j - Ideal.liftRound Int.ceil (Finset.univ.fold max ⊥ s)) * v j)
    (∑ j, Ideal.exp2 (s j - Ideal.liftRound Int.ceil (Finset.univ.fold max ⊥ s)))

/-- The score of a query against a key at position `j`, a key of the text's padding left out. -/
def score (w : BitVec 32) (q k : Fin 128 → EReal) (j : Fin 1024) : EReal :=
  if ¬ (j.val : ℤ) < w.toInt ∧ j.val < 512 then ⊥
  else (∑ d : Fin 128, q d * k d) * Ideal.ofBits .f32 0x3DB504F3#32 * Ideal.ofBits .f32 0x3FB8AA3B#32

/-- A row of a batch element. -/
def row (R : Fin 2048) (j : Fin 1024) : Fin 2048 := ⟨1024 * (R.val / 1024) + j.val, by omega⟩

/-- A column of the head of a column. -/
def col (J : Fin 3072) (d : Fin 128) : Fin 3072 := ⟨128 * (J.val / 128) + d.val, by omega⟩

/-- Attention: row `R`, column `J`. -/
def att (txt : Fin 2 → BitVec 32) (q k v : FVec Ideal S2048x3072 .bf16) (R : Fin 2048) (J : Fin 3072) : EReal :=
  soft (fun j : Fin 1024 => score (txt ⟨R.val / 1024, by omega⟩) (fun d => q (ix2 R (col J d))) (fun d => k (ix2 (row R j) (col J d))) j)
    (fun j => v (ix2 (row R j) J))

/-- Its codes. -/
def attCodes (txt : Fin 2 → BitVec 32) (q k v : FVec Ideal S2048x3072 .bf16) (sa : EReal) : FVec Ideal S2048x3072 .fp8e4m3 :=
  fun i => min (Ideal.ofBits .f32 0x43E00000#32) (max (Ideal.ofBits .f32 0xC3E00000#32) (Ideal.div (att txt q k v (i 0) (i 1)) sa))

end Cert.Forms

end
-- ==== Proof.Value.Results.lean ====
/- The eight results as formulas of the arguments. -/
module

public import proofs.«01_k».proof.Proof.Value.Forms
public import proofs.«01_k».proof.Proof.Value.Forms2
public import proofs.«01_k».proof.Proof.Gen.ReferenceIdeal.Skeleton

@[expose] public section

noncomputable section

namespace Cert.Results

open Cert.ReferenceIdeal Cert.ReferenceIdeal.Gen
open Idealize.ShloMosaic

/-- The arguments, in order. -/
structure Args where
  x : FVec Ideal S2x1024x3072 .bf16
  shift : FVec Ideal S2x3072 .f32
  scale : FVec Ideal S2x3072 .f32
  gate : FVec Ideal S2x3072 .f32
  w1 : FVec Ideal S3072x21504 .fp8e4m3
  w1s : FVec Ideal S21504 .f32
  b1 : FVec Ideal S21504 .f32
  qw : FVec Ideal S128 .f32
  kw : FVec Ideal S128 .f32
  cos : FVec Ideal S2x1024x64 .f32
  sin : FVec Ideal S2x1024x64 .f32
  txt : IVec S2 32
  sx : EReal
  sa : EReal
  sm : EReal
  w2 : FVec Ideal S15360x3072 .fp8e4m3
  w2s : FVec Ideal S3072 .f32
  b2 : FVec Ideal S3072 .f32

namespace Args

variable (a : Args)

/-- The codes of the modulated layer norm, a row to each token. -/
def codes : FVec Ideal S2048x3072 .fp8e4m3 := k0_pay2 (F := Ideal) a.x a.sx a.shift a.scale

/-- The queries, normalised and rotated. -/
def q : FVec Ideal S2048x3072 .bf16 := Cert.Forms.rot a.codes a.w1 a.sx a.w1s a.b1 0 (by omega) a.qw a.cos a.sin

/-- The keys, normalised and rotated. -/
def k : FVec Ideal S2048x3072 .bf16 := Cert.Forms.rot a.codes a.w1 a.sx a.w1s a.b1 3072 (by omega) a.kw a.cos a.sin

/-- The values. -/
def v : FVec Ideal S2048x3072 .bf16 := Cert.Forms.vals a.codes a.w1 a.sx a.w1s a.b1

/-- Attention. -/
def att (R : Fin 2048) (J : Fin 3072) : EReal := Cert.Forms.att (fun b => a.txt (ix1 b)) a.q a.k a.v R J

/-- Its codes. -/
def attCodes : FVec Ideal S2048x3072 .fp8e4m3 := Cert.Forms.attCodes (fun b => a.txt (ix1 b)) a.q a.k a.v a.sa

/-- The GELU branch. -/
def act (R : Fin 2048) (J : Fin 12288) : EReal := Cert.Forms.act a.codes a.w1 a.sx a.w1s a.b1 R J

/-- Its codes. -/
def actCodes : FVec Ideal S2048x12288 .fp8e4m3 := Cert.Forms.actCodes a.codes a.w1 a.sx a.w1s a.b1 a.sm

/-- The output, a row to each token. -/
def out : FVec Ideal S2048x3072 .bf16 := Cert.Forms.out2 a.attCodes a.actCodes a.w2 a.sa a.sm a.w2s a.b2 a.x a.gate

/-- Token `p` of batch element `b` as a row. -/
def tok (b : Fin 2) (p : Fin 1024) : Fin 2048 := ⟨b.val * 1024 + p.val, by omega⟩

/-- The first result: the output. -/
def r0 : FVec Ideal S2x1024x3072 .bf16 := fun i => a.out (ix2 (tok (i 0) (i 1)) (i 2))

/-- The second: the largest magnitude of the attention. -/
def r1 : FVec Ideal S_ .f32 := fun _ => ⨆ R, ⨆ J, max (a.att R J) (-a.att R J)

/-- The third: the largest magnitude of the GELU branch. -/
def r2 : FVec Ideal S_ .f32 := fun _ => ⨆ R, ⨆ J, max (a.act R J) (-a.act R J)

/-- A row of heads with the heads on an axis of their own. -/
def heads (u : FVec Ideal S2048x3072 .bf16) : FVec Ideal S2x1024x24x128 .bf16 :=
  fun i => u (ix2 (tok (i 0) (i 1)) ⟨(i 2 : ℕ) * 128 + (i 3 : ℕ), by have h2 := (i 2).isLt; have h3 := (i 3).isLt; simp at h2 h3; omega⟩)

/-- The fourth: the queries. -/
def r3 : FVec Ideal S2x1024x24x128 .bf16 := heads a.q

/-- The fifth: the keys. -/
def r4 : FVec Ideal S2x1024x24x128 .bf16 := heads a.k

/-- The sixth: the codes of the modulated layer norm. -/
def r5 : FVec Ideal S2x1024x3072 .fp8e4m3 := fun i => a.codes (ix2 (tok (i 0) (i 1)) (i 2))

/-- The seventh: the codes of the attention. -/
def r6 : FVec Ideal S2x1024x3072 .fp8e4m3 := fun i => a.attCodes (ix2 (tok (i 0) (i 1)) (i 2))

/-- The eighth: the codes of the GELU branch. -/
def r7 : FVec Ideal S2x1024x12288 .fp8e4m3 := fun i => a.actCodes (ix2 (tok (i 0) (i 1)) (i 2))

end Args

/-- A supremum of magnitudes from its upper bounds. -/
theorem sup_eq {α β : Type} (f : α → β → EReal) (x : EReal) (h : ∀ z, x ≤ z ↔ ∀ i j, f i j ≤ z) : x = ⨆ i, ⨆ j, f i j :=
  eq_of_forall_ge_iff fun z => (h z).trans (by simp only [iSup_le_iff])

end Cert.Results

end
-- ==== Proof.Value.Hosts.lean ====
/- What the host operations between the pallas_calls leave, element by element. -/
module

public import proofs.«01_k».proof.Proof.IdealRun.Fold0
public import proofs.«01_k».proof.Proof.Value.Scalar
public import Idealize.ShloMosaic.Lib.StableHlo.ReadAt
public import Idealize.ShloMosaic.Lib.Pointwise

@[expose] public section

set_option maxRecDepth 16384

noncomputable section

namespace Cert.KernelIdeal.Hosts

open Cert.KernelIdeal Cert.KernelIdeal.Gen Cert.KernelIdeal.Run
open Idealize.ShloMosaic Idealize.ShloMosaic.TcCoe Idealize.SL.Sem

variable (U : Valuation τ sig (Elt Ideal))

/-- The words of -∞, -1 and 1. -/
theorem neg_inf : Ideal.ofBits .f32 0xFF800000#32 = ⊥ := by
  simp [Ideal.ofBits, Ideal.ieee]

theorem minus_one : Ideal.ofBits .f32 0xBF800000#32 = -1 := by
  simp [Ideal.ofBits, Ideal.ieee, -EReal.coe_mul]
  norm_num

theorem one : Ideal.ofBits .f32 0x3F800000#32 = 1 := Ideal.ofBits_one_f32

theorem h0_v0 (l : Fin 21504) : StableHlo.after hostOps0 U (Proc.devRef .tc main_v0) (ix2 0 l)
    = U (Proc.devRef .tc main_arg5) (ix1 l) := by
  after_reads_at

theorem h0_v1 (l : Fin 21504) : StableHlo.after hostOps0 U (Proc.devRef .tc main_v1) (ix2 0 l)
    = U (Proc.devRef .tc main_arg6) (ix1 l) := by
  after_reads_at

theorem h0_v2 (i : S1.Idx) : StableHlo.after hostOps0 U (Proc.devRef .tc main_v2) i
    = U (Proc.devRef .tc main_arg12) ix0 := by
  idx_vars i
  after_reads_at

theorem h1_v26 (i : S1.Idx) : StableHlo.after hostOps1 U (Proc.devRef .tc main_v26) i
    = U (Proc.devRef .tc main_arg12) ix0 := by
  idx_vars i
  after_reads_at

theorem h2_v47 (i : S1.Idx) : StableHlo.after hostOps2 U (Proc.devRef .tc main_v47) i
    = U (Proc.devRef .tc main_arg12) ix0 := by
  idx_vars i
  after_reads_at

theorem h3_v49 (i : S1.Idx) : StableHlo.after hostOps3 U (Proc.devRef .tc main_v49) i
    = U (Proc.devRef .tc main_arg12) ix0 := by
  idx_vars i
  after_reads_at

theorem h4_v51 (i : S1.Idx) : StableHlo.after hostOps4 U (Proc.devRef .tc main_v51) i
    = U (Proc.devRef .tc main_arg12) ix0 := by
  idx_vars i
  after_reads_at

theorem h4_v52 (i : S1.Idx) : StableHlo.after hostOps4 U (Proc.devRef .tc main_v52) i
    = U (Proc.devRef .tc main_arg14) ix0 := by
  idx_vars i
  after_reads_at

theorem h5_v54 (i : S1.Idx) : StableHlo.after hostOps5 U (Proc.devRef .tc main_v54) i
    = U (Proc.devRef .tc main_arg13) ix0 := by
  idx_vars i
  after_reads_at

theorem h6_v58 (i : S1.Idx) : StableHlo.after hostOps6 U (Proc.devRef .tc main_v58) i
    = U (Proc.devRef .tc main_arg13) ix0 := by
  idx_vars i
  after_reads_at

theorem h6_v59 (i : S1.Idx) : StableHlo.after hostOps6 U (Proc.devRef .tc main_v59) i
    = U (Proc.devRef .tc main_arg14) ix0 := by
  idx_vars i
  after_reads_at

theorem h0_v3 (R : Fin 2048) (k : Fin 3072) : StableHlo.after hostOps0 U (Proc.devRef .tc main_v3) (ix2 R k)
    = U (Proc.devRef .tc main_arg0) (ix3 ⟨R.val / 1024, by omega⟩ ⟨R.val % 1024, by omega⟩ k) := by
  after_reads_at

theorem h6_v60 (R : Fin 2048) (k : Fin 3072) : StableHlo.after hostOps6 U (Proc.devRef .tc main_v60) (ix2 R k)
    = U (Proc.devRef .tc main_arg0) (ix3 ⟨R.val / 1024, by omega⟩ ⟨R.val % 1024, by omega⟩ k) := by
  after_reads_at

theorem h0_v4 (b : Fin 2) (k : Fin 3072) : StableHlo.after hostOps0 U (Proc.devRef .tc main_v4) (ix3 b 0 k)
    = U (Proc.devRef .tc main_arg1) (ix2 b k) := by
  after_reads_at

theorem h0_v5 (b : Fin 2) (k : Fin 3072) : StableHlo.after hostOps0 U (Proc.devRef .tc main_v5) (ix3 b 0 k)
    = U (Proc.devRef .tc main_arg2) (ix2 b k) := by
  after_reads_at

theorem h6_v61 (b : Fin 2) (k : Fin 3072) : StableHlo.after hostOps6 U (Proc.devRef .tc main_v61) (ix3 b 0 k)
    = U (Proc.devRef .tc main_arg3) (ix2 b k) := by
  after_reads_at

theorem h6_v56 (l : Fin 3072) : StableHlo.after hostOps6 U (Proc.devRef .tc main_v56) (ix2 0 l)
    = U (Proc.devRef .tc main_arg16) (ix1 l) := by
  after_reads_at

theorem h6_v57 (l : Fin 3072) : StableHlo.after hostOps6 U (Proc.devRef .tc main_v57) (ix2 0 l)
    = U (Proc.devRef .tc main_arg17) (ix1 l) := by
  after_reads_at

theorem h0_cst_0 : StableHlo.after hostOps0 U (Proc.devRef .tc main_cst) (ix1 0) = (-1 : EReal) := by
  after_reads_at
  exact minus_one

theorem h0_cst_1 : StableHlo.after hostOps0 U (Proc.devRef .tc main_cst) (ix1 1) = (1 : EReal) := by
  after_reads_at
  exact one

theorem h0_cst_0_0 : StableHlo.after hostOps0 U (Proc.devRef .tc main_cst_0) (ix1 0) = (-1 : EReal) := by
  after_reads_at
  exact minus_one

theorem h0_cst_0_1 : StableHlo.after hostOps0 U (Proc.devRef .tc main_cst_0) (ix1 1) = (1 : EReal) := by
  after_reads_at
  exact one

theorem h1_v21 (cos : FVec Ideal S2x1024x64 .f32) (gain : FVec Ideal S128 .f32) (ec : U (Proc.devRef .tc main_arg9) = cos) (eg : U (Proc.devRef .tc main_arg7) = gain)
    (R : Fin 2048) (l : Fin 128) : StableHlo.after hostOps1 U (Proc.devRef .tc main_v21) (ix2 R l)
    = cos (ix3 ⟨R.val / 1024, by omega⟩ ⟨R.val % 1024, by omega⟩ ⟨l.val / 2, by omega⟩) * gain (ix1 l) := by
  subst ec eg
  after_reads_at
  first | done | rfl

theorem h1_v25 (sin : FVec Ideal S2x1024x64 .f32) (gain : FVec Ideal S128 .f32) (sg : FVec Ideal S2 .f32) (es : U (Proc.devRef .tc main_arg10) = sin) (eg : U (Proc.devRef .tc main_arg7) = gain)
    (eh : U (Proc.devRef .tc main_cst) = sg) (R : Fin 2048) (l : Fin 128) : StableHlo.after hostOps1 U (Proc.devRef .tc main_v25) (ix2 R l)
    = sin (ix3 ⟨R.val / 1024, by omega⟩ ⟨R.val % 1024, by omega⟩ ⟨l.val / 2, by omega⟩) * (sg (ix1 ⟨l.val % 2, by omega⟩) * gain (ix1 ⟨l.val / 2 * 2 + (1 - l.val % 2), by omega⟩)) := by
  subst es eg eh
  after_reads_at
  refine congrArg₂ _ rfl (congrArg₂ _ rfl (congrArg (fun j : Fin 128 => U (Proc.devRef .tc main_arg7) (ix1 j)) (Fin.ext ?_)))
  show l.val / 2 * 2 + (2 - (l.val % 2 + 1)) = l.val / 2 * 2 + (1 - l.val % 2)
  omega

theorem h2_v42 (cos : FVec Ideal S2x1024x64 .f32) (gain : FVec Ideal S128 .f32) (ec : U (Proc.devRef .tc main_arg9) = cos) (eg : U (Proc.devRef .tc main_arg8) = gain)
    (R : Fin 2048) (l : Fin 128) : StableHlo.after hostOps2 U (Proc.devRef .tc main_v42) (ix2 R l)
    = cos (ix3 ⟨R.val / 1024, by omega⟩ ⟨R.val % 1024, by omega⟩ ⟨l.val / 2, by omega⟩) * gain (ix1 l) := by
  subst ec eg
  after_reads_at
  first | done | rfl

theorem h2_v46 (sin : FVec Ideal S2x1024x64 .f32) (gain : FVec Ideal S128 .f32) (sg : FVec Ideal S2 .f32) (es : U (Proc.devRef .tc main_arg10) = sin) (eg : U (Proc.devRef .tc main_arg8) = gain)
    (eh : U (Proc.devRef .tc main_cst_0) = sg) (R : Fin 2048) (l : Fin 128) : StableHlo.after hostOps2 U (Proc.devRef .tc main_v46) (ix2 R l)
    = sin (ix3 ⟨R.val / 1024, by omega⟩ ⟨R.val % 1024, by omega⟩ ⟨l.val / 2, by omega⟩) * (sg (ix1 ⟨l.val % 2, by omega⟩) * gain (ix1 ⟨l.val / 2 * 2 + (1 - l.val % 2), by omega⟩)) := by
  subst es eg eh
  after_reads_at
  refine congrArg₂ _ rfl (congrArg₂ _ rfl (congrArg (fun j : Fin 128 => U (Proc.devRef .tc main_arg8) (ix1 j)) (Fin.ext ?_)))
  show l.val / 2 * 2 + (2 - (l.val % 2 + 1)) = l.val / 2 * 2 + (1 - l.val % 2)
  omega

theorem h7_v63 (b : Fin 2) (p : Fin 1024) (k : Fin 3072) : StableHlo.after hostOps7 U (Proc.devRef .tc main_v63) (ix3 b p k)
    = U (Proc.devRef .tc main_v62) (ix2 ⟨b.val * 1024 + p.val, by omega⟩ k) := by
  after_reads_at

theorem h7_v68 (b : Fin 2) (p : Fin 1024) (k : Fin 3072) : StableHlo.after hostOps7 U (Proc.devRef .tc main_v68) (ix3 b p k)
    = U (Proc.devRef .tc main_v6) (ix2 ⟨b.val * 1024 + p.val, by omega⟩ k) := by
  after_reads_at

theorem h7_v69 (b : Fin 2) (p : Fin 1024) (k : Fin 3072) : StableHlo.after hostOps7 U (Proc.devRef .tc main_v69) (ix3 b p k)
    = U (Proc.devRef .tc main_v55_0) (ix2 ⟨b.val * 1024 + p.val, by omega⟩ k) := by
  after_reads_at

theorem h7_v70 (b : Fin 2) (p : Fin 1024) (k : Fin 12288) : StableHlo.after hostOps7 U (Proc.devRef .tc main_v70) (ix3 b p k)
    = U (Proc.devRef .tc main_v53_0) (ix2 ⟨b.val * 1024 + p.val, by omega⟩ k) := by
  after_reads_at

theorem h7_v66 (b : Fin 2) (p : Fin 1024) (n : Fin 24) (d : Fin 128) : StableHlo.after hostOps7 U (Proc.devRef .tc main_v66) (ix4 b p n d)
    = U (Proc.devRef .tc main_v27) (ix2 ⟨b.val * 1024 + p.val, by omega⟩ ⟨n.val * 128 + d.val, by omega⟩) := by
  after_reads_at

theorem h7_v67 (b : Fin 2) (p : Fin 1024) (n : Fin 24) (d : Fin 128) : StableHlo.after hostOps7 U (Proc.devRef .tc main_v67) (ix4 b p n d)
    = U (Proc.devRef .tc main_v48) (ix2 ⟨b.val * 1024 + p.val, by omega⟩ ⟨n.val * 128 + d.val, by omega⟩) := by
  after_reads_at

theorem h7_v64 (x : FVec Ideal S8x128 .f32) (ex : U (Proc.devRef .tc main_v55_1) = x) (y : EReal) (ey : StableHlo.after hostOps7 U (Proc.devRef .tc main_v64) ix0 = y) (z : EReal) :
    y ≤ z ↔ ∀ (a : Fin 8) (l : Fin 128), x (ix2 a l) ≤ z := by
  have e : y = Finset.fold max (Ideal.ofBits FTy.f32 4286578688#32) (fun k : Fin 8 × Fin 128 => x (ix2 k.1 k.2)) Finset.univ := by
    subst ex ey
    after_reads_at
  rw [e, Finset.fold_max_le, neg_inf]
  exact ⟨fun h a l => h.2 (a, l) (Finset.mem_univ _), fun h => ⟨bot_le, fun k _ => h k.1 k.2⟩⟩

theorem h7_v65 (x : FVec Ideal S8x1024 .f32) (ex : U (Proc.devRef .tc main_v53_1) = x) (y : EReal) (ey : StableHlo.after hostOps7 U (Proc.devRef .tc main_v65) ix0 = y) (z : EReal) :
    y ≤ z ↔ ∀ (a : Fin 8) (l : Fin 1024), x (ix2 a l) ≤ z := by
  have e : y = Finset.fold max (Ideal.ofBits FTy.f32 4286578688#32) (fun k : Fin 8 × Fin 1024 => x (ix2 k.1 k.2)) Finset.univ := by
    subst ex ey
    after_reads_at
  rw [e, Finset.fold_max_le, neg_inf]
  exact ⟨fun h a l => h.2 (a, l) (Finset.mem_univ _), fun h => ⟨bot_le, fun k _ => h k.1 k.2⟩⟩

end Cert.KernelIdeal.Hosts

end
-- ==== Proof.Value.Ln.lean ====
/- The layer norm with quantisation (pallas_call `ln_quant`): the array it leaves is the reference's codes, row by row. -/
module

public import proofs.«01_k».proof.Proof.IdealRun.Region0
public import proofs.«01_k».proof.Proof.Value.Scalar
public import proofs.«01_k».proof.Proof.Gen.ReferenceIdeal
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![0] ∧ win0_1.index t = ![t.val, 0] ∧ win0_2.index t = ![t.val / 4, 0, 0]
    ∧ win0_3.index t = ![t.val / 4, 0, 0] ∧ win0_4.index t = ![t.val, 0] ∧ t.val < 8 :=
  (by decide +kernel : ∀ t : Fin grid0.N, _)

/-- The reference's codes of the normalised rows. -/
abbrev codes (X : FVec Ideal S2x1024x3072 .bf16) (shift scale : FVec Ideal S2x3072 .f32) (s : EReal) : FVec Ideal S2048x3072 .fp8e4m3 :=
  Cert.ReferenceIdeal.Gen.k0_pay2 (F := Ideal) X s shift scale

/-- One element of the quantised layer norm: a block's row `r` against the reference's row `(b, p)`. -/
theorem core0 (x : FVec Ideal S256x3072 .bf16) (sc sh : FVec Ideal S1x1x3072 .f32) (s : EReal)
    (X : FVec Ideal S2x1024x3072 .bf16) (shift scale : FVec Ideal S2x3072 .f32) (s0 : EReal)
    (r : Fin 256) (l : Fin 3072) (R : Fin 2048)
    (hx : ∀ k : Fin 3072, x (ix2 r k) = X (ix3 ⟨(R : ℕ) / 1024, Nat.div_lt_of_lt_mul R.isLt⟩ ⟨(R : ℕ) % 1024, Nat.mod_lt _ (by omega)⟩ k))
    (hsc : sc (ix3 0 0 l) = scale (ix2 ⟨(R : ℕ) / 1024, Nat.div_lt_of_lt_mul R.isLt⟩ l))
    (hsh : sh (ix3 0 0 l) = shift (ix2 ⟨(R : ℕ) / 1024, Nat.div_lt_of_lt_mul R.isLt⟩ l)) (hs : s = s0) :
    k0_pay1 (F := Ideal) x sc sh s (ix2 r l) = Cert.ReferenceIdeal.Gen.k0_pay2 (F := Ideal) X s0 shift scale (ix2 R l) := by
  subst hs
  pointwise [k0_pay1, Cert.ReferenceIdeal.Gen.k0_pay2, Cert.ReferenceIdeal.Gen.k0_pay1]
  simp only [hx, hsc, hsh, Cert.Scalar.mul_inv_root]

theorem rd0_1 (c : Dev nD) (t : Fin cfg0.N) (r : Fin 256) (k : Fin 3072) (R : Fin 2048) (hR : (R : ℕ) = t.val * 256 + r) :
    iblk0 V c 1 t (ix2 r k) = V c main_v3 (ix2 R k) := by
  blk_ext [iblk0, idx0 t]

theorem rd0_2 (c : Dev nD) (t : Fin cfg0.N) (k : Fin 3072) (b : Fin 2) (hb : (b : ℕ) = t.val / 4) :
    iblk0 V c 2 t (ix3 0 0 k) = V c main_v4 (ix3 b 0 k) := by
  blk_ext [iblk0, idx0 t]

theorem rd0_3 (c : Dev nD) (t : Fin cfg0.N) (k : Fin 3072) (b : Fin 2) (hb : (b : ℕ) = t.val / 4) :
    iblk0 V c 3 t (ix3 0 0 k) = V c main_v5 (ix3 b 0 k) := by
  blk_ext [iblk0, idx0 t]

theorem emb0 (t : Fin cfg0.N) (r : Fin 256) (k : Fin 3072) (R : Fin 2048) (hR : (R : ℕ) = t.val * 256 + r) :
    ((View.whole main_v6).slice (win0_4.rect t)).emb (ix2 r k) = ix2 R k := by
  blk_ext [idx0 t]

theorem final0 (c : Dev nD) (X : FVec Ideal S2x1024x3072 .bf16) (shift scale : FVec Ideal S2x3072 .f32) (s : EReal)
    (h2 : ∀ i, V c main_v2 i = s)
    (h3 : ∀ (R : Fin 2048) (k : Fin 3072), V c main_v3 (ix2 R k) = X (ix3 ⟨(R : ℕ) / 1024, Nat.div_lt_of_lt_mul R.isLt⟩ ⟨(R : ℕ) % 1024, Nat.mod_lt _ (by omega)⟩ k))
    (h4 : ∀ (b : Fin 2) (k : Fin 3072), V c main_v4 (ix3 b 0 k) = shift (ix2 b k))
    (h5 : ∀ (b : Fin 2) (k : Fin 3072), V c main_v5 (ix3 b 0 k) = scale (ix2 b k)) :
    (dat0 V c).arrAt 4 cfg0.N = codes X shift scale s := by
  refine (dat0 V c).arrAt_eq_of_covers 4 _ (by decide +kernel) fun t _ y => ?_
  blk_simp
  rw [after0_4]
  unfold outsAt0
  frame_out
  idx_vars y
  have ht := (idx0 t).2.2.2.2.2
  rw [emb0 t y0 y1 ⟨t.val * 256 + y0, by omega⟩ rfl]
  refine core0 _ _ _ _ X shift scale s _ _ _ (fun k => ?_) ?_ ?_ ?_
  · rw [rd0_1 V c t y0 k ⟨t.val * 256 + y0, by omega⟩ rfl, h3]
  · rw [rd0_3 V c t y1 ⟨(t.val * 256 + y0) / 1024, by omega⟩ (by show _ / _ = _; omega), h5]
  · rw [rd0_2 V c t y1 ⟨(t.val * 256 + y0) / 1024, by omega⟩ (by show _ / _ = _; omega), h4]
  · exact h2 _

end Cert.KernelIdeal.Value

end
-- ==== Proof.Value.Common.lean ====
/- What the pallas_calls share: reads of 256-row chunks. -/
module

public import proofs.«01_k».proof.Proof.Gen.KernelIdeal.Skeleton
public import proofs.«01_k».proof.Proof.Value.Forms
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- A load of a rectangle of a matrix, at an index. -/
theorem ld2 {e : EltTy} {n0 n1 m0 m1 : ℕ} (B : (⟨2, ![n0, n1]⟩ : Shape).Idx → Elt Ideal e) (o p : ℕ)
    (h : ∀ a, (![o, p] : Fin 2 → ℕ) a + (![m0, m1] : Fin 2 → ℕ) a ≤ (![n0, n1] : Fin 2 → ℕ) a)
    (r : Fin m0) (k : Fin m1) (R : Fin n0) (K : Fin n1) (hR : (R : ℕ) = o + r) (hK : (K : ℕ) = p + k) :
    View.ld (Val := Elt Ideal) (S := ⟨2, ![n0, n1]⟩) B (Rect.unit (s := ⟨2, ![n0, n1]⟩) ![o, p] ![m0, m1] h) (ix2 r k) = B (ix2 R K) :=
  View.ld_unit_apply_of B _ _ h _ _ (Fin.forall_fin_two.mpr ⟨hR, hK⟩)

/-- A chunk of 256 rows of a block of 2048 rows. -/
theorem ld_rows (B : FVec Ideal S2048x3072 .fp8e4m3) (o : ℕ) (h : ∀ a, (![o, 0] : Fin 2 → ℕ) a + S256x3072.size a ≤ S2048x3072.size a)
    (r : Fin 256) (k : Fin 3072) (R : Fin 2048) (hR : (R : ℕ) = o + r) :
    View.ld (Val := Elt Ideal) (S := S2048x3072) (e' := .fp8e4m3) B (Rect.unit ![o, 0] S256x3072.size h) (ix2 r k) = B (ix2 R k) :=
  ld2 (e := .fp8e4m3) B o 0 h r k R k hR (Nat.zero_add _).symm

/-- A chunk of 256 rows of a table of 2048 rows. -/
theorem ld_tab (B : FVec Ideal S2048x128 .f32) (o : ℕ) (h : ∀ a, (![o, 0] : Fin 2 → ℕ) a + S256x128.size a ≤ S2048x128.size a)
    (r : Fin 256) (k : Fin 128) (R : Fin 2048) (hR : (R : ℕ) = o + r) :
    View.ld (Val := Elt Ideal) (S := S2048x128) (e' := .f32) B (Rect.unit ![o, 0] S256x128.size h) (ix2 r k) = B (ix2 R k) :=
  ld2 (e := .f32) B o 0 h r k R k hR (Nat.zero_add _).symm

end Cert.KernelIdeal.Value

end
-- ==== Proof.Value.Head.lean ====
/- One head of 128 lanes of the query and key projections: root-mean-square norm and rotation. -/
module

public import proofs.«01_k».proof.Proof.Gen.KernelIdeal.Skeleton
public import proofs.«01_k».proof.Proof.Value.Common
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The lanes of one head, divided by their root mean square. -/
def headN (H : FVec Ideal S256x1024 .f32) (o : ℕ) (hs : S256x1024.Slices ![0, o] S256x128) : FVec Ideal S256x128 .f32 :=
  mulf (extractStridedSlice S256x128 ![0, o] H hs)
    (broadcastTo S256x128
      (rsqrt (addf
        (divf (shapeCast S256x1 (multiReduction .add [1] S256 (mulf (extractStridedSlice S256x128 ![0, o] H hs) (extractStridedSlice S256x128 ![0, o] H hs)) 0x00000000#32 reduces_S256x128_S256 (.inl rfl) rfl) shapeCasts_S256_S256x1)
          (broadcast S256x1 (Scalar.ofBits .f32 0x43000000#32)))
        (broadcast S256x1 (Scalar.ofBits .f32 0x358637BD#32))))
      broadcasts_S256x1_S256x128)

/-- Lane `l`'s partner in its pair. -/
def partner : IVec S256x128 32 :=
  shapeCast S256x128 (shapeCast S256x128x1
    (select (cmpi .slt k1_pay2 (broadcast S256x128 0#32)) (addi k1_pay2 (broadcast S256x128 128#32)) k1_pay2)
    shapeCasts_S256x128_S256x128x1) shapeCasts_S256x128x1_S256x128

/-- The rotated head. -/
def head (H : FVec Ideal S256x1024 .f32) (o : ℕ) (hs : S256x1024.Slices ![0, o] S256x128) (c s : FVec Ideal S256x128 .f32) : FVec Ideal S256x128 .bf16 :=
  truncf .bf16 (addf (mulf (headN H o hs) (shapeCast S256x128 c shapeCasts_S256x128_S256x128))
    (mulf (dynamicGather 1 (headN H o hs) partner) (shapeCast S256x128 s shapeCasts_S256x128_S256x128))) bitsLt_bf16_f32

theorem headN_at (H : FVec Ideal S256x1024 .f32) (o : ℕ) (hs : S256x1024.Slices ![0, o] S256x128) (r : Fin 256) (l : Fin 128) (ho : o + 128 ≤ 1024) :
    headN H o hs (ix2 r l) = Ideal.div (H (ix2 r ⟨o + l, by omega⟩))
      (Ideal.sqrt (Ideal.div (∑ k : Fin 128, H (ix2 r ⟨o + k, by omega⟩) * H (ix2 r ⟨o + k, by omega⟩)) (Ideal.ofBits .f32 0x43000000#32) + Ideal.ofBits .f32 897988541#32)) := by
  pointwise [headN]
  exact Cert.Scalar.mul_rsqrt_root _ _

theorem partner_val : ∀ l : Fin 128, (Scalar.select (IntOp.cmpi CmpIPredicate.slt (IntOp.xori (BitVec.ofNat 32 l) 1#32) 0#32)
    (IntOp.addi (IntOp.xori (BitVec.ofNat 32 l) 1#32) 128#32) (IntOp.xori (BitVec.ofNat 32 l) 1#32)).toNat % 128
      = if l.val % 2 = 0 then l.val + 1 else l.val - 1 := by
  decide +kernel

theorem head_at (H : FVec Ideal S256x1024 .f32) (o : ℕ) (hs : S256x1024.Slices ![0, o] S256x128) (c s : FVec Ideal S256x128 .f32) (r : Fin 256) (l l' : Fin 128) (hl : (l' : ℕ) = if l.val % 2 = 0 then l.val + 1 else l.val - 1) :
    head H o hs c s (ix2 r l) = headN H o hs (ix2 r l) * c (ix2 r l) + headN H o hs (ix2 r l') * s (ix2 r l) := by
  pointwise [head, partner, k1_pay2]
  have e : ∀ h, (⟨(Scalar.select (IntOp.cmpi CmpIPredicate.slt (IntOp.xori (BitVec.ofNat 32 l) 1#32) 0#32)
      (IntOp.addi (IntOp.xori (BitVec.ofNat 32 l) 1#32) 128#32) (IntOp.xori (BitVec.ofNat 32 l) 1#32)).toNat % 128, h⟩ : Fin 128) = l' :=
    fun _ => Fin.ext ((partner_val l).trans hl.symm)
  rw [e]

/-- One lane of a rotated head against the formula, the tables given as products of the angle and the gain. -/
theorem head_eq (H : FVec Ideal S256x1024 .f32) (o : ℕ) (hs : S256x1024.Slices ![0, o] S256x128) (cT sT : FVec Ideal S256x128 .f32)
    (C : FVec Ideal S2048x3072 .fp8e4m3) (W : FVec Ideal S3072x21504 .fp8e4m3) (s : EReal) (w1s b1 : FVec Ideal S21504 .f32)
    (base : ℕ) (hb : base + 3072 ≤ 21504) (gain : FVec Ideal S128 .f32) (cos sin : FVec Ideal S2x1024x64 .f32)
    (r : Fin 256) (R : Fin 2048) (n : Fin 24) (l : Fin 128) (ho : o + 128 ≤ 1024)
    (hH : ∀ d : Fin 128, H (ix2 r ⟨o + d, by omega⟩) = Cert.Forms.lane C W s w1s b1 base hb R n d)
    (hc : cT (ix2 r l) = cos (ix3 ⟨R.val / 1024, by omega⟩ ⟨R.val % 1024, by omega⟩ ⟨l.val / 2, by omega⟩) * gain (ix1 l))
    (hn : ∀ h : l.val % 2 = 0, sT (ix2 r l) = sin (ix3 ⟨R.val / 1024, by omega⟩ ⟨R.val % 1024, by omega⟩ ⟨l.val / 2, by omega⟩) * (-1 * gain (ix1 ⟨l.val + 1, by omega⟩)))
    (hp : ∀ h : ¬ l.val % 2 = 0, sT (ix2 r l) = sin (ix3 ⟨R.val / 1024, by omega⟩ ⟨R.val % 1024, by omega⟩ ⟨l.val / 2, by omega⟩) * (1 * gain (ix1 ⟨l.val - 1, by omega⟩))) :
    head H o hs cT sT (ix2 r l) = Cert.Forms.rotAt C W s w1s b1 base hb gain cos sin R n l := by
  have hN : ∀ d : Fin 128, headN H o hs (ix2 r d) = Ideal.div (Cert.Forms.lane C W s w1s b1 base hb R n d) (Cert.Forms.rms (Cert.Forms.lane C W s w1s b1 base hb R n)) := by
    intro d
    rw [headN_at H o hs r d ho]
    simp only [hH, Cert.Forms.rms]
  by_cases h : l.val % 2 = 0
  · rw [head_at H o hs cT sT r l ⟨l.val + 1, by omega⟩ (by rw [if_pos h]), hN, hN, hc, hn h]
    have e0 : (⟨l.val / 2 * 2, by omega⟩ : Fin 128) = l := Fin.ext (by dsimp only; omega)
    have e1 : (⟨l.val / 2 * 2 + 1, by omega⟩ : Fin 128) = ⟨l.val + 1, by omega⟩ := Fin.ext (by dsimp only; omega)
    unfold Cert.Forms.rotAt Cert.Forms.turn Cert.Forms.normed
    rw [if_pos h, e0, e1, sub_eq_add_neg, mul_left_comm, mul_left_comm (Ideal.div (Cert.Forms.lane C W s w1s b1 base hb R n ⟨l.val + 1, by omega⟩) _), neg_mul, one_mul, mul_neg, mul_neg]
  · rw [head_at H o hs cT sT r l ⟨l.val - 1, by omega⟩ (by rw [if_neg h]), hN, hN, hc, hp h]
    have e0 : (⟨l.val / 2 * 2, by omega⟩ : Fin 128) = ⟨l.val - 1, by omega⟩ := Fin.ext (by dsimp only; omega)
    have e1 : (⟨l.val / 2 * 2 + 1, by omega⟩ : Fin 128) = l := Fin.ext (by dsimp only; omega)
    unfold Cert.Forms.rotAt Cert.Forms.turn Cert.Forms.normed
    rw [if_neg h, e0, e1, one_mul, add_comm, mul_left_comm, mul_left_comm (Ideal.div (Cert.Forms.lane C W s w1s b1 base hb R n l) _)]

/-- A chunk's product, scaled, with the bias. -/
theorem lin_chunk (x : FVec Ideal S256x3072 .fp8e4m3) (w : FVec Ideal S3072x1024 .fp8e4m3) (s : EReal) (ws b : FVec Ideal S1x1024 .f32)
    (C : FVec Ideal S2048x3072 .fp8e4m3) (W : FVec Ideal S3072x21504 .fp8e4m3) (s0 : EReal) (w1s b1 : FVec Ideal S21504 .f32)
    (r : Fin 256) (l : Fin 1024) (R : Fin 2048) (J : Fin 21504)
    (hx : ∀ k : Fin 3072, x (ix2 r k) = C (ix2 R k)) (hw : ∀ k : Fin 3072, w (ix2 k l) = W (ix2 k J)) (hs : s = s0)
    (hws : ws (ix2 0 l) = w1s (ix1 J)) (hb : b (ix2 0 l) = b1 (ix1 J)) :
    k1_pay3 (F := Ideal) x w s ws b (ix2 r l) = Cert.Forms.lin C W s0 w1s b1 R J := by
  subst hs
  pointwise [k1_pay3]
  simp only [hx, hw, hws, hb, Cert.Forms.lin]

end Cert.KernelIdeal.Value

end
-- ==== Proof.Value.Q.lean ====
/- The query projection (pallas_call `lin1_q`). -/
module

public import proofs.«01_k».proof.Proof.IdealRun.Region1
public import proofs.«01_k».proof.Proof.Value.Head
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx1 : ∀ t : Fin cfg1.N, win1_0.index t = ![0] ∧ win1_1.index t = ![0, 0] ∧ win1_2.index t = ![0, 0 + t.val]
    ∧ win1_3.index t = ![0, 0 + t.val] ∧ win1_4.index t = ![0, 0 + t.val] ∧ win1_5.index t = ![0, 0] ∧ win1_6.index t = ![0, 0]
    ∧ win1_7.index t = ![0, t.val] ∧ t.val < 3 :=
  (by decide +kernel : ∀ t : Fin grid1.N, _)

theorem rd1_1 (c : Dev nD) (t : Fin cfg1.N) (R : Fin 2048) (k : Fin 3072) :
    iblk1 V c 1 t (ix2 R k) = V c main_v6 (ix2 R k) := by
  blk_ext [iblk1, idx1 t]

theorem rd1_2 (c : Dev nD) (t : Fin cfg1.N) (k : Fin 3072) (l : Fin 1024) (J : Fin 21504) (hJ : (J : ℕ) = (0 + t.val) * 1024 + l) :
    iblk1 V c 2 t (ix2 k l) = V c main_arg4 (ix2 k J) := by
  blk_ext [iblk1, idx1 t]

theorem rd1_3 (c : Dev nD) (t : Fin cfg1.N) (l : Fin 1024) (J : Fin 21504) (hJ : (J : ℕ) = (0 + t.val) * 1024 + l) :
    iblk1 V c 3 t (ix2 0 l) = V c main_v0 (ix2 0 J) := by
  blk_ext [iblk1, idx1 t]

theorem rd1_4 (c : Dev nD) (t : Fin cfg1.N) (l : Fin 1024) (J : Fin 21504) (hJ : (J : ℕ) = (0 + t.val) * 1024 + l) :
    iblk1 V c 4 t (ix2 0 l) = V c main_v1 (ix2 0 J) := by
  blk_ext [iblk1, idx1 t]

theorem rd1_5 (c : Dev nD) (t : Fin cfg1.N) (R : Fin 2048) (l : Fin 128) :
    iblk1 V c 5 t (ix2 R l) = V c main_v21 (ix2 R l) := by
  blk_ext [iblk1, idx1 t]

theorem rd1_6 (c : Dev nD) (t : Fin cfg1.N) (R : Fin 2048) (l : Fin 128) :
    iblk1 V c 6 t (ix2 R l) = V c main_v25 (ix2 R l) := by
  blk_ext [iblk1, idx1 t]

theorem emb1 (t : Fin cfg1.N) (y : S2048x1024.Idx) (R : Fin 2048) (J : Fin 3072) (hR : (R : ℕ) = y 0) (hJ : (J : ℕ) = t.val * 1024 + (y 1 : ℕ)) :
    ((View.whole main_v27).slice (win1_7.rect t)).emb y = ix2 R J := by
  blk_ext [idx1 t]

theorem chunk1 (c : Dev nD) (C : FVec Ideal S2048x3072 .fp8e4m3) (W : FVec Ideal S3072x21504 .fp8e4m3) (s : EReal) (w1s b1 : FVec Ideal S21504 .f32)
    (gain : FVec Ideal S128 .f32) (cos sin : FVec Ideal S2x1024x64 .f32)
    (h6 : ∀ (R : Fin 2048) (k : Fin 3072), V c main_v6 (ix2 R k) = C (ix2 R k))
    (hW : ∀ (k : Fin 3072) (J : Fin 21504), V c main_arg4 (ix2 k J) = W (ix2 k J))
    (hw1s : ∀ (J : Fin 21504), V c main_v0 (ix2 0 J) = w1s (ix1 J))
    (hb1 : ∀ (J : Fin 21504), V c main_v1 (ix2 0 J) = b1 (ix1 J))
    (hc : ∀ (R : Fin 2048) (l : Fin 128), V c main_v21 (ix2 R l) = cos (ix3 ⟨R.val / 1024, by omega⟩ ⟨R.val % 1024, by omega⟩ ⟨l.val / 2, by omega⟩) * gain (ix1 l))
    (hn : ∀ (R : Fin 2048) (l : Fin 128) (h : l.val % 2 = 0), V c main_v25 (ix2 R l) = sin (ix3 ⟨R.val / 1024, by omega⟩ ⟨R.val % 1024, by omega⟩ ⟨l.val / 2, by omega⟩) * (-1 * gain (ix1 ⟨l.val + 1, by omega⟩)))
    (hp : ∀ (R : Fin 2048) (l : Fin 128) (h : ¬ l.val % 2 = 0), V c main_v25 (ix2 R l) = sin (ix3 ⟨R.val / 1024, by omega⟩ ⟨R.val % 1024, by omega⟩ ⟨l.val / 2, by omega⟩) * (1 * gain (ix1 ⟨l.val - 1, by omega⟩)))
    (t : Fin cfg1.N) (o p : ℕ) (hp0 : p % 128 = 0) (hp' : p + 128 ≤ 1024) (h : ∀ a, (![o, 0] : Fin 2 → ℕ) a + S256x3072.size a ≤ S2048x3072.size a)
    (hT : ∀ a, (![o, 0] : Fin 2 → ℕ) a + S256x128.size a ≤ S2048x128.size a) (hsl : S256x1024.Slices ![0, p] S256x128)
    (x : S256x128.Idx) (sv : EReal) (hsv : sv = s) (R : Fin 2048) (J : Fin 3072) (hR : (R : ℕ) = o + (x 0 : ℕ)) (hJ : (J : ℕ) = t.val * 1024 + (p + (x 1 : ℕ))) :
    head (k1_pay3 (F := Ideal) (View.ld (iblk1 V c 1 t) (Rect.unit ![o, 0] S256x3072.size h)) (iblk1 V c 2 t) sv (iblk1 V c 3 t) (iblk1 V c 4 t)) p hsl
        (View.ld (iblk1 V c 5 t) (Rect.unit ![o, 0] S256x128.size hT)) (View.ld (iblk1 V c 6 t) (Rect.unit ![o, 0] S256x128.size hT)) x
      = Cert.Forms.rot C W s w1s b1 0 (by omega) gain cos sin (ix2 R J) := by
  have ht := (idx1 t).2.2.2.2.2.2.2.2
  idx_vars x
  have b1' : x1.val < 128 := x1.isLt
  have hR' : (R : ℕ) = o + (x0 : ℕ) := hR
  have hJ' : (J : ℕ) = t.val * 1024 + (p + (x1 : ℕ)) := hJ
  have hlane : (⟨J.val % 128, by omega⟩ : Fin 128) = x1 := Fin.ext (by dsimp only; omega)
  refine Eq.trans ?_ (congrArg (Cert.Forms.rotAt C W s w1s b1 0 (by omega) gain cos sin R ⟨J.val / 128, by omega⟩) hlane.symm)
  refine head_eq _ p hsl _ _ C W s w1s b1 0 (by omega) gain cos sin x0 R ⟨J.val / 128, by omega⟩ x1 hp' (fun d => ?_) ?_ ?_ ?_
  · have hK : 0 + (J.val / 128 * 128 + d.val) = (0 + t.val) * 1024 + (p + d.val) := by omega
    refine lin_chunk _ _ _ _ _ C W s w1s b1 x0 ⟨p + d, by omega⟩ R ⟨0 + (J.val / 128 * 128 + d.val), by omega⟩ (fun k => ?_) (fun k => ?_) hsv ?_ ?_
    · rw [ld_rows _ o h x0 k R hR', rd1_1, h6]
    · rw [rd1_2 V c t k ⟨p + d, by omega⟩ ⟨0 + (J.val / 128 * 128 + d.val), by omega⟩ hK, hW]
    · rw [rd1_3 V c t ⟨p + d, by omega⟩ ⟨0 + (J.val / 128 * 128 + d.val), by omega⟩ hK, hw1s]
    · rw [rd1_4 V c t ⟨p + d, by omega⟩ ⟨0 + (J.val / 128 * 128 + d.val), by omega⟩ hK, hb1]
  · rw [ld_tab _ o hT x0 x1 R hR', rd1_5, hc]
  · intro h0; rw [ld_tab _ o hT x0 x1 R hR', rd1_6, hn _ _ h0]
  · intro h0; rw [ld_tab _ o hT x0 x1 R hR', rd1_6, hp _ _ h0]

set_option maxHeartbeats 4000000 in
theorem final1 (c : Dev nD) (C : FVec Ideal S2048x3072 .fp8e4m3) (W : FVec Ideal S3072x21504 .fp8e4m3) (s : EReal) (w1s b1 : FVec Ideal S21504 .f32)
    (gain : FVec Ideal S128 .f32) (cos sin : FVec Ideal S2x1024x64 .f32)
    (hs : ∀ i, V c main_v26 i = s)
    (h6 : ∀ (R : Fin 2048) (k : Fin 3072), V c main_v6 (ix2 R k) = C (ix2 R k))
    (hW : ∀ (k : Fin 3072) (J : Fin 21504), V c main_arg4 (ix2 k J) = W (ix2 k J))
    (hw1s : ∀ (J : Fin 21504), V c main_v0 (ix2 0 J) = w1s (ix1 J))
    (hb1 : ∀ (J : Fin 21504), V c main_v1 (ix2 0 J) = b1 (ix1 J))
    (hc : ∀ (R : Fin 2048) (l : Fin 128), V c main_v21 (ix2 R l) = cos (ix3 ⟨R.val / 1024, by omega⟩ ⟨R.val % 1024, by omega⟩ ⟨l.val / 2, by omega⟩) * gain (ix1 l))
    (hn : ∀ (R : Fin 2048) (l : Fin 128) (h : l.val % 2 = 0), V c main_v25 (ix2 R l) = sin (ix3 ⟨R.val / 1024, by omega⟩ ⟨R.val % 1024, by omega⟩ ⟨l.val / 2, by omega⟩) * (-1 * gain (ix1 ⟨l.val + 1, by omega⟩)))
    (hp : ∀ (R : Fin 2048) (l : Fin 128) (h : ¬ l.val % 2 = 0), V c main_v25 (ix2 R l) = sin (ix3 ⟨R.val / 1024, by omega⟩ ⟨R.val % 1024, by omega⟩ ⟨l.val / 2, by omega⟩) * (1 * gain (ix1 ⟨l.val - 1, by omega⟩)))
    : (dat1 V c).arrAt 7 cfg1.N = Cert.Forms.rot C W s w1s b1 0 (by omega) gain cos sin := by
  refine (dat1 V c).arrAt_eq_of_covers 7 _ (by decide +kernel) fun t _ y => ?_
  blk_simp
  rw [after1_7]
  unfold outsAt1
  frame_out
  have ht := (idx1 t).2.2.2.2.2.2.2.2
  have hy0 : (y 0 : ℕ) < 2048 := (y 0).isLt
  have hy1 : (y 1 : ℕ) < 1024 := (y 1).isLt
  obtain ⟨R, hR⟩ : ∃ R : Fin 2048, (R : ℕ) = y 0 := ⟨⟨y 0, hy0⟩, rfl⟩
  obtain ⟨J, hJ⟩ : ∃ J : Fin 3072, (J : ℕ) = t.val * 1024 + (y 1 : ℕ) := ⟨⟨t.val * 1024 + (y 1 : ℕ), by omega⟩, rfl⟩
  rw [emb1 t y R J hR hJ]
  have piece := chunk1 V c C W s w1s b1 gain cos sin h6 hW hw1s hb1 hc hn hp t
  clear h6 hW hw1s hb1 hc hn hp
  canon_tiles x h
  case piece0 => exact piece 1792 896 rfl (by decide) inb_S2048x3072_S256x3072_1792_0 inb_S2048x128_S256x128_1792_0 slices_S256x1024_o0_896_S256x128 x _ (hs _) R J (hR.trans h0) (hJ.trans (congrArg (t.val * 1024 + ·) h1))
  case piece1 => exact piece 1792 768 rfl (by decide) inb_S2048x3072_S256x3072_1792_0 inb_S2048x128_S256x128_1792_0 slices_S256x1024_o0_768_S256x128 x _ (hs _) R J (hR.trans h0) (hJ.trans (congrArg (t.val * 1024 + ·) h1))
  case piece2 => exact piece 1792 640 rfl (by decide) inb_S2048x3072_S256x3072_1792_0 inb_S2048x128_S256x128_1792_0 slices_S256x1024_o0_640_S256x128 x _ (hs _) R J (hR.trans h0) (hJ.trans (congrArg (t.val * 1024 + ·) h1))
  case piece3 => exact piece 1792 512 rfl (by decide) inb_S2048x3072_S256x3072_1792_0 inb_S2048x128_S256x128_1792_0 slices_S256x1024_o0_512_S256x128 x _ (hs _) R J (hR.trans h0) (hJ.trans (congrArg (t.val * 1024 + ·) h1))
  case piece4 => exact piece 1792 384 rfl (by decide) inb_S2048x3072_S256x3072_1792_0 inb_S2048x128_S256x128_1792_0 slices_S256x1024_o0_384_S256x128 x _ (hs _) R J (hR.trans h0) (hJ.trans (congrArg (t.val * 1024 + ·) h1))
  case piece5 => exact piece 1792 256 rfl (by decide) inb_S2048x3072_S256x3072_1792_0 inb_S2048x128_S256x128_1792_0 slices_S256x1024_o0_256_S256x128 x _ (hs _) R J (hR.trans h0) (hJ.trans (congrArg (t.val * 1024 + ·) h1))
  case piece6 => exact piece 1792 128 rfl (by decide) inb_S2048x3072_S256x3072_1792_0 inb_S2048x128_S256x128_1792_0 slices_S256x1024_o0_128_S256x128 x _ (hs _) R J (hR.trans h0) (hJ.trans (congrArg (t.val * 1024 + ·) h1))
  case piece7 => exact piece 1792 0 rfl (by decide) inb_S2048x3072_S256x3072_1792_0 inb_S2048x128_S256x128_1792_0 slices_S256x1024_o0_0_S256x128 x _ (hs _) R J (hR.trans h0) (hJ.trans (congrArg (t.val * 1024 + ·) (h1.trans (Nat.zero_add _).symm)))
  case piece8 => exact piece 1536 896 rfl (by decide) inb_S2048x3072_S256x3072_1536_0 inb_S2048x128_S256x128_1536_0 slices_S256x1024_o0_896_S256x128 x _ (hs _) R J (hR.trans h0) (hJ.trans (congrArg (t.val * 1024 + ·) h1))
  case piece9 => exact piece 1536 768 rfl (by decide) inb_S2048x3072_S256x3072_1536_0 inb_S2048x128_S256x128_1536_0 slices_S256x1024_o0_768_S256x128 x _ (hs _) R J (hR.trans h0) (hJ.trans (congrArg (t.val * 1024 + ·) h1))
  case piece10 => exact piece 1536 640 rfl (by decide) inb_S2048x3072_S256x3072_1536_0 inb_S2048x128_S256x128_1536_0 slices_S256x1024_o0_640_S256x128 x _ (hs _) R J (hR.trans h0) (hJ.trans (congrArg (t.val * 1024 + ·) h1))
  case piece11 => exact piece 1536 512 rfl (by decide) inb_S2048x3072_S256x3072_1536_0 inb_S2048x128_S256x128_1536_0 slices_S256x1024_o0_512_S256x128 x _ (hs _) R J (hR.trans h0) (hJ.trans (congrArg (t.val * 1024 + ·) h1))
  case piece12 => exact piece 1536 384 rfl (by decide) inb_S2048x3072_S256x3072_1536_0 inb_S2048x128_S256x128_1536_0 slices_S256x1024_o0_384_S256x128 x _ (hs _) R J (hR.trans h0) (hJ.trans (congrArg (t.val * 1024 + ·) h1))
  case piece13 => exact piece 1536 256 rfl (by decide) inb_S2048x3072_S256x3072_1536_0 inb_S2048x128_S256x128_1536_0 slices_S256x1024_o0_256_S256x128 x _ (hs _) R J (hR.trans h0) (hJ.trans (congrArg (t.val * 1024 + ·) h1))
  case piece14 => exact piece 1536 128 rfl (by decide) inb_S2048x3072_S256x3072_1536_0 inb_S2048x128_S256x128_1536_0 slices_S256x1024_o0_128_S256x128 x _ (hs _) R J (hR.trans h0) (hJ.trans (congrArg (t.val * 1024 + ·) h1))
  case piece15 => exact piece 1536 0 rfl (by decide) inb_S2048x3072_S256x3072_1536_0 inb_S2048x128_S256x128_1536_0 slices_S256x1024_o0_0_S256x128 x _ (hs _) R J (hR.trans h0) (hJ.trans (congrArg (t.val * 1024 + ·) (h1.trans (Nat.zero_add _).symm)))
  case piece16 => exact piece 1280 896 rfl (by decide) inb_S2048x3072_S256x3072_1280_0 inb_S2048x128_S256x128_1280_0 slices_S256x1024_o0_896_S256x128 x _ (hs _) R J (hR.trans h0) (hJ.trans (congrArg (t.val * 1024 + ·) h1))
  case piece17 => exact piece 1280 768 rfl (by decide) inb_S2048x3072_S256x3072_1280_0 inb_S2048x128_S256x128_1280_0 slices_S256x1024_o0_768_S256x128 x _ (hs _) R J (hR.trans h0) (hJ.trans (congrArg (t.val * 1024 + ·) h1))
  case piece18 => exact piece 1280 640 rfl (by decide) inb_S2048x3072_S256x3072_1280_0 inb_S2048x128_S256x128_1280_0 slices_S256x1024_o0_640_S256x128 x _ (hs _) R J (hR.trans h0) (hJ.trans (congrArg (t.val * 1024 + ·) h1))
  case piece19 => exact piece 1280 512 rfl (by decide) inb_S2048x3072_S256x3072_1280_0 inb_S2048x128_S256x128_1280_0 slices_S256x1024_o0_512_S256x128 x _ (hs _) R J (hR.trans h0) (hJ.trans (congrArg (t.val * 1024 + ·) h1))
  case piece20 => exact piece 1280 384 rfl (by decide) inb_S2048x3072_S256x3072_1280_0 inb_S2048x128_S256x128_1280_0 slices_S256x1024_o0_384_S256x128 x _ (hs _) R J (hR.trans h0) (hJ.trans (congrArg (t.val * 1024 + ·) h1))
  case piece21 => exact piece 1280 256 rfl (by decide) inb_S2048x3072_S256x3072_1280_0 inb_S2048x128_S256x128_1280_0 slices_S256x1024_o0_256_S256x128 x _ (hs _) R J (hR.trans h0) (hJ.trans (congrArg (t.val * 1024 + ·) h1))
  case piece22 => exact piece 1280 128 rfl (by decide) inb_S2048x3072_S256x3072_1280_0 inb_S2048x128_S256x128_1280_0 slices_S256x1024_o0_128_S256x128 x _ (hs _) R J (hR.trans h0) (hJ.trans (congrArg (t.val * 1024 + ·) h1))
  case piece23 => exact piece 1280 0 rfl (by decide) inb_S2048x3072_S256x3072_1280_0 inb_S2048x128_S256x128_1280_0 slices_S256x1024_o0_0_S256x128 x _ (hs _) R J (hR.trans h0) (hJ.trans (congrArg (t.val * 1024 + ·) (h1.trans (Nat.zero_add _).symm)))
  case piece24 => exact piece 1024 896 rfl (by decide) inb_S2048x3072_S256x3072_1024_0 inb_S2048x128_S256x128_1024_0 slices_S256x1024_o0_896_S256x128 x _ (hs _) R J (hR.trans h0) (hJ.trans (congrArg (t.val * 1024 + ·) h1))
  case piece25 => exact piece 1024 768 rfl (by decide) inb_S2048x3072_S256x3072_1024_0 inb_S2048x128_S256x128_1024_0 slices_S256x1024_o0_768_S256x128 x _ (hs _) R J (hR.trans h0) (hJ.trans (congrArg (t.val * 1024 + ·) h1))
  case piece26 => exact piece 1024 640 rfl (by decide) inb_S2048x3072_S256x3072_1024_0 inb_S2048x128_S256x128_1024_0 slices_S256x1024_o0_640_S256x128 x _ (hs _) R J (hR.trans h0) (hJ.trans (congrArg (t.val * 1024 + ·) h1))
  case piece27 => exact piece 1024 512 rfl (by decide) inb_S2048x3072_S256x3072_1024_0 inb_S2048x128_S256x128_1024_0 slices_S256x1024_o0_512_S256x128 x _ (hs _) R J (hR.trans h0) (hJ.trans (congrArg (t.val * 1024 + ·) h1))
  case piece28 => exact piece 1024 384 rfl (by decide) inb_S2048x3072_S256x3072_1024_0 inb_S2048x128_S256x128_1024_0 slices_S256x1024_o0_384_S256x128 x _ (hs _) R J (hR.trans h0) (hJ.trans (congrArg (t.val * 1024 + ·) h1))
  case piece29 => exact piece 1024 256 rfl (by decide) inb_S2048x3072_S256x3072_1024_0 inb_S2048x128_S256x128_1024_0 slices_S256x1024_o0_256_S256x128 x _ (hs _) R J (hR.trans h0) (hJ.trans (congrArg (t.val * 1024 + ·) h1))
  case piece30 => exact piece 1024 128 rfl (by decide) inb_S2048x3072_S256x3072_1024_0 inb_S2048x128_S256x128_1024_0 slices_S256x1024_o0_128_S256x128 x _ (hs _) R J (hR.trans h0) (hJ.trans (congrArg (t.val * 1024 + ·) h1))
  case piece31 => exact piece 1024 0 rfl (by decide) inb_S2048x3072_S256x3072_1024_0 inb_S2048x128_S256x128_1024_0 slices_S256x1024_o0_0_S256x128 x _ (hs _) R J (hR.trans h0) (hJ.trans (congrArg (t.val * 1024 + ·) (h1.trans (Nat.zero_add _).symm)))
  case piece32 => exact piece 768 896 rfl (by decide) inb_S2048x3072_S256x3072_768_0 inb_S2048x128_S256x128_768_0 slices_S256x1024_o0_896_S256x128 x _ (hs _) R J (hR.trans h0) (hJ.trans (congrArg (t.val * 1024 + ·) h1))
  case piece33 => exact piece 768 768 rfl (by decide) inb_S2048x3072_S256x3072_768_0 inb_S2048x128_S256x128_768_0 slices_S256x1024_o0_768_S256x128 x _ (hs _) R J (hR.trans h0) (hJ.trans (congrArg (t.val * 1024 + ·) h1))
  case piece34 => exact piece 768 640 rfl (by decide) inb_S2048x3072_S256x3072_768_0 inb_S2048x128_S256x128_768_0 slices_S256x1024_o0_640_S256x128 x _ (hs _) R J (hR.trans h0) (hJ.trans (congrArg (t.val * 1024 + ·) h1))
  case piece35 => exact piece 768 512 rfl (by decide) inb_S2048x3072_S256x3072_768_0 inb_S2048x128_S256x128_768_0 slices_S256x1024_o0_512_S256x128 x _ (hs _) R J (hR.trans h0) (hJ.trans (congrArg (t.val * 1024 + ·) h1))
  case piece36 => exact piece 768 384 rfl (by decide) inb_S2048x3072_S256x3072_768_0 inb_S2048x128_S256x128_768_0 slices_S256x1024_o0_384_S256x128 x _ (hs _) R J (hR.trans h0) (hJ.trans (congrArg (t.val * 1024 + ·) h1))
  case piece37 => exact piece 768 256 rfl (by decide) inb_S2048x3072_S256x3072_768_0 inb_S2048x128_S256x128_768_0 slices_S256x1024_o0_256_S256x128 x _ (hs _) R J (hR.trans h0) (hJ.trans (congrArg (t.val * 1024 + ·) h1))
  case piece38 => exact piece 768 128 rfl (by decide) inb_S2048x3072_S256x3072_768_0 inb_S2048x128_S256x128_768_0 slices_S256x1024_o0_128_S256x128 x _ (hs _) R J (hR.trans h0) (hJ.trans (congrArg (t.val * 1024 + ·) h1))
  case piece39 => exact piece 768 0 rfl (by decide) inb_S2048x3072_S256x3072_768_0 inb_S2048x128_S256x128_768_0 slices_S256x1024_o0_0_S256x128 x _ (hs _) R J (hR.trans h0) (hJ.trans (congrArg (t.val * 1024 + ·) (h1.trans (Nat.zero_add _).symm)))
  case piece40 => exact piece 512 896 rfl (by decide) inb_S2048x3072_S256x3072_512_0 inb_S2048x128_S256x128_512_0 slices_S256x1024_o0_896_S256x128 x _ (hs _) R J (hR.trans h0) (hJ.trans (congrArg (t.val * 1024 + ·) h1))
  case piece41 => exact piece 512 768 rfl (by decide) inb_S2048x3072_S256x3072_512_0 inb_S2048x128_S256x128_512_0 slices_S256x1024_o0_768_S256x128 x _ (hs _) R J (hR.trans h0) (hJ.trans (congrArg (t.val * 1024 + ·) h1))
  case piece42 => exact piece 512 640 rfl (by decide) inb_S2048x3072_S256x3072_512_0 inb_S2048x128_S256x128_512_0 slices_S256x1024_o0_640_S256x128 x _ (hs _) R J (hR.trans h0) (hJ.trans (congrArg (t.val * 1024 + ·) h1))
  case piece43 => exact piece 512 512 rfl (by decide) inb_S2048x3072_S256x3072_512_0 inb_S2048x128_S256x128_512_0 slices_S256x1024_o0_512_S256x128 x _ (hs _) R J (hR.trans h0) (hJ.trans (congrArg (t.val * 1024 + ·) h1))
  case piece44 => exact piece 512 384 rfl (by decide) inb_S2048x3072_S256x3072_512_0 inb_S2048x128_S256x128_512_0 slices_S256x1024_o0_384_S256x128 x _ (hs _) R J (hR.trans h0) (hJ.trans (congrArg (t.val * 1024 + ·) h1))
  case piece45 => exact piece 512 256 rfl (by decide) inb_S2048x3072_S256x3072_512_0 inb_S2048x128_S256x128_512_0 slices_S256x1024_o0_256_S256x128 x _ (hs _) R J (hR.trans h0) (hJ.trans (congrArg (t.val * 1024 + ·) h1))
  case piece46 => exact piece 512 128 rfl (by decide) inb_S2048x3072_S256x3072_512_0 inb_S2048x128_S256x128_512_0 slices_S256x1024_o0_128_S256x128 x _ (hs _) R J (hR.trans h0) (hJ.trans (congrArg (t.val * 1024 + ·) h1))
  case piece47 => exact piece 512 0 rfl (by decide) inb_S2048x3072_S256x3072_512_0 inb_S2048x128_S256x128_512_0 slices_S256x1024_o0_0_S256x128 x _ (hs _) R J (hR.trans h0) (hJ.trans (congrArg (t.val * 1024 + ·) (h1.trans (Nat.zero_add _).symm)))
  case piece48 => exact piece 256 896 rfl (by decide) inb_S2048x3072_S256x3072_256_0 inb_S2048x128_S256x128_256_0 slices_S256x1024_o0_896_S256x128 x _ (hs _) R J (hR.trans h0) (hJ.trans (congrArg (t.val * 1024 + ·) h1))
  case piece49 => exact piece 256 768 rfl (by decide) inb_S2048x3072_S256x3072_256_0 inb_S2048x128_S256x128_256_0 slices_S256x1024_o0_768_S256x128 x _ (hs _) R J (hR.trans h0) (hJ.trans (congrArg (t.val * 1024 + ·) h1))
  case piece50 => exact piece 256 640 rfl (by decide) inb_S2048x3072_S256x3072_256_0 inb_S2048x128_S256x128_256_0 slices_S256x1024_o0_640_S256x128 x _ (hs _) R J (hR.trans h0) (hJ.trans (congrArg (t.val * 1024 + ·) h1))
  case piece51 => exact piece 256 512 rfl (by decide) inb_S2048x3072_S256x3072_256_0 inb_S2048x128_S256x128_256_0 slices_S256x1024_o0_512_S256x128 x _ (hs _) R J (hR.trans h0) (hJ.trans (congrArg (t.val * 1024 + ·) h1))
  case piece52 => exact piece 256 384 rfl (by decide) inb_S2048x3072_S256x3072_256_0 inb_S2048x128_S256x128_256_0 slices_S256x1024_o0_384_S256x128 x _ (hs _) R J (hR.trans h0) (hJ.trans (congrArg (t.val * 1024 + ·) h1))
  case piece53 => exact piece 256 256 rfl (by decide) inb_S2048x3072_S256x3072_256_0 inb_S2048x128_S256x128_256_0 slices_S256x1024_o0_256_S256x128 x _ (hs _) R J (hR.trans h0) (hJ.trans (congrArg (t.val * 1024 + ·) h1))
  case piece54 => exact piece 256 128 rfl (by decide) inb_S2048x3072_S256x3072_256_0 inb_S2048x128_S256x128_256_0 slices_S256x1024_o0_128_S256x128 x _ (hs _) R J (hR.trans h0) (hJ.trans (congrArg (t.val * 1024 + ·) h1))
  case piece55 => exact piece 256 0 rfl (by decide) inb_S2048x3072_S256x3072_256_0 inb_S2048x128_S256x128_256_0 slices_S256x1024_o0_0_S256x128 x _ (hs _) R J (hR.trans h0) (hJ.trans (congrArg (t.val * 1024 + ·) (h1.trans (Nat.zero_add _).symm)))
  case piece56 => exact piece 0 896 rfl (by decide) inb_S2048x3072_S256x3072_0_0 inb_S2048x128_S256x128_0_0 slices_S256x1024_o0_896_S256x128 x _ (hs _) R J (hR.trans (h0.trans (Nat.zero_add _).symm)) (hJ.trans (congrArg (t.val * 1024 + ·) h1))
  case piece57 => exact piece 0 768 rfl (by decide) inb_S2048x3072_S256x3072_0_0 inb_S2048x128_S256x128_0_0 slices_S256x1024_o0_768_S256x128 x _ (hs _) R J (hR.trans (h0.trans (Nat.zero_add _).symm)) (hJ.trans (congrArg (t.val * 1024 + ·) h1))
  case piece58 => exact piece 0 640 rfl (by decide) inb_S2048x3072_S256x3072_0_0 inb_S2048x128_S256x128_0_0 slices_S256x1024_o0_640_S256x128 x _ (hs _) R J (hR.trans (h0.trans (Nat.zero_add _).symm)) (hJ.trans (congrArg (t.val * 1024 + ·) h1))
  case piece59 => exact piece 0 512 rfl (by decide) inb_S2048x3072_S256x3072_0_0 inb_S2048x128_S256x128_0_0 slices_S256x1024_o0_512_S256x128 x _ (hs _) R J (hR.trans (h0.trans (Nat.zero_add _).symm)) (hJ.trans (congrArg (t.val * 1024 + ·) h1))
  case piece60 => exact piece 0 384 rfl (by decide) inb_S2048x3072_S256x3072_0_0 inb_S2048x128_S256x128_0_0 slices_S256x1024_o0_384_S256x128 x _ (hs _) R J (hR.trans (h0.trans (Nat.zero_add _).symm)) (hJ.trans (congrArg (t.val * 1024 + ·) h1))
  case piece61 => exact piece 0 256 rfl (by decide) inb_S2048x3072_S256x3072_0_0 inb_S2048x128_S256x128_0_0 slices_S256x1024_o0_256_S256x128 x _ (hs _) R J (hR.trans (h0.trans (Nat.zero_add _).symm)) (hJ.trans (congrArg (t.val * 1024 + ·) h1))
  case piece62 => exact piece 0 128 rfl (by decide) inb_S2048x3072_S256x3072_0_0 inb_S2048x128_S256x128_0_0 slices_S256x1024_o0_128_S256x128 x _ (hs _) R J (hR.trans (h0.trans (Nat.zero_add _).symm)) (hJ.trans (congrArg (t.val * 1024 + ·) h1))
  case piece63 => exact piece 0 0 rfl (by decide) inb_S2048x3072_S256x3072_0_0 inb_S2048x128_S256x128_0_0 slices_S256x1024_o0_0_S256x128 x _ (hs _) R J (hR.trans (h0.trans (Nat.zero_add _).symm)) (hJ.trans (congrArg (t.val * 1024 + ·) (h1.trans (Nat.zero_add _).symm)))

end Cert.KernelIdeal.Value

end
-- ==== Proof.Value.K.lean ====
/- The key projection (pallas_call `lin1_k`). -/
module

public import proofs.«01_k».proof.Proof.IdealRun.Region2
public import proofs.«01_k».proof.Proof.Value.Head
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, win2_0.index t = ![0] ∧ win2_1.index t = ![0, 0] ∧ win2_2.index t = ![0, 3 + t.val]
    ∧ win2_3.index t = ![0, 3 + t.val] ∧ win2_4.index t = ![0, 3 + t.val] ∧ win2_5.index t = ![0, 0] ∧ win2_6.index t = ![0, 0]
    ∧ win2_7.index t = ![0, t.val] ∧ t.val < 3 :=
  (by decide +kernel : ∀ t : Fin grid2.N, _)

theorem rd2_1 (c : Dev nD) (t : Fin cfg2.N) (R : Fin 2048) (k : Fin 3072) :
    iblk2 V c 1 t (ix2 R k) = V c main_v6 (ix2 R k) := by
  blk_ext [iblk2, idx2 t]

theorem rd2_2 (c : Dev nD) (t : Fin cfg2.N) (k : Fin 3072) (l : Fin 1024) (J : Fin 21504) (hJ : (J : ℕ) = (3 + t.val) * 1024 + l) :
    iblk2 V c 2 t (ix2 k l) = V c main_arg4 (ix2 k J) := by
  blk_ext [iblk2, idx2 t]

theorem rd2_3 (c : Dev nD) (t : Fin cfg2.N) (l : Fin 1024) (J : Fin 21504) (hJ : (J : ℕ) = (3 + t.val) * 1024 + l) :
    iblk2 V c 3 t (ix2 0 l) = V c main_v0 (ix2 0 J) := by
  blk_ext [iblk2, idx2 t]

theorem rd2_4 (c : Dev nD) (t : Fin cfg2.N) (l : Fin 1024) (J : Fin 21504) (hJ : (J : ℕ) = (3 + t.val) * 1024 + l) :
    iblk2 V c 4 t (ix2 0 l) = V c main_v1 (ix2 0 J) := by
  blk_ext [iblk2, idx2 t]

theorem rd2_5 (c : Dev nD) (t : Fin cfg2.N) (R : Fin 2048) (l : Fin 128) :
    iblk2 V c 5 t (ix2 R l) = V c main_v42 (ix2 R l) := by
  blk_ext [iblk2, idx2 t]

theorem rd2_6 (c : Dev nD) (t : Fin cfg2.N) (R : Fin 2048) (l : Fin 128) :
    iblk2 V c 6 t (ix2 R l) = V c main_v46 (ix2 R l) := by
  blk_ext [iblk2, idx2 t]

theorem emb2 (t : Fin cfg2.N) (y : S2048x1024.Idx) (R : Fin 2048) (J : Fin 3072) (hR : (R : ℕ) = y 0) (hJ : (J : ℕ) = t.val * 1024 + (y 1 : ℕ)) :
    ((View.whole main_v48).slice (win2_7.rect t)).emb y = ix2 R J := by
  blk_ext [idx2 t]

theorem chunk2 (c : Dev nD) (C : FVec Ideal S2048x3072 .fp8e4m3) (W : FVec Ideal S3072x21504 .fp8e4m3) (s : EReal) (w1s b1 : FVec Ideal S21504 .f32)
    (gain : FVec Ideal S128 .f32) (cos sin : FVec Ideal S2x1024x64 .f32)
    (h6 : ∀ (R : Fin 2048) (k : Fin 3072), V c main_v6 (ix2 R k) = C (ix2 R k))
    (hW : ∀ (k : Fin 3072) (J : Fin 21504), V c main_arg4 (ix2 k J) = W (ix2 k J))
    (hw1s : ∀ (J : Fin 21504), V c main_v0 (ix2 0 J) = w1s (ix1 J))
    (hb1 : ∀ (J : Fin 21504), V c main_v1 (ix2 0 J) = b1 (ix1 J))
    (hc : ∀ (R : Fin 2048) (l : Fin 128), V c main_v42 (ix2 R l) = cos (ix3 ⟨R.val / 1024, by omega⟩ ⟨R.val % 1024, by omega⟩ ⟨l.val / 2, by omega⟩) * gain (ix1 l))
    (hn : ∀ (R : Fin 2048) (l : Fin 128) (h : l.val % 2 = 0), V c main_v46 (ix2 R l) = sin (ix3 ⟨R.val / 1024, by omega⟩ ⟨R.val % 1024, by omega⟩ ⟨l.val / 2, by omega⟩) * (-1 * gain (ix1 ⟨l.val + 1, by omega⟩)))
    (hp : ∀ (R : Fin 2048) (l : Fin 128) (h : ¬ l.val % 2 = 0), V c main_v46 (ix2 R l) = sin (ix3 ⟨R.val / 1024, by omega⟩ ⟨R.val % 1024, by omega⟩ ⟨l.val / 2, by omega⟩) * (1 * gain (ix1 ⟨l.val - 1, by omega⟩)))
    (t : Fin cfg2.N) (o p : ℕ) (hp0 : p % 128 = 0) (hp' : p + 128 ≤ 1024) (h : ∀ a, (![o, 0] : Fin 2 → ℕ) a + S256x3072.size a ≤ S2048x3072.size a)
    (hT : ∀ a, (![o, 0] : Fin 2 → ℕ) a + S256x128.size a ≤ S2048x128.size a) (hsl : S256x1024.Slices ![0, p] S256x128)
    (x : S256x128.Idx) (sv : EReal) (hsv : sv = s) (R : Fin 2048) (J : Fin 3072) (hR : (R : ℕ) = o + (x 0 : ℕ)) (hJ : (J : ℕ) = t.val * 1024 + (p + (x 1 : ℕ))) :
    head (k1_pay3 (F := Ideal) (View.ld (iblk2 V c 1 t) (Rect.unit ![o, 0] S256x3072.size h)) (iblk2 V c 2 t) sv (iblk2 V c 3 t) (iblk2 V c 4 t)) p hsl
        (View.ld (iblk2 V c 5 t) (Rect.unit ![o, 0] S256x128.size hT)) (View.ld (iblk2 V c 6 t) (Rect.unit ![o, 0] S256x128.size hT)) x
      = Cert.Forms.rot C W s w1s b1 3072 (by omega) gain cos sin (ix2 R J) := by
  have ht := (idx2 t).2.2.2.2.2.2.2.2
  idx_vars x
  have b1' : x1.val < 128 := x1.isLt
  have hR' : (R : ℕ) = o + (x0 : ℕ) := hR
  have hJ' : (J : ℕ) = t.val * 1024 + (p + (x1 : ℕ)) := hJ
  have hlane : (⟨J.val % 128, by omega⟩ : Fin 128) = x1 := Fin.ext (by dsimp only; omega)
  refine Eq.trans ?_ (congrArg (Cert.Forms.rotAt C W s w1s b1 3072 (by omega) gain cos sin R ⟨J.val / 128, by omega⟩) hlane.symm)
  refine head_eq _ p hsl _ _ C W s w1s b1 3072 (by omega) gain cos sin x0 R ⟨J.val / 128, by omega⟩ x1 hp' (fun d => ?_) ?_ ?_ ?_
  · have hK : 3072 + (J.val / 128 * 128 + d.val) = (3 + t.val) * 1024 + (p + d.val) := by omega
    refine lin_chunk _ _ _ _ _ C W s w1s b1 x0 ⟨p + d, by omega⟩ R ⟨3072 + (J.val / 128 * 128 + d.val), by omega⟩ (fun k => ?_) (fun k => ?_) hsv ?_ ?_
    · rw [ld_rows _ o h x0 k R hR', rd2_1, h6]
    · rw [rd2_2 V c t k ⟨p + d, by omega⟩ ⟨3072 + (J.val / 128 * 128 + d.val), by omega⟩ hK, hW]
    · rw [rd2_3 V c t ⟨p + d, by omega⟩ ⟨3072 + (J.val / 128 * 128 + d.val), by omega⟩ hK, hw1s]
    · rw [rd2_4 V c t ⟨p + d, by omega⟩ ⟨3072 + (J.val / 128 * 128 + d.val), by omega⟩ hK, hb1]
  · rw [ld_tab _ o hT x0 x1 R hR', rd2_5, hc]
  · intro h0; rw [ld_tab _ o hT x0 x1 R hR', rd2_6, hn _ _ h0]
  · intro h0; rw [ld_tab _ o hT x0 x1 R hR', rd2_6, hp _ _ h0]

set_option maxHeartbeats 4000000 in
theorem final2 (c : Dev nD) (C : FVec Ideal S2048x3072 .fp8e4m3) (W : FVec Ideal S3072x21504 .fp8e4m3) (s : EReal) (w1s b1 : FVec Ideal S21504 .f32)
    (gain : FVec Ideal S128 .f32) (cos sin : FVec Ideal S2x1024x64 .f32)
    (hs : ∀ i, V c main_v47 i = s)
    (h6 : ∀ (R : Fin 2048) (k : Fin 3072), V c main_v6 (ix2 R k) = C (ix2 R k))
    (hW : ∀ (k : Fin 3072) (J : Fin 21504), V c main_arg4 (ix2 k J) = W (ix2 k J))
    (hw1s : ∀ (J : Fin 21504), V c main_v0 (ix2 0 J) = w1s (ix1 J))
    (hb1 : ∀ (J : Fin 21504), V c main_v1 (ix2 0 J) = b1 (ix1 J))
    (hc : ∀ (R : Fin 2048) (l : Fin 128), V c main_v42 (ix2 R l) = cos (ix3 ⟨R.val / 1024, by omega⟩ ⟨R.val % 1024, by omega⟩ ⟨l.val / 2, by omega⟩) * gain (ix1 l))
    (hn : ∀ (R : Fin 2048) (l : Fin 128) (h : l.val % 2 = 0), V c main_v46 (ix2 R l) = sin (ix3 ⟨R.val / 1024, by omega⟩ ⟨R.val % 1024, by omega⟩ ⟨l.val / 2, by omega⟩) * (-1 * gain (ix1 ⟨l.val + 1, by omega⟩)))
    (hp : ∀ (R : Fin 2048) (l : Fin 128) (h : ¬ l.val % 2 = 0), V c main_v46 (ix2 R l) = sin (ix3 ⟨R.val / 1024, by omega⟩ ⟨R.val % 1024, by omega⟩ ⟨l.val / 2, by omega⟩) * (1 * gain (ix1 ⟨l.val - 1, by omega⟩)))
    : (dat2 V c).arrAt 7 cfg2.N = Cert.Forms.rot C W s w1s b1 3072 (by omega) gain cos sin := by
  refine (dat2 V c).arrAt_eq_of_covers 7 _ (by decide +kernel) fun t _ y => ?_
  blk_simp
  rw [after2_7]
  unfold outsAt2
  frame_out
  have ht := (idx2 t).2.2.2.2.2.2.2.2
  have hy0 : (y 0 : ℕ) < 2048 := (y 0).isLt
  have hy1 : (y 1 : ℕ) < 1024 := (y 1).isLt
  obtain ⟨R, hR⟩ : ∃ R : Fin 2048, (R : ℕ) = y 0 := ⟨⟨y 0, hy0⟩, rfl⟩
  obtain ⟨J, hJ⟩ : ∃ J : Fin 3072, (J : ℕ) = t.val * 1024 + (y 1 : ℕ) := ⟨⟨t.val * 1024 + (y 1 : ℕ), by omega⟩, rfl⟩
  rw [emb2 t y R J hR hJ]
  have piece := chunk2 V c C W s w1s b1 gain cos sin h6 hW hw1s hb1 hc hn hp t
  clear h6 hW hw1s hb1 hc hn hp
  canon_tiles x h
  case piece0 => exact piece 1792 896 rfl (by decide) inb_S2048x3072_S256x3072_1792_0 inb_S2048x128_S256x128_1792_0 slices_S256x1024_o0_896_S256x128 x _ (hs _) R J (hR.trans h0) (hJ.trans (congrArg (t.val * 1024 + ·) h1))
  case piece1 => exact piece 1792 768 rfl (by decide) inb_S2048x3072_S256x3072_1792_0 inb_S2048x128_S256x128_1792_0 slices_S256x1024_o0_768_S256x128 x _ (hs _) R J (hR.trans h0) (hJ.trans (congrArg (t.val * 1024 + ·) h1))
  case piece2 => exact piece 1792 640 rfl (by decide) inb_S2048x3072_S256x3072_1792_0 inb_S2048x128_S256x128_1792_0 slices_S256x1024_o0_640_S256x128 x _ (hs _) R J (hR.trans h0) (hJ.trans (congrArg (t.val * 1024 + ·) h1))
  case piece3 => exact piece 1792 512 rfl (by decide) inb_S2048x3072_S256x3072_1792_0 inb_S2048x128_S256x128_1792_0 slices_S256x1024_o0_512_S256x128 x _ (hs _) R J (hR.trans h0) (hJ.trans (congrArg (t.val * 1024 + ·) h1))
  case piece4 => exact piece 1792 384 rfl (by decide) inb_S2048x3072_S256x3072_1792_0 inb_S2048x128_S256x128_1792_0 slices_S256x1024_o0_384_S256x128 x _ (hs _) R J (hR.trans h0) (hJ.trans (congrArg (t.val * 1024 + ·) h1))
  case piece5 => exact piece 1792 256 rfl (by decide) inb_S2048x3072_S256x3072_1792_0 inb_S2048x128_S256x128_1792_0 slices_S256x1024_o0_256_S256x128 x _ (hs _) R J (hR.trans h0) (hJ.trans (congrArg (t.val * 1024 + ·) h1))
  case piece6 => exact piece 1792 128 rfl (by decide) inb_S2048x3072_S256x3072_1792_0 inb_S2048x128_S256x128_1792_0 slices_S256x1024_o0_128_S256x128 x _ (hs _) R J (hR.trans h0) (hJ.trans (congrArg (t.val * 1024 + ·) h1))
  case piece7 => exact piece 1792 0 rfl (by decide) inb_S2048x3072_S256x3072_1792_0 inb_S2048x128_S256x128_1792_0 slices_S256x1024_o0_0_S256x128 x _ (hs _) R J (hR.trans h0) (hJ.trans (congrArg (t.val * 1024 + ·) (h1.trans (Nat.zero_add _).symm)))
  case piece8 => exact piece 1536 896 rfl (by decide) inb_S2048x3072_S256x3072_1536_0 inb_S2048x128_S256x128_1536_0 slices_S256x1024_o0_896_S256x128 x _ (hs _) R J (hR.trans h0) (hJ.trans (congrArg (t.val * 1024 + ·) h1))
  case piece9 => exact piece 1536 768 rfl (by decide) inb_S2048x3072_S256x3072_1536_0 inb_S2048x128_S256x128_1536_0 slices_S256x1024_o0_768_S256x128 x _ (hs _) R J (hR.trans h0) (hJ.trans (congrArg (t.val * 1024 + ·) h1))
  case piece10 => exact piece 1536 640 rfl (by decide) inb_S2048x3072_S256x3072_1536_0 inb_S2048x128_S256x128_1536_0 slices_S256x1024_o0_640_S256x128 x _ (hs _) R J (hR.trans h0) (hJ.trans (congrArg (t.val * 1024 + ·) h1))
  case piece11 => exact piece 1536 512 rfl (by decide) inb_S2048x3072_S256x3072_1536_0 inb_S2048x128_S256x128_1536_0 slices_S256x1024_o0_512_S256x128 x _ (hs _) R J (hR.trans h0) (hJ.trans (congrArg (t.val * 1024 + ·) h1))
  case piece12 => exact piece 1536 384 rfl (by decide) inb_S2048x3072_S256x3072_1536_0 inb_S2048x128_S256x128_1536_0 slices_S256x1024_o0_384_S256x128 x _ (hs _) R J (hR.trans h0) (hJ.trans (congrArg (t.val * 1024 + ·) h1))
  case piece13 => exact piece 1536 256 rfl (by decide) inb_S2048x3072_S256x3072_1536_0 inb_S2048x128_S256x128_1536_0 slices_S256x1024_o0_256_S256x128 x _ (hs _) R J (hR.trans h0) (hJ.trans (congrArg (t.val * 1024 + ·) h1))
  case piece14 => exact piece 1536 128 rfl (by decide) inb_S2048x3072_S256x3072_1536_0 inb_S2048x128_S256x128_1536_0 slices_S256x1024_o0_128_S256x128 x _ (hs _) R J (hR.trans h0) (hJ.trans (congrArg (t.val * 1024 + ·) h1))
  case piece15 => exact piece 1536 0 rfl (by decide) inb_S2048x3072_S256x3072_1536_0 inb_S2048x128_S256x128_1536_0 slices_S256x1024_o0_0_S256x128 x _ (hs _) R J (hR.trans h0) (hJ.trans (congrArg (t.val * 1024 + ·) (h1.trans (Nat.zero_add _).symm)))
  case piece16 => exact piece 1280 896 rfl (by decide) inb_S2048x3072_S256x3072_1280_0 inb_S2048x128_S256x128_1280_0 slices_S256x1024_o0_896_S256x128 x _ (hs _) R J (hR.trans h0) (hJ.trans (congrArg (t.val * 1024 + ·) h1))
  case piece17 => exact piece 1280 768 rfl (by decide) inb_S2048x3072_S256x3072_1280_0 inb_S2048x128_S256x128_1280_0 slices_S256x1024_o0_768_S256x128 x _ (hs _) R J (hR.trans h0) (hJ.trans (congrArg (t.val * 1024 + ·) h1))
  case piece18 => exact piece 1280 640 rfl (by decide) inb_S2048x3072_S256x3072_1280_0 inb_S2048x128_S256x128_1280_0 slices_S256x1024_o0_640_S256x128 x _ (hs _) R J (hR.trans h0) (hJ.trans (congrArg (t.val * 1024 + ·) h1))
  case piece19 => exact piece 1280 512 rfl (by decide) inb_S2048x3072_S256x3072_1280_0 inb_S2048x128_S256x128_1280_0 slices_S256x1024_o0_512_S256x128 x _ (hs _) R J (hR.trans h0) (hJ.trans (congrArg (t.val * 1024 + ·) h1))
  case piece20 => exact piece 1280 384 rfl (by decide) inb_S2048x3072_S256x3072_1280_0 inb_S2048x128_S256x128_1280_0 slices_S256x1024_o0_384_S256x128 x _ (hs _) R J (hR.trans h0) (hJ.trans (congrArg (t.val * 1024 + ·) h1))
  case piece21 => exact piece 1280 256 rfl (by decide) inb_S2048x3072_S256x3072_1280_0 inb_S2048x128_S256x128_1280_0 slices_S256x1024_o0_256_S256x128 x _ (hs _) R J (hR.trans h0) (hJ.trans (congrArg (t.val * 1024 + ·) h1))
  case piece22 => exact piece 1280 128 rfl (by decide) inb_S2048x3072_S256x3072_1280_0 inb_S2048x128_S256x128_1280_0 slices_S256x1024_o0_128_S256x128 x _ (hs _) R J (hR.trans h0) (hJ.trans (congrArg (t.val * 1024 + ·) h1))
  case piece23 => exact piece 1280 0 rfl (by decide) inb_S2048x3072_S256x3072_1280_0 inb_S2048x128_S256x128_1280_0 slices_S256x1024_o0_0_S256x128 x _ (hs _) R J (hR.trans h0) (hJ.trans (congrArg (t.val * 1024 + ·) (h1.trans (Nat.zero_add _).symm)))
  case piece24 => exact piece 1024 896 rfl (by decide) inb_S2048x3072_S256x3072_1024_0 inb_S2048x128_S256x128_1024_0 slices_S256x1024_o0_896_S256x128 x _ (hs _) R J (hR.trans h0) (hJ.trans (congrArg (t.val * 1024 + ·) h1))
  case piece25 => exact piece 1024 768 rfl (by decide) inb_S2048x3072_S256x3072_1024_0 inb_S2048x128_S256x128_1024_0 slices_S256x1024_o0_768_S256x128 x _ (hs _) R J (hR.trans h0) (hJ.trans (congrArg (t.val * 1024 + ·) h1))
  case piece26 => exact piece 1024 640 rfl (by decide) inb_S2048x3072_S256x3072_1024_0 inb_S2048x128_S256x128_1024_0 slices_S256x1024_o0_640_S256x128 x _ (hs _) R J (hR.trans h0) (hJ.trans (congrArg (t.val * 1024 + ·) h1))
  case piece27 => exact piece 1024 512 rfl (by decide) inb_S2048x3072_S256x3072_1024_0 inb_S2048x128_S256x128_1024_0 slices_S256x1024_o0_512_S256x128 x _ (hs _) R J (hR.trans h0) (hJ.trans (congrArg (t.val * 1024 + ·) h1))
  case piece28 => exact piece 1024 384 rfl (by decide) inb_S2048x3072_S256x3072_1024_0 inb_S2048x128_S256x128_1024_0 slices_S256x1024_o0_384_S256x128 x _ (hs _) R J (hR.trans h0) (hJ.trans (congrArg (t.val * 1024 + ·) h1))
  case piece29 => exact piece 1024 256 rfl (by decide) inb_S2048x3072_S256x3072_1024_0 inb_S2048x128_S256x128_1024_0 slices_S256x1024_o0_256_S256x128 x _ (hs _) R J (hR.trans h0) (hJ.trans (congrArg (t.val * 1024 + ·) h1))
  case piece30 => exact piece 1024 128 rfl (by decide) inb_S2048x3072_S256x3072_1024_0 inb_S2048x128_S256x128_1024_0 slices_S256x1024_o0_128_S256x128 x _ (hs _) R J (hR.trans h0) (hJ.trans (congrArg (t.val * 1024 + ·) h1))
  case piece31 => exact piece 1024 0 rfl (by decide) inb_S2048x3072_S256x3072_1024_0 inb_S2048x128_S256x128_1024_0 slices_S256x1024_o0_0_S256x128 x _ (hs _) R J (hR.trans h0) (hJ.trans (congrArg (t.val * 1024 + ·) (h1.trans (Nat.zero_add _).symm)))
  case piece32 => exact piece 768 896 rfl (by decide) inb_S2048x3072_S256x3072_768_0 inb_S2048x128_S256x128_768_0 slices_S256x1024_o0_896_S256x128 x _ (hs _) R J (hR.trans h0) (hJ.trans (congrArg (t.val * 1024 + ·) h1))
  case piece33 => exact piece 768 768 rfl (by decide) inb_S2048x3072_S256x3072_768_0 inb_S2048x128_S256x128_768_0 slices_S256x1024_o0_768_S256x128 x _ (hs _) R J (hR.trans h0) (hJ.trans (congrArg (t.val * 1024 + ·) h1))
  case piece34 => exact piece 768 640 rfl (by decide) inb_S2048x3072_S256x3072_768_0 inb_S2048x128_S256x128_768_0 slices_S256x1024_o0_640_S256x128 x _ (hs _) R J (hR.trans h0) (hJ.trans (congrArg (t.val * 1024 + ·) h1))
  case piece35 => exact piece 768 512 rfl (by decide) inb_S2048x3072_S256x3072_768_0 inb_S2048x128_S256x128_768_0 slices_S256x1024_o0_512_S256x128 x _ (hs _) R J (hR.trans h0) (hJ.trans (congrArg (t.val * 1024 + ·) h1))
  case piece36 => exact piece 768 384 rfl (by decide) inb_S2048x3072_S256x3072_768_0 inb_S2048x128_S256x128_768_0 slices_S256x1024_o0_384_S256x128 x _ (hs _) R J (hR.trans h0) (hJ.trans (congrArg (t.val * 1024 + ·) h1))
  case piece37 => exact piece 768 256 rfl (by decide) inb_S2048x3072_S256x3072_768_0 inb_S2048x128_S256x128_768_0 slices_S256x1024_o0_256_S256x128 x _ (hs _) R J (hR.trans h0) (hJ.trans (congrArg (t.val * 1024 + ·) h1))
  case piece38 => exact piece 768 128 rfl (by decide) inb_S2048x3072_S256x3072_768_0 inb_S2048x128_S256x128_768_0 slices_S256x1024_o0_128_S256x128 x _ (hs _) R J (hR.trans h0) (hJ.trans (congrArg (t.val * 1024 + ·) h1))
  case piece39 => exact piece 768 0 rfl (by decide) inb_S2048x3072_S256x3072_768_0 inb_S2048x128_S256x128_768_0 slices_S256x1024_o0_0_S256x128 x _ (hs _) R J (hR.trans h0) (hJ.trans (congrArg (t.val * 1024 + ·) (h1.trans (Nat.zero_add _).symm)))
  case piece40 => exact piece 512 896 rfl (by decide) inb_S2048x3072_S256x3072_512_0 inb_S2048x128_S256x128_512_0 slices_S256x1024_o0_896_S256x128 x _ (hs _) R J (hR.trans h0) (hJ.trans (congrArg (t.val * 1024 + ·) h1))
  case piece41 => exact piece 512 768 rfl (by decide) inb_S2048x3072_S256x3072_512_0 inb_S2048x128_S256x128_512_0 slices_S256x1024_o0_768_S256x128 x _ (hs _) R J (hR.trans h0) (hJ.trans (congrArg (t.val * 1024 + ·) h1))
  case piece42 => exact piece 512 640 rfl (by decide) inb_S2048x3072_S256x3072_512_0 inb_S2048x128_S256x128_512_0 slices_S256x1024_o0_640_S256x128 x _ (hs _) R J (hR.trans h0) (hJ.trans (congrArg (t.val * 1024 + ·) h1))
  case piece43 => exact piece 512 512 rfl (by decide) inb_S2048x3072_S256x3072_512_0 inb_S2048x128_S256x128_512_0 slices_S256x1024_o0_512_S256x128 x _ (hs _) R J (hR.trans h0) (hJ.trans (congrArg (t.val * 1024 + ·) h1))
  case piece44 => exact piece 512 384 rfl (by decide) inb_S2048x3072_S256x3072_512_0 inb_S2048x128_S256x128_512_0 slices_S256x1024_o0_384_S256x128 x _ (hs _) R J (hR.trans h0) (hJ.trans (congrArg (t.val * 1024 + ·) h1))
  case piece45 => exact piece 512 256 rfl (by decide) inb_S2048x3072_S256x3072_512_0 inb_S2048x128_S256x128_512_0 slices_S256x1024_o0_256_S256x128 x _ (hs _) R J (hR.trans h0) (hJ.trans (congrArg (t.val * 1024 + ·) h1))
  case piece46 => exact piece 512 128 rfl (by decide) inb_S2048x3072_S256x3072_512_0 inb_S2048x128_S256x128_512_0 slices_S256x1024_o0_128_S256x128 x _ (hs _) R J (hR.trans h0) (hJ.trans (congrArg (t.val * 1024 + ·) h1))
  case piece47 => exact piece 512 0 rfl (by decide) inb_S2048x3072_S256x3072_512_0 inb_S2048x128_S256x128_512_0 slices_S256x1024_o0_0_S256x128 x _ (hs _) R J (hR.trans h0) (hJ.trans (congrArg (t.val * 1024 + ·) (h1.trans (Nat.zero_add _).symm)))
  case piece48 => exact piece 256 896 rfl (by decide) inb_S2048x3072_S256x3072_256_0 inb_S2048x128_S256x128_256_0 slices_S256x1024_o0_896_S256x128 x _ (hs _) R J (hR.trans h0) (hJ.trans (congrArg (t.val * 1024 + ·) h1))
  case piece49 => exact piece 256 768 rfl (by decide) inb_S2048x3072_S256x3072_256_0 inb_S2048x128_S256x128_256_0 slices_S256x1024_o0_768_S256x128 x _ (hs _) R J (hR.trans h0) (hJ.trans (congrArg (t.val * 1024 + ·) h1))
  case piece50 => exact piece 256 640 rfl (by decide) inb_S2048x3072_S256x3072_256_0 inb_S2048x128_S256x128_256_0 slices_S256x1024_o0_640_S256x128 x _ (hs _) R J (hR.trans h0) (hJ.trans (congrArg (t.val * 1024 + ·) h1))
  case piece51 => exact piece 256 512 rfl (by decide) inb_S2048x3072_S256x3072_256_0 inb_S2048x128_S256x128_256_0 slices_S256x1024_o0_512_S256x128 x _ (hs _) R J (hR.trans h0) (hJ.trans (congrArg (t.val * 1024 + ·) h1))
  case piece52 => exact piece 256 384 rfl (by decide) inb_S2048x3072_S256x3072_256_0 inb_S2048x128_S256x128_256_0 slices_S256x1024_o0_384_S256x128 x _ (hs _) R J (hR.trans h0) (hJ.trans (congrArg (t.val * 1024 + ·) h1))
  case piece53 => exact piece 256 256 rfl (by decide) inb_S2048x3072_S256x3072_256_0 inb_S2048x128_S256x128_256_0 slices_S256x1024_o0_256_S256x128 x _ (hs _) R J (hR.trans h0) (hJ.trans (congrArg (t.val * 1024 + ·) h1))
  case piece54 => exact piece 256 128 rfl (by decide) inb_S2048x3072_S256x3072_256_0 inb_S2048x128_S256x128_256_0 slices_S256x1024_o0_128_S256x128 x _ (hs _) R J (hR.trans h0) (hJ.trans (congrArg (t.val * 1024 + ·) h1))
  case piece55 => exact piece 256 0 rfl (by decide) inb_S2048x3072_S256x3072_256_0 inb_S2048x128_S256x128_256_0 slices_S256x1024_o0_0_S256x128 x _ (hs _) R J (hR.trans h0) (hJ.trans (congrArg (t.val * 1024 + ·) (h1.trans (Nat.zero_add _).symm)))
  case piece56 => exact piece 0 896 rfl (by decide) inb_S2048x3072_S256x3072_0_0 inb_S2048x128_S256x128_0_0 slices_S256x1024_o0_896_S256x128 x _ (hs _) R J (hR.trans (h0.trans (Nat.zero_add _).symm)) (hJ.trans (congrArg (t.val * 1024 + ·) h1))
  case piece57 => exact piece 0 768 rfl (by decide) inb_S2048x3072_S256x3072_0_0 inb_S2048x128_S256x128_0_0 slices_S256x1024_o0_768_S256x128 x _ (hs _) R J (hR.trans (h0.trans (Nat.zero_add _).symm)) (hJ.trans (congrArg (t.val * 1024 + ·) h1))
  case piece58 => exact piece 0 640 rfl (by decide) inb_S2048x3072_S256x3072_0_0 inb_S2048x128_S256x128_0_0 slices_S256x1024_o0_640_S256x128 x _ (hs _) R J (hR.trans (h0.trans (Nat.zero_add _).symm)) (hJ.trans (congrArg (t.val * 1024 + ·) h1))
  case piece59 => exact piece 0 512 rfl (by decide) inb_S2048x3072_S256x3072_0_0 inb_S2048x128_S256x128_0_0 slices_S256x1024_o0_512_S256x128 x _ (hs _) R J (hR.trans (h0.trans (Nat.zero_add _).symm)) (hJ.trans (congrArg (t.val * 1024 + ·) h1))
  case piece60 => exact piece 0 384 rfl (by decide) inb_S2048x3072_S256x3072_0_0 inb_S2048x128_S256x128_0_0 slices_S256x1024_o0_384_S256x128 x _ (hs _) R J (hR.trans (h0.trans (Nat.zero_add _).symm)) (hJ.trans (congrArg (t.val * 1024 + ·) h1))
  case piece61 => exact piece 0 256 rfl (by decide) inb_S2048x3072_S256x3072_0_0 inb_S2048x128_S256x128_0_0 slices_S256x1024_o0_256_S256x128 x _ (hs _) R J (hR.trans (h0.trans (Nat.zero_add _).symm)) (hJ.trans (congrArg (t.val * 1024 + ·) h1))
  case piece62 => exact piece 0 128 rfl (by decide) inb_S2048x3072_S256x3072_0_0 inb_S2048x128_S256x128_0_0 slices_S256x1024_o0_128_S256x128 x _ (hs _) R J (hR.trans (h0.trans (Nat.zero_add _).symm)) (hJ.trans (congrArg (t.val * 1024 + ·) h1))
  case piece63 => exact piece 0 0 rfl (by decide) inb_S2048x3072_S256x3072_0_0 inb_S2048x128_S256x128_0_0 slices_S256x1024_o0_0_S256x128 x _ (hs _) R J (hR.trans (h0.trans (Nat.zero_add _).symm)) (hJ.trans (congrArg (t.val * 1024 + ·) (h1.trans (Nat.zero_add _).symm)))

end Cert.KernelIdeal.Value

end
-- ==== Proof.Value.V.lean ====
/- The value projection (pallas_call `lin1_v`). -/
module

public import proofs.«01_k».proof.Proof.IdealRun.Region3
public import proofs.«01_k».proof.Proof.Value.Common
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, win3_0.index t = ![0] ∧ win3_1.index t = ![0, 0] ∧ win3_2.index t = ![0, 6 + t.val]
    ∧ win3_3.index t = ![0, 6 + t.val] ∧ win3_4.index t = ![0, 6 + t.val] ∧ win3_5.index t = ![0, t.val] ∧ t.val < 3 :=
  (by decide +kernel : ∀ t : Fin grid3.N, _)

/-- One element of a chunk of 256 rows. -/
theorem chunk3 (x : FVec Ideal S256x3072 .fp8e4m3) (w : FVec Ideal S3072x1024 .fp8e4m3) (s : EReal) (ws b : FVec Ideal S1x1024 .f32)
    (C : FVec Ideal S2048x3072 .fp8e4m3) (W : FVec Ideal S3072x21504 .fp8e4m3) (s0 : EReal) (w1s b1 : FVec Ideal S21504 .f32)
    (r : Fin 256) (l : Fin 1024) (R : Fin 2048) (J : Fin 21504)
    (hx : ∀ k : Fin 3072, x (ix2 r k) = C (ix2 R k)) (hw : ∀ k : Fin 3072, w (ix2 k l) = W (ix2 k J)) (hs : s = s0)
    (hws : ws (ix2 0 l) = w1s (ix1 J)) (hb : b (ix2 0 l) = b1 (ix1 J)) :
    k3_pay1 (F := Ideal) x w s ws b (ix2 r l) = Cert.Forms.lin C W s0 w1s b1 R J := by
  subst hs
  pointwise [k3_pay1]
  simp only [hx, hw, hws, hb, Cert.Forms.lin]

theorem rd3_1 (c : Dev nD) (t : Fin cfg3.N) (R : Fin 2048) (k : Fin 3072) :
    iblk3 V c 1 t (ix2 R k) = V c main_v6 (ix2 R k) := by
  blk_ext [iblk3, idx3 t]

theorem rd3_2 (c : Dev nD) (t : Fin cfg3.N) (k : Fin 3072) (l : Fin 1024) (J : Fin 21504) (hJ : (J : ℕ) = (6 + t.val) * 1024 + l) :
    iblk3 V c 2 t (ix2 k l) = V c main_arg4 (ix2 k J) := by
  blk_ext [iblk3, idx3 t]

theorem rd3_3 (c : Dev nD) (t : Fin cfg3.N) (l : Fin 1024) (J : Fin 21504) (hJ : (J : ℕ) = (6 + t.val) * 1024 + l) :
    iblk3 V c 3 t (ix2 0 l) = V c main_v0 (ix2 0 J) := by
  blk_ext [iblk3, idx3 t]

theorem rd3_4 (c : Dev nD) (t : Fin cfg3.N) (l : Fin 1024) (J : Fin 21504) (hJ : (J : ℕ) = (6 + t.val) * 1024 + l) :
    iblk3 V c 4 t (ix2 0 l) = V c main_v1 (ix2 0 J) := by
  blk_ext [iblk3, idx3 t]

theorem emb3 (t : Fin cfg3.N) (y : S2048x1024.Idx) (R : Fin 2048) (J : Fin 3072) (hR : (R : ℕ) = y 0) (hJ : (J : ℕ) = t.val * 1024 + (y 1 : ℕ)) :
    ((View.whole main_v50).slice (win3_5.rect t)).emb y = ix2 R J := by
  blk_ext [idx3 t]

theorem final3 (c : Dev nD) (C : FVec Ideal S2048x3072 .fp8e4m3) (W : FVec Ideal S3072x21504 .fp8e4m3) (s : EReal) (w1s b1 : FVec Ideal S21504 .f32)
    (h49 : ∀ i, V c main_v49 i = s)
    (h6 : ∀ (R : Fin 2048) (k : Fin 3072), V c main_v6 (ix2 R k) = C (ix2 R k))
    (hW : ∀ (k : Fin 3072) (J : Fin 21504), V c main_arg4 (ix2 k J) = W (ix2 k J))
    (h0 : ∀ (J : Fin 21504), V c main_v0 (ix2 0 J) = w1s (ix1 J))
    (h1 : ∀ (J : Fin 21504), V c main_v1 (ix2 0 J) = b1 (ix1 J)) :
    (dat3 V c).arrAt 5 cfg3.N = Cert.Forms.vals C W s w1s b1 := by
  refine (dat3 V c).arrAt_eq_of_covers 5 _ (by decide +kernel) fun t _ y => ?_
  blk_simp
  rw [after3_5]
  unfold outsAt3
  frame_out
  have ht := (idx3 t).2.2.2.2.2.2
  have hy0 : (y 0 : ℕ) < 2048 := (y 0).isLt
  have hy1 : (y 1 : ℕ) < 1024 := (y 1).isLt
  rw [emb3 t y ⟨y 0, hy0⟩ ⟨t.val * 1024 + (y 1 : ℕ), by omega⟩ rfl rfl]
  have hchunk : ∀ (o : ℕ) (h : ∀ a, (![o, 0] : Fin 2 → ℕ) a + S256x3072.size a ≤ S2048x3072.size a) (x : S256x1024.Idx) (sv : EReal), sv = s →
      (y 0 : ℕ) = o + (x 0 : ℕ) → (y 1 : ℕ) = (x 1 : ℕ) →
      k3_pay1 (F := Ideal) (View.ld (iblk3 V c 1 t) (Rect.unit ![o, 0] S256x3072.size h)) (iblk3 V c 2 t)
        sv (iblk3 V c 3 t) (iblk3 V c 4 t) x
        = Cert.Forms.vals C W s w1s b1 (ix2 ⟨y 0, hy0⟩ ⟨t.val * 1024 + (y 1 : ℕ), by omega⟩) := by
    intro o h x sv hsv hx0 hx1
    idx_vars x
    have hJ : 6144 + (t.val * 1024 + (y 1 : ℕ)) = (6 + t.val) * 1024 + (x1 : ℕ) := by
      have : (y 1 : ℕ) = (x1 : ℕ) := hx1
      omega
    refine chunk3 _ _ _ _ _ C W s w1s b1 x0 x1 ⟨y 0, hy0⟩ ⟨6144 + (t.val * 1024 + (y 1 : ℕ)), by omega⟩ (fun k => ?_) (fun k => ?_) hsv ?_ ?_
    · rw [ld_rows _ o h x0 k ⟨y 0, hy0⟩ hx0, rd3_1, h6]
    · rw [rd3_2 V c t k x1 ⟨6144 + (t.val * 1024 + (y 1 : ℕ)), by omega⟩ hJ, hW]
    · rw [rd3_3 V c t x1 ⟨6144 + (t.val * 1024 + (y 1 : ℕ)), by omega⟩ hJ, h0]
    · rw [rd3_4 V c t x1 ⟨6144 + (t.val * 1024 + (y 1 : ℕ)), by omega⟩ hJ, h1]
  clear h6 hW h0 h1
  canon_tiles x h
  all_goals exact hchunk _ _ x _ (h49 _) (by omega) h1

end Cert.KernelIdeal.Value

end
-- ==== Proof.Value.Bounds.lean ====
/- Two facts about single extended reals: the word of minus infinity, and that a magnitude is not negative. -/
module

public import Idealize.ShloMosaic.Lib.Pointwise
public import Idealize.ShloMosaic.Lib.IdealHost

@[expose] public section

noncomputable section

namespace Cert.Scalar

open Idealize.ShloMosaic

/-- The pattern of minus infinity. -/
theorem ofBits_neg_inf : Ideal.ofBits .f32 0xFF800000#32 = ⊥ := by
  simp [Ideal.ofBits, Ideal.ieee, -EReal.coe_mul]

/-- An absolute value is not negative. -/
theorem abs_nonneg (x : EReal) : 0 ≤ max x (-x) := by
  rcases le_total 0 x with h | h
  · exact le_max_of_le_left h
  · exact le_max_of_le_right (by simpa using EReal.neg_le_neg_iff.mpr h)

end Cert.Scalar

end
-- ==== Proof.Value.Mlp.lean ====
/- The MLP half of the first projection (pallas_call `lin1_mlp`). -/
module

public import proofs.«01_k».proof.Proof.IdealRun.Region4
public import proofs.«01_k».proof.Proof.Value.Common
public import proofs.«01_k».proof.Proof.Value.Bounds
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx4 : ∀ t : Fin cfg4.N, win4_0.index t = ![0] ∧ win4_1.index t = ![0] ∧ win4_2.index t = ![0, 0] ∧ win4_3.index t = ![0, 9 + t.val]
    ∧ win4_4.index t = ![0, 9 + t.val] ∧ win4_5.index t = ![0, 9 + t.val] ∧ win4_6.index t = ![0, t.val] ∧ win4_7.index t = ![0, 0] ∧ t.val < 12 :=
  (by decide +kernel : ∀ t : Fin grid4.N, _)

/-- Into the running maxima, those of the chunk `G`. -/
def cmax (acc : FVec Ideal S8x1024 .f32) (G : FVec Ideal S256x1024 .f32) : FVec Ideal S8x1024 .f32 :=
  maximumf acc (multiReduction .maximumf [0] S8x1024 (shapeCast S32x8x1024 (absf G) shapeCasts_S256x1024_S32x8x1024) 0xFF800000#32 reduces_S32x8x1024_S8x1024 (.inl rfl) rfl)

theorem gelu_chunk (x : FVec Ideal S256x3072 .fp8e4m3) (w : FVec Ideal S3072x1024 .fp8e4m3) (s : EReal) (ws b : FVec Ideal S1x1024 .f32)
    (C : FVec Ideal S2048x3072 .fp8e4m3) (W : FVec Ideal S3072x21504 .fp8e4m3) (s0 : EReal) (w1s b1 : FVec Ideal S21504 .f32)
    (r : Fin 256) (l : Fin 1024) (R : Fin 2048) (J : Fin 12288)
    (hx : ∀ k : Fin 3072, x (ix2 r k) = C (ix2 R k)) (hw : ∀ k : Fin 3072, w (ix2 k l) = W (ix2 k ⟨9216 + J.val, by omega⟩)) (hs : s = s0)
    (hws : ws (ix2 0 l) = w1s (ix1 ⟨9216 + J.val, by omega⟩)) (hb : b (ix2 0 l) = b1 (ix1 ⟨9216 + J.val, by omega⟩)) :
    k4_pay5 (F := Ideal) x w s ws b (ix2 r l) = Cert.Forms.act C W s0 w1s b1 R J := by
  subst hs
  pointwise [k4_pay5]
  simp only [hx, hw, hws, hb, Cert.Forms.lin, Cert.Forms.act, Cert.Forms.gelu]

theorem quant_at (G : FVec Ideal S256x1024 .f32) (s : EReal) (i : S256x1024.Idx) :
    k4_pay7 (F := Ideal) G s i = Cert.Forms.quant (G i) s := by
  pointwise [k4_pay7, Cert.Forms.quant]

/-- A bound of the running maxima with a chunk taken in. -/
theorem cmax_le (acc : FVec Ideal S8x1024 .f32) (G : FVec Ideal S256x1024 .f32) (a : Fin 8) (l : Fin 1024) (z : EReal) :
    cmax acc G (ix2 a l) ≤ z ↔ acc (ix2 a l) ≤ z ∧ ∀ q : Fin 32, max (G (ix2 ⟨q.val * 8 + a.val, by omega⟩ l)) (-G (ix2 ⟨q.val * 8 + a.val, by omega⟩ l)) ≤ z := by
  have : cmax acc G (ix2 a l) = max (acc (ix2 a l)) (Finset.univ.fold max ⊥ fun q : Fin 32 => max (G (ix2 ⟨q.val * 8 + a.val, by omega⟩ l)) (-G (ix2 ⟨q.val * 8 + a.val, by omega⟩ l))) := by
    pointwise [cmax]
    rw [Cert.Scalar.ofBits_neg_inf]
    rfl
  rw [this, max_le_iff, Finset.fold_max_le]
  simp

/-- The chunk of 256 rows from row `o`. -/
def gch (x : FVec Ideal S2048x3072 .fp8e4m3) (w : FVec Ideal S3072x1024 .fp8e4m3) (s : EReal) (ws b : FVec Ideal S1x1024 .f32)
    (o : ℕ) (h : ∀ a, (![o, 0] : Fin 2 → ℕ) a + S256x3072.size a ≤ S2048x3072.size a) : FVec Ideal S256x1024 .f32 :=
  k4_pay5 (F := Ideal) (View.ld (Val := Elt Ideal) (S := S2048x3072) (e' := .fp8e4m3) x (Rect.unit ![o, 0] S256x3072.size h)) w s ws b

theorem cmax_rows (x w s ws b o h) (ho : 8 ∣ o) (acc : FVec Ideal S8x1024 .f32) (a : Fin 8) (l : Fin 1024) (z : EReal) (A : Fin 2048 → EReal)
    (hA : ∀ (r : Fin 256) (R : Fin 2048), (R : ℕ) = o + r → gch x w s ws b o h (ix2 r l) = A R) :
    cmax acc (gch x w s ws b o h) (ix2 a l) ≤ z ↔ acc (ix2 a l) ≤ z ∧ ∀ R : Fin 2048, o ≤ R.val → R.val < o + 256 → R.val % 8 = a.val → max (A R) (-A R) ≤ z := by
  rw [cmax_le]
  have h0 : o + 256 ≤ 2048 := h 0
  refine and_congr_right fun _ => ⟨fun H R h1 h2 h3 => ?_, fun H q => ?_⟩
  · have := H ⟨(R.val - o) / 8, by omega⟩
    rwa [hA _ R (by dsimp only; omega)] at this
  · rw [hA _ ⟨o + (q.val * 8 + a.val), by omega⟩ rfl]
    exact H _ (by dsimp only; omega) (by dsimp only; omega) (by dsimp only; omega)

/-- All eight chunks of a block taken in. -/
def upd (acc : FVec Ideal S8x1024 .f32) (x : FVec Ideal S2048x3072 .fp8e4m3) (w : FVec Ideal S3072x1024 .fp8e4m3) (s : EReal) (ws b : FVec Ideal S1x1024 .f32) :
    FVec Ideal S8x1024 .f32 :=
  cmax (cmax (cmax (cmax (cmax (cmax (cmax (cmax (shapeCast S8x1024 acc shapeCasts_S8x1024_S8x1024)
    (gch x w s ws b 0 inb_S2048x3072_S256x3072_0_0)) (gch x w s ws b 256 inb_S2048x3072_S256x3072_256_0))
    (gch x w s ws b 512 inb_S2048x3072_S256x3072_512_0)) (gch x w s ws b 768 inb_S2048x3072_S256x3072_768_0))
    (gch x w s ws b 1024 inb_S2048x3072_S256x3072_1024_0)) (gch x w s ws b 1280 inb_S2048x3072_S256x3072_1280_0))
    (gch x w s ws b 1536 inb_S2048x3072_S256x3072_1536_0)) (gch x w s ws b 1792 inb_S2048x3072_S256x3072_1792_0)

theorem upd_le (acc x w s ws b) (a : Fin 8) (l : Fin 1024) (z : EReal) (A : Fin 2048 → EReal)
    (hA : ∀ (o : ℕ) (h) (r : Fin 256) (R : Fin 2048), (R : ℕ) = o + r → gch x w s ws b o h (ix2 r l) = A R) :
    upd acc x w s ws b (ix2 a l) ≤ z ↔ acc (ix2 a l) ≤ z ∧ ∀ R : Fin 2048, R.val % 8 = a.val → max (A R) (-A R) ≤ z := by
  have hsc : (shapeCast S8x1024 acc shapeCasts_S8x1024_S8x1024) (ix2 a l) = acc (ix2 a l) := by pointwise
  unfold upd
  rw [cmax_rows _ _ _ _ _ _ _ (by decide) _ a l z A (hA _ _), cmax_rows _ _ _ _ _ _ _ (by decide) _ a l z A (hA _ _),
    cmax_rows _ _ _ _ _ _ _ (by decide) _ a l z A (hA _ _), cmax_rows _ _ _ _ _ _ _ (by decide) _ a l z A (hA _ _),
    cmax_rows _ _ _ _ _ _ _ (by decide) _ a l z A (hA _ _), cmax_rows _ _ _ _ _ _ _ (by decide) _ a l z A (hA _ _),
    cmax_rows _ _ _ _ _ _ _ (by decide) _ a l z A (hA _ _), cmax_rows _ _ _ _ _ _ _ (by decide) _ a l z A (hA _ _), hsc]
  constructor
  · rintro ⟨⟨⟨⟨⟨⟨⟨⟨h, h0⟩, h1⟩, h2⟩, h3⟩, h4⟩, h5⟩, h6⟩, h7⟩
    refine ⟨h, fun R hR => ?_⟩
    have hlt := R.isLt
    by_cases c0 : R.val < 256
    · exact h0 R (by omega) (by omega) hR
    by_cases c1 : R.val < 512
    · exact h1 R (by omega) (by omega) hR
    by_cases c2 : R.val < 768
    · exact h2 R (by omega) (by omega) hR
    by_cases c3 : R.val < 1024
    · exact h3 R (by omega) (by omega) hR
    by_cases c4 : R.val < 1280
    · exact h4 R (by omega) (by omega) hR
    by_cases c5 : R.val < 1536
    · exact h5 R (by omega) (by omega) hR
    by_cases c6 : R.val < 1792
    · exact h6 R (by omega) (by omega) hR
    exact h7 R (by omega) (by omega) hR
  · rintro ⟨h, H⟩
    exact ⟨⟨⟨⟨⟨⟨⟨⟨h, fun R _ _ => H R⟩, fun R _ _ => H R⟩, fun R _ _ => H R⟩, fun R _ _ => H R⟩, fun R _ _ => H R⟩, fun R _ _ => H R⟩,
      fun R _ _ => H R⟩, fun R _ _ => H R⟩

section
variable (acc : FVec Ideal S8x1024 .f32) (x : FVec Ideal S256x3072 .fp8e4m3) (w : FVec Ideal S3072x1024 .fp8e4m3) (s : EReal) (ws b : FVec Ideal S1x1024 .f32)
theorem st0 : k4_pay6 (F := Ideal) acc x w s ws b = cmax (shapeCast S8x1024 acc shapeCasts_S8x1024_S8x1024) (k4_pay5 (F := Ideal) x w s ws b) := rfl
theorem st1 : k4_pay9 (F := Ideal) acc x w s ws b = cmax acc (k4_pay5 (F := Ideal) x w s ws b) := rfl
theorem st2 : k4_pay13 (F := Ideal) acc (k4_pay12 x w s ws b) = cmax acc (k4_pay5 (F := Ideal) x w s ws b) := rfl
theorem st3 : k4_pay17 (F := Ideal) acc (k4_pay16 x w s ws b) = cmax acc (k4_pay5 (F := Ideal) x w s ws b) := rfl
theorem st4 : k4_pay23 (F := Ideal) acc (k4_pay20 x w s ws b) (k4_pay21 x w s ws b) = cmax acc (k4_pay5 (F := Ideal) x w s ws b) := rfl
theorem st5 : k4_pay29 (F := Ideal) acc (k4_pay26 x w s ws b) (k4_pay27 x w s ws b) (FloatOps.ofBits FTy.f32 1065353216#32) = cmax acc (k4_pay5 (F := Ideal) x w s ws b) := rfl
theorem st6 : k4_pay35 (F := Ideal) acc (k4_pay32 x w s ws b) (k4_pay33 x w s ws b) = cmax acc (k4_pay5 (F := Ideal) x w s ws b) := rfl
theorem st7 : k4_pay2 (F := Ideal) acc (k4_pay38 x w s ws b) (k4_pay39 x w s ws b) (FloatOps.ofBits FTy.f32 1061962282#32) = cmax acc (k4_pay5 (F := Ideal) x w s ws b) := rfl
end

theorem steps (acc : FVec Ideal S8x1024 .f32) (x : FVec Ideal S2048x3072 .fp8e4m3) (w : FVec Ideal S3072x1024 .fp8e4m3) (s : EReal) (ws b : FVec Ideal S1x1024 .f32) :
    k4_pay2 (F := Ideal) (k4_pay35 (k4_pay29 (k4_pay23 (k4_pay17 (k4_pay13 (k4_pay9 (k4_pay6 acc (View.ld (Val := Elt Ideal) (S := S2048x3072) (e' := .fp8e4m3) x (Rect.unit ![0, 0] S256x3072.size inb_S2048x3072_S256x3072_0_0)) w s ws b) (View.ld (Val := Elt Ideal) (S := S2048x3072) (e' := .fp8e4m3) x (Rect.unit ![256, 0] S256x3072.size inb_S2048x3072_S256x3072_256_0)) w s ws b)
      (k4_pay12 (View.ld (Val := Elt Ideal) (S := S2048x3072) (e' := .fp8e4m3) x (Rect.unit ![512, 0] S256x3072.size inb_S2048x3072_S256x3072_512_0)) w s ws b)) (k4_pay16 (View.ld (Val := Elt Ideal) (S := S2048x3072) (e' := .fp8e4m3) x (Rect.unit ![768, 0] S256x3072.size inb_S2048x3072_S256x3072_768_0)) w s ws b)) (k4_pay20 (View.ld (Val := Elt Ideal) (S := S2048x3072) (e' := .fp8e4m3) x (Rect.unit ![1024, 0] S256x3072.size inb_S2048x3072_S256x3072_1024_0)) w s ws b) (k4_pay21 (View.ld (Val := Elt Ideal) (S := S2048x3072) (e' := .fp8e4m3) x (Rect.unit ![1024, 0] S256x3072.size inb_S2048x3072_S256x3072_1024_0)) w s ws b))
      (k4_pay26 (View.ld (Val := Elt Ideal) (S := S2048x3072) (e' := .fp8e4m3) x (Rect.unit ![1280, 0] S256x3072.size inb_S2048x3072_S256x3072_1280_0)) w s ws b) (k4_pay27 (View.ld (Val := Elt Ideal) (S := S2048x3072) (e' := .fp8e4m3) x (Rect.unit ![1280, 0] S256x3072.size inb_S2048x3072_S256x3072_1280_0)) w s ws b) (FloatOps.ofBits FTy.f32 1065353216#32)) (k4_pay32 (View.ld (Val := Elt Ideal) (S := S2048x3072) (e' := .fp8e4m3) x (Rect.unit ![1536, 0] S256x3072.size inb_S2048x3072_S256x3072_1536_0)) w s ws b) (k4_pay33 (View.ld (Val := Elt Ideal) (S := S2048x3072) (e' := .fp8e4m3) x (Rect.unit ![1536, 0] S256x3072.size inb_S2048x3072_S256x3072_1536_0)) w s ws b))
      (k4_pay38 (View.ld (Val := Elt Ideal) (S := S2048x3072) (e' := .fp8e4m3) x (Rect.unit ![1792, 0] S256x3072.size inb_S2048x3072_S256x3072_1792_0)) w s ws b) (k4_pay39 (View.ld (Val := Elt Ideal) (S := S2048x3072) (e' := .fp8e4m3) x (Rect.unit ![1792, 0] S256x3072.size inb_S2048x3072_S256x3072_1792_0)) w s ws b) (FloatOps.ofBits FTy.f32 1061962282#32) = upd acc x w s ws b := by
  rw [st0, st1, st2, st3, st4, st5, st6, st7]
  rfl

theorem amax4_A (c : Dev nD) (t : Fin cfg4.N) (h : t.val % 12 = 0) (s : EReal) (hs : ∀ i, iblk4 V c 0 t i = s) :
    (outsAt4 V c t.val t.isLt).2 = upd (k4_pay4 (F := Ideal)) (iblk4 V c 2 t) (iblk4 V c 3 t) s (iblk4 V c 4 t) (iblk4 V c 5 t) := by
  funext y
  rw [outsAt4_A V c t h]
  frame_out
  exact (congrFun (steps _ _ _ _ _ _) y).trans (congrArg (fun q => upd _ _ _ q _ _ y) (hs _))

theorem amax4_B (c : Dev nD) (t : Fin cfg4.N) (h : ¬ t.val % 12 = 0) (s : EReal) (hs : ∀ i, iblk4 V c 0 t i = s) :
    (outsAt4 V c t.val t.isLt).2 = upd (outsAt4 V c (t.val - 1) (by omega)).2 (iblk4 V c 2 t) (iblk4 V c 3 t) s (iblk4 V c 4 t) (iblk4 V c 5 t) := by
  funext y
  rw [outsAt4_B V c t h]
  frame_out
  exact (congrFun (steps _ _ _ _ _ _) y).trans (congrArg (fun q => upd _ _ _ q _ _ y) (hs _))

theorem rd4_0 (c : Dev nD) (t : Fin cfg4.N) (i) : iblk4 V c 0 t i = V c main_v51 i := by
  blk_ext [iblk4, idx4 t]

theorem rd4_1 (c : Dev nD) (t : Fin cfg4.N) (i) : iblk4 V c 1 t i = V c main_v52 i := by
  blk_ext [iblk4, idx4 t]

theorem rd4_2 (c : Dev nD) (t : Fin cfg4.N) (R : Fin 2048) (k : Fin 3072) :
    iblk4 V c 2 t (ix2 R k) = V c main_v6 (ix2 R k) := by
  blk_ext [iblk4, idx4 t]

theorem rd4_3 (c : Dev nD) (t : Fin cfg4.N) (k : Fin 3072) (l : Fin 1024) (J : Fin 21504) (hJ : (J : ℕ) = (9 + t.val) * 1024 + l) :
    iblk4 V c 3 t (ix2 k l) = V c main_arg4 (ix2 k J) := by
  blk_ext [iblk4, idx4 t]

theorem rd4_4 (c : Dev nD) (t : Fin cfg4.N) (l : Fin 1024) (J : Fin 21504) (hJ : (J : ℕ) = (9 + t.val) * 1024 + l) :
    iblk4 V c 4 t (ix2 0 l) = V c main_v0 (ix2 0 J) := by
  blk_ext [iblk4, idx4 t]

theorem rd4_5 (c : Dev nD) (t : Fin cfg4.N) (l : Fin 1024) (J : Fin 21504) (hJ : (J : ℕ) = (9 + t.val) * 1024 + l) :
    iblk4 V c 5 t (ix2 0 l) = V c main_v1 (ix2 0 J) := by
  blk_ext [iblk4, idx4 t]

theorem emb4 (t : Fin cfg4.N) (y : S2048x1024.Idx) (R : Fin 2048) (J : Fin 12288) (hR : (R : ℕ) = y 0) (hJ : (J : ℕ) = t.val * 1024 + (y 1 : ℕ)) :
    ((View.whole main_v53_0).slice (win4_6.rect t)).emb y = ix2 R J := by
  blk_ext [idx4 t]

section
variable (c : Dev nD) (C : FVec Ideal S2048x3072 .fp8e4m3) (W : FVec Ideal S3072x21504 .fp8e4m3) (s sm : EReal) (w1s b1 : FVec Ideal S21504 .f32)
    (h51 : ∀ i, V c main_v51 i = s)
    (h52 : ∀ i, V c main_v52 i = sm)
    (h6 : ∀ (R : Fin 2048) (k : Fin 3072), V c main_v6 (ix2 R k) = C (ix2 R k))
    (hW : ∀ (k : Fin 3072) (J : Fin 21504), V c main_arg4 (ix2 k J) = W (ix2 k J))
    (hw1s : ∀ (J : Fin 21504), V c main_v0 (ix2 0 J) = w1s (ix1 J))
    (hb1 : ∀ (J : Fin 21504), V c main_v1 (ix2 0 J) = b1 (ix1 J))
include h51 h6 hW hw1s hb1

theorem gch_act (t : Fin cfg4.N) (sv : EReal) (hsv : sv = s) (o h) (r : Fin 256) (l : Fin 1024) (R : Fin 2048) (J : Fin 12288) (hR : (R : ℕ) = o + r) (hJ : (J : ℕ) = t.val * 1024 + l) :
    gch (iblk4 V c 2 t) (iblk4 V c 3 t) sv (iblk4 V c 4 t) (iblk4 V c 5 t) o h (ix2 r l) = Cert.Forms.act C W s w1s b1 R J := by
  have hJ' : 9216 + J.val = (9 + t.val) * 1024 + (l : ℕ) := by omega
  have hJ2 := J.isLt
  unfold gch
  refine gelu_chunk _ _ _ _ _ C W s w1s b1 r l R J (fun k => ?_) (fun k => ?_) hsv ?_ ?_
  · rw [ld_rows _ o h r k R hR, rd4_2, h6]
  · rw [rd4_3 V c t k l ⟨9216 + J.val, by omega⟩ hJ', hW]
  · rw [rd4_4 V c t l ⟨9216 + J.val, by omega⟩ hJ', hw1s]
  · rw [rd4_5 V c t l ⟨9216 + J.val, by omega⟩ hJ', hb1]

theorem amax4 (n : ℕ) (hn : n < cfg4.N) (a : Fin 8) (l : Fin 1024) (z : EReal) :
    (outsAt4 V c n hn).2 (ix2 a l) ≤ z ↔ 0 ≤ z ∧ ∀ (R : Fin 2048) (J : Fin 12288), J.val / 1024 ≤ n → J.val % 1024 = l.val → R.val % 8 = a.val →
      max (Cert.Forms.act C W s w1s b1 R J) (-Cert.Forms.act C W s w1s b1 R J) ≤ z := by
  have hN : n < 12 := hn
  have hJn : n * 1024 + l.val < 12288 := by omega
  induction n with
  | zero =>
    rw [amax4_A V c ⟨0, hn⟩ rfl s (fun i => (rd4_0 V c _ i).trans (h51 i)),
      upd_le _ _ _ _ _ _ a l z (fun R => Cert.Forms.act C W s w1s b1 R ⟨0 * 1024 + l.val, hJn⟩)
        (fun o h r R hR => gch_act V c C W s w1s b1 h51 h6 hW hw1s hb1 ⟨0, hn⟩ s rfl o h r l R _ hR rfl)]
    have h4 : k4_pay4 (F := Ideal) (ix2 a l) = 0 := by pointwise [k4_pay4]
    rw [h4]
    refine and_congr_right fun _ => ⟨fun H R J h1 h2 h3 => ?_, fun H R h3 => H R _ (by dsimp only; omega) (by dsimp only; omega) h3⟩
    have : J = ⟨0 * 1024 + l.val, hJn⟩ := Fin.ext (by dsimp only; omega)
    rw [this]
    exact H R h3
  | succ n ih =>
    rw [amax4_B V c ⟨n + 1, hn⟩ (by dsimp only; omega) s (fun i => (rd4_0 V c _ i).trans (h51 i)),
      upd_le _ _ _ _ _ _ a l z (fun R => Cert.Forms.act C W s w1s b1 R ⟨(n + 1) * 1024 + l.val, hJn⟩)
        (fun o h r R hR => gch_act V c C W s w1s b1 h51 h6 hW hw1s hb1 ⟨n + 1, hn⟩ s rfl o h r l R _ hR rfl)]
    have ih' := ih (by omega) (by omega) (by omega)
    refine (and_congr_left' ih').trans ?_
    rw [and_assoc]
    refine and_congr_right fun _ => ⟨fun H R J h1 h2 h3 => ?_, fun H => ⟨fun R J h1 => H R J (by omega), fun R h3 => H R _ (by dsimp only; omega) (by dsimp only; omega) h3⟩⟩
    by_cases hJ : J.val / 1024 ≤ n
    · exact H.1 R J hJ h2 h3
    have : J = ⟨(n + 1) * 1024 + l.val, hJn⟩ := Fin.ext (by dsimp only; omega)
    rw [this]
    exact H.2 R h3

include h52 in
theorem final4_6 : (dat4 V c).arrAt 6 cfg4.N = Cert.Forms.actCodes C W s w1s b1 sm := by
  refine (dat4 V c).arrAt_eq_of_covers 6 _ (by decide +kernel) fun t _ y => ?_
  blk_simp
  rw [after4_6]
  have ht := (idx4 t).2.2.2.2.2.2.2.2
  have hy0 : (y 0 : ℕ) < 2048 := (y 0).isLt
  have hy1 : (y 1 : ℕ) < 1024 := (y 1).isLt
  rw [emb4 t y ⟨y 0, hy0⟩ ⟨t.val * 1024 + (y 1 : ℕ), by omega⟩ rfl rfl]
  have hchunk : ∀ (o : ℕ) (h) (x : S256x1024.Idx) (sv mv : EReal), sv = s → mv = sm →
      (y 0 : ℕ) = o + (x 0 : ℕ) → (y 1 : ℕ) = (x 1 : ℕ) →
      k4_pay7 (F := Ideal) (gch (iblk4 V c 2 t) (iblk4 V c 3 t) sv (iblk4 V c 4 t) (iblk4 V c 5 t) o h) mv x
        = Cert.Forms.actCodes C W s w1s b1 sm (ix2 ⟨y 0, hy0⟩ ⟨t.val * 1024 + (y 1 : ℕ), by omega⟩) := by
    intro o h x sv mv hsv hmv hx0 hx1
    idx_vars x
    rw [quant_at, gch_act V c C W s w1s b1 h51 h6 hW hw1s hb1 t sv hsv o h x0 x1 ⟨y 0, hy0⟩ ⟨t.val * 1024 + (y 1 : ℕ), by omega⟩ hx0 (congrArg (t.val * 1024 + ·) hx1), hmv]
    rfl
  have hs : ∀ i, iblk4 V c 0 t i = s := fun i => (rd4_0 V c t i).trans (h51 i)
  have hm : ∀ i, iblk4 V c 1 t i = sm := fun i => (rd4_1 V c t i).trans (h52 i)
  clear h6 hW hw1s hb1 h51 h52
  by_cases hc : t.val % 12 = 0
  · rw [outsAt4_A V c t hc]
    frame_out
    canon_tiles x h
    all_goals exact hchunk _ _ x _ _ (hs _) (hm _) (by omega) h1
  · rw [outsAt4_B V c t hc]
    frame_out
    canon_tiles x h
    all_goals exact hchunk _ _ x _ _ (hs _) (hm _) (by omega) h1

omit h51 h6 hW hw1s hb1 in
theorem final4_7 : (dat4 V c).arrAt 7 cfg4.N = (outsAt4 V c 11 (by decide)).2 := by
  obtain ⟨t, ht⟩ : ∃ t : Fin cfg4.N, t = ⟨11, by decide⟩ := ⟨_, rfl⟩
  have hw : (cfg4.win 7).WholeAt t := by subst ht; decide +kernel
  refine (dat4 V c).arrAt_eq_of_after_last 7 t hw _ (fun y => ?_) (Memref.isWhole_whole main_v53_1)
  have ho : (outsAt4 V c 11 (by decide)).2 = (outsAt4 V c t.val t.isLt).2 := by subst ht; rfl
  rw [ho]
  blk_simp
  rw [after4_7]

end

end Cert.KernelIdeal.Value

end
-- ==== Proof.Value.AttnMath.lean ====
/- Leaving out keys whose score is minus infinity changes no average; which keys the number of live text chunks leaves out. -/
module

public import proofs.«01_k».proof.Proof.IdealRun.Attn
public import proofs.«01_k».proof.Proof.Value.Forms2
public import proofs.«01_k».proof.Proof.Value.Bounds
public import Idealize.ShloMosaic.Lib.WordArith

@[expose] public section

noncomputable section

namespace Cert.Forms

open Idealize.ShloMosaic

/-- Minus infinity less anything. -/
theorem bot_sub' (m : EReal) : (⊥ : EReal) - m = ⊥ := by
  rw [sub_eq_add_neg]; exact EReal.bot_add _

/-- Two to the power minus infinity. -/
theorem exp2_bot : Ideal.exp2 ⊥ = 0 := rfl

/-- Keys whose score is minus infinity may be left out. -/
theorem soft_inj {ι κ : Type} [Fintype ι] [Fintype κ] (e : ι → κ) (he : Function.Injective e) (s v : κ → EReal)
    (h : ∀ i, i ∉ Set.range e → s i = ⊥) : soft (fun i => s (e i)) (fun i => v (e i)) = soft s v := by
  have hm : Finset.univ.fold max ⊥ (fun i => s (e i)) = Finset.univ.fold max ⊥ s := by
    refine eq_of_forall_ge_iff fun z => ?_
    rw [Finset.fold_max_le, Finset.fold_max_le]
    refine and_congr_right fun _ => ⟨fun H i _ => ?_, fun H i _ => H (e i) (Finset.mem_univ _)⟩
    by_cases hi : i ∈ Set.range e
    · obtain ⟨j, rfl⟩ := hi; exact H j (Finset.mem_univ _)
    · rw [h i hi]; exact bot_le
  unfold soft
  rw [hm]
  congr 1
  · refine Fintype.sum_of_injective e he _ _ (fun i hi => ?_) (fun i => rfl)
    rw [h i hi, bot_sub', exp2_bot, zero_mul]
  · refine Fintype.sum_of_injective e he _ _ (fun i hi => ?_) (fun i => rfl)
    rw [h i hi, bot_sub', exp2_bot]

end Cert.Forms

namespace Cert.KernelIdeal.Value

open Cert.KernelIdeal.Run
open Idealize.ShloMosaic Idealize.ShloMosaic.TcCoe

/-- A selection by a signed comparison of words. -/
theorem select_slt {α : Type} (a w : BitVec 32) (x y : α) : Scalar.select (IntOp.cmpi .slt a w) x y = if a.toInt < w.toInt then x else y := by
  unfold Scalar.select
  simp only [IntOp.cmpi, WordArith.ofBool_eq_numeral_one_iff, BitVec.slt_iff_toInt_lt]

/-- The word of a sum of two small numbers. -/
theorem toInt_off (l j : ℕ) (h : l + j < 1024) : (IntOp.addi (BitVec.ofNat 32 l) (BitVec.ofNat 32 j)).toInt = ((l + j : ℕ) : ℤ) := by
  show (BitVec.ofNat 32 l + BitVec.ofNat 32 j).toInt = _
  rw [← BitVec.ofNat_add]
  exact WordArith.toInt_ofNat_small _ (by omega)

/-- What the number of live chunks says about the text's length. -/
theorem nlive_spec (w : BitVec 32) (hw : w.toInt ≤ 2 ^ 31 - 128) (n : ℕ) (hn : n < 1024) (h : nlive w = BitVec.ofNat 32 n) :
    (n = 1 ∨ (128 * (n - 1 : ℤ)) < w.toInt) ∧ (n = 4 ∨ w.toInt ≤ 128 * n) := by
  have hlo : -2 ^ 31 ≤ w.toInt := by have := BitVec.le_toInt w; simpa using this
  have ha : (w + 127#32).toInt = w.toInt + 127 := by
    have e : (127#32).toInt = 127 := by decide
    rw [WordArith.toInt_add_of_bounds, e] <;> rw [e] <;> omega
  have hs : (Scalar.shrsi (Scalar.addi w 127#32) 7#32).toInt = (w.toInt + 127) / 128 := by
    have e : Scalar.shrsi (Scalar.addi w 127#32) 7#32 = (w + 127#32).sshiftRight 7 := by
      unfold Scalar.shrsi Scalar.addi IntOp.shrsi IntOp.addi
      rfl
    rw [e, BitVec.toInt_sshiftRight, ha]
    exact Int.shiftRight_eq_div_pow _ _
  have hn' : (nlive w).toInt = n := by
    rw [h]; exact WordArith.toInt_ofNat_small _ (by omega)
  unfold nlive Scalar.minsi Scalar.maxsi IntOp.minsi IntOp.maxsi at hn'
  generalize Scalar.shrsi (Scalar.addi w 127#32) 7#32 = s at hs hn'
  have c1 : (1#32).toInt = 1 := by decide
  have c4 : (4#32).toInt = 4 := by decide
  split at hn' <;> rename_i a1 <;> (try split at hn' <;> rename_i a2) <;>
    simp only [BitVec.slt_iff_toInt_lt, c1, c4] at * <;> omega

end Cert.KernelIdeal.Value

end
-- ==== Proof.Value.AttnBlock12.lean ====
/- One block of 256 queries of one head of `attention`, with each number of live text chunks: the value of an element. -/
module

public import proofs.«01_k».proof.Proof.IdealRun.Region5
public import proofs.«01_k».proof.Proof.Value.Common
public import proofs.«01_k».proof.Proof.Value.Bounds
public import proofs.«01_k».proof.Proof.Value.AttnMath
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Value Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ### 1 live text chunks: 640 keys -/

/-- The key of position `j` among those kept. -/
def key1 (j : Fin 640) : Fin 1024 := ⟨if j.val < 128 then j.val else j.val - 128 + 512, by split <;> omega⟩

/-- The keys (or values) kept. -/
def kept1 (k : FVec Ideal S1024x128 .bf16) : FVec Ideal S640x128 .bf16 :=
  concatenate S640x128 0 [⟨S128x128, extractStridedSlice S128x128 ![0, 0] (shapeCast S1024x128 k shapeCasts_S1024x128_S1024x128) slices_S1024x128_o0_0_S128x128⟩,
    ⟨S512x128, extractStridedSlice S512x128 ![512, 0] (shapeCast S1024x128 k shapeCasts_S1024x128_S1024x128) slices_S1024x128_o512_0_S512x128⟩] concatenates_S128x128_S512x128_S640x128_d0

/-- The scaled scores. -/
def st1 (q k : FVec Ideal S1024x128 .bf16) (o : ℕ) (hs : S1024x128.Slices ![o, 0] S256x128) : FVec Ideal S640x256 .f32 :=
  mulf (mulf (matmul dot_S640x128_S256x128_S640x256_1_1_0_0_n_n none (kept1 k)
      (extractStridedSlice S256x128 ![o, 0] (shapeCast S1024x128 q shapeCasts_S1024x128_S1024x128) hs) (constant S640x256 .f32 0x00000000#32))
    (broadcast S640x256 (Scalar.ofBits .f32 0x3DB504F3#32))) (broadcast S640x256 (Scalar.ofBits .f32 0x3FB8AA3B#32))

/-- Those of the last chunk of text keys, the keys past the text masked. -/
def edge1 (w : BitVec 32) (q k : FVec Ideal S1024x128 .bf16) (o : ℕ) (hs : S1024x128.Slices ![o, 0] S256x128) : FVec Ideal S128x256 .f32 :=
  select (cmpi .slt (addi (broadcast S128x256 0#32) (iota .tc S128x256 32 [0] iota_S128x256_d0_w32)) (broadcast S128x256 w))
    (extractStridedSlice S128x256 ![0, 0] (st1 q k o hs) slices_S640x256_o0_0_S128x256) (broadcast S128x256 (Scalar.ofBits .f32 0xFF800000#32))

/-- The masked scores. -/
def sm1 (w : BitVec 32) (q k : FVec Ideal S1024x128 .bf16) (o : ℕ) (hs : S1024x128.Slices ![o, 0] S256x128) : FVec Ideal S640x256 .f32 :=
  concatenate S640x256 0 [⟨S128x256, edge1 w q k o hs⟩, ⟨S512x256, extractStridedSlice S512x256 ![128, 0] (st1 q k o hs) slices_S640x256_o128_0_S512x256⟩] concatenates_S128x256_S512x256_S640x256_d0

/-- The exponentials. -/
def ex1 (s : FVec Ideal S640x256 .f32) : FVec Ideal S640x256 .f32 :=
  exp2 (subf s (broadcastTo S640x256 (ceil (shapeCast S1x256 (multiReduction .maximumf [0] S256 s 0xFF800000#32 reduces_S640x256_S256 (.inl rfl) rfl) shapeCasts_S256_S1x256)) broadcasts_S1x256_S640x256))

/-- The values averaged with weights `p`. -/
def avg1 (p : FVec Ideal S640x256 .f32) (v : FVec Ideal S1024x128 .bf16) : FVec Ideal S256x128 .f32 :=
  transpose S256x128 [1, 0] (divf
    (matmul dot_S128x640_S640x256_S128x256_1_0_0_1_n_n none (transpose S128x640 [1, 0] (kept1 v) transposes_S640x128_p1_0_S128x640) (truncf .bf16 p bitsLt_bf16_f32) (constant S128x256 .f32 0x00000000#32))
    (broadcastTo S128x256 (shapeCast S1x256 (multiReduction .add [0] S256 p 0x00000000#32 reduces_S640x256_S256 (.inl rfl) rfl) shapeCasts_S256_S1x256) broadcasts_S1x256_S128x256)) transposes_S128x256_p1_0_S256x128

theorem kept1_at (k : FVec Ideal S1024x128 .bf16) (j : Fin 640) (d : Fin 128) : kept1 k (ix2 j d) = k (ix2 (key1 j) d) := by
  unfold key1
  pointwise [kept1]
  split
  · rfl
  · exact congrArg (fun i => k (ix2 i d)) (Fin.ext (Nat.add_comm _ _))

theorem st1_at (q k : FVec Ideal S1024x128 .bf16) (o : ℕ) (hs : S1024x128.Slices ![o, 0] S256x128) (ho : o + 256 ≤ 1024) (j : Fin 640) (r : Fin 256) :
    st1 q k o hs (ix2 j r) = (∑ d : Fin 128, q (ix2 ⟨o + r, by omega⟩ d) * k (ix2 (key1 j) d)) * Ideal.ofBits .f32 0x3DB504F3#32 * Ideal.ofBits .f32 0x3FB8AA3B#32 := by
  pointwise [st1]
  simp only [kept1_at, mul_comm (k _)]

theorem edge1_at (w : BitVec 32) (q k : FVec Ideal S1024x128 .bf16) (o : ℕ) (hs : S1024x128.Slices ![o, 0] S256x128) (j : Fin 128) (r : Fin 256) :
    edge1 w q k o hs (ix2 j r) = if ((0 + j.val : ℕ) : ℤ) < w.toInt then st1 q k o hs (ix2 ⟨0 + j.val, by omega⟩ r) else ⊥ := by
  pointwise [edge1]
  simp only [select_slt, Cert.Scalar.ofBits_neg_inf]
  rw [toInt_off _ _ (by omega)]
  simp only [Nat.zero_add]

theorem sm1_at (w : BitVec 32) (q k : FVec Ideal S1024x128 .bf16) (o : ℕ) (hs : S1024x128.Slices ![o, 0] S256x128) (ho : o + 256 ≤ 1024) (j : Fin 640) (r : Fin 256) :
    sm1 w q k o hs (ix2 j r) = if 0 ≤ j.val ∧ j.val < 128 ∧ ¬ (j.val : ℤ) < w.toInt then ⊥ else st1 q k o hs (ix2 j r) := by
  pointwise [sm1]
  have hj := j.isLt
  by_cases h1 : j.val < 128
  · refine (dif_pos h1).trans ?_
    refine (edge1_at w q k o hs _ r).trans ?_
    by_cases h2 : (j.val : ℤ) < w.toInt
    · refine (if_pos (by dsimp only; omega)).trans (Eq.trans ?_ (if_neg (by omega)).symm)
      exact congrArg (fun i : Fin 640 => st1 q k o hs (ix2 i r)) (Fin.ext (Nat.zero_add _))
    · exact (if_neg (by dsimp only; omega)).trans (if_pos (by omega)).symm
  · refine (dif_neg h1).trans (Eq.trans ?_ (if_neg (by omega)).symm)
    refine congrArg (fun i : Fin 640 => st1 q k o hs (ix2 i r)) (Fin.ext ?_)
    show 128 + (j.val - 128) = j.val
    omega

theorem ex1_at (s : FVec Ideal S640x256 .f32) (j : Fin 640) (r : Fin 256) :
    ex1 s (ix2 j r) = Ideal.exp2 (s (ix2 j r) - Ideal.liftRound Int.ceil (Finset.univ.fold max ⊥ fun j : Fin 640 => s (ix2 j r))) := by
  pointwise [ex1]
  try rw [Cert.Scalar.ofBits_neg_inf]
  rfl

theorem avg1_at (p : FVec Ideal S640x256 .f32) (v : FVec Ideal S1024x128 .bf16) (r : Fin 256) (d : Fin 128) :
    avg1 p v (ix2 r d) = Ideal.div (∑ j : Fin 640, p (ix2 j r) * v (ix2 (key1 j) d)) (∑ j : Fin 640, p (ix2 j r)) := by
  pointwise [avg1]
  simp only [kept1_at, mul_comm (v _)]

/-- The output of the block: the softmax over all keys, those past the text left out. -/
theorem o1_at (w : BitVec 32) (hw : w.toInt ≤ 2 ^ 31 - 128) (hn : nlive w = 1#32) (q k v : FVec Ideal S1024x128 .bf16) (o : ℕ) (hs : S1024x128.Slices ![o, 0] S256x128)
    (ho : o + 256 ≤ 1024) (r : Fin 256) (d : Fin 128) :
    avg1 (ex1 (sm1 w q k o hs)) v (ix2 r d)
      = Cert.Forms.soft (fun j : Fin 1024 => Cert.Forms.score w (fun d => q (ix2 ⟨o + r, by omega⟩ d)) (fun d => k (ix2 j d)) j) (fun j => v (ix2 j d)) := by
  have hsp := nlive_spec w hw 1 (by decide) hn
  have hsm : ∀ j : Fin 640, sm1 w q k o hs (ix2 j r) = Cert.Forms.score w (fun d => q (ix2 ⟨o + r, by omega⟩ d)) (fun d => k (ix2 (key1 j) d)) (key1 j) := by
    intro j
    rw [sm1_at w q k o hs ho, st1_at q k o hs ho]
    unfold Cert.Forms.score
    refine if_congr ?_ rfl rfl
    have hj := j.isLt
    unfold key1
    dsimp only
    split <;> omega
  rw [avg1_at]
  simp only [ex1_at, hsm]
  refine Cert.Forms.soft_inj key1 (fun a b hab => ?_) (fun j : Fin 1024 => Cert.Forms.score w (fun d => q (ix2 ⟨o + r, by omega⟩ d)) (fun d => k (ix2 j d)) j) (fun j => v (ix2 j d)) (fun i hi => ?_)
  · have h := congrArg Fin.val hab
    unfold key1 at h
    dsimp only at h
    have ha := a.isLt
    have hb := b.isLt
    exact Fin.ext (by split at h <;> split at h <;> omega)
  · refine if_pos ?_
    by_contra hc
    refine hi ?_
    have hi' := i.isLt
    by_cases h5 : i.val < 128
    · exact ⟨⟨i.val, by omega⟩, Fin.ext (by unfold key1; dsimp only; rw [if_pos h5])⟩
    · exact ⟨⟨i.val - 512 + 128, by omega⟩, Fin.ext (by unfold key1; dsimp only; rw [if_neg (by omega)]; omega)⟩

/-! ### 2 live text chunks: 768 keys -/

/-- The key of position `j` among those kept. -/
def key2 (j : Fin 768) : Fin 1024 := ⟨if j.val < 256 then j.val else j.val - 256 + 512, by split <;> omega⟩

/-- The keys (or values) kept. -/
def kept2 (k : FVec Ideal S1024x128 .bf16) : FVec Ideal S768x128 .bf16 :=
  concatenate S768x128 0 [⟨S256x128, extractStridedSlice S256x128 ![0, 0] (shapeCast S1024x128 k shapeCasts_S1024x128_S1024x128) slices_S1024x128_o0_0_S256x128⟩,
    ⟨S512x128, extractStridedSlice S512x128 ![512, 0] (shapeCast S1024x128 k shapeCasts_S1024x128_S1024x128) slices_S1024x128_o512_0_S512x128⟩] concatenates_S256x128_S512x128_S768x128_d0

/-- The scaled scores. -/
def st2 (q k : FVec Ideal S1024x128 .bf16) (o : ℕ) (hs : S1024x128.Slices ![o, 0] S256x128) : FVec Ideal S768x256 .f32 :=
  mulf (mulf (matmul dot_S768x128_S256x128_S768x256_1_1_0_0_n_n none (kept2 k)
      (extractStridedSlice S256x128 ![o, 0] (shapeCast S1024x128 q shapeCasts_S1024x128_S1024x128) hs) (constant S768x256 .f32 0x00000000#32))
    (broadcast S768x256 (Scalar.ofBits .f32 0x3DB504F3#32))) (broadcast S768x256 (Scalar.ofBits .f32 0x3FB8AA3B#32))

/-- Those of the last chunk of text keys, the keys past the text masked. -/
def edge2 (w : BitVec 32) (q k : FVec Ideal S1024x128 .bf16) (o : ℕ) (hs : S1024x128.Slices ![o, 0] S256x128) : FVec Ideal S128x256 .f32 :=
  select (cmpi .slt (addi (broadcast S128x256 128#32) (iota .tc S128x256 32 [0] iota_S128x256_d0_w32)) (broadcast S128x256 w))
    (extractStridedSlice S128x256 ![128, 0] (st2 q k o hs) slices_S768x256_o128_0_S128x256) (broadcast S128x256 (Scalar.ofBits .f32 0xFF800000#32))

/-- The masked scores. -/
def sm2 (w : BitVec 32) (q k : FVec Ideal S1024x128 .bf16) (o : ℕ) (hs : S1024x128.Slices ![o, 0] S256x128) : FVec Ideal S768x256 .f32 :=
  concatenate S768x256 0 [⟨S128x256, extractStridedSlice S128x256 ![0, 0] (st2 q k o hs) slices_S768x256_o0_0_S128x256⟩, ⟨S128x256, edge2 w q k o hs⟩, ⟨S512x256, extractStridedSlice S512x256 ![256, 0] (st2 q k o hs) slices_S768x256_o256_0_S512x256⟩] concatenates_S128x256_S128x256_S512x256_S768x256_d0

/-- The exponentials. -/
def ex2 (s : FVec Ideal S768x256 .f32) : FVec Ideal S768x256 .f32 :=
  exp2 (subf s (broadcastTo S768x256 (ceil (shapeCast S1x256 (multiReduction .maximumf [0] S256 s 0xFF800000#32 reduces_S768x256_S256 (.inl rfl) rfl) shapeCasts_S256_S1x256)) broadcasts_S1x256_S768x256))

/-- The values averaged with weights `p`. -/
def avg2 (p : FVec Ideal S768x256 .f32) (v : FVec Ideal S1024x128 .bf16) : FVec Ideal S256x128 .f32 :=
  transpose S256x128 [1, 0] (divf
    (matmul dot_S128x768_S768x256_S128x256_1_0_0_1_n_n none (transpose S128x768 [1, 0] (kept2 v) transposes_S768x128_p1_0_S128x768) (truncf .bf16 p bitsLt_bf16_f32) (constant S128x256 .f32 0x00000000#32))
    (broadcastTo S128x256 (shapeCast S1x256 (multiReduction .add [0] S256 p 0x00000000#32 reduces_S768x256_S256 (.inl rfl) rfl) shapeCasts_S256_S1x256) broadcasts_S1x256_S128x256)) transposes_S128x256_p1_0_S256x128

theorem kept2_at (k : FVec Ideal S1024x128 .bf16) (j : Fin 768) (d : Fin 128) : kept2 k (ix2 j d) = k (ix2 (key2 j) d) := by
  unfold key2
  pointwise [kept2]
  split
  · rfl
  · exact congrArg (fun i => k (ix2 i d)) (Fin.ext (Nat.add_comm _ _))

theorem st2_at (q k : FVec Ideal S1024x128 .bf16) (o : ℕ) (hs : S1024x128.Slices ![o, 0] S256x128) (ho : o + 256 ≤ 1024) (j : Fin 768) (r : Fin 256) :
    st2 q k o hs (ix2 j r) = (∑ d : Fin 128, q (ix2 ⟨o + r, by omega⟩ d) * k (ix2 (key2 j) d)) * Ideal.ofBits .f32 0x3DB504F3#32 * Ideal.ofBits .f32 0x3FB8AA3B#32 := by
  pointwise [st2]
  simp only [kept2_at, mul_comm (k _)]

theorem edge2_at (w : BitVec 32) (q k : FVec Ideal S1024x128 .bf16) (o : ℕ) (hs : S1024x128.Slices ![o, 0] S256x128) (j : Fin 128) (r : Fin 256) :
    edge2 w q k o hs (ix2 j r) = if ((128 + j.val : ℕ) : ℤ) < w.toInt then st2 q k o hs (ix2 ⟨128 + j.val, by omega⟩ r) else ⊥ := by
  pointwise [edge2]
  simp only [select_slt, Cert.Scalar.ofBits_neg_inf]
  rw [toInt_off _ _ (by omega)]

theorem sm2_at (w : BitVec 32) (q k : FVec Ideal S1024x128 .bf16) (o : ℕ) (hs : S1024x128.Slices ![o, 0] S256x128) (ho : o + 256 ≤ 1024) (j : Fin 768) (r : Fin 256) :
    sm2 w q k o hs (ix2 j r) = if 128 ≤ j.val ∧ j.val < 256 ∧ ¬ (j.val : ℤ) < w.toInt then ⊥ else st2 q k o hs (ix2 j r) := by
  pointwise [sm2]
  have hj := j.isLt
  by_cases h0 : j.val < 128
  · exact (dif_pos h0).trans (if_neg (by omega)).symm
  refine (dif_neg h0).trans ?_
  by_cases h1 : j.val - 128 < 128
  · refine (dif_pos h1).trans ?_
    refine (edge2_at w q k o hs _ r).trans ?_
    by_cases h2 : (j.val : ℤ) < w.toInt
    · refine (if_pos (by dsimp only; omega)).trans (Eq.trans ?_ (if_neg (by omega)).symm)
      refine congrArg (fun i : Fin 768 => st2 q k o hs (ix2 i r)) (Fin.ext ?_)
      show 128 + (j.val - 128) = j.val
      omega
    · exact (if_neg (by dsimp only; omega)).trans (if_pos (by omega)).symm
  · refine (dif_neg h1).trans (Eq.trans ?_ (if_neg (by omega)).symm)
    refine congrArg (fun i : Fin 768 => st2 q k o hs (ix2 i r)) (Fin.ext ?_)
    show 256 + (j.val - 128 - 128) = j.val
    omega

theorem ex2_at (s : FVec Ideal S768x256 .f32) (j : Fin 768) (r : Fin 256) :
    ex2 s (ix2 j r) = Ideal.exp2 (s (ix2 j r) - Ideal.liftRound Int.ceil (Finset.univ.fold max ⊥ fun j : Fin 768 => s (ix2 j r))) := by
  pointwise [ex2]
  try rw [Cert.Scalar.ofBits_neg_inf]
  rfl

theorem avg2_at (p : FVec Ideal S768x256 .f32) (v : FVec Ideal S1024x128 .bf16) (r : Fin 256) (d : Fin 128) :
    avg2 p v (ix2 r d) = Ideal.div (∑ j : Fin 768, p (ix2 j r) * v (ix2 (key2 j) d)) (∑ j : Fin 768, p (ix2 j r)) := by
  pointwise [avg2]
  simp only [kept2_at, mul_comm (v _)]

/-- The output of the block: the softmax over all keys, those past the text left out. -/
theorem o2_at (w : BitVec 32) (hw : w.toInt ≤ 2 ^ 31 - 128) (hn : nlive w = 2#32) (q k v : FVec Ideal S1024x128 .bf16) (o : ℕ) (hs : S1024x128.Slices ![o, 0] S256x128)
    (ho : o + 256 ≤ 1024) (r : Fin 256) (d : Fin 128) :
    avg2 (ex2 (sm2 w q k o hs)) v (ix2 r d)
      = Cert.Forms.soft (fun j : Fin 1024 => Cert.Forms.score w (fun d => q (ix2 ⟨o + r, by omega⟩ d)) (fun d => k (ix2 j d)) j) (fun j => v (ix2 j d)) := by
  have hsp := nlive_spec w hw 2 (by decide) hn
  have hsm : ∀ j : Fin 768, sm2 w q k o hs (ix2 j r) = Cert.Forms.score w (fun d => q (ix2 ⟨o + r, by omega⟩ d)) (fun d => k (ix2 (key2 j) d)) (key2 j) := by
    intro j
    rw [sm2_at w q k o hs ho, st2_at q k o hs ho]
    unfold Cert.Forms.score
    refine if_congr ?_ rfl rfl
    have hj := j.isLt
    unfold key2
    dsimp only
    split <;> omega
  rw [avg2_at]
  simp only [ex2_at, hsm]
  refine Cert.Forms.soft_inj key2 (fun a b hab => ?_) (fun j : Fin 1024 => Cert.Forms.score w (fun d => q (ix2 ⟨o + r, by omega⟩ d)) (fun d => k (ix2 j d)) j) (fun j => v (ix2 j d)) (fun i hi => ?_)
  · have h := congrArg Fin.val hab
    unfold key2 at h
    dsimp only at h
    have ha := a.isLt
    have hb := b.isLt
    exact Fin.ext (by split at h <;> split at h <;> omega)
  · refine if_pos ?_
    by_contra hc
    refine hi ?_
    have hi' := i.isLt
    by_cases h5 : i.val < 256
    · exact ⟨⟨i.val, by omega⟩, Fin.ext (by unfold key2; dsimp only; rw [if_pos h5])⟩
    · exact ⟨⟨i.val - 512 + 256, by omega⟩, Fin.ext (by unfold key2; dsimp only; rw [if_neg (by omega)]; omega)⟩

end Cert.KernelIdeal.Attn

end
-- ==== Proof.Value.AttnBlock34.lean ====
/- One block of 256 queries of one head of `attention`, with each number of live text chunks: the value of an element. -/
module

public import proofs.«01_k».proof.Proof.IdealRun.Region5
public import proofs.«01_k».proof.Proof.Value.Common
public import proofs.«01_k».proof.Proof.Value.Bounds
public import proofs.«01_k».proof.Proof.Value.AttnMath
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Value Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ### 3 live text chunks: 896 keys -/

/-- The key of position `j` among those kept. -/
def key3 (j : Fin 896) : Fin 1024 := ⟨if j.val < 384 then j.val else j.val - 384 + 512, by split <;> omega⟩

/-- The keys (or values) kept. -/
def kept3 (k : FVec Ideal S1024x128 .bf16) : FVec Ideal S896x128 .bf16 :=
  concatenate S896x128 0 [⟨S384x128, extractStridedSlice S384x128 ![0, 0] (shapeCast S1024x128 k shapeCasts_S1024x128_S1024x128) slices_S1024x128_o0_0_S384x128⟩,
    ⟨S512x128, extractStridedSlice S512x128 ![512, 0] (shapeCast S1024x128 k shapeCasts_S1024x128_S1024x128) slices_S1024x128_o512_0_S512x128⟩] concatenates_S384x128_S512x128_S896x128_d0

/-- The scaled scores. -/
def st3 (q k : FVec Ideal S1024x128 .bf16) (o : ℕ) (hs : S1024x128.Slices ![o, 0] S256x128) : FVec Ideal S896x256 .f32 :=
  mulf (mulf (matmul dot_S896x128_S256x128_S896x256_1_1_0_0_n_n none (kept3 k)
      (extractStridedSlice S256x128 ![o, 0] (shapeCast S1024x128 q shapeCasts_S1024x128_S1024x128) hs) (constant S896x256 .f32 0x00000000#32))
    (broadcast S896x256 (Scalar.ofBits .f32 0x3DB504F3#32))) (broadcast S896x256 (Scalar.ofBits .f32 0x3FB8AA3B#32))

/-- Those of the last chunk of text keys, the keys past the text masked. -/
def edge3 (w : BitVec 32) (q k : FVec Ideal S1024x128 .bf16) (o : ℕ) (hs : S1024x128.Slices ![o, 0] S256x128) : FVec Ideal S128x256 .f32 :=
  select (cmpi .slt (addi (broadcast S128x256 256#32) (iota .tc S128x256 32 [0] iota_S128x256_d0_w32)) (broadcast S128x256 w))
    (extractStridedSlice S128x256 ![256, 0] (st3 q k o hs) slices_S896x256_o256_0_S128x256) (broadcast S128x256 (Scalar.ofBits .f32 0xFF800000#32))

/-- The masked scores. -/
def sm3 (w : BitVec 32) (q k : FVec Ideal S1024x128 .bf16) (o : ℕ) (hs : S1024x128.Slices ![o, 0] S256x128) : FVec Ideal S896x256 .f32 :=
  concatenate S896x256 0 [⟨S256x256, extractStridedSlice S256x256 ![0, 0] (st3 q k o hs) slices_S896x256_o0_0_S256x256⟩, ⟨S128x256, edge3 w q k o hs⟩, ⟨S512x256, extractStridedSlice S512x256 ![384, 0] (st3 q k o hs) slices_S896x256_o384_0_S512x256⟩] concatenates_S256x256_S128x256_S512x256_S896x256_d0

/-- The exponentials. -/
def ex3 (s : FVec Ideal S896x256 .f32) : FVec Ideal S896x256 .f32 :=
  exp2 (subf s (broadcastTo S896x256 (ceil (shapeCast S1x256 (multiReduction .maximumf [0] S256 s 0xFF800000#32 reduces_S896x256_S256 (.inl rfl) rfl) shapeCasts_S256_S1x256)) broadcasts_S1x256_S896x256))

/-- The values averaged with weights `p`. -/
def avg3 (p : FVec Ideal S896x256 .f32) (v : FVec Ideal S1024x128 .bf16) : FVec Ideal S256x128 .f32 :=
  transpose S256x128 [1, 0] (divf
    (matmul dot_S128x896_S896x256_S128x256_1_0_0_1_n_n none (transpose S128x896 [1, 0] (kept3 v) transposes_S896x128_p1_0_S128x896) (truncf .bf16 p bitsLt_bf16_f32) (constant S128x256 .f32 0x00000000#32))
    (broadcastTo S128x256 (shapeCast S1x256 (multiReduction .add [0] S256 p 0x00000000#32 reduces_S896x256_S256 (.inl rfl) rfl) shapeCasts_S256_S1x256) broadcasts_S1x256_S128x256)) transposes_S128x256_p1_0_S256x128

theorem kept3_at (k : FVec Ideal S1024x128 .bf16) (j : Fin 896) (d : Fin 128) : kept3 k (ix2 j d) = k (ix2 (key3 j) d) := by
  unfold key3
  pointwise [kept3]
  split
  · rfl
  · exact congrArg (fun i => k (ix2 i d)) (Fin.ext (Nat.add_comm _ _))

theorem st3_at (q k : FVec Ideal S1024x128 .bf16) (o : ℕ) (hs : S1024x128.Slices ![o, 0] S256x128) (ho : o + 256 ≤ 1024) (j : Fin 896) (r : Fin 256) :
    st3 q k o hs (ix2 j r) = (∑ d : Fin 128, q (ix2 ⟨o + r, by omega⟩ d) * k (ix2 (key3 j) d)) * Ideal.ofBits .f32 0x3DB504F3#32 * Ideal.ofBits .f32 0x3FB8AA3B#32 := by
  pointwise [st3]
  simp only [kept3_at, mul_comm (k _)]

theorem edge3_at (w : BitVec 32) (q k : FVec Ideal S1024x128 .bf16) (o : ℕ) (hs : S1024x128.Slices ![o, 0] S256x128) (j : Fin 128) (r : Fin 256) :
    edge3 w q k o hs (ix2 j r) = if ((256 + j.val : ℕ) : ℤ) < w.toInt then st3 q k o hs (ix2 ⟨256 + j.val, by omega⟩ r) else ⊥ := by
  pointwise [edge3]
  simp only [select_slt, Cert.Scalar.ofBits_neg_inf]
  rw [toInt_off _ _ (by omega)]

theorem sm3_at (w : BitVec 32) (q k : FVec Ideal S1024x128 .bf16) (o : ℕ) (hs : S1024x128.Slices ![o, 0] S256x128) (ho : o + 256 ≤ 1024) (j : Fin 896) (r : Fin 256) :
    sm3 w q k o hs (ix2 j r) = if 256 ≤ j.val ∧ j.val < 384 ∧ ¬ (j.val : ℤ) < w.toInt then ⊥ else st3 q k o hs (ix2 j r) := by
  pointwise [sm3]
  have hj := j.isLt
  by_cases h0 : j.val < 256
  · exact (dif_pos h0).trans (if_neg (by omega)).symm
  refine (dif_neg h0).trans ?_
  by_cases h1 : j.val - 256 < 128
  · refine (dif_pos h1).trans ?_
    refine (edge3_at w q k o hs _ r).trans ?_
    by_cases h2 : (j.val : ℤ) < w.toInt
    · refine (if_pos (by dsimp only; omega)).trans (Eq.trans ?_ (if_neg (by omega)).symm)
      refine congrArg (fun i : Fin 896 => st3 q k o hs (ix2 i r)) (Fin.ext ?_)
      show 256 + (j.val - 256) = j.val
      omega
    · exact (if_neg (by dsimp only; omega)).trans (if_pos (by omega)).symm
  · refine (dif_neg h1).trans (Eq.trans ?_ (if_neg (by omega)).symm)
    refine congrArg (fun i : Fin 896 => st3 q k o hs (ix2 i r)) (Fin.ext ?_)
    show 384 + (j.val - 256 - 128) = j.val
    omega

theorem ex3_at (s : FVec Ideal S896x256 .f32) (j : Fin 896) (r : Fin 256) :
    ex3 s (ix2 j r) = Ideal.exp2 (s (ix2 j r) - Ideal.liftRound Int.ceil (Finset.univ.fold max ⊥ fun j : Fin 896 => s (ix2 j r))) := by
  pointwise [ex3]
  try rw [Cert.Scalar.ofBits_neg_inf]
  rfl

theorem avg3_at (p : FVec Ideal S896x256 .f32) (v : FVec Ideal S1024x128 .bf16) (r : Fin 256) (d : Fin 128) :
    avg3 p v (ix2 r d) = Ideal.div (∑ j : Fin 896, p (ix2 j r) * v (ix2 (key3 j) d)) (∑ j : Fin 896, p (ix2 j r)) := by
  pointwise [avg3]
  simp only [kept3_at, mul_comm (v _)]

/-- The output of the block: the softmax over all keys, those past the text left out. -/
theorem o3_at (w : BitVec 32) (hw : w.toInt ≤ 2 ^ 31 - 128) (hn : nlive w = 3#32) (q k v : FVec Ideal S1024x128 .bf16) (o : ℕ) (hs : S1024x128.Slices ![o, 0] S256x128)
    (ho : o + 256 ≤ 1024) (r : Fin 256) (d : Fin 128) :
    avg3 (ex3 (sm3 w q k o hs)) v (ix2 r d)
      = Cert.Forms.soft (fun j : Fin 1024 => Cert.Forms.score w (fun d => q (ix2 ⟨o + r, by omega⟩ d)) (fun d => k (ix2 j d)) j) (fun j => v (ix2 j d)) := by
  have hsp := nlive_spec w hw 3 (by decide) hn
  have hsm : ∀ j : Fin 896, sm3 w q k o hs (ix2 j r) = Cert.Forms.score w (fun d => q (ix2 ⟨o + r, by omega⟩ d)) (fun d => k (ix2 (key3 j) d)) (key3 j) := by
    intro j
    rw [sm3_at w q k o hs ho, st3_at q k o hs ho]
    unfold Cert.Forms.score
    refine if_congr ?_ rfl rfl
    have hj := j.isLt
    unfold key3
    dsimp only
    split <;> omega
  rw [avg3_at]
  simp only [ex3_at, hsm]
  refine Cert.Forms.soft_inj key3 (fun a b hab => ?_) (fun j : Fin 1024 => Cert.Forms.score w (fun d => q (ix2 ⟨o + r, by omega⟩ d)) (fun d => k (ix2 j d)) j) (fun j => v (ix2 j d)) (fun i hi => ?_)
  · have h := congrArg Fin.val hab
    unfold key3 at h
    dsimp only at h
    have ha := a.isLt
    have hb := b.isLt
    exact Fin.ext (by split at h <;> split at h <;> omega)
  · refine if_pos ?_
    by_contra hc
    refine hi ?_
    have hi' := i.isLt
    by_cases h5 : i.val < 384
    · exact ⟨⟨i.val, by omega⟩, Fin.ext (by unfold key3; dsimp only; rw [if_pos h5])⟩
    · exact ⟨⟨i.val - 512 + 384, by omega⟩, Fin.ext (by unfold key3; dsimp only; rw [if_neg (by omega)]; omega)⟩

/-! ### 4 live text chunks: 1024 keys -/

/-- The key of position `j` among those kept. -/
def key4 (j : Fin 1024) : Fin 1024 := ⟨if j.val < 512 then j.val else j.val - 512 + 512, by split <;> omega⟩

/-- The keys (or values) kept. -/
def kept4 (k : FVec Ideal S1024x128 .bf16) : FVec Ideal S1024x128 .bf16 :=
  concatenate S1024x128 0 [⟨S512x128, extractStridedSlice S512x128 ![0, 0] (shapeCast S1024x128 k shapeCasts_S1024x128_S1024x128) slices_S1024x128_o0_0_S512x128⟩,
    ⟨S512x128, extractStridedSlice S512x128 ![512, 0] (shapeCast S1024x128 k shapeCasts_S1024x128_S1024x128) slices_S1024x128_o512_0_S512x128⟩] concatenates_S512x128_S512x128_S1024x128_d0

/-- The scaled scores. -/
def st4 (q k : FVec Ideal S1024x128 .bf16) (o : ℕ) (hs : S1024x128.Slices ![o, 0] S256x128) : FVec Ideal S1024x256 .f32 :=
  mulf (mulf (matmul dot_S1024x128_S256x128_S1024x256_1_1_0_0_n_n none (kept4 k)
      (extractStridedSlice S256x128 ![o, 0] (shapeCast S1024x128 q shapeCasts_S1024x128_S1024x128) hs) (constant S1024x256 .f32 0x00000000#32))
    (broadcast S1024x256 (Scalar.ofBits .f32 0x3DB504F3#32))) (broadcast S1024x256 (Scalar.ofBits .f32 0x3FB8AA3B#32))

/-- Those of the last chunk of text keys, the keys past the text masked. -/
def edge4 (w : BitVec 32) (q k : FVec Ideal S1024x128 .bf16) (o : ℕ) (hs : S1024x128.Slices ![o, 0] S256x128) : FVec Ideal S128x256 .f32 :=
  select (cmpi .slt (addi (broadcast S128x256 384#32) (iota .tc S128x256 32 [0] iota_S128x256_d0_w32)) (broadcast S128x256 w))
    (extractStridedSlice S128x256 ![384, 0] (st4 q k o hs) slices_S1024x256_o384_0_S128x256) (broadcast S128x256 (Scalar.ofBits .f32 0xFF800000#32))

/-- The masked scores. -/
def sm4 (w : BitVec 32) (q k : FVec Ideal S1024x128 .bf16) (o : ℕ) (hs : S1024x128.Slices ![o, 0] S256x128) : FVec Ideal S1024x256 .f32 :=
  concatenate S1024x256 0 [⟨S384x256, extractStridedSlice S384x256 ![0, 0] (st4 q k o hs) slices_S1024x256_o0_0_S384x256⟩, ⟨S128x256, edge4 w q k o hs⟩, ⟨S512x256, extractStridedSlice S512x256 ![512, 0] (st4 q k o hs) slices_S1024x256_o512_0_S512x256⟩] concatenates_S384x256_S128x256_S512x256_S1024x256_d0

/-- The exponentials. -/
def ex4 (s : FVec Ideal S1024x256 .f32) : FVec Ideal S1024x256 .f32 :=
  exp2 (subf s (broadcastTo S1024x256 (ceil (shapeCast S1x256 (multiReduction .maximumf [0] S256 s 0xFF800000#32 reduces_S1024x256_S256 (.inl rfl) rfl) shapeCasts_S256_S1x256)) broadcasts_S1x256_S1024x256))

/-- The values averaged with weights `p`. -/
def avg4 (p : FVec Ideal S1024x256 .f32) (v : FVec Ideal S1024x128 .bf16) : FVec Ideal S256x128 .f32 :=
  transpose S256x128 [1, 0] (divf
    (matmul dot_S128x1024_S1024x256_S128x256_1_0_0_1_n_n none (transpose S128x1024 [1, 0] (kept4 v) transposes_S1024x128_p1_0_S128x1024) (truncf .bf16 p bitsLt_bf16_f32) (constant S128x256 .f32 0x00000000#32))
    (broadcastTo S128x256 (shapeCast S1x256 (multiReduction .add [0] S256 p 0x00000000#32 reduces_S1024x256_S256 (.inl rfl) rfl) shapeCasts_S256_S1x256) broadcasts_S1x256_S128x256)) transposes_S128x256_p1_0_S256x128

theorem kept4_at (k : FVec Ideal S1024x128 .bf16) (j : Fin 1024) (d : Fin 128) : kept4 k (ix2 j d) = k (ix2 (key4 j) d) := by
  unfold key4
  pointwise [kept4]
  split
  · rfl
  · exact congrArg (fun i => k (ix2 i d)) (Fin.ext (Nat.add_comm _ _))

theorem st4_at (q k : FVec Ideal S1024x128 .bf16) (o : ℕ) (hs : S1024x128.Slices ![o, 0] S256x128) (ho : o + 256 ≤ 1024) (j : Fin 1024) (r : Fin 256) :
    st4 q k o hs (ix2 j r) = (∑ d : Fin 128, q (ix2 ⟨o + r, by omega⟩ d) * k (ix2 (key4 j) d)) * Ideal.ofBits .f32 0x3DB504F3#32 * Ideal.ofBits .f32 0x3FB8AA3B#32 := by
  pointwise [st4]
  simp only [kept4_at, mul_comm (k _)]

theorem edge4_at (w : BitVec 32) (q k : FVec Ideal S1024x128 .bf16) (o : ℕ) (hs : S1024x128.Slices ![o, 0] S256x128) (j : Fin 128) (r : Fin 256) :
    edge4 w q k o hs (ix2 j r) = if ((384 + j.val : ℕ) : ℤ) < w.toInt then st4 q k o hs (ix2 ⟨384 + j.val, by omega⟩ r) else ⊥ := by
  pointwise [edge4]
  simp only [select_slt, Cert.Scalar.ofBits_neg_inf]
  rw [toInt_off _ _ (by omega)]

theorem sm4_at (w : BitVec 32) (q k : FVec Ideal S1024x128 .bf16) (o : ℕ) (hs : S1024x128.Slices ![o, 0] S256x128) (ho : o + 256 ≤ 1024) (j : Fin 1024) (r : Fin 256) :
    sm4 w q k o hs (ix2 j r) = if 384 ≤ j.val ∧ j.val < 512 ∧ ¬ (j.val : ℤ) < w.toInt then ⊥ else st4 q k o hs (ix2 j r) := by
  pointwise [sm4]
  have hj := j.isLt
  by_cases h0 : j.val < 384
  · exact (dif_pos h0).trans (if_neg (by omega)).symm
  refine (dif_neg h0).trans ?_
  by_cases h1 : j.val - 384 < 128
  · refine (dif_pos h1).trans ?_
    refine (edge4_at w q k o hs _ r).trans ?_
    by_cases h2 : (j.val : ℤ) < w.toInt
    · refine (if_pos (by dsimp only; omega)).trans (Eq.trans ?_ (if_neg (by omega)).symm)
      refine congrArg (fun i : Fin 1024 => st4 q k o hs (ix2 i r)) (Fin.ext ?_)
      show 384 + (j.val - 384) = j.val
      omega
    · exact (if_neg (by dsimp only; omega)).trans (if_pos (by omega)).symm
  · refine (dif_neg h1).trans (Eq.trans ?_ (if_neg (by omega)).symm)
    refine congrArg (fun i : Fin 1024 => st4 q k o hs (ix2 i r)) (Fin.ext ?_)
    show 512 + (j.val - 384 - 128) = j.val
    omega

theorem ex4_at (s : FVec Ideal S1024x256 .f32) (j : Fin 1024) (r : Fin 256) :
    ex4 s (ix2 j r) = Ideal.exp2 (s (ix2 j r) - Ideal.liftRound Int.ceil (Finset.univ.fold max ⊥ fun j : Fin 1024 => s (ix2 j r))) := by
  pointwise [ex4]
  try rw [Cert.Scalar.ofBits_neg_inf]
  rfl

theorem avg4_at (p : FVec Ideal S1024x256 .f32) (v : FVec Ideal S1024x128 .bf16) (r : Fin 256) (d : Fin 128) :
    avg4 p v (ix2 r d) = Ideal.div (∑ j : Fin 1024, p (ix2 j r) * v (ix2 (key4 j) d)) (∑ j : Fin 1024, p (ix2 j r)) := by
  pointwise [avg4]
  simp only [kept4_at, mul_comm (v _)]

/-- The output of the block: the softmax over all keys, those past the text left out. -/
theorem o4_at (w : BitVec 32) (hw : w.toInt ≤ 2 ^ 31 - 128) (hn : nlive w = 4#32) (q k v : FVec Ideal S1024x128 .bf16) (o : ℕ) (hs : S1024x128.Slices ![o, 0] S256x128)
    (ho : o + 256 ≤ 1024) (r : Fin 256) (d : Fin 128) :
    avg4 (ex4 (sm4 w q k o hs)) v (ix2 r d)
      = Cert.Forms.soft (fun j : Fin 1024 => Cert.Forms.score w (fun d => q (ix2 ⟨o + r, by omega⟩ d)) (fun d => k (ix2 j d)) j) (fun j => v (ix2 j d)) := by
  have hsp := nlive_spec w hw 4 (by decide) hn
  have hsm : ∀ j : Fin 1024, sm4 w q k o hs (ix2 j r) = Cert.Forms.score w (fun d => q (ix2 ⟨o + r, by omega⟩ d)) (fun d => k (ix2 (key4 j) d)) (key4 j) := by
    intro j
    rw [sm4_at w q k o hs ho, st4_at q k o hs ho]
    unfold Cert.Forms.score
    refine if_congr ?_ rfl rfl
    have hj := j.isLt
    unfold key4
    dsimp only
    split <;> omega
  rw [avg4_at]
  simp only [ex4_at, hsm]
  refine Cert.Forms.soft_inj key4 (fun a b hab => ?_) (fun j : Fin 1024 => Cert.Forms.score w (fun d => q (ix2 ⟨o + r, by omega⟩ d)) (fun d => k (ix2 j d)) j) (fun j => v (ix2 j d)) (fun i hi => ?_)
  · have h := congrArg Fin.val hab
    unfold key4 at h
    dsimp only at h
    have ha := a.isLt
    have hb := b.isLt
    exact Fin.ext (by split at h <;> split at h <;> omega)
  · refine if_pos ?_
    by_contra hc
    refine hi ?_
    have hi' := i.isLt
    by_cases h5 : i.val < 512
    · exact ⟨⟨i.val, by omega⟩, Fin.ext (by unfold key4; dsimp only; rw [if_pos h5])⟩
    · exact ⟨⟨i.val - 512 + 512, by omega⟩, Fin.ext (by unfold key4; dsimp only; rw [if_neg (by omega)]; omega)⟩

end Cert.KernelIdeal.Attn

end
-- ==== Proof.Value.AttnStep.lean ====
/- The stores of `attention` at one grid point, as those of eight blocks of queries: each block's codes, and the running maxima with the blocks taken in one after another. -/
module

public import proofs.«01_k».proof.Proof.IdealRun.Region5
public import proofs.«01_k».proof.Proof.Value.Common
public import proofs.«01_k».proof.Proof.Value.AttnBlock12
public import proofs.«01_k».proof.Proof.Value.AttnBlock34
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Value Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The codes of a block's output. -/
def qnt (sa : EReal) (O : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32)) (divf O (broadcast S256x128 sa)))) bitsLt_fp8e4m3_f32

theorem qnt_at (sa : EReal) (O : FVec Ideal S256x128 .f32) (i : S256x128.Idx) :
    qnt sa O i = min (Ideal.ofBits .f32 0x43E00000#32) (max (Ideal.ofBits .f32 0xC3E00000#32) (Ideal.div (O i) sa)) := by
  pointwise [qnt]

/-- Into the running maxima, those of a block. -/
def amx (acc : FVec Ideal S8x128 .f32) (O : FVec Ideal S256x128 .f32) : FVec Ideal S8x128 .f32 :=
  maximumf acc (multiReduction .maximumf [0] S8x128 (shapeCast S32x8x128 (absf O) shapeCasts_S256x128_S32x8x128) 0xFF800000#32 reduces_S32x8x128_S8x128 (.inl rfl) rfl)

theorem amx_le (acc : FVec Ideal S8x128 .f32) (G : FVec Ideal S256x128 .f32) (a : Fin 8) (l : Fin 128) (z : EReal) :
    amx acc G (ix2 a l) ≤ z ↔ acc (ix2 a l) ≤ z ∧ ∀ q : Fin 32, max (G (ix2 ⟨q.val * 8 + a.val, by omega⟩ l)) (-G (ix2 ⟨q.val * 8 + a.val, by omega⟩ l)) ≤ z := by
  have : amx acc G (ix2 a l) = max (acc (ix2 a l)) (Finset.univ.fold max ⊥ fun q : Fin 32 => max (G (ix2 ⟨q.val * 8 + a.val, by omega⟩ l)) (-G (ix2 ⟨q.val * 8 + a.val, by omega⟩ l))) := by
    pointwise [amx]
    rw [Cert.Scalar.ofBits_neg_inf]
    rfl
  rw [this, max_le_iff, Finset.fold_max_le]
  simp

theorem amx_rows (acc : FVec Ideal S8x128 .f32) (G : FVec Ideal S256x128 .f32) (a : Fin 8) (l : Fin 128) (z : EReal) (A : Fin 1024 → EReal) (o : ℕ) (ho : 8 ∣ o) (ho2 : o + 256 ≤ 1024)
    (hA : ∀ (r : Fin 256) (R : Fin 1024), (R : ℕ) = o + r → G (ix2 r l) = A R) :
    amx acc G (ix2 a l) ≤ z ↔ acc (ix2 a l) ≤ z ∧ ∀ R : Fin 1024, o ≤ R.val → R.val < o + 256 → R.val % 8 = a.val → max (A R) (-A R) ≤ z := by
  rw [amx_le]
  refine and_congr_right fun _ => ⟨fun H R h1 h2 h3 => ?_, fun H q => ?_⟩
  · have := H ⟨(R.val - o) / 8, by omega⟩
    rwa [hA _ R (by dsimp only; omega)] at this
  · rw [hA _ ⟨o + (q.val * 8 + a.val), by omega⟩ rfl]
    exact H _ (by dsimp only; omega) (by dsimp only; omega) (by dsimp only; omega)

/-- The running maxima with the four blocks of a head taken in. -/
def upd4 (acc : FVec Ideal S8x128 .f32) (O : (o : ℕ) → S1024x128.Slices ![o, 0] S256x128 → FVec Ideal S256x128 .f32) : FVec Ideal S8x128 .f32 :=
  amx (amx (amx (amx acc (O 0 slices_S1024x128_o0_0_S256x128)) (O 256 slices_S1024x128_o256_0_S256x128)) (O 512 slices_S1024x128_o512_0_S256x128)) (O 768 slices_S1024x128_o768_0_S256x128)

theorem upd4_le (acc : FVec Ideal S8x128 .f32) (O : (o : ℕ) → S1024x128.Slices ![o, 0] S256x128 → FVec Ideal S256x128 .f32) (a : Fin 8) (l : Fin 128) (z : EReal) (A : Fin 1024 → EReal)
    (hA : ∀ (o : ℕ) (hs) (_ : o + 256 ≤ 1024) (r : Fin 256) (R : Fin 1024), (R : ℕ) = o + r → O o hs (ix2 r l) = A R) :
    upd4 acc O (ix2 a l) ≤ z ↔ acc (ix2 a l) ≤ z ∧ ∀ R : Fin 1024, R.val % 8 = a.val → max (A R) (-A R) ≤ z := by
  unfold upd4
  rw [amx_rows _ _ a l z A 768 (by decide) (by decide) (hA _ _ (by decide)), amx_rows _ _ a l z A 512 (by decide) (by decide) (hA _ _ (by decide)),
    amx_rows _ _ a l z A 256 (by decide) (by decide) (hA _ _ (by decide)), amx_rows _ _ a l z A 0 (by decide) (by decide) (hA _ _ (by decide))]
  constructor
  · rintro ⟨⟨⟨⟨h, h0⟩, h1⟩, h2⟩, h3⟩
    refine ⟨h, fun R hR => ?_⟩
    have hlt := R.isLt
    by_cases c0 : R.val < 256
    · exact h0 R (by omega) (by omega) hR
    by_cases c1 : R.val < 512
    · exact h1 R (by omega) (by omega) hR
    by_cases c2 : R.val < 768
    · exact h2 R (by omega) (by omega) hR
    exact h3 R (by omega) (by omega) hR
  · rintro ⟨h, H⟩
    exact ⟨⟨⟨⟨h, fun R _ _ => H R⟩, fun R _ _ => H R⟩, fun R _ _ => H R⟩, fun R _ _ => H R⟩

/-- Those of both heads. -/
def upd (acc : FVec Ideal S8x128 .f32) (O : FVec Ideal S1024x128 .bf16 → FVec Ideal S1024x128 .bf16 → FVec Ideal S1024x128 .bf16 → (o : ℕ) → S1024x128.Slices ![o, 0] S256x128 → FVec Ideal S256x128 .f32)
    (q0 k0 v0 q1 k1 v1 : FVec Ideal S1024x128 .bf16) : FVec Ideal S8x128 .f32 :=
  upd4 (upd4 (shapeCast S8x128 acc shapeCasts_S8x128_S8x128) (O q0 k0 v0)) (O q1 k1 v1)

theorem upd_le (acc : FVec Ideal S8x128 .f32) (O) (q0 k0 v0 q1 k1 v1 : FVec Ideal S1024x128 .bf16) (a : Fin 8) (l : Fin 128) (z : EReal) (A0 A1 : Fin 1024 → EReal)
    (hA0 : ∀ (o : ℕ) (hs) (_ : o + 256 ≤ 1024) (r : Fin 256) (R : Fin 1024), (R : ℕ) = o + r → O q0 k0 v0 o hs (ix2 r l) = A0 R)
    (hA1 : ∀ (o : ℕ) (hs) (_ : o + 256 ≤ 1024) (r : Fin 256) (R : Fin 1024), (R : ℕ) = o + r → O q1 k1 v1 o hs (ix2 r l) = A1 R) :
    upd acc O q0 k0 v0 q1 k1 v1 (ix2 a l) ≤ z ↔ acc (ix2 a l) ≤ z ∧ (∀ R : Fin 1024, R.val % 8 = a.val → max (A0 R) (-A0 R) ≤ z) ∧ (∀ R : Fin 1024, R.val % 8 = a.val → max (A1 R) (-A1 R) ≤ z) := by
  have hsc : (shapeCast S8x128 acc shapeCasts_S8x128_S8x128) (ix2 a l) = acc (ix2 a l) := by pointwise
  unfold upd
  rw [upd4_le _ _ a l z A1 hA1, upd4_le _ _ a l z A0 hA0, hsc, and_assoc]

/-- The output of a block of queries, with 1 live text chunks. -/
def oblk1 (w : BitVec 32) (q k v : FVec Ideal S1024x128 .bf16) (o : ℕ) (hs : S1024x128.Slices ![o, 0] S256x128) : FVec Ideal S256x128 .f32 :=
  avg1 (ex1 (sm1 w q k o hs)) v

section
variable (acc : FVec Ideal S8x128 .f32) (w : BitVec 32) (q k v : FVec Ideal S1024x128 .bf16)
theorem s1_1 : k5_pay25 (F := Ideal) (k5_pay14 (F := Ideal) acc) (k5_pay15 (F := Ideal) q) (k5_pay16 (F := Ideal) k) (k5_pay17 (F := Ideal) v) (k5_pay18 (F := Ideal) w) (k5_pay20 (F := Ideal) w q k v) (k5_pay21 (F := Ideal) w q k) = amx (amx (shapeCast S8x128 acc shapeCasts_S8x128_S8x128) (oblk1 w q k v 0 slices_S1024x128_o0_0_S256x128)) (oblk1 w q k v 256 slices_S1024x128_o256_0_S256x128) := rfl
theorem s1_2 : k5_pay29 (F := Ideal) (k5_pay15 (F := Ideal) q) (k5_pay16 (F := Ideal) k) (k5_pay17 (F := Ideal) v) (k5_pay18 (F := Ideal) w) acc = amx acc (oblk1 w q k v 512 slices_S1024x128_o512_0_S256x128) := rfl
theorem s1_3 : k5_pay33 (F := Ideal) (k5_pay16 (F := Ideal) k) (k5_pay17 (F := Ideal) v) (k5_pay18 (F := Ideal) w) acc (k5_pay31 (F := Ideal) (k5_pay15 (F := Ideal) q)) (constant S640x256 FTy.f32 (0#32)) = amx acc (oblk1 w q k v 768 slices_S1024x128_o768_0_S256x128) := rfl
theorem s1_4 : k5_pay41 (F := Ideal) w acc (k5_pay35 (F := Ideal) q) (k5_pay36 (F := Ideal) k) v = amx acc (oblk1 w q k v 0 slices_S1024x128_o0_0_S256x128) := rfl
theorem s1_5 : k5_pay44 (F := Ideal) (k5_pay35 (F := Ideal) q) (k5_pay37 (F := Ideal) (k5_pay36 (F := Ideal) k)) (k5_pay38 (F := Ideal) v) (k5_pay39 (F := Ideal) w) acc = amx acc (oblk1 w q k v 256 slices_S1024x128_o256_0_S256x128) := rfl
theorem s1_6 : k5_pay49 (F := Ideal) (k5_pay38 (F := Ideal) v) (k5_pay39 (F := Ideal) w) acc (k5_pay46 (F := Ideal) (k5_pay35 (F := Ideal) q) (k5_pay37 (F := Ideal) (k5_pay36 (F := Ideal) k))) (k5_pay47 (F := Ideal)) = amx acc (oblk1 w q k v 512 slices_S1024x128_o512_0_S256x128) := rfl
theorem s1_7 : k5_pay3 (F := Ideal) (k5_pay38 (F := Ideal) v) acc (k5_pay51 (F := Ideal) (k5_pay35 (F := Ideal) q) (k5_pay37 (F := Ideal) (k5_pay36 (F := Ideal) k)) (k5_pay39 (F := Ideal) w)) (k5_pay52 (F := Ideal) (k5_pay35 (F := Ideal) q) (k5_pay37 (F := Ideal) (k5_pay36 (F := Ideal) k)) (k5_pay39 (F := Ideal) w)) = amx acc (oblk1 w q k v 768 slices_S1024x128_o768_0_S256x128) := rfl
end

theorem steps1 (acc : FVec Ideal S8x128 .f32) (w : BitVec 32) (q0 k0 v0 q1 k1 v1 : FVec Ideal S1024x128 .bf16) :
    k5_pay3 (F := Ideal) (k5_pay38 (F := Ideal) v1) (k5_pay49 (F := Ideal) (k5_pay38 (F := Ideal) v1) (k5_pay39 (F := Ideal) w) (k5_pay44 (F := Ideal) (k5_pay35 (F := Ideal) q1) (k5_pay37 (F := Ideal) (k5_pay36 (F := Ideal) k1)) (k5_pay38 (F := Ideal) v1) (k5_pay39 (F := Ideal) w) (k5_pay41 (F := Ideal) w (k5_pay33 (F := Ideal) (k5_pay16 (F := Ideal) k0) (k5_pay17 (F := Ideal) v0) (k5_pay18 (F := Ideal) w) (k5_pay29 (F := Ideal) (k5_pay15 (F := Ideal) q0) (k5_pay16 (F := Ideal) k0) (k5_pay17 (F := Ideal) v0) (k5_pay18 (F := Ideal) w) (k5_pay25 (F := Ideal) (k5_pay14 (F := Ideal) acc) (k5_pay15 (F := Ideal) q0) (k5_pay16 (F := Ideal) k0) (k5_pay17 (F := Ideal) v0) (k5_pay18 (F := Ideal) w) (k5_pay20 (F := Ideal) w q0 k0 v0) (k5_pay21 (F := Ideal) w q0 k0))) (k5_pay31 (F := Ideal) (k5_pay15 (F := Ideal) q0)) (constant S640x256 FTy.f32 (0#32))) (k5_pay35 (F := Ideal) q1) (k5_pay36 (F := Ideal) k1) v1)) (k5_pay46 (F := Ideal) (k5_pay35 (F := Ideal) q1) (k5_pay37 (F := Ideal) (k5_pay36 (F := Ideal) k1))) (k5_pay47 (F := Ideal))) (k5_pay51 (F := Ideal) (k5_pay35 (F := Ideal) q1) (k5_pay37 (F := Ideal) (k5_pay36 (F := Ideal) k1)) (k5_pay39 (F := Ideal) w)) (k5_pay52 (F := Ideal) (k5_pay35 (F := Ideal) q1) (k5_pay37 (F := Ideal) (k5_pay36 (F := Ideal) k1)) (k5_pay39 (F := Ideal) w))
      = upd acc (oblk1 w) q0 k0 v0 q1 k1 v1 := by
  rw [s1_7, s1_6, s1_5, s1_4, s1_3, s1_2, s1_1]
  rfl

/-- The output of a block of queries, with 2 live text chunks. -/
def oblk2 (w : BitVec 32) (q k v : FVec Ideal S1024x128 .bf16) (o : ℕ) (hs : S1024x128.Slices ![o, 0] S256x128) : FVec Ideal S256x128 .f32 :=
  avg2 (ex2 (sm2 w q k o hs)) v

section
variable (acc : FVec Ideal S8x128 .f32) (w : BitVec 32) (q k v : FVec Ideal S1024x128 .bf16)
theorem s2_1 : k5_pay64 (F := Ideal) (k5_pay53 (F := Ideal) acc) (k5_pay54 (F := Ideal) q) (k5_pay55 (F := Ideal) k) (k5_pay56 (F := Ideal) v) (k5_pay57 (F := Ideal) w) (k5_pay59 (F := Ideal) w q k) (k5_pay60 (F := Ideal) w q k v) = amx (amx (shapeCast S8x128 acc shapeCasts_S8x128_S8x128) (oblk2 w q k v 0 slices_S1024x128_o0_0_S256x128)) (oblk2 w q k v 256 slices_S1024x128_o256_0_S256x128) := rfl
theorem s2_2 : k5_pay68 (F := Ideal) (k5_pay54 (F := Ideal) q) (k5_pay55 (F := Ideal) k) (k5_pay56 (F := Ideal) v) (k5_pay57 (F := Ideal) w) acc = amx acc (oblk2 w q k v 512 slices_S1024x128_o512_0_S256x128) := rfl
theorem s2_3 : k5_pay71 (F := Ideal) (k5_pay54 (F := Ideal) q) (k5_pay55 (F := Ideal) k) (k5_pay56 (F := Ideal) v) (k5_pay57 (F := Ideal) w) acc = amx acc (oblk2 w q k v 768 slices_S1024x128_o768_0_S256x128) := rfl
theorem s2_4 : k5_pay78 (F := Ideal) w acc (k5_pay73 (F := Ideal) q) k v = amx acc (oblk2 w q k v 0 slices_S1024x128_o0_0_S256x128) := rfl
theorem s2_5 : k5_pay83 (F := Ideal) (k5_pay73 (F := Ideal) q) (k5_pay74 (F := Ideal) k) (k5_pay75 (F := Ideal) v) (k5_pay76 (F := Ideal) w) acc = amx acc (oblk2 w q k v 256 slices_S1024x128_o256_0_S256x128) := rfl
theorem s2_6 : k5_pay87 (F := Ideal) (k5_pay74 (F := Ideal) k) (k5_pay75 (F := Ideal) v) (k5_pay76 (F := Ideal) w) acc (k5_pay85 (F := Ideal) (k5_pay73 (F := Ideal) q)) (constant S768x256 FTy.f32 (0#32)) = amx acc (oblk2 w q k v 512 slices_S1024x128_o512_0_S256x128) := rfl
theorem s2_7 : k5_pay6 (F := Ideal) (k5_pay75 (F := Ideal) v) (k5_pay76 (F := Ideal) w) acc (k5_pay89 (F := Ideal) (k5_pay73 (F := Ideal) q) (k5_pay74 (F := Ideal) k)) (k5_pay90 (F := Ideal) (k5_pay73 (F := Ideal) q) (k5_pay74 (F := Ideal) k)) (k5_pay91 (F := Ideal)) = amx acc (oblk2 w q k v 768 slices_S1024x128_o768_0_S256x128) := rfl
end

theorem steps2 (acc : FVec Ideal S8x128 .f32) (w : BitVec 32) (q0 k0 v0 q1 k1 v1 : FVec Ideal S1024x128 .bf16) :
    k5_pay6 (F := Ideal) (k5_pay75 (F := Ideal) v1) (k5_pay76 (F := Ideal) w) (k5_pay87 (F := Ideal) (k5_pay74 (F := Ideal) k1) (k5_pay75 (F := Ideal) v1) (k5_pay76 (F := Ideal) w) (k5_pay83 (F := Ideal) (k5_pay73 (F := Ideal) q1) (k5_pay74 (F := Ideal) k1) (k5_pay75 (F := Ideal) v1) (k5_pay76 (F := Ideal) w) (k5_pay78 (F := Ideal) w (k5_pay71 (F := Ideal) (k5_pay54 (F := Ideal) q0) (k5_pay55 (F := Ideal) k0) (k5_pay56 (F := Ideal) v0) (k5_pay57 (F := Ideal) w) (k5_pay68 (F := Ideal) (k5_pay54 (F := Ideal) q0) (k5_pay55 (F := Ideal) k0) (k5_pay56 (F := Ideal) v0) (k5_pay57 (F := Ideal) w) (k5_pay64 (F := Ideal) (k5_pay53 (F := Ideal) acc) (k5_pay54 (F := Ideal) q0) (k5_pay55 (F := Ideal) k0) (k5_pay56 (F := Ideal) v0) (k5_pay57 (F := Ideal) w) (k5_pay59 (F := Ideal) w q0 k0) (k5_pay60 (F := Ideal) w q0 k0 v0)))) (k5_pay73 (F := Ideal) q1) k1 v1)) (k5_pay85 (F := Ideal) (k5_pay73 (F := Ideal) q1)) (constant S768x256 FTy.f32 (0#32))) (k5_pay89 (F := Ideal) (k5_pay73 (F := Ideal) q1) (k5_pay74 (F := Ideal) k1)) (k5_pay90 (F := Ideal) (k5_pay73 (F := Ideal) q1) (k5_pay74 (F := Ideal) k1)) (k5_pay91 (F := Ideal))
      = upd acc (oblk2 w) q0 k0 v0 q1 k1 v1 := by
  rw [s2_7, s2_6, s2_5, s2_4, s2_3, s2_2, s2_1]
  rfl

/-- The output of a block of queries, with 3 live text chunks. -/
def oblk3 (w : BitVec 32) (q k v : FVec Ideal S1024x128 .bf16) (o : ℕ) (hs : S1024x128.Slices ![o, 0] S256x128) : FVec Ideal S256x128 .f32 :=
  avg3 (ex3 (sm3 w q k o hs)) v

section
variable (acc : FVec Ideal S8x128 .f32) (w : BitVec 32) (q k v : FVec Ideal S1024x128 .bf16)
theorem s3_1 : k5_pay103 (F := Ideal) (k5_pay92 (F := Ideal) acc) (k5_pay93 (F := Ideal) q) (k5_pay94 (F := Ideal) k) (k5_pay95 (F := Ideal) v) (k5_pay96 (F := Ideal) w) (k5_pay98 (F := Ideal) w q k) (k5_pay99 (F := Ideal) w q k v) = amx (amx (shapeCast S8x128 acc shapeCasts_S8x128_S8x128) (oblk3 w q k v 0 slices_S1024x128_o0_0_S256x128)) (oblk3 w q k v 256 slices_S1024x128_o256_0_S256x128) := rfl
theorem s3_2 : k5_pay107 (F := Ideal) (k5_pay93 (F := Ideal) q) (k5_pay94 (F := Ideal) k) (k5_pay95 (F := Ideal) v) (k5_pay96 (F := Ideal) w) acc = amx acc (oblk3 w q k v 512 slices_S1024x128_o512_0_S256x128) := rfl
theorem s3_3 : k5_pay110 (F := Ideal) (k5_pay93 (F := Ideal) q) (k5_pay94 (F := Ideal) k) (k5_pay95 (F := Ideal) v) (k5_pay96 (F := Ideal) w) acc = amx acc (oblk3 w q k v 768 slices_S1024x128_o768_0_S256x128) := rfl
theorem s3_4 : k5_pay117 (F := Ideal) w acc (k5_pay112 (F := Ideal) q) k v = amx acc (oblk3 w q k v 0 slices_S1024x128_o0_0_S256x128) := rfl
theorem s3_5 : k5_pay122 (F := Ideal) (k5_pay112 (F := Ideal) q) (k5_pay113 (F := Ideal) k) (k5_pay114 (F := Ideal) v) (k5_pay115 (F := Ideal) w) acc = amx acc (oblk3 w q k v 256 slices_S1024x128_o256_0_S256x128) := rfl
theorem s3_6 : k5_pay126 (F := Ideal) (k5_pay113 (F := Ideal) k) (k5_pay114 (F := Ideal) v) (k5_pay115 (F := Ideal) w) acc (k5_pay124 (F := Ideal) (k5_pay112 (F := Ideal) q)) (constant S896x256 FTy.f32 (0#32)) = amx acc (oblk3 w q k v 512 slices_S1024x128_o512_0_S256x128) := rfl
theorem s3_7 : k5_pay9 (F := Ideal) (k5_pay114 (F := Ideal) v) (k5_pay115 (F := Ideal) w) acc (k5_pay128 (F := Ideal) (k5_pay112 (F := Ideal) q) (k5_pay113 (F := Ideal) k)) (k5_pay129 (F := Ideal) (k5_pay112 (F := Ideal) q) (k5_pay113 (F := Ideal) k)) (k5_pay130 (F := Ideal)) = amx acc (oblk3 w q k v 768 slices_S1024x128_o768_0_S256x128) := rfl
end

theorem steps3 (acc : FVec Ideal S8x128 .f32) (w : BitVec 32) (q0 k0 v0 q1 k1 v1 : FVec Ideal S1024x128 .bf16) :
    k5_pay9 (F := Ideal) (k5_pay114 (F := Ideal) v1) (k5_pay115 (F := Ideal) w) (k5_pay126 (F := Ideal) (k5_pay113 (F := Ideal) k1) (k5_pay114 (F := Ideal) v1) (k5_pay115 (F := Ideal) w) (k5_pay122 (F := Ideal) (k5_pay112 (F := Ideal) q1) (k5_pay113 (F := Ideal) k1) (k5_pay114 (F := Ideal) v1) (k5_pay115 (F := Ideal) w) (k5_pay117 (F := Ideal) w (k5_pay110 (F := Ideal) (k5_pay93 (F := Ideal) q0) (k5_pay94 (F := Ideal) k0) (k5_pay95 (F := Ideal) v0) (k5_pay96 (F := Ideal) w) (k5_pay107 (F := Ideal) (k5_pay93 (F := Ideal) q0) (k5_pay94 (F := Ideal) k0) (k5_pay95 (F := Ideal) v0) (k5_pay96 (F := Ideal) w) (k5_pay103 (F := Ideal) (k5_pay92 (F := Ideal) acc) (k5_pay93 (F := Ideal) q0) (k5_pay94 (F := Ideal) k0) (k5_pay95 (F := Ideal) v0) (k5_pay96 (F := Ideal) w) (k5_pay98 (F := Ideal) w q0 k0) (k5_pay99 (F := Ideal) w q0 k0 v0)))) (k5_pay112 (F := Ideal) q1) k1 v1)) (k5_pay124 (F := Ideal) (k5_pay112 (F := Ideal) q1)) (constant S896x256 FTy.f32 (0#32))) (k5_pay128 (F := Ideal) (k5_pay112 (F := Ideal) q1) (k5_pay113 (F := Ideal) k1)) (k5_pay129 (F := Ideal) (k5_pay112 (F := Ideal) q1) (k5_pay113 (F := Ideal) k1)) (k5_pay130 (F := Ideal))
      = upd acc (oblk3 w) q0 k0 v0 q1 k1 v1 := by
  rw [s3_7, s3_6, s3_5, s3_4, s3_3, s3_2, s3_1]
  rfl

/-- The output of a block of queries, with 4 live text chunks. -/
def oblk4 (w : BitVec 32) (q k v : FVec Ideal S1024x128 .bf16) (o : ℕ) (hs : S1024x128.Slices ![o, 0] S256x128) : FVec Ideal S256x128 .f32 :=
  avg4 (ex4 (sm4 w q k o hs)) v

section
variable (acc : FVec Ideal S8x128 .f32) (w : BitVec 32) (q k v : FVec Ideal S1024x128 .bf16)
theorem s4_1 : k5_pay142 (F := Ideal) (k5_pay131 (F := Ideal) acc) (k5_pay132 (F := Ideal) q) (k5_pay133 (F := Ideal) k) (k5_pay134 (F := Ideal) v) (k5_pay135 (F := Ideal) w) (k5_pay137 (F := Ideal) w q k) (k5_pay138 (F := Ideal) w q k v) = amx (amx (shapeCast S8x128 acc shapeCasts_S8x128_S8x128) (oblk4 w q k v 0 slices_S1024x128_o0_0_S256x128)) (oblk4 w q k v 256 slices_S1024x128_o256_0_S256x128) := rfl
theorem s4_2 : k5_pay146 (F := Ideal) (k5_pay132 (F := Ideal) q) (k5_pay133 (F := Ideal) k) (k5_pay134 (F := Ideal) v) (k5_pay135 (F := Ideal) w) acc = amx acc (oblk4 w q k v 512 slices_S1024x128_o512_0_S256x128) := rfl
theorem s4_3 : k5_pay149 (F := Ideal) (k5_pay132 (F := Ideal) q) (k5_pay133 (F := Ideal) k) (k5_pay134 (F := Ideal) v) (k5_pay135 (F := Ideal) w) acc = amx acc (oblk4 w q k v 768 slices_S1024x128_o768_0_S256x128) := rfl
theorem s4_4 : k5_pay156 (F := Ideal) w acc (k5_pay151 (F := Ideal) q) k v = amx acc (oblk4 w q k v 0 slices_S1024x128_o0_0_S256x128) := rfl
theorem s4_5 : k5_pay161 (F := Ideal) (k5_pay151 (F := Ideal) q) (k5_pay152 (F := Ideal) k) (k5_pay153 (F := Ideal) v) (k5_pay154 (F := Ideal) w) acc = amx acc (oblk4 w q k v 256 slices_S1024x128_o256_0_S256x128) := rfl
theorem s4_6 : k5_pay165 (F := Ideal) (k5_pay152 (F := Ideal) k) (k5_pay153 (F := Ideal) v) (k5_pay154 (F := Ideal) w) acc (k5_pay163 (F := Ideal) (k5_pay151 (F := Ideal) q)) (constant S1024x256 FTy.f32 (0#32)) = amx acc (oblk4 w q k v 512 slices_S1024x128_o512_0_S256x128) := rfl
theorem s4_7 : k5_pay12 (F := Ideal) (k5_pay153 (F := Ideal) v) (k5_pay154 (F := Ideal) w) acc (k5_pay167 (F := Ideal) (k5_pay151 (F := Ideal) q) (k5_pay152 (F := Ideal) k)) (k5_pay168 (F := Ideal) (k5_pay151 (F := Ideal) q) (k5_pay152 (F := Ideal) k)) (k5_pay169 (F := Ideal)) = amx acc (oblk4 w q k v 768 slices_S1024x128_o768_0_S256x128) := rfl
end

theorem steps4 (acc : FVec Ideal S8x128 .f32) (w : BitVec 32) (q0 k0 v0 q1 k1 v1 : FVec Ideal S1024x128 .bf16) :
    k5_pay12 (F := Ideal) (k5_pay153 (F := Ideal) v1) (k5_pay154 (F := Ideal) w) (k5_pay165 (F := Ideal) (k5_pay152 (F := Ideal) k1) (k5_pay153 (F := Ideal) v1) (k5_pay154 (F := Ideal) w) (k5_pay161 (F := Ideal) (k5_pay151 (F := Ideal) q1) (k5_pay152 (F := Ideal) k1) (k5_pay153 (F := Ideal) v1) (k5_pay154 (F := Ideal) w) (k5_pay156 (F := Ideal) w (k5_pay149 (F := Ideal) (k5_pay132 (F := Ideal) q0) (k5_pay133 (F := Ideal) k0) (k5_pay134 (F := Ideal) v0) (k5_pay135 (F := Ideal) w) (k5_pay146 (F := Ideal) (k5_pay132 (F := Ideal) q0) (k5_pay133 (F := Ideal) k0) (k5_pay134 (F := Ideal) v0) (k5_pay135 (F := Ideal) w) (k5_pay142 (F := Ideal) (k5_pay131 (F := Ideal) acc) (k5_pay132 (F := Ideal) q0) (k5_pay133 (F := Ideal) k0) (k5_pay134 (F := Ideal) v0) (k5_pay135 (F := Ideal) w) (k5_pay137 (F := Ideal) w q0 k0) (k5_pay138 (F := Ideal) w q0 k0 v0)))) (k5_pay151 (F := Ideal) q1) k1 v1)) (k5_pay163 (F := Ideal) (k5_pay151 (F := Ideal) q1)) (constant S1024x256 FTy.f32 (0#32))) (k5_pay167 (F := Ideal) (k5_pay151 (F := Ideal) q1) (k5_pay152 (F := Ideal) k1)) (k5_pay168 (F := Ideal) (k5_pay151 (F := Ideal) q1) (k5_pay152 (F := Ideal) k1)) (k5_pay169 (F := Ideal))
      = upd acc (oblk4 w) q0 k0 v0 q1 k1 v1 := by
  rw [s4_7, s4_6, s4_5, s4_4, s4_3, s4_2, s4_1]
  rfl

end Cert.KernelIdeal.Attn

end
-- ==== Proof.Value.AttnPoint.lean ====
/- What `attention` reads at a grid point, and the number of live text chunks it goes by; its blocks and running maxima there. -/
module

public import proofs.«01_k».proof.Proof.IdealRun.Region5
public import proofs.«01_k».proof.Proof.Value.Common
public import proofs.«01_k».proof.Proof.Value.AttnStep
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Value Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx5 : ∀ t : Fin cfg5.N, win5_0.index t = ![0] ∧ win5_1.index t = ![0] ∧ win5_2.index t = ![t.val / 12, t.val % 12] ∧ win5_3.index t = ![t.val / 12, t.val % 12]
    ∧ win5_4.index t = ![t.val / 12, t.val % 12] ∧ win5_5.index t = ![t.val / 12, t.val % 12] ∧ win5_6.index t = ![0, 0] ∧ t.val < 24 ∧ k5_off1 (grid5.coords t) = ![t.val / 12] :=
  (by decide +kernel : ∀ t : Fin grid5.N, _)

/-- The text length the body reads. -/
theorem wd5 (c : Dev nD) (t : Fin cfg5.N) (h) (h2) (b : Fin 2) (hb : b.val = t.val / 12) :
    View.ld (Val := Elt Ideal) (S := S2) (e' := .i32) (iblk5 V c 0 t) (Rect.unit (k5_off1 (grid5.coords t)) ![1] h) (Shape.Idx.first h2) = V c main_arg11 (ix1 b) := by
  have e := (idx5 t).2.2.2.2.2.2.2.2
  refine (View.ld_unit_apply_of (Val := Elt Ideal) (S := S2) (e := .i32) (iblk5 V c 0 t) _ _ h _ (ix1 b) (fun a => ?_)).trans ?_
  · have : a = 0 := Subsingleton.elim _ _
    subst this
    have hlt : ((Shape.Idx.first h2) 0 : ℕ) < 1 := (Shape.Idx.first h2 0).isLt
    have e0 : k5_off1 (grid5.coords t) 0 = t.val / 12 := congrFun e 0
    show b.val = k5_off1 (grid5.coords t) 0 + ((Shape.Idx.first h2) 0 : ℕ)
    omega
  · blk_ext [iblk5, idx5 t]

theorem w5 (c : Dev nD) (t : Fin cfg5.N) (b : Fin 2) (hb : b.val = t.val / 12) : word5 (F := Ideal) (grid5.coords t) (ms5_0 t) (hs5_0 t) (iblk5 V c 0 t) = V c main_arg11 (ix1 b) := by
  unfold word5
  exact (congrFun ((hs5_0 t).read_unread (Val := Elt Ideal) (iblk5 V c 0 t)) _).trans (wd5 V c t (k5_off1_inb _) (show 0 < S1.numel from by rw [show S1.numel = 1 from numel1_S1]; exact Nat.one_pos) b hb)

theorem rd5_1 (c : Dev nD) (t : Fin cfg5.N) (i) : iblk5 V c 1 t i = V c main_v54 i := by
  blk_ext [iblk5, idx5 t]

theorem rd5_2 (c : Dev nD) (t : Fin cfg5.N) (r : Fin 1024) (l : Fin 256) (R : Fin 2048) (J : Fin 3072) (hR : (R : ℕ) = (t.val / 12) * 1024 + r) (hJ : (J : ℕ) = (t.val % 12) * 256 + l) :
    iblk5 V c 2 t (ix2 r l) = V c main_v27 (ix2 R J) := by
  blk_ext [iblk5, idx5 t]

theorem rd5_3 (c : Dev nD) (t : Fin cfg5.N) (r : Fin 1024) (l : Fin 256) (R : Fin 2048) (J : Fin 3072) (hR : (R : ℕ) = (t.val / 12) * 1024 + r) (hJ : (J : ℕ) = (t.val % 12) * 256 + l) :
    iblk5 V c 3 t (ix2 r l) = V c main_v48 (ix2 R J) := by
  blk_ext [iblk5, idx5 t]

theorem rd5_4 (c : Dev nD) (t : Fin cfg5.N) (r : Fin 1024) (l : Fin 256) (R : Fin 2048) (J : Fin 3072) (hR : (R : ℕ) = (t.val / 12) * 1024 + r) (hJ : (J : ℕ) = (t.val % 12) * 256 + l) :
    iblk5 V c 4 t (ix2 r l) = V c main_v50 (ix2 R J) := by
  blk_ext [iblk5, idx5 t]

theorem emb5 (t : Fin cfg5.N) (y : S1024x256.Idx) (R : Fin 2048) (J : Fin 3072) (hR : (R : ℕ) = (t.val / 12) * 1024 + (y 0 : ℕ)) (hJ : (J : ℕ) = (t.val % 12) * 256 + (y 1 : ℕ)) :
    ((View.whole main_v55_0).slice (win5_5.rect t)).emb y = ix2 R J := by
  blk_ext [idx5 t]

/-- A function of blocks that gives attention for the text length `w`. -/
def IsO (w : BitVec 32) (O : FVec Ideal S1024x128 .bf16 → FVec Ideal S1024x128 .bf16 → FVec Ideal S1024x128 .bf16 → (o : ℕ) → S1024x128.Slices ![o, 0] S256x128 → FVec Ideal S256x128 .f32) : Prop :=
  ∀ (q k v : FVec Ideal S1024x128 .bf16) (o : ℕ) (hs : S1024x128.Slices ![o, 0] S256x128) (ho : o + 256 ≤ 1024) (r : Fin 256) (d : Fin 128),
    O q k v o hs (ix2 r d) = Cert.Forms.soft (fun j : Fin 1024 => Cert.Forms.score w (fun d => q (ix2 ⟨o + r, by omega⟩ d)) (fun d => k (ix2 j d)) j) (fun j => v (ix2 j d))

theorem isO1 (w : BitVec 32) (hw : w.toInt ≤ 2 ^ 31 - 128) (hn : nlive w = 1#32) : IsO w (oblk1 w) :=
  fun q k v o hs ho r d => o1_at w hw hn q k v o hs ho r d
theorem isO2 (w : BitVec 32) (hw : w.toInt ≤ 2 ^ 31 - 128) (hn : nlive w = 2#32) : IsO w (oblk2 w) :=
  fun q k v o hs ho r d => o2_at w hw hn q k v o hs ho r d
theorem isO3 (w : BitVec 32) (hw : w.toInt ≤ 2 ^ 31 - 128) (hn : nlive w = 3#32) : IsO w (oblk3 w) :=
  fun q k v o hs ho r d => o3_at w hw hn q k v o hs ho r d
theorem isO4 (w : BitVec 32) (hw : w.toInt ≤ 2 ^ 31 - 128) (hn : nlive w = 4#32) : IsO w (oblk4 w) :=
  fun q k v o hs ho r d => o4_at w hw hn q k v o hs ho r d

theorem stepA1 (c : Dev nD) (t : Fin cfg5.N) (h : t.val % 24 = 0) (b : Fin 2) (hb : b.val = t.val / 12) (hn : nlive (V c main_arg11 (ix1 b)) = 1#32) :
    (outsAt5 V c t.val t.isLt).2 = upd (k5_pay1 (F := Ideal)) (oblk1 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 1#32 := by rw [w5 V c t b hb]; exact hn
  funext y
  rw [outsAt5_A V c t h]
  unfold out5_A_6
  dsimp only
  rw [kernelRun5_A_1 (hn := hn')]
  frame_out
  exact (congrFun (steps1 _ _ _ _ _ _ _ _) y).trans (congrArg (fun w => upd _ (oblk1 w) _ _ _ _ _ _ y) (wd5 V c t _ _ b hb))

theorem codeA1 (c : Dev nD) (t : Fin cfg5.N) (h : t.val % 24 = 0) (b : Fin 2) (hb : b.val = t.val / 12) (hn : nlive (V c main_arg11 (ix1 b)) = 1#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk1 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk1 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 1#32 := by rw [w5 V c t b hb]; exact hn
  rw [outsAt5_A V c t h]
  clear hn
  unfold out5_A_5
  dsimp only
  rw [kernelRun5_A_1 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepA2 (c : Dev nD) (t : Fin cfg5.N) (h : t.val % 24 = 0) (b : Fin 2) (hb : b.val = t.val / 12) (hn : nlive (V c main_arg11 (ix1 b)) = 2#32) :
    (outsAt5 V c t.val t.isLt).2 = upd (k5_pay1 (F := Ideal)) (oblk2 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 2#32 := by rw [w5 V c t b hb]; exact hn
  funext y
  rw [outsAt5_A V c t h]
  unfold out5_A_6
  dsimp only
  rw [kernelRun5_A_2 (hn := hn')]
  frame_out
  exact (congrFun (steps2 _ _ _ _ _ _ _ _) y).trans (congrArg (fun w => upd _ (oblk2 w) _ _ _ _ _ _ y) (wd5 V c t _ _ b hb))

theorem codeA2 (c : Dev nD) (t : Fin cfg5.N) (h : t.val % 24 = 0) (b : Fin 2) (hb : b.val = t.val / 12) (hn : nlive (V c main_arg11 (ix1 b)) = 2#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk2 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk2 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 2#32 := by rw [w5 V c t b hb]; exact hn
  rw [outsAt5_A V c t h]
  clear hn
  unfold out5_A_5
  dsimp only
  rw [kernelRun5_A_2 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepA3 (c : Dev nD) (t : Fin cfg5.N) (h : t.val % 24 = 0) (b : Fin 2) (hb : b.val = t.val / 12) (hn : nlive (V c main_arg11 (ix1 b)) = 3#32) :
    (outsAt5 V c t.val t.isLt).2 = upd (k5_pay1 (F := Ideal)) (oblk3 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 3#32 := by rw [w5 V c t b hb]; exact hn
  funext y
  rw [outsAt5_A V c t h]
  unfold out5_A_6
  dsimp only
  rw [kernelRun5_A_3 (hn := hn')]
  frame_out
  exact (congrFun (steps3 _ _ _ _ _ _ _ _) y).trans (congrArg (fun w => upd _ (oblk3 w) _ _ _ _ _ _ y) (wd5 V c t _ _ b hb))

theorem codeA3 (c : Dev nD) (t : Fin cfg5.N) (h : t.val % 24 = 0) (b : Fin 2) (hb : b.val = t.val / 12) (hn : nlive (V c main_arg11 (ix1 b)) = 3#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk3 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk3 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 3#32 := by rw [w5 V c t b hb]; exact hn
  rw [outsAt5_A V c t h]
  clear hn
  unfold out5_A_5
  dsimp only
  rw [kernelRun5_A_3 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepA4 (c : Dev nD) (t : Fin cfg5.N) (h : t.val % 24 = 0) (b : Fin 2) (hb : b.val = t.val / 12) (hn : nlive (V c main_arg11 (ix1 b)) = 4#32) :
    (outsAt5 V c t.val t.isLt).2 = upd (k5_pay1 (F := Ideal)) (oblk4 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 4#32 := by rw [w5 V c t b hb]; exact hn
  funext y
  rw [outsAt5_A V c t h]
  unfold out5_A_6
  dsimp only
  rw [kernelRun5_A_4 (hn := hn')]
  frame_out
  exact (congrFun (steps4 _ _ _ _ _ _ _ _) y).trans (congrArg (fun w => upd _ (oblk4 w) _ _ _ _ _ _ y) (wd5 V c t _ _ b hb))

theorem codeA4 (c : Dev nD) (t : Fin cfg5.N) (h : t.val % 24 = 0) (b : Fin 2) (hb : b.val = t.val / 12) (hn : nlive (V c main_arg11 (ix1 b)) = 4#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk4 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk4 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 4#32 := by rw [w5 V c t b hb]; exact hn
  rw [outsAt5_A V c t h]
  clear hn
  unfold out5_A_5
  dsimp only
  rw [kernelRun5_A_4 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepB1 (c : Dev nD) (t : Fin cfg5.N) (h : ¬ t.val % 24 = 0) (b : Fin 2) (hb : b.val = t.val / 12) (hn : nlive (V c main_arg11 (ix1 b)) = 1#32) :
    (outsAt5 V c t.val t.isLt).2 = upd (outsAt5 V c (t.val - 1) (by omega)).2 (oblk1 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 1#32 := by rw [w5 V c t b hb]; exact hn
  funext y
  rw [outsAt5_B V c t h]
  unfold out5_B_6
  dsimp only
  rw [kernelRun5_B_1 (hn := hn')]
  frame_out
  exact (congrFun (steps1 _ _ _ _ _ _ _ _) y).trans (congrArg (fun w => upd _ (oblk1 w) _ _ _ _ _ _ y) (wd5 V c t _ _ b hb))

theorem codeB1 (c : Dev nD) (t : Fin cfg5.N) (h : ¬ t.val % 24 = 0) (b : Fin 2) (hb : b.val = t.val / 12) (hn : nlive (V c main_arg11 (ix1 b)) = 1#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk1 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk1 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 1#32 := by rw [w5 V c t b hb]; exact hn
  rw [outsAt5_B V c t h]
  clear hn
  unfold out5_B_5
  dsimp only
  rw [kernelRun5_B_1 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepB2 (c : Dev nD) (t : Fin cfg5.N) (h : ¬ t.val % 24 = 0) (b : Fin 2) (hb : b.val = t.val / 12) (hn : nlive (V c main_arg11 (ix1 b)) = 2#32) :
    (outsAt5 V c t.val t.isLt).2 = upd (outsAt5 V c (t.val - 1) (by omega)).2 (oblk2 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 2#32 := by rw [w5 V c t b hb]; exact hn
  funext y
  rw [outsAt5_B V c t h]
  unfold out5_B_6
  dsimp only
  rw [kernelRun5_B_2 (hn := hn')]
  frame_out
  exact (congrFun (steps2 _ _ _ _ _ _ _ _) y).trans (congrArg (fun w => upd _ (oblk2 w) _ _ _ _ _ _ y) (wd5 V c t _ _ b hb))

theorem codeB2 (c : Dev nD) (t : Fin cfg5.N) (h : ¬ t.val % 24 = 0) (b : Fin 2) (hb : b.val = t.val / 12) (hn : nlive (V c main_arg11 (ix1 b)) = 2#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk2 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk2 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 2#32 := by rw [w5 V c t b hb]; exact hn
  rw [outsAt5_B V c t h]
  clear hn
  unfold out5_B_5
  dsimp only
  rw [kernelRun5_B_2 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepB3 (c : Dev nD) (t : Fin cfg5.N) (h : ¬ t.val % 24 = 0) (b : Fin 2) (hb : b.val = t.val / 12) (hn : nlive (V c main_arg11 (ix1 b)) = 3#32) :
    (outsAt5 V c t.val t.isLt).2 = upd (outsAt5 V c (t.val - 1) (by omega)).2 (oblk3 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 3#32 := by rw [w5 V c t b hb]; exact hn
  funext y
  rw [outsAt5_B V c t h]
  unfold out5_B_6
  dsimp only
  rw [kernelRun5_B_3 (hn := hn')]
  frame_out
  exact (congrFun (steps3 _ _ _ _ _ _ _ _) y).trans (congrArg (fun w => upd _ (oblk3 w) _ _ _ _ _ _ y) (wd5 V c t _ _ b hb))

theorem codeB3 (c : Dev nD) (t : Fin cfg5.N) (h : ¬ t.val % 24 = 0) (b : Fin 2) (hb : b.val = t.val / 12) (hn : nlive (V c main_arg11 (ix1 b)) = 3#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk3 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk3 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 3#32 := by rw [w5 V c t b hb]; exact hn
  rw [outsAt5_B V c t h]
  clear hn
  unfold out5_B_5
  dsimp only
  rw [kernelRun5_B_3 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

theorem stepB4 (c : Dev nD) (t : Fin cfg5.N) (h : ¬ t.val % 24 = 0) (b : Fin 2) (hb : b.val = t.val / 12) (hn : nlive (V c main_arg11 (ix1 b)) = 4#32) :
    (outsAt5 V c t.val t.isLt).2 = upd (outsAt5 V c (t.val - 1) (by omega)).2 (oblk4 (V c main_arg11 (ix1 b))) (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have hn' : nlive (word5 (F := Ideal) (grid5.coords t) (ms5_0 t) (hs5_0 t) (iblk5 V c 0 t)) = 4#32 := by rw [w5 V c t b hb]; exact hn
  funext y
  rw [outsAt5_B V c t h]
  unfold out5_B_6
  dsimp only
  rw [kernelRun5_B_4 (hn := hn')]
  frame_out
  exact (congrFun (steps4 _ _ _ _ _ _ _ _) y).trans (congrArg (fun w => upd _ (oblk4 w) _ _ _ _ _ _ y) (wd5 V c t _ _ b hb))

theorem codeB4 (c : Dev nD) (t : Fin cfg5.N) (h : ¬ t.val % 24 = 0) (b : Fin 2) (hb : b.val = t.val / 12) (hn : nlive (V c main_arg11 (ix1 b)) = 4#32) (y : S1024x256.Idx) (z : EReal)
    (H0 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = (x 1 : ℕ) →
      qnt (iblk5 V c 1 t i) (oblk4 w (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) o hs) x = z)
    (H1 : ∀ (o : ℕ) (hs : S1024x128.Slices ![o, 0] S256x128) (x : S256x128.Idx) (w : BitVec 32) (i), o + 256 ≤ 1024 → w = V c main_arg11 (ix1 b) → (y 0 : ℕ) = o + (x 0 : ℕ) → (y 1 : ℕ) = 128 + (x 1 : ℕ) →
      qnt (iblk5 V c 1 t i) (oblk4 w (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) o hs) x = z) :
    (outsAt5 V c t.val t.isLt).1 y = z := by
  have hn' : nlive (word5 (F := Ideal) (grid5.coords t) (ms5_0 t) (hs5_0 t) (iblk5 V c 0 t)) = 4#32 := by rw [w5 V c t b hb]; exact hn
  rw [outsAt5_B V c t h]
  clear hn
  unfold out5_B_5
  dsimp only
  rw [kernelRun5_B_4 (hn := hn')]

  frame_out
  canon_tiles x e
  case piece0 => exact H1 768 slices_S1024x128_o768_0_S256x128 x _ _ (by decide) (wd5 V c t _ _ b hb) e0 e1
  case piece1 => exact H1 512 slices_S1024x128_o512_0_S256x128 x _ _ (by decide) (wd5 V c t _ _ b hb) e0 e1
  case piece2 => exact H1 256 slices_S1024x128_o256_0_S256x128 x _ _ (by decide) (wd5 V c t _ _ b hb) e0 e1
  case piece3 => exact H1 0 slices_S1024x128_o0_0_S256x128 x _ _ (by decide) (wd5 V c t _ _ b hb) (e0.trans (Nat.zero_add _).symm) e1
  case piece4 => exact H0 768 slices_S1024x128_o768_0_S256x128 x _ _ (by decide) (wd5 V c t _ _ b hb) e0 e1
  case piece5 => exact H0 512 slices_S1024x128_o512_0_S256x128 x _ _ (by decide) (wd5 V c t _ _ b hb) e0 e1
  case piece6 => exact H0 256 slices_S1024x128_o256_0_S256x128 x _ _ (by decide) (wd5 V c t _ _ b hb) e0 e1
  case piece7 => exact H0 0 slices_S1024x128_o0_0_S256x128 x _ _ (by decide) (wd5 V c t _ _ b hb) (e0.trans (Nat.zero_add _).symm) e1

end Cert.KernelIdeal.Attn

end
-- ==== Proof.Value.Attn.lean ====
/- What `attention` leaves in the arrays it writes: the codes of the attention output, and maxima of its absolute values. -/
module

public import proofs.«01_k».proof.Proof.IdealRun.Region5
public import proofs.«01_k».proof.Proof.Value.Common
public import proofs.«01_k».proof.Proof.Value.AttnPoint
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Value Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section
variable (c : Dev nD) (txt : Fin 2 → BitVec 32) (Q K W : FVec Ideal S2048x3072 .bf16) (sa : EReal)
    (htxt : ∀ b, (txt b).toInt ≤ 2 ^ 31 - 128)
    (h11 : ∀ b, V c main_arg11 (ix1 b) = txt b)
    (h54 : ∀ i, V c main_v54 i = sa)
    (hQ : ∀ (R : Fin 2048) (J : Fin 3072), V c main_v27 (ix2 R J) = Q (ix2 R J))
    (hK : ∀ (R : Fin 2048) (J : Fin 3072), V c main_v48 (ix2 R J) = K (ix2 R J))
    (hW : ∀ (R : Fin 2048) (J : Fin 3072), V c main_v50 (ix2 R J) = W (ix2 R J))
include hQ hK hW

/-- A block's output at one grid point is attention there. -/
theorem att_pt (t : Fin cfg5.N) (w : BitVec 32) (O) (hO : IsO w O) (b : Fin 2) (hb : b.val = t.val / 12) (hw : w = txt b) (p : ℕ) (hp : p = 0 ∨ p = 128) (h) (o : ℕ) (hs : S1024x128.Slices ![o, 0] S256x128) (ho : o + 256 ≤ 1024) (r : Fin 256) (d : Fin 128)
    (R : Fin 2048) (J : Fin 3072) (hR : (R : ℕ) = (t.val / 12) * 1024 + (o + r)) (hJ : (J : ℕ) = (t.val % 12) * 256 + (p + d)) :
    O (View.ld (Val := Elt Ideal) (S := S1024x256) (e' := .bf16) (iblk5 V c 2 t) (Rect.unit ![0, p] S1024x128.size h))
      (View.ld (Val := Elt Ideal) (S := S1024x256) (e' := .bf16) (iblk5 V c 3 t) (Rect.unit ![0, p] S1024x128.size h))
      (View.ld (Val := Elt Ideal) (S := S1024x256) (e' := .bf16) (iblk5 V c 4 t) (Rect.unit ![0, p] S1024x128.size h)) o hs (ix2 r d)
      = Cert.Forms.att txt Q K W R J := by
  have ht := (idx5 t).2.2.2.2.2.2.2.1
  have hq : ∀ (r : Fin 1024) (d : Fin 128) (R : Fin 2048) (J : Fin 3072), (R : ℕ) = (t.val / 12) * 1024 + r → (J : ℕ) = (t.val % 12) * 256 + (p + d) →
      View.ld (Val := Elt Ideal) (S := S1024x256) (e' := .bf16) (iblk5 V c 2 t) (Rect.unit ![0, p] S1024x128.size h) (ix2 r d) = Q (ix2 R J) := by
    intro r d R J hR hJ
    exact (ld2 (e := .bf16) (iblk5 V c 2 t) 0 p h r d r ⟨p + d, by omega⟩ (Nat.zero_add _).symm rfl).trans ((rd5_2 V c t r ⟨p + d, by omega⟩ R J hR hJ).trans (hQ R J))
  have hk : ∀ (r : Fin 1024) (d : Fin 128) (R : Fin 2048) (J : Fin 3072), (R : ℕ) = (t.val / 12) * 1024 + r → (J : ℕ) = (t.val % 12) * 256 + (p + d) →
      View.ld (Val := Elt Ideal) (S := S1024x256) (e' := .bf16) (iblk5 V c 3 t) (Rect.unit ![0, p] S1024x128.size h) (ix2 r d) = K (ix2 R J) := by
    intro r d R J hR hJ
    exact (ld2 (e := .bf16) (iblk5 V c 3 t) 0 p h r d r ⟨p + d, by omega⟩ (Nat.zero_add _).symm rfl).trans ((rd5_3 V c t r ⟨p + d, by omega⟩ R J hR hJ).trans (hK R J))
  have hv : ∀ (r : Fin 1024) (d : Fin 128) (R : Fin 2048) (J : Fin 3072), (R : ℕ) = (t.val / 12) * 1024 + r → (J : ℕ) = (t.val % 12) * 256 + (p + d) →
      View.ld (Val := Elt Ideal) (S := S1024x256) (e' := .bf16) (iblk5 V c 4 t) (Rect.unit ![0, p] S1024x128.size h) (ix2 r d) = W (ix2 R J) := by
    intro r d R J hR hJ
    exact (ld2 (e := .bf16) (iblk5 V c 4 t) 0 p h r d r ⟨p + d, by omega⟩ (Nat.zero_add _).symm rfl).trans ((rd5_4 V c t r ⟨p + d, by omega⟩ R J hR hJ).trans (hW R J))
  have hcol : ∀ d' : Fin 128, (Cert.Forms.col J d' : ℕ) = (t.val % 12) * 256 + (p + d') := by
    intro d'
    unfold Cert.Forms.col
    dsimp only
    rcases hp with hp | hp <;> subst hp <;> omega
  have hrow : ∀ j : Fin 1024, (Cert.Forms.row R j : ℕ) = (t.val / 12) * 1024 + j := by
    intro j
    unfold Cert.Forms.row
    dsimp only
    omega
  have hbR : (⟨R.val / 1024, by omega⟩ : Fin 2) = b := Fin.ext (by dsimp only; omega)
  rw [hO _ _ _ o hs ho r d]
  unfold Cert.Forms.att
  rw [hbR, hw]
  have e1 : (fun d' : Fin 128 => View.ld (Val := Elt Ideal) (S := S1024x256) (e' := .bf16) (iblk5 V c 2 t) (Rect.unit ![0, p] S1024x128.size h) (ix2 ⟨o + r, by omega⟩ d')) = fun d' => Q (ix2 R (Cert.Forms.col J d')) :=
    funext fun d' => hq _ _ _ _ hR (hcol d')
  have e2 : ∀ j : Fin 1024, (fun d' : Fin 128 => View.ld (Val := Elt Ideal) (S := S1024x256) (e' := .bf16) (iblk5 V c 3 t) (Rect.unit ![0, p] S1024x128.size h) (ix2 j d')) = fun d' => K (ix2 (Cert.Forms.row R j) (Cert.Forms.col J d')) :=
    fun j => funext fun d' => hk _ _ _ _ (hrow j) (hcol d')
  have e3 : (fun j : Fin 1024 => View.ld (Val := Elt Ideal) (S := S1024x256) (e' := .bf16) (iblk5 V c 4 t) (Rect.unit ![0, p] S1024x128.size h) (ix2 j d)) = fun j => W (ix2 (Cert.Forms.row R j) J) :=
    funext fun j => hv _ _ _ _ (hrow j) hJ
  refine congrArg₂ Cert.Forms.soft (funext fun j => ?_) e3
  exact congrArg₂ (fun q k => Cert.Forms.score (txt b) q k j) e1 (e2 j)

include htxt h11

theorem amaxA (t : Fin cfg5.N) (h : t.val % 24 = 0) (b : Fin 2) (hb : b.val = t.val / 12) : ∃ O, IsO (txt b) O ∧
    (outsAt5 V c t.val t.isLt).2 = upd (k5_pay1 (F := Ideal)) O (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have e := h11 b
  rcases nlive_cases (V c main_arg11 (ix1 b)) with hn | hn | hn | hn
  · exact ⟨_, e ▸ isO1 _ (e ▸ htxt b) hn, stepA1 V c t h b hb hn⟩
  · exact ⟨_, e ▸ isO2 _ (e ▸ htxt b) hn, stepA2 V c t h b hb hn⟩
  · exact ⟨_, e ▸ isO3 _ (e ▸ htxt b) hn, stepA3 V c t h b hb hn⟩
  · exact ⟨_, e ▸ isO4 _ (e ▸ htxt b) hn, stepA4 V c t h b hb hn⟩

theorem amaxB (t : Fin cfg5.N) (h : ¬ t.val % 24 = 0) (b : Fin 2) (hb : b.val = t.val / 12) : ∃ O, IsO (txt b) O ∧
    (outsAt5 V c t.val t.isLt).2 = upd (outsAt5 V c (t.val - 1) (by omega)).2 O (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) := by
  have e := h11 b
  rcases nlive_cases (V c main_arg11 (ix1 b)) with hn | hn | hn | hn
  · exact ⟨_, e ▸ isO1 _ (e ▸ htxt b) hn, stepB1 V c t h b hb hn⟩
  · exact ⟨_, e ▸ isO2 _ (e ▸ htxt b) hn, stepB2 V c t h b hb hn⟩
  · exact ⟨_, e ▸ isO3 _ (e ▸ htxt b) hn, stepB3 V c t h b hb hn⟩
  · exact ⟨_, e ▸ isO4 _ (e ▸ htxt b) hn, stepB4 V c t h b hb hn⟩

/-- One point's part of the maxima. -/
theorem upd_pt (t : Fin cfg5.N) (b : Fin 2) (hb : b.val = t.val / 12) (acc : FVec Ideal S8x128 .f32) (O) (hO : IsO (txt b) O) (a : Fin 8) (l : Fin 128) (z : EReal) :
    upd acc O (View.ld (Val := Elt Ideal) (S := S1024x256) (e' := .bf16) (iblk5 V c 2 t) (Rect.unit ![0, 0] S1024x128.size inb_S1024x256_S1024x128_0_0)) (View.ld (Val := Elt Ideal) (S := S1024x256) (e' := .bf16) (iblk5 V c 3 t) (Rect.unit ![0, 0] S1024x128.size inb_S1024x256_S1024x128_0_0)) (View.ld (Val := Elt Ideal) (S := S1024x256) (e' := .bf16) (iblk5 V c 4 t) (Rect.unit ![0, 0] S1024x128.size inb_S1024x256_S1024x128_0_0)) (View.ld (Val := Elt Ideal) (S := S1024x256) (e' := .bf16) (iblk5 V c 2 t) (Rect.unit ![0, 128] S1024x128.size inb_S1024x256_S1024x128_0_128)) (View.ld (Val := Elt Ideal) (S := S1024x256) (e' := .bf16) (iblk5 V c 3 t) (Rect.unit ![0, 128] S1024x128.size inb_S1024x256_S1024x128_0_128)) (View.ld (Val := Elt Ideal) (S := S1024x256) (e' := .bf16) (iblk5 V c 4 t) (Rect.unit ![0, 128] S1024x128.size inb_S1024x256_S1024x128_0_128)) (ix2 a l) ≤ z ↔ acc (ix2 a l) ≤ z ∧ ∀ (R : Fin 2048) (J : Fin 3072), 12 * (R.val / 1024) + J.val / 256 = t.val → J.val % 128 = l.val → R.val % 8 = a.val →
      max (Cert.Forms.att txt Q K W R J) (-Cert.Forms.att txt Q K W R J) ≤ z := by
  have ht := (idx5 t).2.2.2.2.2.2.2.1
  have hA : ∀ (p : ℕ) (hp : p = 0 ∨ p = 128) (h) (o : ℕ) (hs : S1024x128.Slices ![o, 0] S256x128) (_ : o + 256 ≤ 1024) (r : Fin 256) (R : Fin 1024), (R : ℕ) = o + r →
      O (View.ld (Val := Elt Ideal) (S := S1024x256) (e' := .bf16) (iblk5 V c 2 t) (Rect.unit ![0, p] S1024x128.size h))
        (View.ld (Val := Elt Ideal) (S := S1024x256) (e' := .bf16) (iblk5 V c 3 t) (Rect.unit ![0, p] S1024x128.size h))
        (View.ld (Val := Elt Ideal) (S := S1024x256) (e' := .bf16) (iblk5 V c 4 t) (Rect.unit ![0, p] S1024x128.size h)) o hs (ix2 r l)
        = Cert.Forms.att txt Q K W ⟨(t.val / 12) * 1024 + R.val, by omega⟩ ⟨(t.val % 12) * 256 + (p + l.val), by omega⟩ := by
    intro p hp h o hs ho r R hR
    exact att_pt V c txt Q K W hQ hK hW t _ O hO b hb rfl p hp h o hs ho r l _ _ (by dsimp only; omega) rfl
  rw [upd_le acc O _ _ _ _ _ _ a l z (fun R : Fin 1024 => Cert.Forms.att txt Q K W ⟨(t.val / 12) * 1024 + R.val, by omega⟩ ⟨(t.val % 12) * 256 + (0 + l.val), by omega⟩)
    (fun R : Fin 1024 => Cert.Forms.att txt Q K W ⟨(t.val / 12) * 1024 + R.val, by omega⟩ ⟨(t.val % 12) * 256 + (128 + l.val), by omega⟩)
    (hA 0 (.inl rfl) inb_S1024x256_S1024x128_0_0) (hA 128 (.inr rfl) inb_S1024x256_S1024x128_0_128)]
  refine and_congr_right fun _ => ⟨fun H R J h1 h2 h3 => ?_, fun H => ⟨fun R hR => H _ _ (by dsimp only; omega) (by dsimp only; omega) (by dsimp only; omega), fun R hR => H _ _ (by dsimp only; omega) (by dsimp only; omega) (by dsimp only; omega)⟩⟩
  have eR : (⟨(t.val / 12) * 1024 + R.val % 1024, by omega⟩ : Fin 2048) = R := Fin.ext (by dsimp only; omega)
  by_cases h4 : J.val % 256 < 128
  · have eJ : (⟨(t.val % 12) * 256 + (0 + l.val), by omega⟩ : Fin 3072) = J := Fin.ext (by dsimp only; omega)
    have := H.1 ⟨R.val % 1024, by omega⟩ (by dsimp only; omega)
    dsimp only at this
    rwa [eR, eJ] at this
  · have eJ : (⟨(t.val % 12) * 256 + (128 + l.val), by omega⟩ : Fin 3072) = J := Fin.ext (by dsimp only; omega)
    have := H.2 ⟨R.val % 1024, by omega⟩ (by dsimp only; omega)
    dsimp only at this
    rwa [eR, eJ] at this

theorem amax5 (n : ℕ) (hn : n < cfg5.N) (a : Fin 8) (l : Fin 128) (z : EReal) :
    (outsAt5 V c n hn).2 (ix2 a l) ≤ z ↔ 0 ≤ z ∧ ∀ (R : Fin 2048) (J : Fin 3072), 12 * (R.val / 1024) + J.val / 256 ≤ n → J.val % 128 = l.val → R.val % 8 = a.val →
      max (Cert.Forms.att txt Q K W R J) (-Cert.Forms.att txt Q K W R J) ≤ z := by
  have hN : n < 24 := hn
  induction n with
  | zero =>
    obtain ⟨O, hO, e⟩ := amaxA V c txt Q K W htxt h11 hQ hK hW ⟨0, hn⟩ rfl 0 (Nat.zero_div 12).symm
    rw [show (outsAt5 V c 0 hn).2 = _ from e, upd_pt V c txt Q K W htxt h11 hQ hK hW ⟨0, hn⟩ 0 (Nat.zero_div 12).symm _ O hO a l z]
    have h4 : k5_pay1 (F := Ideal) (ix2 a l) = 0 := by pointwise [k5_pay1]
    rw [h4]
    exact and_congr_right fun _ => ⟨fun H R J h1 => H R J (by dsimp only; omega), fun H R J h1 => H R J (by dsimp only at h1; omega)⟩
  | succ n ih =>
    obtain ⟨O, hO, e⟩ := amaxB V c txt Q K W htxt h11 hQ hK hW ⟨n + 1, hn⟩ (by dsimp only; omega) ⟨(n + 1) / 12, by omega⟩ rfl
    rw [show (outsAt5 V c (n + 1) hn).2 = _ from e, upd_pt V c txt Q K W htxt h11 hQ hK hW ⟨n + 1, hn⟩ _ rfl _ O hO a l z]
    refine (and_congr_left' (ih (by omega) (by omega))).trans ?_
    rw [and_assoc]
    refine and_congr_right fun _ => ⟨fun H R J h1 h2 h3 => ?_, fun H => ⟨fun R J h1 => H R J (by omega), fun R J h1 => H R J (by dsimp only at h1; omega)⟩⟩
    by_cases hJ : 12 * (R.val / 1024) + J.val / 256 ≤ n
    · exact H.1 R J hJ h2 h3
    exact H.2 R J (by dsimp only; omega) h2 h3

include h54 in
theorem final5_5 : (dat5 V c).arrAt 5 cfg5.N = Cert.Forms.attCodes txt Q K W sa := by
  refine (dat5 V c).arrAt_eq_of_covers 5 _ (by decide +kernel) fun t _ y => ?_
  blk_simp
  rw [after5_5]
  have ht := (idx5 t).2.2.2.2.2.2.2.1
  have hy0 : (y 0 : ℕ) < 1024 := (y 0).isLt
  have hy1 : (y 1 : ℕ) < 256 := (y 1).isLt
  rw [emb5 t y ⟨t.val / 12 * 1024 + (y 0 : ℕ), by omega⟩ ⟨t.val % 12 * 256 + (y 1 : ℕ), by omega⟩ rfl rfl]
  obtain ⟨b, hb⟩ : ∃ b : Fin 2, b.val = t.val / 12 := ⟨⟨t.val / 12, by omega⟩, rfl⟩
  have e := h11 b
  have H : ∀ (O) (hO : IsO (V c main_arg11 (ix1 b)) O) (p : ℕ) (hp : p = 0 ∨ p = 128) (h) (o : ℕ) (hs : S1024x128.Slices ![o, 0] S256x128) (x : S256x128.Idx) (i), o + 256 ≤ 1024 → (y 0 : ℕ) = o + (x 0 : ℕ) → (y 1 : ℕ) = p + (x 1 : ℕ) →
      qnt (iblk5 V c 1 t i) (O (View.ld (Val := Elt Ideal) (S := S1024x256) (e' := .bf16) (iblk5 V c 2 t) (Rect.unit ![0, p] S1024x128.size h))
        (View.ld (Val := Elt Ideal) (S := S1024x256) (e' := .bf16) (iblk5 V c 3 t) (Rect.unit ![0, p] S1024x128.size h))
        (View.ld (Val := Elt Ideal) (S := S1024x256) (e' := .bf16) (iblk5 V c 4 t) (Rect.unit ![0, p] S1024x128.size h)) o hs) x
        = Cert.Forms.attCodes txt Q K W sa (ix2 ⟨t.val / 12 * 1024 + (y 0 : ℕ), by omega⟩ ⟨t.val % 12 * 256 + (y 1 : ℕ), by omega⟩) := by
    intro O hO p hp h o hs x i ho hx0 hx1
    idx_vars x
    have hx0' : (y 0 : ℕ) = o + (x0 : ℕ) := hx0
    have hx1' : (y 1 : ℕ) = p + (x1 : ℕ) := hx1
    have eI := (rd5_1 V c t i).trans (h54 i)
    rw [qnt_at, att_pt V c txt Q K W hQ hK hW t _ O hO b hb e p hp h o hs ho x0 x1 ⟨t.val / 12 * 1024 + (y 0 : ℕ), by omega⟩ ⟨t.val % 12 * 256 + (y 1 : ℕ), by omega⟩
      (by dsimp only; omega) (by dsimp only; omega)]
    exact congrArg (fun s => min (Ideal.ofBits .f32 0x43E00000#32) (max (Ideal.ofBits .f32 0xC3E00000#32) (Ideal.div (Cert.Forms.att txt Q K W ⟨t.val / 12 * 1024 + (y 0 : ℕ), by omega⟩ ⟨t.val % 12 * 256 + (y 1 : ℕ), by omega⟩) s))) eI
  have hz : ∀ {m : ℕ} {x : ℕ}, m = x → m = 0 + x := fun h => h.trans (Nat.zero_add _).symm
  by_cases hc : t.val % 24 = 0
  · rcases nlive_cases (V c main_arg11 (ix1 b)) with hn | hn | hn | hn
    · exact codeA1 V c t hc b hb hn y _ (fun o hs x w i ho hw h0 h1 => by subst hw; exact H _ (isO1 _ (e ▸ htxt b) hn) 0 (.inl rfl) _ o hs x i ho h0 (hz h1))
        (fun o hs x w i ho hw h0 h1 => by subst hw; exact H _ (isO1 _ (e ▸ htxt b) hn) 128 (.inr rfl) _ o hs x i ho h0 h1)
    · exact codeA2 V c t hc b hb hn y _ (fun o hs x w i ho hw h0 h1 => by subst hw; exact H _ (isO2 _ (e ▸ htxt b) hn) 0 (.inl rfl) _ o hs x i ho h0 (hz h1))
        (fun o hs x w i ho hw h0 h1 => by subst hw; exact H _ (isO2 _ (e ▸ htxt b) hn) 128 (.inr rfl) _ o hs x i ho h0 h1)
    · exact codeA3 V c t hc b hb hn y _ (fun o hs x w i ho hw h0 h1 => by subst hw; exact H _ (isO3 _ (e ▸ htxt b) hn) 0 (.inl rfl) _ o hs x i ho h0 (hz h1))
        (fun o hs x w i ho hw h0 h1 => by subst hw; exact H _ (isO3 _ (e ▸ htxt b) hn) 128 (.inr rfl) _ o hs x i ho h0 h1)
    · exact codeA4 V c t hc b hb hn y _ (fun o hs x w i ho hw h0 h1 => by subst hw; exact H _ (isO4 _ (e ▸ htxt b) hn) 0 (.inl rfl) _ o hs x i ho h0 (hz h1))
        (fun o hs x w i ho hw h0 h1 => by subst hw; exact H _ (isO4 _ (e ▸ htxt b) hn) 128 (.inr rfl) _ o hs x i ho h0 h1)
  · rcases nlive_cases (V c main_arg11 (ix1 b)) with hn | hn | hn | hn
    · exact codeB1 V c t hc b hb hn y _ (fun o hs x w i ho hw h0 h1 => by subst hw; exact H _ (isO1 _ (e ▸ htxt b) hn) 0 (.inl rfl) _ o hs x i ho h0 (hz h1))
        (fun o hs x w i ho hw h0 h1 => by subst hw; exact H _ (isO1 _ (e ▸ htxt b) hn) 128 (.inr rfl) _ o hs x i ho h0 h1)
    · exact codeB2 V c t hc b hb hn y _ (fun o hs x w i ho hw h0 h1 => by subst hw; exact H _ (isO2 _ (e ▸ htxt b) hn) 0 (.inl rfl) _ o hs x i ho h0 (hz h1))
        (fun o hs x w i ho hw h0 h1 => by subst hw; exact H _ (isO2 _ (e ▸ htxt b) hn) 128 (.inr rfl) _ o hs x i ho h0 h1)
    · exact codeB3 V c t hc b hb hn y _ (fun o hs x w i ho hw h0 h1 => by subst hw; exact H _ (isO3 _ (e ▸ htxt b) hn) 0 (.inl rfl) _ o hs x i ho h0 (hz h1))
        (fun o hs x w i ho hw h0 h1 => by subst hw; exact H _ (isO3 _ (e ▸ htxt b) hn) 128 (.inr rfl) _ o hs x i ho h0 h1)
    · exact codeB4 V c t hc b hb hn y _ (fun o hs x w i ho hw h0 h1 => by subst hw; exact H _ (isO4 _ (e ▸ htxt b) hn) 0 (.inl rfl) _ o hs x i ho h0 (hz h1))
        (fun o hs x w i ho hw h0 h1 => by subst hw; exact H _ (isO4 _ (e ▸ htxt b) hn) 128 (.inr rfl) _ o hs x i ho h0 h1)

omit htxt h11 hQ hK hW in
theorem final5_6 : (dat5 V c).arrAt 6 cfg5.N = (outsAt5 V c 23 (by decide)).2 := by
  obtain ⟨t, ht⟩ : ∃ t : Fin cfg5.N, t = ⟨23, by decide⟩ := ⟨_, rfl⟩
  have hw : (cfg5.win 6).WholeAt t := by subst ht; decide +kernel
  refine (dat5 V c).arrAt_eq_of_after_last 6 t hw _ (fun y => ?_) (Memref.isWhole_whole main_v55_1)
  have ho : (outsAt5 V c 23 (by decide)).2 = (outsAt5 V c t.val t.isLt).2 := by subst ht; rfl
  rw [ho]
  blk_simp
  rw [after5_6]

end

end Cert.KernelIdeal.Attn

end
-- ==== Proof.Value.Lin2.lean ====
/- The second projection (pallas_call `lin2`). -/
module

public import proofs.«01_k».proof.Proof.IdealRun.Region6
public import proofs.«01_k».proof.Proof.Value.Common
public import proofs.«01_k».proof.Proof.Value.Forms2
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx6 : ∀ t : Fin cfg6.N, win6_0.index t = ![0] ∧ win6_1.index t = ![0] ∧ win6_2.index t = ![t.val / 6, 0] ∧ win6_3.index t = ![t.val / 6, 0]
    ∧ win6_4.index t = ![0, t.val % 6] ∧ win6_5.index t = ![3072, t.val % 6 * 512] ∧ win6_6.index t = ![0, t.val % 6] ∧ win6_7.index t = ![0, t.val % 6]
    ∧ win6_8.index t = ![t.val / 6, t.val % 6] ∧ win6_9.index t = ![t.val / 6 / 2, 0, t.val % 6] ∧ win6_10.index t = ![t.val / 6, t.val % 6] ∧ t.val < 24 :=
  (by decide +kernel : ∀ t : Fin grid6.N, _)

section
variable (c : Dev nD) (t : Fin cfg6.N)

theorem rd6_2 (r : Fin 512) (k : Fin 3072) (R : Fin 2048) (hR : (R : ℕ) = t.val / 6 * 512 + r) :
    iblk6 V c 2 t (ix2 r k) = V c main_v55_0 (ix2 R k) := by
  blk_ext [iblk6, idx6 t]

theorem rd6_3 (r : Fin 512) (k : Fin 12288) (R : Fin 2048) (hR : (R : ℕ) = t.val / 6 * 512 + r) :
    iblk6 V c 3 t (ix2 r k) = V c main_v53_0 (ix2 R k) := by
  blk_ext [iblk6, idx6 t]

theorem rd6_4 (k : Fin 3072) (l : Fin 512) (K : Fin 15360) (J : Fin 3072) (hK : (K : ℕ) = k) (hJ : (J : ℕ) = t.val % 6 * 512 + l) :
    iblk6 V c 4 t (ix2 k l) = V c main_arg15 (ix2 K J) := by
  blk_ext [iblk6, idx6 t]

theorem rd6_5 (k : Fin 12288) (l : Fin 512) (K : Fin 15360) (J : Fin 3072) (hK : (K : ℕ) = 3072 + k) (hJ : (J : ℕ) = t.val % 6 * 512 + l) :
    iblk6 V c 5 t (ix2 k l) = V c main_arg15 (ix2 K J) := by
  have hi := (idx6 t).2.2.2.2.2.1
  have e0 : (((View.whole main_arg15).slice (win6_5.rect t)).emb (ix2 k l) 0 : ℕ) = win6_5.index t 0 + (k : ℕ) :=
    Pipeline.Window.rect_emb_val_off win6_5 t (ix2 k l) 0
  have e1 : (((View.whole main_arg15).slice (win6_5.rect t)).emb (ix2 k l) 1 : ℕ) = win6_5.index t 1 + (l : ℕ) :=
    Pipeline.Window.rect_emb_val_off win6_5 t (ix2 k l) 1
  rw [hi] at e0 e1
  have f0 : (![3072, t.val % 6 * 512] : Fin 2 → ℕ) 0 = 3072 := rfl
  have f1 : (![3072, t.val % 6 * 512] : Fin 2 → ℕ) 1 = t.val % 6 * 512 := rfl
  blk_ext [iblk6] <;> first | exact e0.trans hK.symm | exact e1.trans hJ.symm

theorem rd6_6 (l : Fin 512) (J : Fin 3072) (hJ : (J : ℕ) = t.val % 6 * 512 + l) :
    iblk6 V c 6 t (ix2 0 l) = V c main_v56 (ix2 0 J) := by
  blk_ext [iblk6, idx6 t]

theorem rd6_7 (l : Fin 512) (J : Fin 3072) (hJ : (J : ℕ) = t.val % 6 * 512 + l) :
    iblk6 V c 7 t (ix2 0 l) = V c main_v57 (ix2 0 J) := by
  blk_ext [iblk6, idx6 t]

theorem rd6_8 (r l : Fin 512) (R : Fin 2048) (J : Fin 3072) (hR : (R : ℕ) = t.val / 6 * 512 + r) (hJ : (J : ℕ) = t.val % 6 * 512 + l) :
    iblk6 V c 8 t (ix2 r l) = V c main_v60 (ix2 R J) := by
  blk_ext [iblk6, idx6 t]

theorem rd6_9 (l : Fin 512) (B : Fin 2) (J : Fin 3072) (hB : (B : ℕ) = t.val / 6 / 2) (hJ : (J : ℕ) = t.val % 6 * 512 + l) :
    iblk6 V c 9 t (ix3 0 0 l) = V c main_v61 (ix3 B 0 J) := by
  blk_ext [iblk6, idx6 t]

omit c V in
theorem emb6 (y : S512x512.Idx) (R : Fin 2048) (J : Fin 3072) (hR : (R : ℕ) = t.val / 6 * 512 + (y 0 : ℕ)) (hJ : (J : ℕ) = t.val % 6 * 512 + (y 1 : ℕ)) :
    ((View.whole main_v62).slice (win6_10.rect t)).emb y = ix2 R J := by
  blk_ext [idx6 t]

end

/-- One element of a chunk of 256 rows. -/
theorem chunk6 (a : FVec Ideal S256x3072 .fp8e4m3) (wa : FVec Ideal S3072x512 .fp8e4m3) (g : FVec Ideal S256x12288 .fp8e4m3) (wm : FVec Ideal S12288x512 .fp8e4m3)
    (s m : EReal) (ws b : FVec Ideal S1x512 .f32) (xx : FVec Ideal S256x512 .bf16) (gt : FVec Ideal S1x1x512 .f32)
    (A : FVec Ideal S2048x3072 .fp8e4m3) (M : FVec Ideal S2048x12288 .fp8e4m3) (W2 : FVec Ideal S15360x3072 .fp8e4m3) (sa sm : EReal)
    (w2s b2 : FVec Ideal S3072 .f32) (x : FVec Ideal S2x1024x3072 .bf16) (gate : FVec Ideal S2x3072 .f32)
    (r : Fin 256) (l : Fin 512) (R : Fin 2048) (J : Fin 3072)
    (ha : ∀ k : Fin 3072, a (ix2 r k) = A (ix2 R k)) (hwa : ∀ k : Fin 3072, wa (ix2 k l) = W2 (ix2 ⟨k.val, by omega⟩ J))
    (hg : ∀ k : Fin 12288, g (ix2 r k) = M (ix2 R k)) (hwm : ∀ k : Fin 12288, wm (ix2 k l) = W2 (ix2 ⟨3072 + k.val, by omega⟩ J))
    (hs : s = sa) (hm : m = sm) (hws : ws (ix2 0 l) = w2s (ix1 J)) (hb : b (ix2 0 l) = b2 (ix1 J))
    (hx : xx (ix2 r l) = x (ix3 ⟨R.val / 1024, by omega⟩ ⟨R.val % 1024, by omega⟩ J)) (hgt : gt (ix3 0 0 l) = gate (ix2 ⟨R.val / 1024, by omega⟩ J)) :
    k6_pay2 (F := Ideal) a wa g wm s m ws b xx gt (ix2 r l) = Cert.Forms.out2 A M W2 sa sm w2s b2 x gate (ix2 R J) := by
  subst hs hm
  pointwise [k6_pay2]
  simp only [ha, hwa, hg, hwm, hws, hb, hx, hgt]
  rfl

theorem final6 (c : Dev nD) (A : FVec Ideal S2048x3072 .fp8e4m3) (M : FVec Ideal S2048x12288 .fp8e4m3) (W2 : FVec Ideal S15360x3072 .fp8e4m3) (sa sm : EReal)
    (w2s b2 : FVec Ideal S3072 .f32) (x : FVec Ideal S2x1024x3072 .bf16) (gate : FVec Ideal S2x3072 .f32)
    (h58 : ∀ i, V c main_v58 i = sa) (h59 : ∀ i, V c main_v59 i = sm)
    (hA : ∀ (R : Fin 2048) (k : Fin 3072), V c main_v55_0 (ix2 R k) = A (ix2 R k))
    (hM : ∀ (R : Fin 2048) (k : Fin 12288), V c main_v53_0 (ix2 R k) = M (ix2 R k))
    (hW : ∀ (k : Fin 15360) (J : Fin 3072), V c main_arg15 (ix2 k J) = W2 (ix2 k J))
    (hw2s : ∀ (J : Fin 3072), V c main_v56 (ix2 0 J) = w2s (ix1 J))
    (hb2 : ∀ (J : Fin 3072), V c main_v57 (ix2 0 J) = b2 (ix1 J))
    (hx : ∀ (R : Fin 2048) (J : Fin 3072), V c main_v60 (ix2 R J) = x (ix3 ⟨R.val / 1024, by omega⟩ ⟨R.val % 1024, by omega⟩ J))
    (hgt : ∀ (B : Fin 2) (J : Fin 3072), V c main_v61 (ix3 B 0 J) = gate (ix2 B J)) :
    (dat6 V c).arrAt 10 cfg6.N = Cert.Forms.out2 A M W2 sa sm w2s b2 x gate := by
  refine (dat6 V c).arrAt_eq_of_covers 10 _ (by decide +kernel) fun t _ y => ?_
  blk_simp
  rw [after6_10]
  unfold outsAt6
  frame_out
  have ht := (idx6 t).2.2.2.2.2.2.2.2.2.2.2
  have hy0 : (y 0 : ℕ) < 512 := (y 0).isLt
  have hy1 : (y 1 : ℕ) < 512 := (y 1).isLt
  obtain ⟨R, hR⟩ : ∃ R : Fin 2048, (R : ℕ) = t.val / 6 * 512 + (y 0 : ℕ) := ⟨⟨t.val / 6 * 512 + (y 0 : ℕ), by omega⟩, rfl⟩
  obtain ⟨J, hJ⟩ : ∃ J : Fin 3072, (J : ℕ) = t.val % 6 * 512 + (y 1 : ℕ) := ⟨⟨t.val % 6 * 512 + (y 1 : ℕ), by omega⟩, rfl⟩
  rw [emb6 t y R J hR hJ]
  have piece : ∀ (o : ℕ) (h1 : ∀ a, (![o, 0] : Fin 2 → ℕ) a + (![256, 3072] : Fin 2 → ℕ) a ≤ (![512, 3072] : Fin 2 → ℕ) a)
      (h2 : ∀ a, (![o, 0] : Fin 2 → ℕ) a + (![256, 12288] : Fin 2 → ℕ) a ≤ (![512, 12288] : Fin 2 → ℕ) a)
      (h3 : ∀ a, (![o, 0] : Fin 2 → ℕ) a + (![256, 512] : Fin 2 → ℕ) a ≤ (![512, 512] : Fin 2 → ℕ) a)
      (z : S256x512.Idx) (s m : EReal), s = sa → m = sm → (y 0 : ℕ) = o + (z 0 : ℕ) → (y 1 : ℕ) = (z 1 : ℕ) →
      k6_pay2 (F := Ideal) (View.ld (Val := Elt Ideal) (S := S512x3072) (e' := .fp8e4m3) (iblk6 V c 2 t) (Rect.unit (s := S512x3072) ![o, 0] ![256, 3072] h1)) (iblk6 V c 4 t)
        (View.ld (Val := Elt Ideal) (S := S512x12288) (e' := .fp8e4m3) (iblk6 V c 3 t) (Rect.unit (s := S512x12288) ![o, 0] ![256, 12288] h2)) (iblk6 V c 5 t) s m (iblk6 V c 6 t) (iblk6 V c 7 t)
        (View.ld (Val := Elt Ideal) (S := S512x512) (e' := .bf16) (iblk6 V c 8 t) (Rect.unit (s := S512x512) ![o, 0] ![256, 512] h3)) (iblk6 V c 9 t) z = Cert.Forms.out2 A M W2 sa sm w2s b2 x gate (ix2 R J) := by
    intro o h1 h2 h3 z s m hs hm hz0 hz1
    idx_vars z
    have hz0' : (y 0 : ℕ) = o + (z0 : ℕ) := hz0
    have hz1' : (y 1 : ℕ) = (z1 : ℕ) := hz1
    have hzl : z0.val < 256 := z0.isLt
    have ho : (⟨o + z0.val, by omega⟩ : Fin 512).val = o + z0.val := rfl
    have hR' : (R : ℕ) = t.val / 6 * 512 + (⟨o + z0.val, by omega⟩ : Fin 512).val := by dsimp only; omega
    have hJ' : (J : ℕ) = t.val % 6 * 512 + z1.val := by omega
    refine chunk6 _ _ _ _ _ _ _ _ _ _ A M W2 sa sm w2s b2 x gate z0 z1 R J (fun k => ?_) (fun k => ?_) (fun k => ?_) (fun k => ?_) hs hm ?_ ?_ ?_ ?_
    · rw [ld2 (e := .fp8e4m3) _ o 0 h1 z0 k _ k ho (Nat.zero_add _).symm, rd6_2 V c t _ k R hR', hA]
    · rw [rd6_4 V c t k z1 ⟨k.val, by omega⟩ J rfl hJ', hW]
    · rw [ld2 (e := .fp8e4m3) _ o 0 h2 z0 k _ k ho (Nat.zero_add _).symm, rd6_3 V c t _ k R hR', hM]
    · rw [rd6_5 V c t k z1 ⟨3072 + k.val, by omega⟩ J rfl hJ', hW]
    · rw [rd6_6 V c t z1 J hJ', hw2s]
    · rw [rd6_7 V c t z1 J hJ', hb2]
    · rw [ld2 (e := .bf16) _ o 0 h3 z0 z1 _ z1 ho (Nat.zero_add _).symm, rd6_8 V c t _ z1 R J hR' hJ', hx]
    · rw [rd6_9 V c t z1 ⟨R.val / 1024, by omega⟩ J (by dsimp only; omega) hJ', hgt]
  clear hA hM hW hw2s hb2 hx hgt
  canon_tiles z h
  case piece0 => exact piece 256 inb_S512x3072_S256x3072_256_0 inb_S512x12288_S256x12288_256_0 inb_S512x512_S256x512_256_0 z _ _ (h58 _) (h59 _) h0 h1
  case piece1 => exact piece 0 inb_S512x3072_S256x3072_0_0 inb_S512x12288_S256x12288_0_0 inb_S512x512_S256x512_0_0 z _ _ (h58 _) (h59 _) (h0.trans (Nat.zero_add _).symm) h1

end Cert.KernelIdeal.Value

end
-- ==== Proof.Value.Chain.lean ====
/- The kernel's results: what each stretch of the program leaves, from the arguments to the eight results. -/
module

public import proofs.«01_k».proof.Proof.IdealRun.Frame
public import proofs.«01_k».proof.Proof.Value.Results
public import proofs.«01_k».proof.Proof.Value.Hosts
public import proofs.«01_k».proof.Proof.Value.Ln
public import proofs.«01_k».proof.Proof.Value.Q
public import proofs.«01_k».proof.Proof.Value.K
public import proofs.«01_k».proof.Proof.Value.V
public import proofs.«01_k».proof.Proof.Value.Mlp
public import proofs.«01_k».proof.Proof.Value.Attn
public import proofs.«01_k».proof.Proof.Value.Lin2

@[expose] public section

set_option maxRecDepth 16384

noncomputable section

namespace Cert.KernelIdeal.Chain

open Cert.KernelIdeal Cert.KernelIdeal.Gen Cert.KernelIdeal.Run
open Idealize.ShloMosaic Idealize.ShloMosaic.TcCoe Idealize.SL.Sem

/-- The factor of an even lane of the rotation: the minus sign, with the gain of the lane to its right. -/
theorem sign_even (sg : FVec Ideal S2 .f32) (h0 : sg (ix1 0) = (-1 : EReal)) (s : EReal) (g : FVec Ideal S128 .f32) (l : Fin 128) (h : l.val % 2 = 0) :
    s * (sg (ix1 ⟨l.val % 2, by omega⟩) * g (ix1 ⟨l.val / 2 * 2 + (1 - l.val % 2), by omega⟩)) = s * (-1 * g (ix1 ⟨l.val + 1, by omega⟩)) := by
  have e1 : (⟨l.val % 2, by omega⟩ : Fin 2) = 0 := Fin.ext h
  have e2 : (⟨l.val / 2 * 2 + (1 - l.val % 2), by omega⟩ : Fin 128) = ⟨l.val + 1, by omega⟩ := Fin.ext (by show l.val / 2 * 2 + (1 - l.val % 2) = l.val + 1; omega)
  rw [e1, e2, h0]

/-- That of an odd lane: the plus sign, with the gain of the lane to its left. -/
theorem sign_odd (sg : FVec Ideal S2 .f32) (h1 : sg (ix1 1) = (1 : EReal)) (s : EReal) (g : FVec Ideal S128 .f32) (l : Fin 128) (h : ¬ l.val % 2 = 0) :
    s * (sg (ix1 ⟨l.val % 2, by omega⟩) * g (ix1 ⟨l.val / 2 * 2 + (1 - l.val % 2), by omega⟩)) = s * (1 * g (ix1 ⟨l.val - 1, by omega⟩)) := by
  have e1 : (⟨l.val % 2, by omega⟩ : Fin 2) = 1 := Fin.ext (by show l.val % 2 = 1; omega)
  have e2 : (⟨l.val / 2 * 2 + (1 - l.val % 2), by omega⟩ : Fin 128) = ⟨l.val - 1, by omega⟩ := Fin.ext (by show l.val / 2 * 2 + (1 - l.val % 2) = l.val - 1; omega)
  rw [e1, e2, h1]

variable (m : (ℓ : Loc nD τ sig) → Buf (Elt Ideal) ℓ) (ρ : Dev nD → PrngReg)

/-- The arguments of a run. -/
def args (c : Dev nD) : Cert.Results.Args where
  x := m ((c : Thread nD τ).loc main_arg0)
  shift := m ((c : Thread nD τ).loc main_arg1)
  scale := m ((c : Thread nD τ).loc main_arg2)
  gate := m ((c : Thread nD τ).loc main_arg3)
  w1 := m ((c : Thread nD τ).loc main_arg4)
  w1s := m ((c : Thread nD τ).loc main_arg5)
  b1 := m ((c : Thread nD τ).loc main_arg6)
  qw := m ((c : Thread nD τ).loc main_arg7)
  kw := m ((c : Thread nD τ).loc main_arg8)
  cos := m ((c : Thread nD τ).loc main_arg9)
  sin := m ((c : Thread nD τ).loc main_arg10)
  txt := m ((c : Thread nD τ).loc main_arg11)
  sx := m ((c : Thread nD τ).loc main_arg12) ix0
  sa := m ((c : Thread nD τ).loc main_arg13) ix0
  sm := m ((c : Thread nD τ).loc main_arg14) ix0
  w2 := m ((c : Thread nD τ).loc main_arg15)
  w2s := m ((c : Thread nD τ).loc main_arg16)
  b2 := m ((c : Thread nD τ).loc main_arg17)

/-! Buffers that later stretches leave alone. -/

theorem keep_v0_3 (c : Dev nD) : W3 m ρ c (Proc.devRef .tc main_v0) = W1 m ρ c (Proc.devRef .tc main_v0) :=
  (W3_of m ρ c main_v0 (by decide)).trans ((W2_of m ρ c main_v0 (by decide +kernel)))

theorem keep_v0_5 (c : Dev nD) : W5 m ρ c (Proc.devRef .tc main_v0) = W3 m ρ c (Proc.devRef .tc main_v0) :=
  (W5_of m ρ c main_v0 (by decide)).trans ((W4_of m ρ c main_v0 (by decide +kernel)))

theorem keep_v0_7 (c : Dev nD) : W7 m ρ c (Proc.devRef .tc main_v0) = W5 m ρ c (Proc.devRef .tc main_v0) :=
  (W7_of m ρ c main_v0 (by decide)).trans ((W6_of m ρ c main_v0 (by decide +kernel)))

theorem keep_v0_9 (c : Dev nD) : W9 m ρ c (Proc.devRef .tc main_v0) = W7 m ρ c (Proc.devRef .tc main_v0) :=
  (W9_of m ρ c main_v0 (by decide)).trans ((W8_of m ρ c main_v0 (by decide +kernel)))

theorem keep_v1_3 (c : Dev nD) : W3 m ρ c (Proc.devRef .tc main_v1) = W1 m ρ c (Proc.devRef .tc main_v1) :=
  (W3_of m ρ c main_v1 (by decide)).trans ((W2_of m ρ c main_v1 (by decide +kernel)))

theorem keep_v1_5 (c : Dev nD) : W5 m ρ c (Proc.devRef .tc main_v1) = W3 m ρ c (Proc.devRef .tc main_v1) :=
  (W5_of m ρ c main_v1 (by decide)).trans ((W4_of m ρ c main_v1 (by decide +kernel)))

theorem keep_v1_7 (c : Dev nD) : W7 m ρ c (Proc.devRef .tc main_v1) = W5 m ρ c (Proc.devRef .tc main_v1) :=
  (W7_of m ρ c main_v1 (by decide)).trans ((W6_of m ρ c main_v1 (by decide +kernel)))

theorem keep_v1_9 (c : Dev nD) : W9 m ρ c (Proc.devRef .tc main_v1) = W7 m ρ c (Proc.devRef .tc main_v1) :=
  (W9_of m ρ c main_v1 (by decide)).trans ((W8_of m ρ c main_v1 (by decide +kernel)))

theorem keep_cst_2 (c : Dev nD) : W2 m ρ c (Proc.devRef .tc main_cst) = W1 m ρ c (Proc.devRef .tc main_cst) :=
  (W2_of m ρ c main_cst (by decide +kernel))

theorem keep_cst_0_4 (c : Dev nD) : W4 m ρ c (Proc.devRef .tc main_cst_0) = W1 m ρ c (Proc.devRef .tc main_cst_0) :=
  (W4_of m ρ c main_cst_0 (by decide +kernel)).trans ((W3_of m ρ c main_cst_0 (by decide)).trans ((W2_of m ρ c main_cst_0 (by decide +kernel))))

theorem keep_v6_3 (c : Dev nD) : W3 m ρ c (Proc.devRef .tc main_v6) = W2 m ρ c (Proc.devRef .tc main_v6) :=
  (W3_of m ρ c main_v6 (by decide))

theorem keep_v6_5 (c : Dev nD) : W5 m ρ c (Proc.devRef .tc main_v6) = W3 m ρ c (Proc.devRef .tc main_v6) :=
  (W5_of m ρ c main_v6 (by decide)).trans ((W4_of m ρ c main_v6 (by decide +kernel)))

theorem keep_v6_7 (c : Dev nD) : W7 m ρ c (Proc.devRef .tc main_v6) = W5 m ρ c (Proc.devRef .tc main_v6) :=
  (W7_of m ρ c main_v6 (by decide)).trans ((W6_of m ρ c main_v6 (by decide +kernel)))

theorem keep_v6_9 (c : Dev nD) : W9 m ρ c (Proc.devRef .tc main_v6) = W7 m ρ c (Proc.devRef .tc main_v6) :=
  (W9_of m ρ c main_v6 (by decide)).trans ((W8_of m ρ c main_v6 (by decide +kernel)))

theorem keep_v6_14 (c : Dev nD) : W14 m ρ c (Proc.devRef .tc main_v6) = W9 m ρ c (Proc.devRef .tc main_v6) :=
  (W14_of m ρ c main_v6 (by decide +kernel)).trans ((W13_of m ρ c main_v6 (by decide)).trans ((W12_of m ρ c main_v6 (by decide +kernel)).trans ((W11_of m ρ c main_v6 (by decide)).trans ((W10_of m ρ c main_v6 (by decide +kernel))))))

theorem keep_v27_11 (c : Dev nD) : W11 m ρ c (Proc.devRef .tc main_v27) = W4 m ρ c (Proc.devRef .tc main_v27) :=
  (W11_of m ρ c main_v27 (by decide)).trans ((W10_of m ρ c main_v27 (by decide +kernel)).trans ((W9_of m ρ c main_v27 (by decide)).trans ((W8_of m ρ c main_v27 (by decide +kernel)).trans ((W7_of m ρ c main_v27 (by decide)).trans ((W6_of m ρ c main_v27 (by decide +kernel)).trans ((W5_of m ρ c main_v27 (by decide))))))))

theorem keep_v27_14 (c : Dev nD) : W14 m ρ c (Proc.devRef .tc main_v27) = W11 m ρ c (Proc.devRef .tc main_v27) :=
  (W14_of m ρ c main_v27 (by decide +kernel)).trans ((W13_of m ρ c main_v27 (by decide)).trans ((W12_of m ρ c main_v27 (by decide +kernel))))

theorem keep_v48_11 (c : Dev nD) : W11 m ρ c (Proc.devRef .tc main_v48) = W6 m ρ c (Proc.devRef .tc main_v48) :=
  (W11_of m ρ c main_v48 (by decide)).trans ((W10_of m ρ c main_v48 (by decide +kernel)).trans ((W9_of m ρ c main_v48 (by decide)).trans ((W8_of m ρ c main_v48 (by decide +kernel)).trans ((W7_of m ρ c main_v48 (by decide))))))

theorem keep_v48_14 (c : Dev nD) : W14 m ρ c (Proc.devRef .tc main_v48) = W11 m ρ c (Proc.devRef .tc main_v48) :=
  (W14_of m ρ c main_v48 (by decide +kernel)).trans ((W13_of m ρ c main_v48 (by decide)).trans ((W12_of m ρ c main_v48 (by decide +kernel))))

theorem keep_v50_11 (c : Dev nD) : W11 m ρ c (Proc.devRef .tc main_v50) = W8 m ρ c (Proc.devRef .tc main_v50) :=
  (W11_of m ρ c main_v50 (by decide)).trans ((W10_of m ρ c main_v50 (by decide +kernel)).trans ((W9_of m ρ c main_v50 (by decide))))

theorem keep_v53_0_13 (c : Dev nD) : W13 m ρ c (Proc.devRef .tc main_v53_0) = W10 m ρ c (Proc.devRef .tc main_v53_0) :=
  (W13_of m ρ c main_v53_0 (by decide)).trans ((W12_of m ρ c main_v53_0 (by decide +kernel)).trans ((W11_of m ρ c main_v53_0 (by decide))))

theorem keep_v53_0_14 (c : Dev nD) : W14 m ρ c (Proc.devRef .tc main_v53_0) = W13 m ρ c (Proc.devRef .tc main_v53_0) :=
  (W14_of m ρ c main_v53_0 (by decide +kernel))

theorem keep_v53_1_14 (c : Dev nD) : W14 m ρ c (Proc.devRef .tc main_v53_1) = W10 m ρ c (Proc.devRef .tc main_v53_1) :=
  (W14_of m ρ c main_v53_1 (by decide +kernel)).trans ((W13_of m ρ c main_v53_1 (by decide)).trans ((W12_of m ρ c main_v53_1 (by decide +kernel)).trans ((W11_of m ρ c main_v53_1 (by decide)))))

theorem keep_v55_0_13 (c : Dev nD) : W13 m ρ c (Proc.devRef .tc main_v55_0) = W12 m ρ c (Proc.devRef .tc main_v55_0) :=
  (W13_of m ρ c main_v55_0 (by decide))

theorem keep_v55_0_14 (c : Dev nD) : W14 m ρ c (Proc.devRef .tc main_v55_0) = W13 m ρ c (Proc.devRef .tc main_v55_0) :=
  (W14_of m ρ c main_v55_0 (by decide +kernel))

theorem keep_v55_1_14 (c : Dev nD) : W14 m ρ c (Proc.devRef .tc main_v55_1) = W12 m ρ c (Proc.devRef .tc main_v55_1) :=
  (W14_of m ρ c main_v55_1 (by decide +kernel)).trans ((W13_of m ρ c main_v55_1 (by decide)))

/-! The lanes of the weights' scales and of the bias, as every projection reads them. -/

theorem w1s_1 (c : Dev nD) (J : Fin 21504) : V1 m ρ c main_v0 (ix2 0 J) = (args m c).w1s (ix1 J) :=
  ((Hosts.h0_v0 (W0 m ρ c) J).trans (congrFun (W0_args m ρ c main_arg5 (by decide)) (ix1 J)))

theorem b1_1 (c : Dev nD) (J : Fin 21504) : V1 m ρ c main_v1 (ix2 0 J) = (args m c).b1 (ix1 J) :=
  ((Hosts.h0_v1 (W0 m ρ c) J).trans (congrFun (W0_args m ρ c main_arg6 (by decide)) (ix1 J)))

theorem w1s_3 (c : Dev nD) (J : Fin 21504) : V3 m ρ c main_v0 (ix2 0 J) = (args m c).w1s (ix1 J) :=
  (congrFun (keep_v0_3 m ρ c) (ix2 0 J)).trans ((Hosts.h0_v0 (W0 m ρ c) J).trans (congrFun (W0_args m ρ c main_arg5 (by decide)) (ix1 J)))

theorem b1_3 (c : Dev nD) (J : Fin 21504) : V3 m ρ c main_v1 (ix2 0 J) = (args m c).b1 (ix1 J) :=
  (congrFun (keep_v1_3 m ρ c) (ix2 0 J)).trans ((Hosts.h0_v1 (W0 m ρ c) J).trans (congrFun (W0_args m ρ c main_arg6 (by decide)) (ix1 J)))

theorem w1s_5 (c : Dev nD) (J : Fin 21504) : V5 m ρ c main_v0 (ix2 0 J) = (args m c).w1s (ix1 J) :=
  (congrFun ((keep_v0_5 m ρ c).trans (keep_v0_3 m ρ c)) (ix2 0 J)).trans ((Hosts.h0_v0 (W0 m ρ c) J).trans (congrFun (W0_args m ρ c main_arg5 (by decide)) (ix1 J)))

theorem b1_5 (c : Dev nD) (J : Fin 21504) : V5 m ρ c main_v1 (ix2 0 J) = (args m c).b1 (ix1 J) :=
  (congrFun ((keep_v1_5 m ρ c).trans (keep_v1_3 m ρ c)) (ix2 0 J)).trans ((Hosts.h0_v1 (W0 m ρ c) J).trans (congrFun (W0_args m ρ c main_arg6 (by decide)) (ix1 J)))

theorem w1s_7 (c : Dev nD) (J : Fin 21504) : V7 m ρ c main_v0 (ix2 0 J) = (args m c).w1s (ix1 J) :=
  (congrFun ((keep_v0_7 m ρ c).trans ((keep_v0_5 m ρ c).trans (keep_v0_3 m ρ c))) (ix2 0 J)).trans ((Hosts.h0_v0 (W0 m ρ c) J).trans (congrFun (W0_args m ρ c main_arg5 (by decide)) (ix1 J)))

theorem b1_7 (c : Dev nD) (J : Fin 21504) : V7 m ρ c main_v1 (ix2 0 J) = (args m c).b1 (ix1 J) :=
  (congrFun ((keep_v1_7 m ρ c).trans ((keep_v1_5 m ρ c).trans (keep_v1_3 m ρ c))) (ix2 0 J)).trans ((Hosts.h0_v1 (W0 m ρ c) J).trans (congrFun (W0_args m ρ c main_arg6 (by decide)) (ix1 J)))

theorem w1s_9 (c : Dev nD) (J : Fin 21504) : V9 m ρ c main_v0 (ix2 0 J) = (args m c).w1s (ix1 J) :=
  (congrFun ((keep_v0_9 m ρ c).trans ((keep_v0_7 m ρ c).trans ((keep_v0_5 m ρ c).trans (keep_v0_3 m ρ c)))) (ix2 0 J)).trans ((Hosts.h0_v0 (W0 m ρ c) J).trans (congrFun (W0_args m ρ c main_arg5 (by decide)) (ix1 J)))

theorem b1_9 (c : Dev nD) (J : Fin 21504) : V9 m ρ c main_v1 (ix2 0 J) = (args m c).b1 (ix1 J) :=
  (congrFun ((keep_v1_9 m ρ c).trans ((keep_v1_7 m ρ c).trans ((keep_v1_5 m ρ c).trans (keep_v1_3 m ρ c)))) (ix2 0 J)).trans ((Hosts.h0_v1 (W0 m ρ c) J).trans (congrFun (W0_args m ρ c main_arg6 (by decide)) (ix1 J)))

/-- The codes of the modulated layer norm. -/
theorem codes_2 (c : Dev nD) : W2 m ρ c (Proc.devRef .tc main_v6) = (args m c).codes :=
  (W2_arr m ρ c 4).trans (Value.final0 (V1 m ρ) c (args m c).x (args m c).shift (args m c).scale (args m c).sx (fun i => (Hosts.h0_v2 (W0 m ρ c) i).trans (congrFun (W0_args m ρ c main_arg12 (by decide)) ix0)) (fun R k => (Hosts.h0_v3 (W0 m ρ c) R k).trans (congrFun (W0_args m ρ c main_arg0 (by decide)) _)) (fun b k => (Hosts.h0_v4 (W0 m ρ c) b k).trans (congrFun (W0_args m ρ c main_arg1 (by decide)) (ix2 b k))) (fun b k => (Hosts.h0_v5 (W0 m ρ c) b k).trans (congrFun (W0_args m ρ c main_arg2 (by decide)) (ix2 b k))))

/-- The queries. -/
theorem q_4 (c : Dev nD) : W4 m ρ c (Proc.devRef .tc main_v27) = (args m c).q :=
  (W4_arr m ρ c 7).trans (Value.final1 (V3 m ρ) c (args m c).codes (args m c).w1 (args m c).sx (args m c).w1s (args m c).b1 (args m c).qw (args m c).cos (args m c).sin (fun i => (Hosts.h1_v26 (W2 m ρ c) i).trans (congrFun (W2_args m ρ c main_arg12 (by decide)) ix0))
    (fun R k => congrFun ((keep_v6_3 m ρ c).trans (codes_2 m ρ c)) (ix2 R k)) (fun k J => (congrFun (W3_args m ρ c main_arg4 (by decide)) (ix2 k J))) (w1s_3 m ρ c) (b1_3 m ρ c)
    (fun R l => Hosts.h1_v21 (W2 m ρ c) (args m c).cos (args m c).qw (W2_args m ρ c main_arg9 (by decide)) (W2_args m ρ c main_arg7 (by decide)) R l)
    (fun R l h => (Hosts.h1_v25 (W2 m ρ c) (args m c).sin (args m c).qw (W2 m ρ c (Proc.devRef .tc main_cst)) (W2_args m ρ c main_arg10 (by decide)) (W2_args m ρ c main_arg7 (by decide)) rfl R l).trans (sign_even (W2 m ρ c (Proc.devRef .tc main_cst)) ((congrFun (keep_cst_2 m ρ c) (ix1 0)).trans (Hosts.h0_cst_0 (W0 m ρ c))) _ (args m c).qw l h))
    (fun R l h => (Hosts.h1_v25 (W2 m ρ c) (args m c).sin (args m c).qw (W2 m ρ c (Proc.devRef .tc main_cst)) (W2_args m ρ c main_arg10 (by decide)) (W2_args m ρ c main_arg7 (by decide)) rfl R l).trans (sign_odd (W2 m ρ c (Proc.devRef .tc main_cst)) ((congrFun (keep_cst_2 m ρ c) (ix1 1)).trans (Hosts.h0_cst_1 (W0 m ρ c))) _ (args m c).qw l h)))

/-- The keys. -/
theorem k_6 (c : Dev nD) : W6 m ρ c (Proc.devRef .tc main_v48) = (args m c).k :=
  (W6_arr m ρ c 7).trans (Value.final2 (V5 m ρ) c (args m c).codes (args m c).w1 (args m c).sx (args m c).w1s (args m c).b1 (args m c).kw (args m c).cos (args m c).sin (fun i => (Hosts.h2_v47 (W4 m ρ c) i).trans (congrFun (W4_args m ρ c main_arg12 (by decide)) ix0))
    (fun R k => congrFun (((keep_v6_5 m ρ c).trans (keep_v6_3 m ρ c)).trans (codes_2 m ρ c)) (ix2 R k)) (fun k J => (congrFun (W5_args m ρ c main_arg4 (by decide)) (ix2 k J))) (w1s_5 m ρ c) (b1_5 m ρ c)
    (fun R l => Hosts.h2_v42 (W4 m ρ c) (args m c).cos (args m c).kw (W4_args m ρ c main_arg9 (by decide)) (W4_args m ρ c main_arg8 (by decide)) R l)
    (fun R l h => (Hosts.h2_v46 (W4 m ρ c) (args m c).sin (args m c).kw (W4 m ρ c (Proc.devRef .tc main_cst_0)) (W4_args m ρ c main_arg10 (by decide)) (W4_args m ρ c main_arg8 (by decide)) rfl R l).trans (sign_even (W4 m ρ c (Proc.devRef .tc main_cst_0)) ((congrFun (keep_cst_0_4 m ρ c) (ix1 0)).trans (Hosts.h0_cst_0_0 (W0 m ρ c))) _ (args m c).kw l h))
    (fun R l h => (Hosts.h2_v46 (W4 m ρ c) (args m c).sin (args m c).kw (W4 m ρ c (Proc.devRef .tc main_cst_0)) (W4_args m ρ c main_arg10 (by decide)) (W4_args m ρ c main_arg8 (by decide)) rfl R l).trans (sign_odd (W4 m ρ c (Proc.devRef .tc main_cst_0)) ((congrFun (keep_cst_0_4 m ρ c) (ix1 1)).trans (Hosts.h0_cst_0_1 (W0 m ρ c))) _ (args m c).kw l h)))

/-- The values. -/
theorem v_8 (c : Dev nD) : W8 m ρ c (Proc.devRef .tc main_v50) = (args m c).v :=
  (W8_arr m ρ c 5).trans (Value.final3 (V7 m ρ) c (args m c).codes (args m c).w1 (args m c).sx (args m c).w1s (args m c).b1 (fun i => (Hosts.h3_v49 (W6 m ρ c) i).trans (congrFun (W6_args m ρ c main_arg12 (by decide)) ix0)) (fun R k => congrFun (((keep_v6_7 m ρ c).trans ((keep_v6_5 m ρ c).trans (keep_v6_3 m ρ c))).trans (codes_2 m ρ c)) (ix2 R k)) (fun k J => (congrFun (W7_args m ρ c main_arg4 (by decide)) (ix2 k J))) (w1s_7 m ρ c) (b1_7 m ρ c))

/-- The codes of the GELU branch. -/
theorem act_10 (c : Dev nD) : W10 m ρ c (Proc.devRef .tc main_v53_0) = (args m c).actCodes :=
  (W10_arr m ρ c 6).trans (Value.final4_6 (V9 m ρ) c (args m c).codes (args m c).w1 (args m c).sx (args m c).sm (args m c).w1s (args m c).b1 (fun i => (Hosts.h4_v51 (W8 m ρ c) i).trans (congrFun (W8_args m ρ c main_arg12 (by decide)) ix0)) (fun i => (Hosts.h4_v52 (W8 m ρ c) i).trans (congrFun (W8_args m ρ c main_arg14 (by decide)) ix0)) (fun R k => congrFun (((keep_v6_9 m ρ c).trans ((keep_v6_7 m ρ c).trans ((keep_v6_5 m ρ c).trans (keep_v6_3 m ρ c)))).trans (codes_2 m ρ c)) (ix2 R k)) (fun k J => (congrFun (W9_args m ρ c main_arg4 (by decide)) (ix2 k J))) (w1s_9 m ρ c) (b1_9 m ρ c))

/-- The codes of the attention. -/
theorem att_12 (c : Dev nD) (htxt : ∀ b, ((args m c).txt (ix1 b)).toInt ≤ 2 ^ 31 - 128) : W12 m ρ c (Proc.devRef .tc main_v55_0) = (args m c).attCodes :=
  (W12_arr m ρ c 5).trans (Attn.final5_5 (V11 m ρ) c (fun b => (args m c).txt (ix1 b)) (args m c).q (args m c).k (args m c).v (args m c).sa htxt (fun b => (congrFun (W11_args m ρ c main_arg11 (by decide)) (ix1 b))) (fun i => (Hosts.h5_v54 (W10 m ρ c) i).trans (congrFun (W10_args m ρ c main_arg13 (by decide)) ix0))
    (fun R J => congrFun ((keep_v27_11 m ρ c).trans (q_4 m ρ c)) (ix2 R J)) (fun R J => congrFun ((keep_v48_11 m ρ c).trans (k_6 m ρ c)) (ix2 R J)) (fun R J => congrFun ((keep_v50_11 m ρ c).trans (v_8 m ρ c)) (ix2 R J)))

/-- The output. -/
theorem out_14 (c : Dev nD) (htxt : ∀ b, ((args m c).txt (ix1 b)).toInt ≤ 2 ^ 31 - 128) : W14 m ρ c (Proc.devRef .tc main_v62) = (args m c).out :=
  (W14_arr m ρ c 10).trans (Value.final6 (V13 m ρ) c (args m c).attCodes (args m c).actCodes (args m c).w2 (args m c).sa (args m c).sm (args m c).w2s (args m c).b2 (args m c).x (args m c).gate
    (fun i => (Hosts.h6_v58 (W12 m ρ c) i).trans (congrFun (W12_args m ρ c main_arg13 (by decide)) ix0)) (fun i => (Hosts.h6_v59 (W12 m ρ c) i).trans (congrFun (W12_args m ρ c main_arg14 (by decide)) ix0)) (fun R k => congrFun ((keep_v55_0_13 m ρ c).trans (att_12 m ρ c htxt)) (ix2 R k)) (fun R k => congrFun ((keep_v53_0_13 m ρ c).trans (act_10 m ρ c)) (ix2 R k)) (fun k J => (congrFun (W13_args m ρ c main_arg15 (by decide)) (ix2 k J)))
    (fun J => (Hosts.h6_v56 (W12 m ρ c) J).trans (congrFun (W12_args m ρ c main_arg16 (by decide)) (ix1 J))) (fun J => (Hosts.h6_v57 (W12 m ρ c) J).trans (congrFun (W12_args m ρ c main_arg17 (by decide)) (ix1 J))) (fun R J => (Hosts.h6_v60 (W12 m ρ c) R J).trans (congrFun (W12_args m ρ c main_arg0 (by decide)) _)) (fun b J => (Hosts.h6_v61 (W12 m ρ c) b J).trans (congrFun (W12_args m ρ c main_arg3 (by decide)) (ix2 b J))))

/-! The eight results. -/

theorem r0 (c : Dev nD) (htxt : ∀ b, ((args m c).txt (ix1 b)).toInt ≤ 2 ^ 31 - 128) : W15 m ρ c (Proc.devRef .tc main_v63) = (args m c).r0 := by
  funext i
  idx_vars i
  exact (Hosts.h7_v63 (W14 m ρ c) i0 i1 i2).trans (congrFun (out_14 m ρ c htxt) _)

theorem r1 (c : Dev nD) (htxt : ∀ b, ((args m c).txt (ix1 b)).toInt ≤ 2 ^ 31 - 128) : W15 m ρ c (Proc.devRef .tc main_v64) = (args m c).r1 := by
  funext i
  obtain rfl : i = ix0 := funext fun a => a.elim0
  refine Cert.Results.sup_eq (fun R J => max ((args m c).att R J) (-(args m c).att R J)) _ fun z => ?_
  have key := fun a l => Attn.amax5 (V11 m ρ) c (fun b => (args m c).txt (ix1 b)) (args m c).q (args m c).k (args m c).v htxt (fun b => (congrFun (W11_args m ρ c main_arg11 (by decide)) (ix1 b))) (fun R J => congrFun ((keep_v27_11 m ρ c).trans (q_4 m ρ c)) (ix2 R J)) (fun R J => congrFun ((keep_v48_11 m ρ c).trans (k_6 m ρ c)) (ix2 R J)) (fun R J => congrFun ((keep_v50_11 m ρ c).trans (v_8 m ρ c)) (ix2 R J)) 23 (by decide) a l z
  rw [Hosts.h7_v64 (W14 m ρ c) _ ((keep_v55_1_14 m ρ c).trans ((W12_arr m ρ c 6).trans (Attn.final5_6 (V11 m ρ) c))) _ rfl z]
  refine ⟨fun h R J => ((key ⟨R.val % 8, by omega⟩ ⟨J.val % 128, by omega⟩).1 (h _ _)).2 R J (by omega) rfl rfl, fun h a l => (key a l).2 ⟨?_, fun R J _ _ _ => h R J⟩⟩
  exact (Cert.Scalar.abs_nonneg _).trans (h 0 0)

theorem r2 (c : Dev nD) : W15 m ρ c (Proc.devRef .tc main_v65) = (args m c).r2 := by
  funext i
  obtain rfl : i = ix0 := funext fun a => a.elim0
  refine Cert.Results.sup_eq (fun R J => max ((args m c).act R J) (-(args m c).act R J)) _ fun z => ?_
  have key := fun a l => Value.amax4 (V9 m ρ) c (args m c).codes (args m c).w1 (args m c).sx (args m c).w1s (args m c).b1 (fun i => (Hosts.h4_v51 (W8 m ρ c) i).trans (congrFun (W8_args m ρ c main_arg12 (by decide)) ix0)) (fun R k => congrFun (((keep_v6_9 m ρ c).trans ((keep_v6_7 m ρ c).trans ((keep_v6_5 m ρ c).trans (keep_v6_3 m ρ c)))).trans (codes_2 m ρ c)) (ix2 R k)) (fun k J => (congrFun (W9_args m ρ c main_arg4 (by decide)) (ix2 k J))) (w1s_9 m ρ c) (b1_9 m ρ c) 11 (by decide) a l z
  rw [Hosts.h7_v65 (W14 m ρ c) _ ((keep_v53_1_14 m ρ c).trans ((W10_arr m ρ c 7).trans (Value.final4_7 (V9 m ρ) c))) _ rfl z]
  refine ⟨fun h R J => ((key ⟨R.val % 8, by omega⟩ ⟨J.val % 1024, by omega⟩).1 (h _ _)).2 R J (by omega) rfl rfl, fun h a l => (key a l).2 ⟨?_, fun R J _ _ _ => h R J⟩⟩
  exact (Cert.Scalar.abs_nonneg _).trans (h 0 0)

theorem r3 (c : Dev nD) : W15 m ρ c (Proc.devRef .tc main_v66) = (args m c).r3 := by
  funext i
  idx_vars i
  exact (Hosts.h7_v66 (W14 m ρ c) i0 i1 i2 i3).trans (congrFun (((keep_v27_14 m ρ c).trans (keep_v27_11 m ρ c)).trans (q_4 m ρ c)) _)

theorem r4 (c : Dev nD) : W15 m ρ c (Proc.devRef .tc main_v67) = (args m c).r4 := by
  funext i
  idx_vars i
  exact (Hosts.h7_v67 (W14 m ρ c) i0 i1 i2 i3).trans (congrFun (((keep_v48_14 m ρ c).trans (keep_v48_11 m ρ c)).trans (k_6 m ρ c)) _)

theorem r5 (c : Dev nD) : W15 m ρ c (Proc.devRef .tc main_v68) = (args m c).r5 := by
  funext i
  idx_vars i
  exact (Hosts.h7_v68 (W14 m ρ c) i0 i1 i2).trans (congrFun (((keep_v6_14 m ρ c).trans ((keep_v6_9 m ρ c).trans ((keep_v6_7 m ρ c).trans ((keep_v6_5 m ρ c).trans (keep_v6_3 m ρ c))))).trans (codes_2 m ρ c)) _)

theorem r6 (c : Dev nD) (htxt : ∀ b, ((args m c).txt (ix1 b)).toInt ≤ 2 ^ 31 - 128) : W15 m ρ c (Proc.devRef .tc main_v69) = (args m c).r6 := by
  funext i
  idx_vars i
  exact (Hosts.h7_v69 (W14 m ρ c) i0 i1 i2).trans (congrFun (((keep_v55_0_14 m ρ c).trans (keep_v55_0_13 m ρ c)).trans (att_12 m ρ c htxt)) _)

theorem r7 (c : Dev nD) : W15 m ρ c (Proc.devRef .tc main_v70) = (args m c).r7 := by
  funext i
  idx_vars i
  exact (Hosts.h7_v70 (W14 m ρ c) i0 i1 i2).trans (congrFun (((keep_v53_0_14 m ρ c).trans (keep_v53_0_13 m ρ c)).trans (act_10 m ρ c)) _)

/-- THE KERNEL'S RESULTS: every run ends with them. -/
theorem results (htxt : ∀ c b, ((args m c).txt (ix1 b)).toInt ≤ 2 ^ 31 - 128) :
    θ_run defs (onTc (τ := τ) (main (F := Ideal))) ⟨m, fun _ => 0, ρ⟩ (fun r => ∀ c : Dev nD,
      r.2.mem ((c.tc : Thread nD τ).loc main_v63) = (args m c).r0 ∧
      r.2.mem ((c.tc : Thread nD τ).loc main_v64) = (args m c).r1 ∧
      r.2.mem ((c.tc : Thread nD τ).loc main_v65) = (args m c).r2 ∧
      r.2.mem ((c.tc : Thread nD τ).loc main_v66) = (args m c).r3 ∧
      r.2.mem ((c.tc : Thread nD τ).loc main_v67) = (args m c).r4 ∧
      r.2.mem ((c.tc : Thread nD τ).loc main_v68) = (args m c).r5 ∧
      r.2.mem ((c.tc : Thread nD τ).loc main_v69) = (args m c).r6 ∧
      r.2.mem ((c.tc : Thread nD τ).loc main_v70) = (args m c).r7) :=
  (θ_run defs _ _).mono (fun r h c =>
    ⟨(h.1 c _ (mem_uc main_v63 (by decide))).trans (r0 m ρ c (htxt c)),
     (h.1 c _ (mem_uc main_v64 (by decide))).trans (r1 m ρ c (htxt c)),
     (h.1 c _ (mem_uc main_v65 (by decide))).trans (r2 m ρ c),
     (h.1 c _ (mem_uc main_v66 (by decide))).trans (r3 m ρ c),
     (h.1 c _ (mem_uc main_v67 (by decide))).trans (r4 m ρ c),
     (h.1 c _ (mem_uc main_v68 (by decide))).trans (r5 m ρ c),
     (h.1 c _ (mem_uc main_v69 (by decide))).trans (r6 m ρ c (htxt c)),
     (h.1 c _ (mem_uc main_v70 (by decide))).trans (r7 m ρ c)⟩)
    (run m ρ)

end Cert.KernelIdeal.Chain

end
-- ==== Proof.Value.RefBlk.lean ====
/- The reference's single call reads whole arrays: each of its blocks is an argument. -/
module

public import proofs.«01_k».proof.Proof.Gen.ReferenceIdeal.Frame
public import proofs.«01_k».proof.Proof.Gen.ReferenceIdeal.Points
public import proofs.«01_k».proof.Proof.Value.Results
public import Idealize.ShloMosaic.Lib.Pipeline.ReadBack
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ)

/-- The reference's arguments on core `c`. -/
def args (c : Dev nD) : Cert.Results.Args where
  x := m ((c : Thread nD τ).loc main_arg0)
  shift := m ((c : Thread nD τ).loc main_arg1)
  scale := m ((c : Thread nD τ).loc main_arg2)
  gate := m ((c : Thread nD τ).loc main_arg3)
  w1 := m ((c : Thread nD τ).loc main_arg4)
  w1s := m ((c : Thread nD τ).loc main_arg5)
  b1 := m ((c : Thread nD τ).loc main_arg6)
  qw := m ((c : Thread nD τ).loc main_arg7)
  kw := m ((c : Thread nD τ).loc main_arg8)
  cos := m ((c : Thread nD τ).loc main_arg9)
  sin := m ((c : Thread nD τ).loc main_arg10)
  txt := m ((c : Thread nD τ).loc main_arg11)
  sx := m ((c : Thread nD τ).loc main_arg12) ix0
  sa := m ((c : Thread nD τ).loc main_arg13) ix0
  sm := m ((c : Thread nD τ).loc main_arg14) ix0
  w2 := m ((c : Thread nD τ).loc main_arg15)
  w2s := m ((c : Thread nD τ).loc main_arg16)
  b2 := m ((c : Thread nD τ).loc main_arg17)

theorem at0 : ∀ a, win0_0.index t0_0 a = 0 := by decide +kernel

theorem blk0 (c : Dev nD) : iblk m c 0 t0_0 = (args m c).x := by
  refine Eq.trans ?_ (V_main_arg0 m c)
  funext y
  blk_ext [iblk, V, at0]

theorem at1 : ∀ a, win0_1.index t0_0 a = 0 := by decide +kernel

theorem blk1 (c : Dev nD) : iblk m c 1 t0_0 = (args m c).shift := by
  refine Eq.trans ?_ (V_main_arg1 m c)
  funext y
  blk_ext [iblk, V, at1]

theorem at2 : ∀ a, win0_2.index t0_0 a = 0 := by decide +kernel

theorem blk2 (c : Dev nD) : iblk m c 2 t0_0 = (args m c).scale := by
  refine Eq.trans ?_ (V_main_arg2 m c)
  funext y
  blk_ext [iblk, V, at2]

theorem at3 : ∀ a, win0_3.index t0_0 a = 0 := by decide +kernel

theorem blk3 (c : Dev nD) : iblk m c 3 t0_0 = (args m c).gate := by
  refine Eq.trans ?_ (V_main_arg3 m c)
  funext y
  blk_ext [iblk, V, at3]

theorem at4 : ∀ a, win0_4.index t0_0 a = 0 := by decide +kernel

theorem blk4 (c : Dev nD) : iblk m c 4 t0_0 = (args m c).w1 := by
  refine Eq.trans ?_ (V_main_arg4 m c)
  funext y
  blk_ext [iblk, V, at4]

theorem at5 : ∀ a, win0_5.index t0_0 a = 0 := by decide +kernel

theorem blk5 (c : Dev nD) : iblk m c 5 t0_0 = (args m c).w1s := by
  refine Eq.trans ?_ (V_main_arg5 m c)
  funext y
  blk_ext [iblk, V, at5]

theorem at6 : ∀ a, win0_6.index t0_0 a = 0 := by decide +kernel

theorem blk6 (c : Dev nD) : iblk m c 6 t0_0 = (args m c).b1 := by
  refine Eq.trans ?_ (V_main_arg6 m c)
  funext y
  blk_ext [iblk, V, at6]

theorem at7 : ∀ a, win0_7.index t0_0 a = 0 := by decide +kernel

theorem blk7 (c : Dev nD) : iblk m c 7 t0_0 = (args m c).qw := by
  refine Eq.trans ?_ (V_main_arg7 m c)
  funext y
  blk_ext [iblk, V, at7]

theorem at8 : ∀ a, win0_8.index t0_0 a = 0 := by decide +kernel

theorem blk8 (c : Dev nD) : iblk m c 8 t0_0 = (args m c).kw := by
  refine Eq.trans ?_ (V_main_arg8 m c)
  funext y
  blk_ext [iblk, V, at8]

theorem at9 : ∀ a, win0_9.index t0_0 a = 0 := by decide +kernel

theorem blk9 (c : Dev nD) : iblk m c 9 t0_0 = (args m c).cos := by
  refine Eq.trans ?_ (V_main_arg9 m c)
  funext y
  blk_ext [iblk, V, at9]

theorem at10 : ∀ a, win0_10.index t0_0 a = 0 := by decide +kernel

theorem blk10 (c : Dev nD) : iblk m c 10 t0_0 = (args m c).sin := by
  refine Eq.trans ?_ (V_main_arg10 m c)
  funext y
  blk_ext [iblk, V, at10]

theorem at11 : ∀ a, win0_11.index t0_0 a = 0 := by decide +kernel

theorem blk11 (c : Dev nD) : iblk m c 11 t0_0 = (args m c).txt := by
  refine Eq.trans ?_ (V_main_arg11 m c)
  funext y
  blk_ext [iblk, V, at11]

theorem at15 : ∀ a, win0_15.index t0_0 a = 0 := by decide +kernel

theorem blk15 (c : Dev nD) : iblk m c 15 t0_0 = (args m c).w2 := by
  refine Eq.trans ?_ (V_main_arg15 m c)
  funext y
  blk_ext [iblk, V, at15]

theorem at16 : ∀ a, win0_16.index t0_0 a = 0 := by decide +kernel

theorem blk16 (c : Dev nD) : iblk m c 16 t0_0 = (args m c).w2s := by
  refine Eq.trans ?_ (V_main_arg16 m c)
  funext y
  blk_ext [iblk, V, at16]

theorem at17 : ∀ a, win0_17.index t0_0 a = 0 := by decide +kernel

theorem blk17 (c : Dev nD) : iblk m c 17 t0_0 = (args m c).b2 := by
  refine Eq.trans ?_ (V_main_arg17 m c)
  funext y
  blk_ext [iblk, V, at17]

theorem at12 : ∀ a, win0_12.index t0_0 a = 0 := by decide +kernel

theorem blk12 (c : Dev nD) (y) : iblk m c 12 t0_0 y = (args m c).sx := by
  have e : iblk m c 12 t0_0 y = V m c main_v0 y := by blk_ext [iblk, at12]
  refine e.trans ?_
  show StableHlo.after hostOps0 (fun b => m (c, b)) (Proc.devRef .tc main_v0) y = _
  idx_vars y
  after_reads_at
  rfl

theorem at13 : ∀ a, win0_13.index t0_0 a = 0 := by decide +kernel

theorem blk13 (c : Dev nD) (y) : iblk m c 13 t0_0 y = (args m c).sa := by
  have e : iblk m c 13 t0_0 y = V m c main_v1 y := by blk_ext [iblk, at13]
  refine e.trans ?_
  show StableHlo.after hostOps0 (fun b => m (c, b)) (Proc.devRef .tc main_v1) y = _
  idx_vars y
  after_reads_at
  rfl

theorem at14 : ∀ a, win0_14.index t0_0 a = 0 := by decide +kernel

theorem blk14 (c : Dev nD) (y) : iblk m c 14 t0_0 y = (args m c).sm := by
  have e : iblk m c 14 t0_0 y = V m c main_v2 y := by blk_ext [iblk, at14]
  refine e.trans ?_
  show StableHlo.after hostOps0 (fun b => m (c, b)) (Proc.devRef .tc main_v2) y = _
  idx_vars y
  after_reads_at
  rfl

end Cert.ReferenceIdeal.Value

end
-- ==== Proof.Value.RefLin.lean ====
/- The reference's first projection and its GELU, element by element. -/
module

public import proofs.«01_k».proof.Proof.Gen.ReferenceIdeal.Skeleton
public import proofs.«01_k».proof.Proof.Value.AttnMath
public import proofs.«01_k».proof.Proof.Value.Forms
public import proofs.«01_k».proof.Proof.Value.Forms2
public import Idealize.ShloMosaic.Lib.Pipeline.ValueKit
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe

/-- Row `p` of batch element `b`. -/
def rw2 (b : Fin 2) (p : Fin 1024) : Fin 2048 := ⟨b.val * 1024 + p.val, by omega⟩

section
variable (s : EReal) (C : FVec Ideal S2048x3072 .fp8e4m3) (W : FVec Ideal S3072x21504 .fp8e4m3) (w1s b1 : FVec Ideal S21504 .f32)

theorem pay3_at (R : Fin 2048) (J : Fin 21504) : k0_pay3 (F := Ideal) s C W w1s b1 (ix2 R J) = Cert.Forms.lin C W s w1s b1 R J := by
  pointwise [k0_pay3, Cert.Forms.lin]

/-- The queries' columns, by head. -/
def heads0 : FVec Ideal S2x1024x24x128 .f32 :=
  shapeCast S2x1024x24x128 (extractStridedSlice S2048x3072 ![0, 0] (k0_pay3 (F := Ideal) s C W w1s b1) slices_S2048x21504_o0_0_S2048x3072) shapeCasts_S2048x3072_S2x1024x24x128

theorem heads0_at (b : Fin 2) (p : Fin 1024) (n : Fin 24) (d : Fin 128) :
    heads0 s C W w1s b1 (ix4 b p n d) = Cert.Forms.lin C W s w1s b1 (rw2 b p) ⟨0 + (n.val * 128 + d.val), by omega⟩ := by
  pointwise [heads0]
  exact pay3_at s C W w1s b1 _ _

theorem pay4_at (b : Fin 2) (p : Fin 1024) (n : Fin 24) (d : Fin 128) :
    k0_pay4 (F := Ideal) s C W w1s b1 (ix4 b p n d) = Cert.Forms.lin C W s w1s b1 (rw2 b p) ⟨3072 + (n.val * 128 + d.val), by omega⟩ := by
  pointwise [k0_pay4]
  exact pay3_at s C W w1s b1 _ _

theorem pay5_at (b : Fin 2) (p : Fin 1024) (n : Fin 24) (d : Fin 128) :
    k0_pay5 (F := Ideal) s C W w1s b1 (ix4 b p n d) = Cert.Forms.lin C W s w1s b1 (rw2 b p) ⟨6144 + (n.val * 128 + d.val), by omega⟩ := by
  pointwise [k0_pay5]
  exact pay3_at s C W w1s b1 _ _

theorem pay15_at (b : Fin 2) (p : Fin 1024) (n : Fin 24) (d : Fin 128) :
    k0_pay15 (F := Ideal) (k0_pay5 s C W w1s b1) (ix4 b p n d)
      = Cert.Forms.vals C W s w1s b1 (ix2 (rw2 b p) ⟨n.val * 128 + d.val, by omega⟩) :=
  pay5_at s C W w1s b1 b p n d

theorem pay6_at (b : Fin 2) (p : Fin 1024) (J : Fin 12288) :
    k0_pay6 (F := Ideal) s C W w1s b1 (ix3 b p J) = Cert.Forms.lin C W s w1s b1 (rw2 b p) ⟨9216 + J.val, by omega⟩ := by
  pointwise [k0_pay6]
  exact pay3_at s C W w1s b1 _ _

theorem gelu_at (h : FVec Ideal S2x1024x12288 .f32) (b : Fin 2) (p : Fin 1024) (J : Fin 12288) :
    k0_pay19 (F := Ideal) h (k0_pay18 h) (ix3 b p J) = Cert.Forms.gelu (h (ix3 b p J)) := by
  pointwise [k0_pay19, k0_pay18, Cert.Forms.gelu]

theorem pay19_at (b : Fin 2) (p : Fin 1024) (J : Fin 12288) :
    k0_pay19 (F := Ideal) (k0_pay6 s C W w1s b1) (k0_pay18 (k0_pay6 s C W w1s b1)) (ix3 b p J) = Cert.Forms.act C W s w1s b1 (rw2 b p) J := by
  rw [gelu_at, pay6_at]; rfl

theorem pay20_at (sm : EReal) (b : Fin 2) (p : Fin 1024) (J : Fin 12288) :
    k0_pay20 (F := Ideal) sm (k0_pay6 s C W w1s b1) (k0_pay18 (k0_pay6 s C W w1s b1)) (ix3 b p J)
      = Cert.Forms.actCodes C W s w1s b1 sm (ix2 (rw2 b p) J) := by
  have e : k0_pay20 (F := Ideal) sm (k0_pay6 s C W w1s b1) (k0_pay18 (k0_pay6 s C W w1s b1)) (ix3 b p J)
      = Cert.Forms.quant (k0_pay19 (F := Ideal) (k0_pay6 s C W w1s b1) (k0_pay18 (k0_pay6 s C W w1s b1)) (ix3 b p J)) sm := by
    pointwise [k0_pay20, Cert.Forms.quant]
  rw [e, pay19_at]; rfl

end

end Cert.ReferenceIdeal.Value

end
-- ==== Proof.Value.RefRot.lean ====
/- The reference's norm and rotary embedding, element by element. -/
module

public import proofs.«01_k».proof.Proof.Gen.ReferenceIdeal.Skeleton
public import proofs.«01_k».proof.Proof.Value.AttnMath
public import proofs.«01_k».proof.Proof.Value.Forms
public import proofs.«01_k».proof.Proof.Value.Forms2
public import Idealize.ShloMosaic.Lib.Pipeline.ValueKit
public import Idealize.ShloMosaic.Lib.Pointwise
public import proofs.«01_k».proof.Proof.Value.RefLin

@[expose] public section

set_option maxRecDepth 16384

noncomputable section

namespace Cert.ReferenceIdeal.Value

open Cert.ReferenceIdeal Cert.ReferenceIdeal.Gen
open Idealize.ShloMosaic Idealize.ShloMosaic.TcCoe

/-! The norm, the two halves of each pair, the turn, and the halves put together again. -/

def nrm (u : FVec Ideal S2x1024x24x128 .f32) (gain : FVec Ideal S128 .f32) : FVec Ideal S2x1024x24x128 .f32 :=
  mulf (divf u (broadcastTo S2x1024x24x128 (sqrt (addf (divf (shapeCast S2x1024x24x1 (multiReduction .add [3] S2x1024x24 (mulf u u) 0x00000000#32 reduces_S2x1024x24x128_S2x1024x24 (.inl rfl) rfl) shapeCasts_S2x1024x24_S2x1024x24x1)
    (broadcast S2x1024x24x1 (Scalar.ofBits .f32 0x43000000#32 : Ideal .f32))) (broadcast S2x1024x24x1 (Scalar.ofBits .f32 0x358637BD#32 : Ideal .f32)))) broadcasts_S2x1024x24x1_S2x1024x24x128))
    (broadcastTo S2x1024x24x128 (shapeCast S1x1x1x128 gain shapeCasts_S128_S1x1x1x128) broadcasts_S1x1x1x128_S2x1024x24x128)

def evn (y : FVec Ideal S2x1024x24x128 .f32) : FVec Ideal S2x1024x24x64 .f32 :=
  shapeCast S2x1024x24x64 (extractStridedSlice S2x1024x24x64x1 ![0, 0, 0, 0, 0] (shapeCast S2x1024x24x64x2 y shapeCasts_S2x1024x24x128_S2x1024x24x64x2) slices_S2x1024x24x64x2_o0_0_0_0_0_S2x1024x24x64x1) shapeCasts_S2x1024x24x64x1_S2x1024x24x64

def odd (y : FVec Ideal S2x1024x24x128 .f32) : FVec Ideal S2x1024x24x64 .f32 :=
  shapeCast S2x1024x24x64 (extractStridedSlice S2x1024x24x64x1 ![0, 0, 0, 0, 1] (shapeCast S2x1024x24x64x2 y shapeCasts_S2x1024x24x128_S2x1024x24x64x2) slices_S2x1024x24x64x2_o0_0_0_0_1_S2x1024x24x64x1) shapeCasts_S2x1024x24x64x1_S2x1024x24x64

def wide (c : FVec Ideal S2x1024x64 .f32) : FVec Ideal S2x1024x24x64 .f32 :=
  broadcastTo S2x1024x24x64 (shapeCast S2x1024x1x64 c shapeCasts_S2x1024x64_S2x1024x1x64) broadcasts_S2x1024x1x64_S2x1024x24x64

/-- The two halves side by side along a last axis of length 2. -/
def paired (a c : FVec Ideal S2x1024x24x64 .f32) : FVec Ideal S2x1024x24x64x2 .f32 :=
  concatenate S2x1024x24x64x2 4 [⟨S2x1024x24x64x1, shapeCast S2x1024x24x64x1 a shapeCasts_S2x1024x24x64_S2x1024x24x64x1⟩, ⟨S2x1024x24x64x1, shapeCast S2x1024x24x64x1 c shapeCasts_S2x1024x24x64_S2x1024x24x64x1⟩] concatenates_S2x1024x24x64x1_S2x1024x24x64x1_S2x1024x24x64x2_d4

def joined (a c : FVec Ideal S2x1024x24x64 .f32) : FVec Ideal S2x1024x24x128 .bf16 :=
  truncf .bf16 (shapeCast S2x1024x24x128 (paired a c) shapeCasts_S2x1024x24x64x2_S2x1024x24x128) bitsLt_bf16_f32

def turned (y : FVec Ideal S2x1024x24x128 .f32) (cos sin : FVec Ideal S2x1024x64 .f32) : FVec Ideal S2x1024x24x128 .bf16 :=
  joined (subf (mulf (wide cos) (evn y)) (mulf (wide sin) (odd y))) (addf (mulf (wide sin) (evn y)) (mulf (wide cos) (odd y)))

theorem nrm_at (u : FVec Ideal S2x1024x24x128 .f32) (gain : FVec Ideal S128 .f32) (b : Fin 2) (p : Fin 1024) (n : Fin 24) (d : Fin 128) :
    nrm u gain (ix4 b p n d) = Ideal.div (u (ix4 b p n d)) (Cert.Forms.rms fun k => u (ix4 b p n k)) * gain (ix1 d) := by
  pointwise [nrm, Cert.Forms.rms]

theorem evn_at (y : FVec Ideal S2x1024x24x128 .f32) (b : Fin 2) (p : Fin 1024) (n : Fin 24) (l : Fin 64) :
    evn y (ix4 b p n l) = y (ix4 b p n ⟨l.val * 2, by omega⟩) := by
  pointwise [evn]

theorem odd_at (y : FVec Ideal S2x1024x24x128 .f32) (b : Fin 2) (p : Fin 1024) (n : Fin 24) (l : Fin 64) :
    odd y (ix4 b p n l) = y (ix4 b p n ⟨l.val * 2 + 1, by omega⟩) := by
  pointwise [odd]

theorem wide_at (c : FVec Ideal S2x1024x64 .f32) (b : Fin 2) (p : Fin 1024) (n : Fin 24) (l : Fin 64) :
    wide c (ix4 b p n l) = c (ix3 b p l) := by
  pointwise [wide]

theorem flat_at (w : FVec Ideal S2x1024x24x64x2 .f32) (b : Fin 2) (p : Fin 1024) (n : Fin 24) (d : Fin 128) :
    shapeCast S2x1024x24x128 w shapeCasts_S2x1024x24x64x2_S2x1024x24x128 (ix4 b p n d) = w (ix5 b p n ⟨d.val / 2, by omega⟩ ⟨d.val % 2, by omega⟩) := by
  pointwise []

theorem thin_at (a : FVec Ideal S2x1024x24x64 .f32) (b : Fin 2) (p : Fin 1024) (n : Fin 24) (l : Fin 64) :
    shapeCast S2x1024x24x64x1 a shapeCasts_S2x1024x24x64_S2x1024x24x64x1 (ix5 b p n l 0) = a (ix4 b p n l) := by
  pointwise []

theorem pair_left (u v : FVec Ideal S2x1024x24x64x1 .f32) (b : Fin 2) (p : Fin 1024) (n : Fin 24) (l : Fin 64) (e : Fin 2) (h : e.val = 0) :
    concatenate S2x1024x24x64x2 4 [⟨S2x1024x24x64x1, u⟩, ⟨S2x1024x24x64x1, v⟩] concatenates_S2x1024x24x64x1_S2x1024x24x64x1_S2x1024x24x64x2_d4 (ix5 b p n l e) = u (ix5 b p n l 0) := by
  have hi : ∀ x : Fin 5, (ix5 b p n l (0 : Fin 1) x).val = (ix5 b p n l e x).val := fun x =>
    match x with
    | 0 => rfl
    | 1 => rfl
    | 2 => rfl
    | 3 => rfl
    | 4 => h.symm
  exact concatenate_pair_apply_left (t := S2x1024x24x64x2) (s₁ := S2x1024x24x64x1) (s₂ := S2x1024x24x64x1) 4 u v _ (ix5 b p n l e) rfl (ix5 b p n l (0 : Fin 1)) hi

theorem pair_right (u v : FVec Ideal S2x1024x24x64x1 .f32) (b : Fin 2) (p : Fin 1024) (n : Fin 24) (l : Fin 64) (e : Fin 2) (h : e.val = 1) :
    concatenate S2x1024x24x64x2 4 [⟨S2x1024x24x64x1, u⟩, ⟨S2x1024x24x64x1, v⟩] concatenates_S2x1024x24x64x1_S2x1024x24x64x1_S2x1024x24x64x2_d4 (ix5 b p n l e) = v (ix5 b p n l 0) := by
  have hi : ∀ x : Fin 5, x ≠ 4 → (ix5 b p n l (0 : Fin 1) x).val = (ix5 b p n l e x).val := fun x hx =>
    match x, hx with
    | 0, _ => rfl
    | 1, _ => rfl
    | 2, _ => rfl
    | 3, _ => rfl
    | 4, hx => absurd rfl hx
  have ha : (0 : ℕ) + 1 = e.val := h.symm
  exact concatenate_pair_apply_right (t := S2x1024x24x64x2) (s₁ := S2x1024x24x64x1) (s₂ := S2x1024x24x64x1) 4 u v _ (ix5 b p n l e) rfl rfl (ix5 b p n l (0 : Fin 1)) hi ha

theorem paired_left (a c : FVec Ideal S2x1024x24x64 .f32) (b : Fin 2) (p : Fin 1024) (n : Fin 24) (l : Fin 64) (e : Fin 2) (h : e.val = 0) :
    paired a c (ix5 b p n l e) = a (ix4 b p n l) := by
  unfold paired
  rw [pair_left _ _ b p n l e h, thin_at]

theorem paired_right (a c : FVec Ideal S2x1024x24x64 .f32) (b : Fin 2) (p : Fin 1024) (n : Fin 24) (l : Fin 64) (e : Fin 2) (h : e.val = 1) :
    paired a c (ix5 b p n l e) = c (ix4 b p n l) := by
  unfold paired
  rw [pair_right _ _ b p n l e h, thin_at]

theorem trunc_at (w : FVec Ideal S2x1024x24x128 .f32) (b : Fin 2) (p : Fin 1024) (n : Fin 24) (d : Fin 128) :
    truncf .bf16 w bitsLt_bf16_f32 (ix4 b p n d) = w (ix4 b p n d) := by
  pointwise []

theorem joined_eq (a c : FVec Ideal S2x1024x24x64 .f32) (b : Fin 2) (p : Fin 1024) (n : Fin 24) (d : Fin 128) :
    joined a c (ix4 b p n d) = shapeCast S2x1024x24x128 (paired a c) shapeCasts_S2x1024x24x64x2_S2x1024x24x128 (ix4 b p n d) := by
  unfold joined
  exact trunc_at _ b p n d

theorem joined_even (a c : FVec Ideal S2x1024x24x64 .f32) (b : Fin 2) (p : Fin 1024) (n : Fin 24) (d : Fin 128) (h : d.val % 2 = 0) :
    joined a c (ix4 b p n d) = a (ix4 b p n ⟨d.val / 2, by omega⟩) := by
  rw [joined_eq, flat_at, paired_left _ _ _ _ _ _ _ h]

theorem joined_odd (a c : FVec Ideal S2x1024x24x64 .f32) (b : Fin 2) (p : Fin 1024) (n : Fin 24) (d : Fin 128) (h : ¬ d.val % 2 = 0) :
    joined a c (ix4 b p n d) = c (ix4 b p n ⟨d.val / 2, by omega⟩) := by
  rw [joined_eq, flat_at, paired_right _ _ _ _ _ _ _ (by show d.val % 2 = 1; omega)]

theorem turned_at (y : FVec Ideal S2x1024x24x128 .f32) (cos sin : FVec Ideal S2x1024x64 .f32) (b : Fin 2) (p : Fin 1024) (n : Fin 24) (d : Fin 128) :
    turned y cos sin (ix4 b p n d) = Cert.Forms.turn (cos (ix3 b p ⟨d.val / 2, by omega⟩)) (sin (ix3 b p ⟨d.val / 2, by omega⟩))
      (y (ix4 b p n ⟨d.val / 2 * 2, by omega⟩)) (y (ix4 b p n ⟨d.val / 2 * 2 + 1, by omega⟩)) (d.val % 2 = 0) := by
  unfold Cert.Forms.turn turned
  by_cases h : d.val % 2 = 0
  · rw [if_pos h, joined_even _ _ _ _ _ _ h]
    show wide cos _ * evn y _ - wide sin _ * odd y _ = _
    rw [wide_at, wide_at, evn_at, odd_at]
  · rw [if_neg h, joined_odd _ _ _ _ _ _ h]
    show wide sin _ * evn y _ + wide cos _ * odd y _ = _
    rw [wide_at, wide_at, evn_at, odd_at]

section
variable (s : EReal) (C : FVec Ideal S2048x3072 .fp8e4m3) (W : FVec Ideal S3072x21504 .fp8e4m3) (w1s b1 : FVec Ideal S21504 .f32)
  (gain : FVec Ideal S128 .f32) (cos sin : FVec Ideal S2x1024x64 .f32)

/-- Heads whose lanes are columns of the first projection, normalised and turned. -/
theorem rot_of (u : FVec Ideal S2x1024x24x128 .f32) (base : ℕ) (hb : base + 3072 ≤ 21504)
    (hu : ∀ b p n d, u (ix4 b p n d) = Cert.Forms.lin C W s w1s b1 (rw2 b p) ⟨base + (n.val * 128 + d.val), by omega⟩)
    (b : Fin 2) (p : Fin 1024) (n : Fin 24) (d : Fin 128) :
    turned (nrm u gain) cos sin (ix4 b p n d)
      = Cert.Forms.rot C W s w1s b1 base hb gain cos sin (ix2 (rw2 b p) ⟨n.val * 128 + d.val, by omega⟩) := by
  rw [turned_at, nrm_at, nrm_at, hu, hu, funext fun k => hu b p n k]
  have e0 : (⟨(rw2 b p).val / 1024, by omega⟩ : Fin 2) = b := Fin.ext (by show (b.val * 1024 + p.val) / 1024 = b.val; omega)
  have e1 : (⟨(rw2 b p).val % 1024, by omega⟩ : Fin 1024) = p := Fin.ext (by show (b.val * 1024 + p.val) % 1024 = p.val; omega)
  have e2 : (⟨(n.val * 128 + d.val) / 128, by omega⟩ : Fin 24) = n := Fin.ext (by show (n.val * 128 + d.val) / 128 = n.val; omega)
  have e3 : (⟨(n.val * 128 + d.val) % 128, by omega⟩ : Fin 128) = d := Fin.ext (by show (n.val * 128 + d.val) % 128 = d.val; omega)
  show _ = Cert.Forms.rotAt C W s w1s b1 base hb gain cos sin (rw2 b p) ⟨(n.val * 128 + d.val) / 128, _⟩ ⟨(n.val * 128 + d.val) % 128, _⟩
  rw [e2, e3]
  unfold Cert.Forms.rotAt
  rw [e0, e1]
  rfl

theorem q_eq : k0_pay13 (F := Ideal) (k0_pay8 s C W w1s b1 gain) (k0_pay9 s C W w1s b1 gain) (k0_pay10 cos) (k0_pay11 sin) (k0_pay12 s C W w1s b1 gain cos sin)
    = turned (nrm (heads0 s C W w1s b1) gain) cos sin := rfl

theorem k_eq (u : FVec Ideal S2x1024x24x128 .f32) : k0_pay14 (F := Ideal) u gain cos sin = turned (nrm u gain) cos sin := rfl

theorem q_at (b : Fin 2) (p : Fin 1024) (n : Fin 24) (d : Fin 128) :
    k0_pay13 (F := Ideal) (k0_pay8 s C W w1s b1 gain) (k0_pay9 s C W w1s b1 gain) (k0_pay10 cos) (k0_pay11 sin) (k0_pay12 s C W w1s b1 gain cos sin) (ix4 b p n d)
      = Cert.Forms.rot C W s w1s b1 0 (by omega) gain cos sin (ix2 (rw2 b p) ⟨n.val * 128 + d.val, by omega⟩) := by
  rw [q_eq]; exact rot_of s C W w1s b1 gain cos sin _ 0 (by omega) (heads0_at s C W w1s b1) b p n d

theorem k_at (b : Fin 2) (p : Fin 1024) (n : Fin 24) (d : Fin 128) :
    k0_pay14 (F := Ideal) (k0_pay4 s C W w1s b1) gain cos sin (ix4 b p n d)
      = Cert.Forms.rot C W s w1s b1 3072 (by omega) gain cos sin (ix2 (rw2 b p) ⟨n.val * 128 + d.val, by omega⟩) := by
  rw [k_eq]; exact rot_of s C W w1s b1 gain cos sin _ 3072 (by omega) (pay4_at s C W w1s b1) b p n d

end

end Cert.ReferenceIdeal.Value

end
-- ==== Proof.Value.RefAtt.lean ====
/- The reference's attention, element by element. -/
module

public import proofs.«01_k».proof.Proof.Gen.ReferenceIdeal.Skeleton
public import proofs.«01_k».proof.Proof.Value.AttnMath
public import proofs.«01_k».proof.Proof.Value.Forms
public import proofs.«01_k».proof.Proof.Value.Forms2
public import Idealize.ShloMosaic.Lib.Pipeline.ValueKit
public import Idealize.ShloMosaic.Lib.Pointwise
public import proofs.«01_k».proof.Proof.Value.RefLin

@[expose] public section

set_option maxRecDepth 16384

noncomputable section

namespace Cert.ReferenceIdeal.Value

open Cert.ReferenceIdeal Cert.ReferenceIdeal.Gen
open Idealize.ShloMosaic Idealize.ShloMosaic.TcCoe

/-! The steps of the attention, each over whole arrays. -/

def byHead (u : FVec Ideal S2x1024x24x128 .bf16) : FVec Ideal S48x1024x128 .bf16 :=
  shapeCast S48x1024x128 (transpose S2x24x1024x128 [0, 2, 1, 3] u transposes_S2x1024x24x128_p0_2_1_3_S2x24x1024x128) shapeCasts_S2x24x1024x128_S48x1024x128

def scores (a c : FVec Ideal S48x1024x128 .bf16) : FVec Ideal S2x24x1024x1024 .f32 :=
  shapeCast S2x24x1024x1024 (mulf (mulf (matmul dot_S48x1024x128_S48x1024x128_S48x1024x1024_2_2_1_1_0_0 none a c (constant S48x1024x1024 .f32 0x00000000#32))
    (broadcast S48x1024x1024 (Scalar.ofBits .f32 0x3DB504F3#32 : Ideal .f32))) (broadcast S48x1024x1024 (Scalar.ofBits .f32 0x3FB8AA3B#32 : Ideal .f32))) shapeCasts_S48x1024x1024_S2x24x1024x1024

def mask (txt : IVec S2 32) : IVec S2x24x1024x1024 1 :=
  broadcastTo S2x24x1024x1024 (shapeCast S2x1x1x1024 (andi
    (cmpi .sge (iota .tc S2x1x1x1024 32 [3] iota_S2x1x1x1024_d3_w32) (broadcastTo S2x1x1x1024 (shapeCast S2x1x1x1 txt shapeCasts_S2_S2x1x1x1) broadcasts_S2x1x1x1_S2x1x1x1024))
    (cmpi .slt (iota .tc S2x1x1x1024 32 [3] iota_S2x1x1x1024_d3_w32) (broadcast S2x1x1x1024 512#32))) shapeCasts_S2x1x1x1024_S2x1x1x1024) broadcasts_S2x1x1x1024_S2x24x1024x1024

def masked (m : IVec S2x24x1024x1024 1) (t : FVec Ideal S2x24x1024x1024 .f32) : FVec Ideal S2x24x1024x1024 .f32 :=
  select m (broadcast S2x24x1024x1024 (Scalar.ofBits .f32 0xFF800000#32 : Ideal .f32)) t

def exps (t : FVec Ideal S2x24x1024x1024 .f32) : FVec Ideal S2x24x1024x1024 .f32 :=
  exp2 (subf t (broadcastTo S2x24x1024x1024 (ceil (shapeCast S2x24x1024x1 (multiReduction .maximumf [3] S2x24x1024 t 0xFF800000#32 reduces_S2x24x1024x1024_S2x24x1024 (.inl rfl) rfl) shapeCasts_S2x24x1024_S2x24x1024x1)) broadcasts_S2x24x1024x1_S2x24x1024x1024))

def average (e : FVec Ideal S2x24x1024x1024 .f32) (v : FVec Ideal S48x1024x128 .bf16) : FVec Ideal S2x1024x3072 .f32 :=
  shapeCast S2x1024x3072 (transpose S2x1024x24x128 [0, 2, 1, 3] (divf
    (shapeCast S2x24x1024x128 (matmul dot_S48x1024x1024_S48x1024x128_S48x1024x128_2_1_1_2_0_0 none (shapeCast S48x1024x1024 (truncf .bf16 e bitsLt_bf16_f32) shapeCasts_S2x24x1024x1024_S48x1024x1024) v (constant S48x1024x128 .f32 0x00000000#32)) shapeCasts_S48x1024x128_S2x24x1024x128)
    (broadcastTo S2x24x1024x128 (shapeCast S2x24x1024x1 (multiReduction .add [3] S2x24x1024 e 0x00000000#32 reduces_S2x24x1024x1024_S2x24x1024 (.inl rfl) rfl) shapeCasts_S2x24x1024_S2x24x1024x1) broadcasts_S2x24x1024x1_S2x24x1024x128))
    transposes_S2x24x1024x128_p0_2_1_3_S2x1024x24x128) shapeCasts_S2x1024x24x128_S2x1024x3072

theorem pay16_eq (q k v : FVec Ideal S2x1024x24x128 .bf16) (txt : IVec S2 32) :
    k0_pay16 (F := Ideal) q k v txt = average (exps (masked (mask txt) (scores (byHead q) (byHead k)))) (byHead v) := rfl

theorem byHead_at (u : FVec Ideal S2x1024x24x128 .bf16) (h : Fin 48) (p : Fin 1024) (d : Fin 128) :
    byHead u (ix3 h p d) = u (ix4 ⟨h.val / 24, by omega⟩ p ⟨h.val % 24, by omega⟩ d) := by
  pointwise [byHead]

theorem scores_at (a c : FVec Ideal S48x1024x128 .bf16) (b : Fin 2) (n : Fin 24) (p j : Fin 1024) :
    scores a c (ix4 b n p j) = (∑ d : Fin 128, a (ix3 ⟨b.val * 24 + n.val, by omega⟩ p d) * c (ix3 ⟨b.val * 24 + n.val, by omega⟩ j d))
      * Ideal.ofBits .f32 0x3DB504F3#32 * Ideal.ofBits .f32 0x3FB8AA3B#32 := by
  pointwise [scores]

theorem mask_at (txt : IVec S2 32) (b : Fin 2) (n : Fin 24) (p j : Fin 1024) :
    mask txt (ix4 b n p j) = IntOp.andi (IntOp.cmpi .sge (BitVec.ofNat 32 j.val) (txt (ix1 b))) (IntOp.cmpi .slt (BitVec.ofNat 32 j.val) 512#32) := by
  pointwise [mask]

theorem masked_at (m : IVec S2x24x1024x1024 1) (t : FVec Ideal S2x24x1024x1024 .f32) (i) :
    masked m t i = Scalar.select (m i) (Ideal.ofBits .f32 0xFF800000#32) (t i) := rfl

theorem rowMax_at (t : FVec Ideal S2x24x1024x1024 .f32) (b : Fin 2) (n : Fin 24) (p : Fin 1024) :
    multiReduction .maximumf [3] S2x24x1024 t 0xFF800000#32 reduces_S2x24x1024x1024_S2x24x1024 (.inl rfl) rfl (ix3 b n p)
      = Finset.univ.fold max (Ideal.ofBits .f32 0xFF800000#32) fun j => t (ix4 b n p j) := by
  pointwise []

def shifted (t : FVec Ideal S2x24x1024x1024 .f32) (mx : FVec Ideal S2x24x1024 .f32) : FVec Ideal S2x24x1024x1024 .f32 :=
  exp2 (subf t (broadcastTo S2x24x1024x1024 (ceil (shapeCast S2x24x1024x1 mx shapeCasts_S2x24x1024_S2x24x1024x1)) broadcasts_S2x24x1024x1_S2x24x1024x1024))

theorem shifted_at (t : FVec Ideal S2x24x1024x1024 .f32) (mx : FVec Ideal S2x24x1024 .f32) (b : Fin 2) (n : Fin 24) (p j : Fin 1024) :
    shifted t mx (ix4 b n p j) = Ideal.exp2 (t (ix4 b n p j) - Ideal.liftRound Int.ceil (mx (ix3 b n p))) := by
  pointwise [shifted]
  rfl

theorem exps_at (t : FVec Ideal S2x24x1024x1024 .f32) (b : Fin 2) (n : Fin 24) (p j : Fin 1024) :
    exps t (ix4 b n p j) = Ideal.exp2 (t (ix4 b n p j) - Ideal.liftRound Int.ceil (Finset.univ.fold max (Ideal.ofBits .f32 0xFF800000#32) fun j => t (ix4 b n p j))) := by
  rw [← rowMax_at t b n p]
  exact shifted_at t _ b n p j

theorem average_at (e : FVec Ideal S2x24x1024x1024 .f32) (v : FVec Ideal S48x1024x128 .bf16) (b : Fin 2) (p : Fin 1024) (J : Fin 3072) :
    average e v (ix3 b p J) = Ideal.div
      (∑ j : Fin 1024, e (ix4 b ⟨J.val / 128, by omega⟩ p j) * v (ix3 ⟨b.val * 24 + J.val / 128, by omega⟩ j ⟨J.val % 128, by omega⟩))
      (∑ j : Fin 1024, e (ix4 b ⟨J.val / 128, by omega⟩ p j)) := by
  pointwise [average]
  have e0 : (⟨(b.val * 24 + J.val / 128) / 24, by omega⟩ : Fin 2) = b := Fin.ext (by dsimp only; omega)
  have e1 : (⟨(b.val * 24 + J.val / 128) % 24, by omega⟩ : Fin 24) = ⟨J.val / 128, by omega⟩ := Fin.ext (by dsimp only; omega)
  simp only [e0, e1]

/-- A key of the text's padding is left out. -/
theorem select_pad (w : BitVec 32) (j : Fin 1024) (x : EReal) :
    Scalar.select (IntOp.andi (IntOp.cmpi .sge (BitVec.ofNat 32 j.val) w) (IntOp.cmpi .slt (BitVec.ofNat 32 j.val) 512#32)) (Ideal.ofBits .f32 0xFF800000#32) x
      = if ¬ (j.val : ℤ) < w.toInt ∧ j.val < 512 then ⊥ else x := by
  have hj : (BitVec.ofNat 32 j.val).toInt = j.val := WordArith.toInt_ofNat_small j.val (by omega)
  have h5 : (512#32).toInt = 512 := by decide
  rw [Cert.Scalar.ofBits_neg_inf]
  show Scalar.select (IntOp.andi (BitVec.ofBool (w.sle (BitVec.ofNat 32 j.val))) (BitVec.ofBool ((BitVec.ofNat 32 j.val).slt 512#32))) ⊥ x = _
  rw [WordArith.andi_ofBool]
  unfold Scalar.select
  refine if_congr ?_ rfl rfl
  refine (WordArith.ofBool_eq_numeral_one_iff _).trans ?_
  rw [Bool.and_eq_true, BitVec.sle_iff_toInt_le, BitVec.slt_iff_toInt_lt, hj, h5]
  omega

theorem pay16_at (q k v : FVec Ideal S2x1024x24x128 .bf16) (txt : IVec S2 32) (Q K V : FVec Ideal S2048x3072 .bf16)
    (hq : ∀ b p n d, q (ix4 b p n d) = Q (ix2 (rw2 b p) ⟨n.val * 128 + d.val, by omega⟩))
    (hk : ∀ b p n d, k (ix4 b p n d) = K (ix2 (rw2 b p) ⟨n.val * 128 + d.val, by omega⟩))
    (hv : ∀ b p n d, v (ix4 b p n d) = V (ix2 (rw2 b p) ⟨n.val * 128 + d.val, by omega⟩))
    (b : Fin 2) (p : Fin 1024) (J : Fin 3072) :
    k0_pay16 (F := Ideal) q k v txt (ix3 b p J) = Cert.Forms.att (fun b => txt (ix1 b)) Q K V (rw2 b p) J := by
  have eb : (⟨(rw2 b p).val / 1024, by omega⟩ : Fin 2) = b := Fin.ext (by show (b.val * 1024 + p.val) / 1024 = b.val; omega)
  have er : ∀ j, Cert.Forms.row (rw2 b p) j = rw2 b j := fun j => Fin.ext (by show 1024 * ((b.val * 1024 + p.val) / 1024) + j.val = b.val * 1024 + j.val; omega)
  have ec : ∀ d, (⟨J.val / 128 * 128 + d.val, by omega⟩ : Fin 3072) = Cert.Forms.col J d := fun d => Fin.ext (by show J.val / 128 * 128 + d.val = 128 * (J.val / 128) + d.val; omega)
  have e0 : (⟨(b.val * 24 + J.val / 128) / 24, by omega⟩ : Fin 2) = b := Fin.ext (by dsimp only; omega)
  have e1 : (⟨(b.val * 24 + J.val / 128) % 24, by omega⟩ : Fin 24) = ⟨J.val / 128, by omega⟩ := Fin.ext (by dsimp only; omega)
  have eJ : (⟨J.val / 128 * 128 + J.val % 128, by omega⟩ : Fin 3072) = J := Fin.ext (by dsimp only; omega)
  have hs : ∀ j, masked (mask txt) (scores (byHead q) (byHead k)) (ix4 b ⟨J.val / 128, by omega⟩ p j)
      = Cert.Forms.score (txt (ix1 b)) (fun d => Q (ix2 (rw2 b p) (Cert.Forms.col J d))) (fun d => K (ix2 (rw2 b j) (Cert.Forms.col J d))) j := by
    intro j
    rw [masked_at, mask_at, select_pad, scores_at]
    unfold Cert.Forms.score
    simp only [byHead_at, hq, hk, e0, e1, ec]
  rw [pay16_eq, average_at]
  unfold Cert.Forms.att Cert.Forms.soft
  simp only [exps_at, hs, byHead_at, hv, e0, e1, eJ, eb, er, Cert.Scalar.ofBits_neg_inf]

theorem pay17_at (sa : EReal) (q k v : FVec Ideal S2x1024x24x128 .bf16) (txt : IVec S2 32) (Q K V : FVec Ideal S2048x3072 .bf16)
    (hq : ∀ b p n d, q (ix4 b p n d) = Q (ix2 (rw2 b p) ⟨n.val * 128 + d.val, by omega⟩))
    (hk : ∀ b p n d, k (ix4 b p n d) = K (ix2 (rw2 b p) ⟨n.val * 128 + d.val, by omega⟩))
    (hv : ∀ b p n d, v (ix4 b p n d) = V (ix2 (rw2 b p) ⟨n.val * 128 + d.val, by omega⟩))
    (b : Fin 2) (p : Fin 1024) (J : Fin 3072) :
    k0_pay17 (F := Ideal) sa q k v txt (ix3 b p J) = Cert.Forms.attCodes (fun b => txt (ix1 b)) Q K V sa (ix2 (rw2 b p) J) := by
  have e : k0_pay17 (F := Ideal) sa q k v txt (ix3 b p J) = Cert.Forms.quant (k0_pay16 (F := Ideal) q k v txt (ix3 b p J)) sa := rfl
  rw [e, pay16_at q k v txt Q K V hq hk hv]; rfl

end Cert.ReferenceIdeal.Value

end
-- ==== Proof.Value.RefOut.lean ====
/- The reference's second projection and its maxima, element by element. -/
module

public import proofs.«01_k».proof.Proof.Gen.ReferenceIdeal.Skeleton
public import proofs.«01_k».proof.Proof.Value.AttnMath
public import proofs.«01_k».proof.Proof.Value.Forms
public import proofs.«01_k».proof.Proof.Value.Forms2
public import Idealize.ShloMosaic.Lib.Pipeline.ValueKit
public import Idealize.ShloMosaic.Lib.Pointwise
public import proofs.«01_k».proof.Proof.Value.RefLin

@[expose] public section

set_option maxRecDepth 16384

noncomputable section

namespace Cert.ReferenceIdeal.Value

open Cert.ReferenceIdeal Cert.ReferenceIdeal.Gen
open Idealize.ShloMosaic Idealize.ShloMosaic.TcCoe

theorem pay21_at (x : FVec Ideal S2x1024x3072 .bf16) (sa sm : EReal) (a : FVec Ideal S2x1024x3072 .fp8e4m3) (h h' : FVec Ideal S2x1024x12288 .f32)
    (wa : FVec Ideal S3072x3072 .fp8e4m3) (wm : FVec Ideal S12288x3072 .fp8e4m3) (w2s b2 : FVec Ideal S3072 .f32) (gate : FVec Ideal S2x3072 .f32)
    (A : FVec Ideal S2048x3072 .fp8e4m3) (M : FVec Ideal S2048x12288 .fp8e4m3) (W2 : FVec Ideal S15360x3072 .fp8e4m3)
    (hA : ∀ b p J, a (ix3 b p J) = A (ix2 (rw2 b p) J))
    (hM : ∀ b p J, k0_pay20 (F := Ideal) sm h h' (ix3 b p J) = M (ix2 (rw2 b p) J))
    (hwa : ∀ k J, wa (ix2 k J) = W2 (ix2 ⟨k.val, by omega⟩ J))
    (hwm : ∀ k J, wm (ix2 k J) = W2 (ix2 ⟨3072 + k.val, by omega⟩ J))
    (b : Fin 2) (p : Fin 1024) (J : Fin 3072) :
    k0_pay21 (F := Ideal) x sa sm h a h' wa wm w2s b2 gate (ix3 b p J)
      = Cert.Forms.out2 A M W2 sa sm w2s b2 x gate (ix2 (rw2 b p) J) := by
  have e0 : (⟨(rw2 b p).val / 1024, by omega⟩ : Fin 2) = b := Fin.ext (by show (b.val * 1024 + p.val) / 1024 = b.val; omega)
  have e1 : (⟨(rw2 b p).val % 1024, by omega⟩ : Fin 1024) = p := Fin.ext (by show (b.val * 1024 + p.val) % 1024 = p.val; omega)
  have e2 : (⟨(b.val * 1024 + p.val) / 1024, by omega⟩ : Fin 2) = b := Fin.ext (by dsimp only; omega)
  have e3 : (⟨(b.val * 1024 + p.val) % 1024, by omega⟩ : Fin 1024) = p := Fin.ext (by dsimp only; omega)
  have er : Cert.Forms.out2 A M W2 sa sm w2s b2 x gate (ix2 (rw2 b p) J)
      = x (ix3 b p J) + gate (ix2 b J) * ((sa * (∑ k : Fin 3072, A (ix2 (rw2 b p) k) * W2 (ix2 ⟨k.val, by omega⟩ J))
        + sm * (∑ k : Fin 12288, M (ix2 (rw2 b p) k) * W2 (ix2 ⟨3072 + k.val, by omega⟩ J))) * w2s (ix1 J) + b2 (ix1 J)) := by
    show x (ix3 ⟨(rw2 b p).val / 1024, _⟩ ⟨(rw2 b p).val % 1024, _⟩ J) + gate (ix2 ⟨(rw2 b p).val / 1024, _⟩ J) * _ = _
    rw [e0, e1]; rfl
  rw [er]
  pointwise [k0_pay21]
  simp only [hA, hM, hwa, hwm, e2, e3]

theorem pay22_le (o : FVec Ideal S2x1024x3072 .f32) (z : EReal) :
    k0_pay22 (F := Ideal) o (ix3 0 0 0) ≤ z ↔ ∀ b p J, max (o (ix3 b p J)) (-(o (ix3 b p J))) ≤ z := by
  have e : k0_pay22 (F := Ideal) o (ix3 0 0 0) = Finset.fold max (Ideal.ofBits FTy.f32 4286578688#32) (fun x : S1x2x1024x3072.Idx => FloatOps.absf (o (ix3 (x 1) (x 2) (x 3))))
      {i | reduces_S1x2x1024x3072_S1.drop i = ix1 0} := by
    pointwise [k0_pay22]
  rw [e, Finset.fold_max_le, Cert.Scalar.ofBits_neg_inf]
  constructor
  · rintro ⟨-, h⟩ b p J
    exact h (ix4 0 b p J) (Finset.mem_filter.2 ⟨Finset.mem_univ _, funext fun a => by fin_cases a; exact Subsingleton.elim (α := Fin 1) _ _⟩)
  · exact fun h => ⟨bot_le, fun x _ => h (x 1) (x 2) (x 3)⟩

theorem pay23_le (o : FVec Ideal S2x1024x12288 .f32) (z : EReal) :
    k0_pay23 (F := Ideal) o (ix3 0 0 0) ≤ z ↔ ∀ b p J, max (o (ix3 b p J)) (-(o (ix3 b p J))) ≤ z := by
  have e : k0_pay23 (F := Ideal) o (ix3 0 0 0) = Finset.fold max (Ideal.ofBits FTy.f32 4286578688#32) (fun x : S1x2x1024x12288.Idx => FloatOps.absf (o (ix3 (x 1) (x 2) (x 3))))
      {i | reduces_S1x2x1024x12288_S1.drop i = ix1 0} := by
    pointwise [k0_pay23]
  rw [e, Finset.fold_max_le, Cert.Scalar.ofBits_neg_inf]
  constructor
  · rintro ⟨-, h⟩ b p J
    exact h (ix4 0 b p J) (Finset.mem_filter.2 ⟨Finset.mem_univ _, funext fun a => by fin_cases a; exact Subsingleton.elim (α := Fin 1) _ _⟩)
  · exact fun h => ⟨bot_le, fun x _ => h (x 1) (x 2) (x 3)⟩

end Cert.ReferenceIdeal.Value

end
-- ==== Proof.Value.RefRun.lean ====
/- What the reference's single call leaves in its result arrays. -/
module

public import proofs.«01_k».proof.Proof.Gen.ReferenceIdeal.Frame
public import proofs.«01_k».proof.Proof.Gen.ReferenceIdeal.Points
public import proofs.«01_k».proof.Proof.Value.RefBlk
public import proofs.«01_k».proof.Proof.Value.RefRot
public import proofs.«01_k».proof.Proof.Value.RefAtt
public import proofs.«01_k».proof.Proof.Value.RefOut
public import Idealize.ShloMosaic.Lib.Pipeline.ReadBack
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ)

section
variable (a : Cert.Results.Args)

/-! The stored arrays are the results, element by element. -/

theorem is_q (b : Fin 2) (p : Fin 1024) (n : Fin 24) (d : Fin 128) : (k0_pay13 (F := Ideal) (k0_pay8 a.sx (k0_pay2 (F := Ideal) a.x a.sx a.shift a.scale) a.w1 a.w1s a.b1 a.qw) (k0_pay9 a.sx (k0_pay2 (F := Ideal) a.x a.sx a.shift a.scale) a.w1 a.w1s a.b1 a.qw) (k0_pay10 a.cos) (k0_pay11 a.sin) (k0_pay12 a.sx (k0_pay2 (F := Ideal) a.x a.sx a.shift a.scale) a.w1 a.w1s a.b1 a.qw a.cos a.sin)) (ix4 b p n d) = a.q (ix2 (rw2 b p) ⟨n.val * 128 + d.val, by omega⟩) :=
  q_at a.sx a.codes a.w1 a.w1s a.b1 a.qw a.cos a.sin b p n d

theorem is_k (b : Fin 2) (p : Fin 1024) (n : Fin 24) (d : Fin 128) : (k0_pay14 (F := Ideal) (k0_pay4 a.sx (k0_pay2 (F := Ideal) a.x a.sx a.shift a.scale) a.w1 a.w1s a.b1) a.kw a.cos a.sin) (ix4 b p n d) = a.k (ix2 (rw2 b p) ⟨n.val * 128 + d.val, by omega⟩) :=
  k_at a.sx a.codes a.w1 a.w1s a.b1 a.kw a.cos a.sin b p n d

theorem is_v (b : Fin 2) (p : Fin 1024) (n : Fin 24) (d : Fin 128) : (k0_pay15 (F := Ideal) (k0_pay5 a.sx (k0_pay2 (F := Ideal) a.x a.sx a.shift a.scale) a.w1 a.w1s a.b1)) (ix4 b p n d) = a.v (ix2 (rw2 b p) ⟨n.val * 128 + d.val, by omega⟩) :=
  pay15_at a.sx a.codes a.w1 a.w1s a.b1 b p n d

theorem is_codes (b : Fin 2) (p : Fin 1024) (k : Fin 3072) : k0_pay1 (F := Ideal) a.x a.sx a.shift a.scale (ix3 b p k) = a.codes (ix2 (rw2 b p) k) := by
  symm
  unfold Cert.Results.Args.codes rw2
  pointwise [k0_pay2]

theorem is_att (b : Fin 2) (p : Fin 1024) (J : Fin 3072) : (k0_pay16 (F := Ideal) (k0_pay13 (F := Ideal) (k0_pay8 a.sx (k0_pay2 (F := Ideal) a.x a.sx a.shift a.scale) a.w1 a.w1s a.b1 a.qw) (k0_pay9 a.sx (k0_pay2 (F := Ideal) a.x a.sx a.shift a.scale) a.w1 a.w1s a.b1 a.qw) (k0_pay10 a.cos) (k0_pay11 a.sin) (k0_pay12 a.sx (k0_pay2 (F := Ideal) a.x a.sx a.shift a.scale) a.w1 a.w1s a.b1 a.qw a.cos a.sin)) (k0_pay14 (F := Ideal) (k0_pay4 a.sx (k0_pay2 (F := Ideal) a.x a.sx a.shift a.scale) a.w1 a.w1s a.b1) a.kw a.cos a.sin) (k0_pay15 (F := Ideal) (k0_pay5 a.sx (k0_pay2 (F := Ideal) a.x a.sx a.shift a.scale) a.w1 a.w1s a.b1)) a.txt) (ix3 b p J) = a.att (rw2 b p) J :=
  pay16_at _ _ _ a.txt a.q a.k a.v (is_q a) (is_k a) (is_v a) b p J

theorem is_attCodes (b : Fin 2) (p : Fin 1024) (J : Fin 3072) : (k0_pay17 (F := Ideal) a.sa (k0_pay13 (F := Ideal) (k0_pay8 a.sx (k0_pay2 (F := Ideal) a.x a.sx a.shift a.scale) a.w1 a.w1s a.b1 a.qw) (k0_pay9 a.sx (k0_pay2 (F := Ideal) a.x a.sx a.shift a.scale) a.w1 a.w1s a.b1 a.qw) (k0_pay10 a.cos) (k0_pay11 a.sin) (k0_pay12 a.sx (k0_pay2 (F := Ideal) a.x a.sx a.shift a.scale) a.w1 a.w1s a.b1 a.qw a.cos a.sin)) (k0_pay14 (F := Ideal) (k0_pay4 a.sx (k0_pay2 (F := Ideal) a.x a.sx a.shift a.scale) a.w1 a.w1s a.b1) a.kw a.cos a.sin) (k0_pay15 (F := Ideal) (k0_pay5 a.sx (k0_pay2 (F := Ideal) a.x a.sx a.shift a.scale) a.w1 a.w1s a.b1)) a.txt) (ix3 b p J) = a.attCodes (ix2 (rw2 b p) J) :=
  pay17_at a.sa _ _ _ a.txt a.q a.k a.v (is_q a) (is_k a) (is_v a) b p J

theorem is_act (b : Fin 2) (p : Fin 1024) (J : Fin 12288) : (k0_pay19 (F := Ideal) (k0_pay6 (F := Ideal) a.sx (k0_pay2 (F := Ideal) a.x a.sx a.shift a.scale) a.w1 a.w1s a.b1) (k0_pay18 (F := Ideal) (k0_pay6 (F := Ideal) a.sx (k0_pay2 (F := Ideal) a.x a.sx a.shift a.scale) a.w1 a.w1s a.b1))) (ix3 b p J) = a.act (rw2 b p) J :=
  pay19_at a.sx a.codes a.w1 a.w1s a.b1 b p J

theorem is_actCodes (b : Fin 2) (p : Fin 1024) (J : Fin 12288) : (k0_pay20 (F := Ideal) a.sm (k0_pay6 (F := Ideal) a.sx (k0_pay2 (F := Ideal) a.x a.sx a.shift a.scale) a.w1 a.w1s a.b1) (k0_pay18 (F := Ideal) (k0_pay6 (F := Ideal) a.sx (k0_pay2 (F := Ideal) a.x a.sx a.shift a.scale) a.w1 a.w1s a.b1))) (ix3 b p J) = a.actCodes (ix2 (rw2 b p) J) :=
  pay20_at a.sx a.codes a.w1 a.w1s a.b1 a.sm b p J

/-- The rows of the second projection's weights that meet the attention, and those that meet the GELU branch. -/
theorem head_rows (k J : Fin 3072) : (View.ld (Val := Elt Ideal) (S := S15360x3072) (e' := .fp8e4m3) a.w2 (Rect.unit ![0, 0] S3072x3072.size inb_S15360x3072_S3072x3072_0_0)) (ix2 k J) = a.w2 (ix2 ⟨k.val, by omega⟩ J) := by
  refine congrArg a.w2 (funext fun x => ?_)
  fin_cases x
  · exact Fin.ext (by show 0 + 1 * k.val = k.val; omega)
  · exact Fin.ext (by show 0 + 1 * J.val = J.val; omega)

theorem tail_rows (k : Fin 12288) (J : Fin 3072) : (View.ld (Val := Elt Ideal) (S := S15360x3072) (e' := .fp8e4m3) a.w2 (Rect.unit ![3072, 0] S12288x3072.size inb_S15360x3072_S12288x3072_3072_0)) (ix2 k J) = a.w2 (ix2 ⟨3072 + k.val, by omega⟩ J) := by
  refine congrArg a.w2 (funext fun x => ?_)
  fin_cases x
  · exact Fin.ext (by show 3072 + 1 * k.val = 3072 + k.val; omega)
  · exact Fin.ext (by show 0 + 1 * J.val = J.val; omega)

theorem is_out (b : Fin 2) (p : Fin 1024) (J : Fin 3072) : (k0_pay21 (F := Ideal) a.x a.sa a.sm (k0_pay6 (F := Ideal) a.sx (k0_pay2 (F := Ideal) a.x a.sx a.shift a.scale) a.w1 a.w1s a.b1) (k0_pay17 (F := Ideal) a.sa (k0_pay13 (F := Ideal) (k0_pay8 a.sx (k0_pay2 (F := Ideal) a.x a.sx a.shift a.scale) a.w1 a.w1s a.b1 a.qw) (k0_pay9 a.sx (k0_pay2 (F := Ideal) a.x a.sx a.shift a.scale) a.w1 a.w1s a.b1 a.qw) (k0_pay10 a.cos) (k0_pay11 a.sin) (k0_pay12 a.sx (k0_pay2 (F := Ideal) a.x a.sx a.shift a.scale) a.w1 a.w1s a.b1 a.qw a.cos a.sin)) (k0_pay14 (F := Ideal) (k0_pay4 a.sx (k0_pay2 (F := Ideal) a.x a.sx a.shift a.scale) a.w1 a.w1s a.b1) a.kw a.cos a.sin) (k0_pay15 (F := Ideal) (k0_pay5 a.sx (k0_pay2 (F := Ideal) a.x a.sx a.shift a.scale) a.w1 a.w1s a.b1)) a.txt) (k0_pay18 (F := Ideal) (k0_pay6 (F := Ideal) a.sx (k0_pay2 (F := Ideal) a.x a.sx a.shift a.scale) a.w1 a.w1s a.b1)) (View.ld (Val := Elt Ideal) (S := S15360x3072) (e' := .fp8e4m3) a.w2 (Rect.unit ![0, 0] S3072x3072.size inb_S15360x3072_S3072x3072_0_0)) (View.ld (Val := Elt Ideal) (S := S15360x3072) (e' := .fp8e4m3) a.w2 (Rect.unit ![3072, 0] S12288x3072.size inb_S15360x3072_S12288x3072_3072_0)) a.w2s a.b2 a.gate) (ix3 b p J) = a.out (ix2 (rw2 b p) J) :=
  pay21_at a.x a.sa a.sm _ _ _ _ _ a.w2s a.b2 a.gate a.attCodes a.actCodes a.w2 (is_attCodes a) (is_actCodes a) (head_rows a) (tail_rows a) b p J

theorem rw2_surj (R : Fin 2048) : rw2 ⟨R.val / 1024, by omega⟩ ⟨R.val % 1024, by omega⟩ = R :=
  Fin.ext (by show R.val / 1024 * 1024 + R.val % 1024 = R.val; omega)

theorem is_amax : k0_pay22 (F := Ideal) (k0_pay16 (F := Ideal) (k0_pay13 (F := Ideal) (k0_pay8 a.sx (k0_pay2 (F := Ideal) a.x a.sx a.shift a.scale) a.w1 a.w1s a.b1 a.qw) (k0_pay9 a.sx (k0_pay2 (F := Ideal) a.x a.sx a.shift a.scale) a.w1 a.w1s a.b1 a.qw) (k0_pay10 a.cos) (k0_pay11 a.sin) (k0_pay12 a.sx (k0_pay2 (F := Ideal) a.x a.sx a.shift a.scale) a.w1 a.w1s a.b1 a.qw a.cos a.sin)) (k0_pay14 (F := Ideal) (k0_pay4 a.sx (k0_pay2 (F := Ideal) a.x a.sx a.shift a.scale) a.w1 a.w1s a.b1) a.kw a.cos a.sin) (k0_pay15 (F := Ideal) (k0_pay5 a.sx (k0_pay2 (F := Ideal) a.x a.sx a.shift a.scale) a.w1 a.w1s a.b1)) a.txt) (ix3 0 0 0) = a.r1 ix0 :=
  Cert.Results.sup_eq (fun R J => max (a.att R J) (-a.att R J)) _ fun z => (pay22_le _ z).trans
    ⟨fun h R J => by have := h ⟨R.val / 1024, by omega⟩ ⟨R.val % 1024, by omega⟩ J; rwa [is_att, rw2_surj] at this, fun h b p J => by rw [is_att]; exact h _ J⟩

theorem is_mmax : k0_pay23 (F := Ideal) (k0_pay19 (F := Ideal) (k0_pay6 (F := Ideal) a.sx (k0_pay2 (F := Ideal) a.x a.sx a.shift a.scale) a.w1 a.w1s a.b1) (k0_pay18 (F := Ideal) (k0_pay6 (F := Ideal) a.sx (k0_pay2 (F := Ideal) a.x a.sx a.shift a.scale) a.w1 a.w1s a.b1))) (ix3 0 0 0) = a.r2 ix0 :=
  Cert.Results.sup_eq (fun R J => max (a.act R J) (-a.act R J)) _ fun z => (pay23_le _ z).trans
    ⟨fun h R J => by have := h ⟨R.val / 1024, by omega⟩ ⟨R.val % 1024, by omega⟩ J; rwa [is_act, rw2_surj] at this, fun h b p J => by rw [is_act]; exact h _ J⟩

end

theorem arr18 (c : Dev nD) : (dats m 0 c).arrAt 18 cfg0.N = (args m c).r0 := by
  refine (dats m 0 c).arrAt_eq_of_after_last 18 t0_0 (by decide +kernel) _ fun y => ?_
  blk_simp
  rw [after0_18]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_out a y0 y1 y2

theorem arr19 (c : Dev nD) : (dats m 0 c).arrAt 19 cfg0.N = fun _ => (args m c).r1 ix0 := by
  refine (dats m 0 c).arrAt_eq_of_after_last 19 t0_0 (by decide +kernel) _ fun y => ?_
  blk_simp
  rw [after0_19]
  unfold outsAt0
  frame_out
  simp only [read_unread_whole, blk0, blk1, blk2, blk3, blk4, blk5, blk6, blk7, blk8, blk9, blk10, blk11, blk12, blk13, blk14, blk15, blk16, blk17]
  generalize args m c = a
  idx_vars y
  obtain rfl : y0 = 0 := Subsingleton.elim (α := Fin 1) _ _
  obtain rfl : y1 = 0 := Subsingleton.elim (α := Fin 1) _ _
  obtain rfl : y2 = 0 := Subsingleton.elim (α := Fin 1) _ _
  exact is_amax a

theorem arr20 (c : Dev nD) : (dats m 0 c).arrAt 20 cfg0.N = fun _ => (args m c).r2 ix0 := by
  refine (dats m 0 c).arrAt_eq_of_after_last 20 t0_0 (by decide +kernel) _ fun y => ?_
  blk_simp
  rw [after0_20]
  unfold outsAt0
  frame_out
  simp only [read_unread_whole, blk0, blk1, blk2, blk3, blk4, blk5, blk6, blk7, blk8, blk9, blk10, blk11, blk12, blk13, blk14, blk15, blk16, blk17]
  generalize args m c = a
  idx_vars y
  obtain rfl : y0 = 0 := Subsingleton.elim (α := Fin 1) _ _
  obtain rfl : y1 = 0 := Subsingleton.elim (α := Fin 1) _ _
  obtain rfl : y2 = 0 := Subsingleton.elim (α := Fin 1) _ _
  exact is_mmax a

theorem arr21 (c : Dev nD) : (dats m 0 c).arrAt 21 cfg0.N = (args m c).r3 := by
  refine (dats m 0 c).arrAt_eq_of_after_last 21 t0_0 (by decide +kernel) _ fun y => ?_
  blk_simp
  rw [after0_21]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_q a y0 y1 y2 y3

theorem arr22 (c : Dev nD) : (dats m 0 c).arrAt 22 cfg0.N = (args m c).r4 := by
  refine (dats m 0 c).arrAt_eq_of_after_last 22 t0_0 (by decide +kernel) _ fun y => ?_
  blk_simp
  rw [after0_22]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_k a y0 y1 y2 y3

theorem arr23 (c : Dev nD) : (dats m 0 c).arrAt 23 cfg0.N = (args m c).r5 := by
  refine (dats m 0 c).arrAt_eq_of_after_last 23 t0_0 (by decide +kernel) _ fun y => ?_
  blk_simp
  rw [after0_23]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_codes a y0 y1 y2

theorem arr24 (c : Dev nD) : (dats m 0 c).arrAt 24 cfg0.N = (args m c).r6 := by
  refine (dats m 0 c).arrAt_eq_of_after_last 24 t0_0 (by decide +kernel) _ fun y => ?_
  blk_simp
  rw [after0_24]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_attCodes a y0 y1 y2

theorem arr25 (c : Dev nD) : (dats m 0 c).arrAt 25 cfg0.N = (args m c).r7 := by
  refine (dats m 0 c).arrAt_eq_of_after_last 25 t0_0 (by decide +kernel) _ fun y => ?_
  blk_simp
  rw [after0_25]
  unfold outsAt0
  frame_out
  simp only [read_unread_whole, blk0, blk1, blk2, blk3, blk4, blk5, blk6, blk7, blk8, blk9, blk10, blk11, blk12, blk13, blk14, blk15, blk16, blk17]
  generalize args m c = a
  idx_vars y
  exact is_actCodes a y0 y1 y2

/-- What a stretch of the run leaves in the two scalars. -/
theorem tail4 (U : Valuation τ sig (Elt Ideal)) (y : EReal) (h : ∀ i, U (Proc.devRef .tc main_v3_1) i = y) :
    StableHlo.after (List.flatten [hostOps1]) U (Proc.devRef .tc main_v4) = fun _ => y := by
  funext i
  obtain rfl : i = ix0 := funext fun a => a.elim0
  show StableHlo.after hostOps1 U (Proc.devRef .tc main_v4) ix0 = y
  rw [← h (ix3 0 0 0)]
  after_reads_at

theorem tail5 (U : Valuation τ sig (Elt Ideal)) (y : EReal) (h : ∀ i, U (Proc.devRef .tc main_v3_2) i = y) :
    StableHlo.after (List.flatten [hostOps1]) U (Proc.devRef .tc main_v5) = fun _ => y := by
  funext i
  obtain rfl : i = ix0 := funext fun a => a.elim0
  show StableHlo.after hostOps1 U (Proc.devRef .tc main_v5) ix0 = y
  rw [← h (ix3 0 0 0)]
  after_reads_at

theorem ends19 (c : Dev nD) (i : S1x1x1.Idx) : Pipeline.withArrays spec0 c (V0 m c) (fun w => (dats m 0 c).arrAt w cfg0.N) (Proc.devRef .tc main_v3_1) i = (args m c).r1 ix0 := by
  have e : Pipeline.withArrays spec0 c (V0 m c) (fun w => (dats m 0 c).arrAt w cfg0.N) (Proc.devRef .tc main_v3_1) = (dats m 0 c).arrAt 19 cfg0.N :=
    Pipeline.withArrays_arr spec0 launch0.win.arr_inj c _ _ 19
  rw [e, arr19 m c]

theorem ends20 (c : Dev nD) (i : S1x1x1.Idx) : Pipeline.withArrays spec0 c (V0 m c) (fun w => (dats m 0 c).arrAt w cfg0.N) (Proc.devRef .tc main_v3_2) i = (args m c).r2 ix0 := by
  have e : Pipeline.withArrays spec0 c (V0 m c) (fun w => (dats m 0 c).arrAt w cfg0.N) (Proc.devRef .tc main_v3_2) = (dats m 0 c).arrAt 20 cfg0.N :=
    Pipeline.withArrays_arr spec0 launch0.win.arr_inj c _ _ 20
  rw [e, arr20 m c]

variable (ρ : Dev nD → PrngReg)
/-- THE REFERENCE'S RESULTS: every run ends with them, the arguments unchanged. -/
theorem results : θ_run defs (onTc (τ := τ) (main (F := Ideal))) ⟨m, fun _ => 0, ρ⟩ (fun r => ∀ c : Dev nD,
      r.2.mem ((c.tc : Thread nD τ).loc main_v3_0) = (args m c).r0
      ∧ r.2.mem ((c.tc : Thread nD τ).loc main_v4) = (args m c).r1
      ∧ r.2.mem ((c.tc : Thread nD τ).loc main_v5) = (args m c).r2
      ∧ r.2.mem ((c.tc : Thread nD τ).loc main_v3_3) = (args m c).r3
      ∧ r.2.mem ((c.tc : Thread nD τ).loc main_v3_4) = (args m c).r4
      ∧ r.2.mem ((c.tc : Thread nD τ).loc main_v3_5) = (args m c).r5
      ∧ r.2.mem ((c.tc : Thread nD τ).loc main_v3_6) = (args m c).r6
      ∧ r.2.mem ((c.tc : Thread nD τ).loc main_v3_7) = (args m c).r7) :=
  (θ_run defs _ _).mono (fun r h c =>
    ⟨((h c).1 18).trans (arr18 m c),
     ((h c).2 main_v4 (by decide)).trans ((tail4 _ ((args m c).r1 ix0) (ends19 m c)).trans rfl),
     ((h c).2 main_v5 (by decide)).trans ((tail5 _ ((args m c).r2 ix0) (ends20 m c)).trans rfl),
     ((h c).1 21).trans (arr21 m c), ((h c).1 22).trans (arr22 m c), ((h c).1 23).trans (arr23 m c), ((h c).1 24).trans (arr24 m c), ((h c).1 25).trans (arr25 m c)⟩)
    (run_main m ρ)

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelRun.Frame
public import proofs.«01_k».proof.Proof.IdealRun.Frame
public import proofs.«01_k».proof.Proof.Value.Chain
public import proofs.«01_k».proof.Proof.Value.RefRun
public import Idealize.ShloMosaic.Lib.Claim
public import Idealize.ShloMosaic.Lib.WordCmp
public import Idealize.ShloMosaic.Adequacy
public import Idealize.ShloMosaic.Init

@[expose] public section

noncomputable section

namespace Cert.Proof

open Idealize.ShloMosaic Idealize.SL.Sem

/-- The precondition's only shape relation. -/
theorem preFacts : Cert.Pre_text_length_in_range.Facts := ⟨by decide⟩

/-- What the precondition says of a text length. -/
theorem length_le (x : BitVec 32) (h : IntOp.cmpi .sle x 2147483520#32 = 1#1) : x.toInt ≤ 2 ^ 31 - 128 := by
  rw [Idealize.ShloMosaic.WordCmp.cmpi_sle_eq] at h
  by_cases hx : x.toInt ≤ (2147483520#32).toInt
  · exact hx
  · rw [decide_eq_false hx] at h
    exact absurd h (by decide)

/-- Kernel and reference end with equal results, over the extended reals. -/
theorem algebraic : Cert.algebraic_KernelIdeal_ReferenceIdeal_pre_text_length_in_range (hKernelIdeal := Cert.KernelIdeal.Gen.facts)
    (hReferenceIdeal := Cert.ReferenceIdeal.Gen.facts) (hPre_text_length_in_range := preFacts) := by
  intro m g m' g' hpre hagree
  have htxt : ∀ c b, ((Cert.KernelIdeal.Chain.args m c).txt (ix1 b)).toInt ≤ 2 ^ 31 - 128 := fun c b =>
    length_le _ (congrFun (hpre c) (ix1 b))
  have hargs : ∀ c, Cert.ReferenceIdeal.Value.args m' c = Cert.KernelIdeal.Chain.args m c := fun c => by
    obtain ⟨h0, h1, h2, h3, h4, h5, h6, h7, h8, h9, h10, h11, h12, h13, h14, h15, h16, h17⟩ := hagree c
    exact (Cert.Results.Args.mk.injEq ..).mpr ⟨h0, h1, h2, h3, h4, h5, h6, h7, h8, h9, h10, h11, congrFun h12 ix0, congrFun h13 ix0, congrFun h14 ix0, h15, h16, h17⟩
  refine ⟨fun c => (Cert.KernelIdeal.Chain.args m c).r0, fun c => (Cert.KernelIdeal.Chain.args m c).r1, fun c => (Cert.KernelIdeal.Chain.args m c).r2, fun c => (Cert.KernelIdeal.Chain.args m c).r3, fun c => (Cert.KernelIdeal.Chain.args m c).r4, fun c => (Cert.KernelIdeal.Chain.args m c).r5, fun c => (Cert.KernelIdeal.Chain.args m c).r6, fun c => (Cert.KernelIdeal.Chain.args m c).r7, ?_, ?_⟩
  · refine (θ_run _ _ _).mono (fun r h c => ?_) (θ_run_and (Cert.KernelIdeal.Chain.results m g htxt) (Cert.KernelIdeal.Run.frame m g))
    obtain ⟨e0, e1, e2, e3, e4, e5, e6, e7⟩ := h.1 c
    exact ⟨e0, e1, e2, e3, e4, e5, e6, e7, h.2.1 c⟩
  · refine (θ_run _ _ _).mono (fun r h c => ?_) (θ_run_and (Cert.ReferenceIdeal.Value.results m' g') (Cert.ReferenceIdeal.Gen.frame m' g'))
    obtain ⟨e0, e1, e2, e3, e4, e5, e6, e7⟩ := h.1 c
    rw [hargs c] at e0 e1 e2 e3 e4 e5 e6 e7
    exact ⟨e0, e1, e2, e3, e4, e5, e6, e7, h.2.1 c⟩

theorem claim : Cert.Claim := ⟨Cert.Kernel.Gen.facts, Cert.KernelIdeal.Gen.facts, Cert.ReferenceIdeal.Gen.facts, preFacts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
